-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_ids_ok [hPre_ids_ok : Cert.Pre_ids_ok.Facts] (m : (ℓ : Loc Cert.KernelIdeal.nD Cert.KernelIdeal.τ Cert.KernelIdeal.sig) → Buf (Elt Ideal) ℓ) : Prop :=
  ∀ c : Dev Cert.KernelIdeal.nD,
    (Cert.Pre_ids_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_ok [hPre_ids_ok : Cert.Pre_ids_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_ok [hKernelIdeal : Cert.KernelIdeal.Facts] [hPre_ids_ok : Cert.Pre_ids_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_ok [hReferenceIdeal : Cert.ReferenceIdeal.Facts] [hPre_ids_ok : Cert.Pre_ids_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_ok [hKernelIdeal : Cert.KernelIdeal.Facts] [hReferenceIdeal : Cert.ReferenceIdeal.Facts] [hPre_ids_ok : Cert.Pre_ids_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_ok : Cert.Pre_ids_ok.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_ok (hKernelIdeal := hKernelIdeal) (hPre_ids_ok := hPre_ids_ok)
    ∧ quiescent_ReferenceIdeal (hReferenceIdeal := hReferenceIdeal)
    ∧ quiescent_ReferenceIdeal_pre_ids_ok (hReferenceIdeal := hReferenceIdeal) (hPre_ids_ok := hPre_ids_ok)
    ∧ preserves_Kernel_KernelIdeal
    ∧ algebraic_KernelIdeal_ReferenceIdeal_pre_ids_ok (hKernelIdeal := hKernelIdeal) (hReferenceIdeal := hReferenceIdeal) (hPre_ids_ok := hPre_ids_ok)
-- ==== Pre_ids_in_range.lean ====
abbrev S100000x128 : Shape := ⟨2, ![100000, 128]⟩
abbrev S100000 : Shape := ⟨1, ![100000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 256#32
  let main_v3 : IVec S100000 32 := broadcastInDim S100000 ![] bcast_S_S100000 main_c_1
  let main_v4 : IVec S100000 1 := cmpi .slt main_arg1 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  main_v6
-- ==== Pre_ids_ok.lean ====
abbrev S100000x128 : Shape := ⟨2, ![100000, 128]⟩
abbrev S100000 : Shape := ⟨1, ![100000]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_

variable [Facts]

def fn {F : FTy → Type} [FloatOps F] (main_arg0 : FVec F S100000x128 .f32) (main_arg1 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 256#32
  let main_v3 : IVec S100000 32 := broadcastInDim S100000 ![] bcast_S_S100000 main_c_1
  let main_v4 : IVec S100000 1 := cmpi .slt main_arg1 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_v7 : IVec S99999 32 := (extractStridedSlice S99999 ![0] · slices_S100000_S99999_0) main_arg1
  let main_v8 : IVec S99999 32 := (extractStridedSlice S99999 ![1] · slices_S100000_S99999_1) main_arg1
  let main_v9 : IVec S99999 1 := cmpi .sle main_v7 main_v8
  let main_c_3 : IVec S_ 1 := constantI S_ 1 1#1
  let main_v10 : IVec S_ 1 := (fun x v => Host.reduce IntOp.andi x v reducesTo_S99999_S_d0 h_S_) main_v9 main_c_3
  let main_v11 : IVec S_ 1 := andi main_v6 main_v10
  main_v11
-- ==== Kernel.lean ====
abbrev S100000x128 : Shape := ⟨2, ![100000, 128]⟩
abbrev S100000 : Shape := ⟨1, ![100000]⟩
abbrev S32x32768 : Shape := ⟨2, ![32, 32768]⟩
abbrev S512x128 : Shape := ⟨2, ![512, 128]⟩
abbrev S512 : Shape := ⟨1, ![512]⟩
abbrev S32896 : Shape := ⟨1, ![32896]⟩
abbrev S128 : Shape := ⟨1, ![128]⟩
abbrev S1 : Shape := ⟨1, ![1]⟩
abbrev S_ : Shape := ⟨0, ![]⟩
abbrev S16 : Shape := ⟨1, ![16]⟩
abbrev S256x128 : Shape := ⟨2, ![256, 128]⟩
abbrev S256 : Shape := ⟨1, ![256]⟩
abbrev S1x16 : Shape := ⟨2, ![1, 16]⟩
abbrev S32768 : Shape := ⟨1, ![32768]⟩
abbrev S1x32768 : Shape := ⟨2, ![1, 32768]⟩
abbrev S32x256x128 : Shape := ⟨3, ![32, 256, 128]⟩

abbrev nBuf : Table → Nat
  | .hbm => 5
  | .local .tc .vmem => 2
  | .local .scVector .smem => 1
  | .local .scVector .vmem => 4
  | _ => 0

abbrev bufTy : (tb : Table) → Fin (nBuf tb) → BufTy
  | .hbm, ⟨0, _⟩ => ⟨S100000x128, .f32⟩
  | .hbm, ⟨1, _⟩ => ⟨S100000, .i32⟩
  | .hbm, ⟨2, _⟩ => ⟨S32x32768, .f32⟩
  | .hbm, ⟨3, _⟩ => ⟨S32x256x128, .f32⟩
  | .hbm, ⟨4, _⟩ => ⟨S256x128, .f32⟩
  | .local .tc .vmem, ⟨0, _⟩ => ⟨S32x256x128, .f32⟩
  | .local .tc .vmem, ⟨1, _⟩ => ⟨S256x128, .f32⟩
  | .local .scVector .smem, ⟨0, _⟩ => ⟨S1, .i32⟩
  | .local .scVector .vmem, ⟨0, _⟩ => ⟨S512x128, .f32⟩
  | .local .scVector .vmem, ⟨1, _⟩ => ⟨S512, .i32⟩
  | .local .scVector .vmem, ⟨2, _⟩ => ⟨S32896, .f32⟩
  | .local .scVector .vmem, ⟨3, _⟩ => ⟨S128, .f32⟩
  | _, _ => ⟨S100000x128, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg1_0 : Ref sig .tc := ⟨.vmem, 1, rfl⟩
abbrev cc0_scratch4 : Ref sig .scVector := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 5
abbrev cc1_sem1_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c257_i32 : BitVec 32 := 257#32
  let v3 : BitVec 32 := Scalar.addi c0_i32_0 c257_i32
  let c1_i32 : BitVec 32 := 1#32
  ⟨c0_i32_0, v3, c1_i32⟩
def k0_off1 (k0_t1 : Fin k0_t1_loop.trips) (c0_i32_57 : BitVec 32) : Fin 1 → Nat :=
  let c0_i32_0 : BitVec 32 := 0#32
  let c1_i32 : BitVec 32 := 1#32
  let arg12 : BitVec 32 := Scf.iv c0_i32_0 c1_i32 k0_t1
  let c128_i32_56 : BitVec 32 := 128#32
  let v171 : BitVec 32 := Scalar.muli arg12 c128_i32_56
  let v172 : BitVec 32 := Scalar.addi v171 c0_i32_57
  let v173 : Index := Scalar.indexCast v172
  ![v173.toNat]
def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v30 : BitVec 1 := Scalar.cmpi .eq v1 c31_i32
  let v31 : BitVec 32 := Scalar.extui v30
  let c0_i32_3 : BitVec 32 := 0#32
  let v32 : BitVec 1 := Scalar.cmpi .ne v31 c0_i32_3
  v32

@[reducible] def k0_t2_loop : Scf.Loop 32 :=
  let c0_i32_57 : BitVec 32 := 0#32
  let c16_i32_58 : BitVec 32 := 16#32
  let v171 : BitVec 32 := Scalar.addi c0_i32_57 c16_i32_58
  let c1_i32_59 : BitVec 32 := 1#32
  ⟨c0_i32_57, v171, c1_i32_59⟩
def k0_off2 (k0_t2 : Fin k0_t2_loop.trips) : Fin 1 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let v315 : Index := Scalar.indexCast v314
  ![v315.toNat]
def k0_off3 (k0_t2 : Fin k0_t2_loop.trips) (c0_i32_114 : BitVec 32) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let v318 : BitVec 32 := Scalar.addi v314 c0_i32_114
  let v319 : Index := Scalar.indexCast v318
  let c0_115 : Index := 0#32
  ![v319.toNat, 0]
def k0_off4 (k0_t2 : Fin k0_t2_loop.trips) (c0_i32_134 : BitVec 32) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let v397 : BitVec 32 := Scalar.addi v314 c0_i32_134
  let v398 : Index := Scalar.indexCast v397
  let c16_135 : Index := 16#32
  ![v398.toNat, 16]
def k0_off5 (k0_t2 : Fin k0_t2_loop.trips) (c0_i32_166 : BitVec 32) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let v476 : BitVec 32 := Scalar.addi v314 c0_i32_166
  let v477 : Index := Scalar.indexCast v476
  let c32_167 : Index := 32#32
  ![v477.toNat, 32]
def k0_off6 (k0_t2 : Fin k0_t2_loop.trips) (c0_i32_198 : BitVec 32) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let v555 : BitVec 32 := Scalar.addi v314 c0_i32_198
  let v556 : Index := Scalar.indexCast v555
  let c48_199 : Index := 48#32
  ![v556.toNat, 48]
def k0_off7 (k0_t2 : Fin k0_t2_loop.trips) (c0_i32_230 : BitVec 32) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let v634 : BitVec 32 := Scalar.addi v314 c0_i32_230
  let v635 : Index := Scalar.indexCast v634
  let c64_231 : Index := 64#32
  ![v635.toNat, 64]
def k0_off8 (k0_t2 : Fin k0_t2_loop.trips) (c0_i32_262 : BitVec 32) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let v713 : BitVec 32 := Scalar.addi v314 c0_i32_262
  let v714 : Index := Scalar.indexCast v713
  let c80_263 : Index := 80#32
  ![v714.toNat, 80]
def k0_off9 (k0_t2 : Fin k0_t2_loop.trips) (c0_i32_294 : BitVec 32) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let v792 : BitVec 32 := Scalar.addi v314 c0_i32_294
  let v793 : Index := Scalar.indexCast v792
  let c96_295 : Index := 96#32
  ![v793.toNat, 96]
def k0_off10 (k0_t2 : Fin k0_t2_loop.trips) (c0_i32_326 : BitVec 32) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let v871 : BitVec 32 := Scalar.addi v314 c0_i32_326
  let v872 : Index := Scalar.indexCast v871
  let c112_327 : Index := 112#32
  ![v872.toNat, 112]
def k0_off11 (v967 : BitVec 32) (c0_i32_907 : BitVec 32) : Fin 1 → Nat :=
  let c128_i32_906 : BitVec 32 := 128#32
  let v2356 : BitVec 32 := Scalar.muli v967 c128_i32_906
  let v2357 : BitVec 32 := Scalar.addi v2356 c0_i32_907
  let v2358 : Index := Scalar.indexCast v2357
  ![v2358.toNat]
def k0_cond3 (v951 : BitVec 32) (v953 : BitVec 32) (v956 : BitVec 32) : BitVec 1 :=
  let v954 : BitVec 1 := Scalar.cmpi .eq v953 v951
  let v957 : BitVec 1 := Scalar.cmpi .eq v956 v951
  let v958 : BitVec 1 := Scalar.andi v954 v957
  let v_true : BitVec 1 := 1#1
  let v961 : BitVec 1 := Scalar.xori v958 v_true
  let v962 : BitVec 32 := Scalar.extui v961
  let c0_i32_360 : BitVec 32 := 0#32
  let v963 : BitVec 1 := Scalar.cmpi .ne v962 c0_i32_360
  v963

def k0_cond4 (v965 : BitVec 32) (v967 : BitVec 32) : BitVec 1 :=
  let v968 : BitVec 1 := Scalar.cmpi .ne v965 v967
  let v969 : BitVec 32 := Scalar.extui v968
  let c0_i32_363 : BitVec 32 := 0#32
  let v970 : BitVec 1 := Scalar.cmpi .ne v969 c0_i32_363
  v970

def k0_chk1 (i : grid0.Coords) (v951 : BitVec 32) (v953 : BitVec 32) (v956 : BitVec 32) (v965 : BitVec 32) (v967 : BitVec 32) : Prop :=
  (∀ (k0_h1 : k0_cond1 i = 1#1), ∀ (k0_h3 : k0_cond3 v951 v953 v956 = 1#1), ∀ (k0_h4 : k0_cond4 v965 v967 = 1#1), ∀ (r : Fin 8), ∀ a, (k0_off11 v967 (BitVec.ofNat 32 (16 * r.val))) a + S16.size a ≤ S32896.size a)
theorem k0_off11_inb : ∀ (i : grid0.Coords) (v951 : BitVec 32) (v953 : BitVec 32) (v956 : BitVec 32) (v965 : BitVec 32) (v967 : BitVec 32) (k0_hw1 : k0_chk1 i v951 v953 v956 v965 v967), ∀ (k0_h1 : k0_cond1 i = 1#1), ∀ (k0_h3 : k0_cond3 v951 v953 v956 = 1#1), ∀ (k0_h4 : k0_cond4 v965 v967 = 1#1), ∀ (r : Fin 8), ∀ a, (k0_off11 v967 (BitVec.ofNat 32 (16 * r.val))) a + S16.size a ≤ S32896.size a := fun i v951 v953 v956 v965 v967 k0_hw1 k0_h1 k0_h3 k0_h4 r => k0_hw1 k0_h1 k0_h3 k0_h4 r

def k0_off12 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c0_i32_365 : BitVec 32 := 0#32
  let v973 : BitVec 32 := Scalar.addi v314 c0_i32_365
  let v974 : Index := Scalar.indexCast v973
  let c0_366 : Index := 0#32
  ![v974.toNat, 0]
def k0_off13 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c0_i32_369 : BitVec 32 := 0#32
  let v983 : BitVec 32 := Scalar.addi v314 c0_i32_369
  let v984 : Index := Scalar.indexCast v983
  let c16_370 : Index := 16#32
  ![v984.toNat, 16]
def k0_off14 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c0_i32_373 : BitVec 32 := 0#32
  let v993 : BitVec 32 := Scalar.addi v314 c0_i32_373
  let v994 : Index := Scalar.indexCast v993
  let c32_374 : Index := 32#32
  ![v994.toNat, 32]
def k0_off15 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c0_i32_377 : BitVec 32 := 0#32
  let v1003 : BitVec 32 := Scalar.addi v314 c0_i32_377
  let v1004 : Index := Scalar.indexCast v1003
  let c48_378 : Index := 48#32
  ![v1004.toNat, 48]
def k0_off16 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c0_i32_381 : BitVec 32 := 0#32
  let v1013 : BitVec 32 := Scalar.addi v314 c0_i32_381
  let v1014 : Index := Scalar.indexCast v1013
  let c64_382 : Index := 64#32
  ![v1014.toNat, 64]
def k0_off17 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c0_i32_385 : BitVec 32 := 0#32
  let v1023 : BitVec 32 := Scalar.addi v314 c0_i32_385
  let v1024 : Index := Scalar.indexCast v1023
  let c80_386 : Index := 80#32
  ![v1024.toNat, 80]
def k0_off18 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c0_i32_389 : BitVec 32 := 0#32
  let v1033 : BitVec 32 := Scalar.addi v314 c0_i32_389
  let v1034 : Index := Scalar.indexCast v1033
  let c96_390 : Index := 96#32
  ![v1034.toNat, 96]
def k0_off19 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c0_i32_393 : BitVec 32 := 0#32
  let v1043 : BitVec 32 := Scalar.addi v314 c0_i32_393
  let v1044 : Index := Scalar.indexCast v1043
  let c112_394 : Index := 112#32
  ![v1044.toNat, 112]
def k0_off20 (v1054 : BitVec 32) (c0_i32_907 : BitVec 32) : Fin 1 → Nat :=
  let c128_i32_906 : BitVec 32 := 128#32
  let v2356 : BitVec 32 := Scalar.muli v1054 c128_i32_906
  let v2357 : BitVec 32 := Scalar.addi v2356 c0_i32_907
  let v2358 : Index := Scalar.indexCast v2357
  ![v2358.toNat]
def k0_cond5 (v1052 : BitVec 32) (v1054 : BitVec 32) : BitVec 1 :=
  let v1055 : BitVec 1 := Scalar.cmpi .ne v1052 v1054
  let v1056 : BitVec 32 := Scalar.extui v1055
  let c0_i32_397 : BitVec 32 := 0#32
  let v1057 : BitVec 1 := Scalar.cmpi .ne v1056 c0_i32_397
  v1057

def k0_chk2 (i : grid0.Coords) (v951 : BitVec 32) (v953 : BitVec 32) (v956 : BitVec 32) (v1052 : BitVec 32) (v1054 : BitVec 32) : Prop :=
  (∀ (k0_h1 : k0_cond1 i = 1#1), ∀ (k0_h3 : k0_cond3 v951 v953 v956 = 1#1), ∀ (k0_h5 : k0_cond5 v1052 v1054 = 1#1), ∀ (r : Fin 8), ∀ a, (k0_off20 v1054 (BitVec.ofNat 32 (16 * r.val))) a + S16.size a ≤ S32896.size a)
theorem k0_off20_inb : ∀ (i : grid0.Coords) (v951 : BitVec 32) (v953 : BitVec 32) (v956 : BitVec 32) (v1052 : BitVec 32) (v1054 : BitVec 32) (k0_hw2 : k0_chk2 i v951 v953 v956 v1052 v1054), ∀ (k0_h1 : k0_cond1 i = 1#1), ∀ (k0_h3 : k0_cond3 v951 v953 v956 = 1#1), ∀ (k0_h5 : k0_cond5 v1052 v1054 = 1#1), ∀ (r : Fin 8), ∀ a, (k0_off20 v1054 (BitVec.ofNat 32 (16 * r.val))) a + S16.size a ≤ S32896.size a := fun i v951 v953 v956 v1052 v1054 k0_hw2 k0_h1 k0_h3 k0_h5 r => k0_hw2 k0_h1 k0_h3 k0_h5 r

def k0_off21 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c1_i32_399 : BitVec 32 := 1#32
  let v1060 : BitVec 32 := Scalar.addi v314 c1_i32_399
  let v1061 : Index := Scalar.indexCast v1060
  let c0_400 : Index := 0#32
  ![v1061.toNat, 0]
def k0_off22 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c1_i32_403 : BitVec 32 := 1#32
  let v1070 : BitVec 32 := Scalar.addi v314 c1_i32_403
  let v1071 : Index := Scalar.indexCast v1070
  let c16_404 : Index := 16#32
  ![v1071.toNat, 16]
def k0_off23 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c1_i32_407 : BitVec 32 := 1#32
  let v1080 : BitVec 32 := Scalar.addi v314 c1_i32_407
  let v1081 : Index := Scalar.indexCast v1080
  let c32_408 : Index := 32#32
  ![v1081.toNat, 32]
def k0_off24 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c1_i32_411 : BitVec 32 := 1#32
  let v1090 : BitVec 32 := Scalar.addi v314 c1_i32_411
  let v1091 : Index := Scalar.indexCast v1090
  let c48_412 : Index := 48#32
  ![v1091.toNat, 48]
def k0_off25 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c1_i32_415 : BitVec 32 := 1#32
  let v1100 : BitVec 32 := Scalar.addi v314 c1_i32_415
  let v1101 : Index := Scalar.indexCast v1100
  let c64_416 : Index := 64#32
  ![v1101.toNat, 64]
def k0_off26 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c1_i32_419 : BitVec 32 := 1#32
  let v1110 : BitVec 32 := Scalar.addi v314 c1_i32_419
  let v1111 : Index := Scalar.indexCast v1110
  let c80_420 : Index := 80#32
  ![v1111.toNat, 80]
def k0_off27 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c1_i32_423 : BitVec 32 := 1#32
  let v1120 : BitVec 32 := Scalar.addi v314 c1_i32_423
  let v1121 : Index := Scalar.indexCast v1120
  let c96_424 : Index := 96#32
  ![v1121.toNat, 96]
def k0_off28 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c1_i32_427 : BitVec 32 := 1#32
  let v1130 : BitVec 32 := Scalar.addi v314 c1_i32_427
  let v1131 : Index := Scalar.indexCast v1130
  let c112_428 : Index := 112#32
  ![v1131.toNat, 112]
def k0_off29 (v1141 : BitVec 32) (c0_i32_907 : BitVec 32) : Fin 1 → Nat :=
  let c128_i32_906 : BitVec 32 := 128#32
  let v2356 : BitVec 32 := Scalar.muli v1141 c128_i32_906
  let v2357 : BitVec 32 := Scalar.addi v2356 c0_i32_907
  let v2358 : Index := Scalar.indexCast v2357
  ![v2358.toNat]
def k0_cond6 (v1139 : BitVec 32) (v1141 : BitVec 32) : BitVec 1 :=
  let v1142 : BitVec 1 := Scalar.cmpi .ne v1139 v1141
  let v1143 : BitVec 32 := Scalar.extui v1142
  let c0_i32_431 : BitVec 32 := 0#32
  let v1144 : BitVec 1 := Scalar.cmpi .ne v1143 c0_i32_431
  v1144

def k0_chk3 (i : grid0.Coords) (v951 : BitVec 32) (v953 : BitVec 32) (v956 : BitVec 32) (v1139 : BitVec 32) (v1141 : BitVec 32) : Prop :=
  (∀ (k0_h1 : k0_cond1 i = 1#1), ∀ (k0_h3 : k0_cond3 v951 v953 v956 = 1#1), ∀ (k0_h6 : k0_cond6 v1139 v1141 = 1#1), ∀ (r : Fin 8), ∀ a, (k0_off29 v1141 (BitVec.ofNat 32 (16 * r.val))) a + S16.size a ≤ S32896.size a)
theorem k0_off29_inb : ∀ (i : grid0.Coords) (v951 : BitVec 32) (v953 : BitVec 32) (v956 : BitVec 32) (v1139 : BitVec 32) (v1141 : BitVec 32) (k0_hw3 : k0_chk3 i v951 v953 v956 v1139 v1141), ∀ (k0_h1 : k0_cond1 i = 1#1), ∀ (k0_h3 : k0_cond3 v951 v953 v956 = 1#1), ∀ (k0_h6 : k0_cond6 v1139 v1141 = 1#1), ∀ (r : Fin 8), ∀ a, (k0_off29 v1141 (BitVec.ofNat 32 (16 * r.val))) a + S16.size a ≤ S32896.size a := fun i v951 v953 v956 v1139 v1141 k0_hw3 k0_h1 k0_h3 k0_h6 r => k0_hw3 k0_h1 k0_h3 k0_h6 r

def k0_off30 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c2_i32_433 : BitVec 32 := 2#32
  let v1147 : BitVec 32 := Scalar.addi v314 c2_i32_433
  let v1148 : Index := Scalar.indexCast v1147
  let c0_434 : Index := 0#32
  ![v1148.toNat, 0]
def k0_off31 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c2_i32_437 : BitVec 32 := 2#32
  let v1157 : BitVec 32 := Scalar.addi v314 c2_i32_437
  let v1158 : Index := Scalar.indexCast v1157
  let c16_438 : Index := 16#32
  ![v1158.toNat, 16]
def k0_off32 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c2_i32_441 : BitVec 32 := 2#32
  let v1167 : BitVec 32 := Scalar.addi v314 c2_i32_441
  let v1168 : Index := Scalar.indexCast v1167
  let c32_442 : Index := 32#32
  ![v1168.toNat, 32]
def k0_off33 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c2_i32_445 : BitVec 32 := 2#32
  let v1177 : BitVec 32 := Scalar.addi v314 c2_i32_445
  let v1178 : Index := Scalar.indexCast v1177
  let c48_446 : Index := 48#32
  ![v1178.toNat, 48]
def k0_off34 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c2_i32_449 : BitVec 32 := 2#32
  let v1187 : BitVec 32 := Scalar.addi v314 c2_i32_449
  let v1188 : Index := Scalar.indexCast v1187
  let c64_450 : Index := 64#32
  ![v1188.toNat, 64]
def k0_off35 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c2_i32_453 : BitVec 32 := 2#32
  let v1197 : BitVec 32 := Scalar.addi v314 c2_i32_453
  let v1198 : Index := Scalar.indexCast v1197
  let c80_454 : Index := 80#32
  ![v1198.toNat, 80]
def k0_off36 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c2_i32_457 : BitVec 32 := 2#32
  let v1207 : BitVec 32 := Scalar.addi v314 c2_i32_457
  let v1208 : Index := Scalar.indexCast v1207
  let c96_458 : Index := 96#32
  ![v1208.toNat, 96]
def k0_off37 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c2_i32_461 : BitVec 32 := 2#32
  let v1217 : BitVec 32 := Scalar.addi v314 c2_i32_461
  let v1218 : Index := Scalar.indexCast v1217
  let c112_462 : Index := 112#32
  ![v1218.toNat, 112]
def k0_off38 (v1228 : BitVec 32) (c0_i32_907 : BitVec 32) : Fin 1 → Nat :=
  let c128_i32_906 : BitVec 32 := 128#32
  let v2356 : BitVec 32 := Scalar.muli v1228 c128_i32_906
  let v2357 : BitVec 32 := Scalar.addi v2356 c0_i32_907
  let v2358 : Index := Scalar.indexCast v2357
  ![v2358.toNat]
def k0_cond7 (v1226 : BitVec 32) (v1228 : BitVec 32) : BitVec 1 :=
  let v1229 : BitVec 1 := Scalar.cmpi .ne v1226 v1228
  let v1230 : BitVec 32 := Scalar.extui v1229
  let c0_i32_465 : BitVec 32 := 0#32
  let v1231 : BitVec 1 := Scalar.cmpi .ne v1230 c0_i32_465
  v1231

def k0_chk4 (i : grid0.Coords) (v951 : BitVec 32) (v953 : BitVec 32) (v956 : BitVec 32) (v1226 : BitVec 32) (v1228 : BitVec 32) : Prop :=
  (∀ (k0_h1 : k0_cond1 i = 1#1), ∀ (k0_h3 : k0_cond3 v951 v953 v956 = 1#1), ∀ (k0_h7 : k0_cond7 v1226 v1228 = 1#1), ∀ (r : Fin 8), ∀ a, (k0_off38 v1228 (BitVec.ofNat 32 (16 * r.val))) a + S16.size a ≤ S32896.size a)
theorem k0_off38_inb : ∀ (i : grid0.Coords) (v951 : BitVec 32) (v953 : BitVec 32) (v956 : BitVec 32) (v1226 : BitVec 32) (v1228 : BitVec 32) (k0_hw4 : k0_chk4 i v951 v953 v956 v1226 v1228), ∀ (k0_h1 : k0_cond1 i = 1#1), ∀ (k0_h3 : k0_cond3 v951 v953 v956 = 1#1), ∀ (k0_h7 : k0_cond7 v1226 v1228 = 1#1), ∀ (r : Fin 8), ∀ a, (k0_off38 v1228 (BitVec.ofNat 32 (16 * r.val))) a + S16.size a ≤ S32896.size a := fun i v951 v953 v956 v1226 v1228 k0_hw4 k0_h1 k0_h3 k0_h7 r => k0_hw4 k0_h1 k0_h3 k0_h7 r

def k0_off39 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c3_i32_467 : BitVec 32 := 3#32
  let v1234 : BitVec 32 := Scalar.addi v314 c3_i32_467
  let v1235 : Index := Scalar.indexCast v1234
  let c0_468 : Index := 0#32
  ![v1235.toNat, 0]
def k0_off40 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c3_i32_471 : BitVec 32 := 3#32
  let v1244 : BitVec 32 := Scalar.addi v314 c3_i32_471
  let v1245 : Index := Scalar.indexCast v1244
  let c16_472 : Index := 16#32
  ![v1245.toNat, 16]
def k0_off41 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c3_i32_475 : BitVec 32 := 3#32
  let v1254 : BitVec 32 := Scalar.addi v314 c3_i32_475
  let v1255 : Index := Scalar.indexCast v1254
  let c32_476 : Index := 32#32
  ![v1255.toNat, 32]
def k0_off42 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c3_i32_479 : BitVec 32 := 3#32
  let v1264 : BitVec 32 := Scalar.addi v314 c3_i32_479
  let v1265 : Index := Scalar.indexCast v1264
  let c48_480 : Index := 48#32
  ![v1265.toNat, 48]
def k0_off43 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c3_i32_483 : BitVec 32 := 3#32
  let v1274 : BitVec 32 := Scalar.addi v314 c3_i32_483
  let v1275 : Index := Scalar.indexCast v1274
  let c64_484 : Index := 64#32
  ![v1275.toNat, 64]
def k0_off44 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c3_i32_487 : BitVec 32 := 3#32
  let v1284 : BitVec 32 := Scalar.addi v314 c3_i32_487
  let v1285 : Index := Scalar.indexCast v1284
  let c80_488 : Index := 80#32
  ![v1285.toNat, 80]
def k0_off45 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c3_i32_491 : BitVec 32 := 3#32
  let v1294 : BitVec 32 := Scalar.addi v314 c3_i32_491
  let v1295 : Index := Scalar.indexCast v1294
  let c96_492 : Index := 96#32
  ![v1295.toNat, 96]
def k0_off46 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c3_i32_495 : BitVec 32 := 3#32
  let v1304 : BitVec 32 := Scalar.addi v314 c3_i32_495
  let v1305 : Index := Scalar.indexCast v1304
  let c112_496 : Index := 112#32
  ![v1305.toNat, 112]
def k0_off47 (v1315 : BitVec 32) (c0_i32_907 : BitVec 32) : Fin 1 → Nat :=
  let c128_i32_906 : BitVec 32 := 128#32
  let v2356 : BitVec 32 := Scalar.muli v1315 c128_i32_906
  let v2357 : BitVec 32 := Scalar.addi v2356 c0_i32_907
  let v2358 : Index := Scalar.indexCast v2357
  ![v2358.toNat]
def k0_cond8 (v1313 : BitVec 32) (v1315 : BitVec 32) : BitVec 1 :=
  let v1316 : BitVec 1 := Scalar.cmpi .ne v1313 v1315
  let v1317 : BitVec 32 := Scalar.extui v1316
  let c0_i32_499 : BitVec 32 := 0#32
  let v1318 : BitVec 1 := Scalar.cmpi .ne v1317 c0_i32_499
  v1318

def k0_chk5 (i : grid0.Coords) (v951 : BitVec 32) (v953 : BitVec 32) (v956 : BitVec 32) (v1313 : BitVec 32) (v1315 : BitVec 32) : Prop :=
  (∀ (k0_h1 : k0_cond1 i = 1#1), ∀ (k0_h3 : k0_cond3 v951 v953 v956 = 1#1), ∀ (k0_h8 : k0_cond8 v1313 v1315 = 1#1), ∀ (r : Fin 8), ∀ a, (k0_off47 v1315 (BitVec.ofNat 32 (16 * r.val))) a + S16.size a ≤ S32896.size a)
theorem k0_off47_inb : ∀ (i : grid0.Coords) (v951 : BitVec 32) (v953 : BitVec 32) (v956 : BitVec 32) (v1313 : BitVec 32) (v1315 : BitVec 32) (k0_hw5 : k0_chk5 i v951 v953 v956 v1313 v1315), ∀ (k0_h1 : k0_cond1 i = 1#1), ∀ (k0_h3 : k0_cond3 v951 v953 v956 = 1#1), ∀ (k0_h8 : k0_cond8 v1313 v1315 = 1#1), ∀ (r : Fin 8), ∀ a, (k0_off47 v1315 (BitVec.ofNat 32 (16 * r.val))) a + S16.size a ≤ S32896.size a := fun i v951 v953 v956 v1313 v1315 k0_hw5 k0_h1 k0_h3 k0_h8 r => k0_hw5 k0_h1 k0_h3 k0_h8 r

def k0_off48 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c4_i32_501 : BitVec 32 := 4#32
  let v1321 : BitVec 32 := Scalar.addi v314 c4_i32_501
  let v1322 : Index := Scalar.indexCast v1321
  let c0_502 : Index := 0#32
  ![v1322.toNat, 0]
def k0_off49 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c4_i32_505 : BitVec 32 := 4#32
  let v1331 : BitVec 32 := Scalar.addi v314 c4_i32_505
  let v1332 : Index := Scalar.indexCast v1331
  let c16_506 : Index := 16#32
  ![v1332.toNat, 16]
def k0_off50 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c4_i32_509 : BitVec 32 := 4#32
  let v1341 : BitVec 32 := Scalar.addi v314 c4_i32_509
  let v1342 : Index := Scalar.indexCast v1341
  let c32_510 : Index := 32#32
  ![v1342.toNat, 32]
def k0_off51 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c4_i32_513 : BitVec 32 := 4#32
  let v1351 : BitVec 32 := Scalar.addi v314 c4_i32_513
  let v1352 : Index := Scalar.indexCast v1351
  let c48_514 : Index := 48#32
  ![v1352.toNat, 48]
def k0_off52 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c4_i32_517 : BitVec 32 := 4#32
  let v1361 : BitVec 32 := Scalar.addi v314 c4_i32_517
  let v1362 : Index := Scalar.indexCast v1361
  let c64_518 : Index := 64#32
  ![v1362.toNat, 64]
def k0_off53 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c4_i32_521 : BitVec 32 := 4#32
  let v1371 : BitVec 32 := Scalar.addi v314 c4_i32_521
  let v1372 : Index := Scalar.indexCast v1371
  let c80_522 : Index := 80#32
  ![v1372.toNat, 80]
def k0_off54 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c4_i32_525 : BitVec 32 := 4#32
  let v1381 : BitVec 32 := Scalar.addi v314 c4_i32_525
  let v1382 : Index := Scalar.indexCast v1381
  let c96_526 : Index := 96#32
  ![v1382.toNat, 96]
def k0_off55 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c4_i32_529 : BitVec 32 := 4#32
  let v1391 : BitVec 32 := Scalar.addi v314 c4_i32_529
  let v1392 : Index := Scalar.indexCast v1391
  let c112_530 : Index := 112#32
  ![v1392.toNat, 112]
def k0_off56 (v1402 : BitVec 32) (c0_i32_907 : BitVec 32) : Fin 1 → Nat :=
  let c128_i32_906 : BitVec 32 := 128#32
  let v2356 : BitVec 32 := Scalar.muli v1402 c128_i32_906
  let v2357 : BitVec 32 := Scalar.addi v2356 c0_i32_907
  let v2358 : Index := Scalar.indexCast v2357
  ![v2358.toNat]
def k0_cond9 (v1400 : BitVec 32) (v1402 : BitVec 32) : BitVec 1 :=
  let v1403 : BitVec 1 := Scalar.cmpi .ne v1400 v1402
  let v1404 : BitVec 32 := Scalar.extui v1403
  let c0_i32_533 : BitVec 32 := 0#32
  let v1405 : BitVec 1 := Scalar.cmpi .ne v1404 c0_i32_533
  v1405

def k0_chk6 (i : grid0.Coords) (v951 : BitVec 32) (v953 : BitVec 32) (v956 : BitVec 32) (v1400 : BitVec 32) (v1402 : BitVec 32) : Prop :=
  (∀ (k0_h1 : k0_cond1 i = 1#1), ∀ (k0_h3 : k0_cond3 v951 v953 v956 = 1#1), ∀ (k0_h9 : k0_cond9 v1400 v1402 = 1#1), ∀ (r : Fin 8), ∀ a, (k0_off56 v1402 (BitVec.ofNat 32 (16 * r.val))) a + S16.size a ≤ S32896.size a)
theorem k0_off56_inb : ∀ (i : grid0.Coords) (v951 : BitVec 32) (v953 : BitVec 32) (v956 : BitVec 32) (v1400 : BitVec 32) (v1402 : BitVec 32) (k0_hw6 : k0_chk6 i v951 v953 v956 v1400 v1402), ∀ (k0_h1 : k0_cond1 i = 1#1), ∀ (k0_h3 : k0_cond3 v951 v953 v956 = 1#1), ∀ (k0_h9 : k0_cond9 v1400 v1402 = 1#1), ∀ (r : Fin 8), ∀ a, (k0_off56 v1402 (BitVec.ofNat 32 (16 * r.val))) a + S16.size a ≤ S32896.size a := fun i v951 v953 v956 v1400 v1402 k0_hw6 k0_h1 k0_h3 k0_h9 r => k0_hw6 k0_h1 k0_h3 k0_h9 r

def k0_off57 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c5_i32_535 : BitVec 32 := 5#32
  let v1408 : BitVec 32 := Scalar.addi v314 c5_i32_535
  let v1409 : Index := Scalar.indexCast v1408
  let c0_536 : Index := 0#32
  ![v1409.toNat, 0]
def k0_off58 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c5_i32_539 : BitVec 32 := 5#32
  let v1418 : BitVec 32 := Scalar.addi v314 c5_i32_539
  let v1419 : Index := Scalar.indexCast v1418
  let c16_540 : Index := 16#32
  ![v1419.toNat, 16]
def k0_off59 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c5_i32_543 : BitVec 32 := 5#32
  let v1428 : BitVec 32 := Scalar.addi v314 c5_i32_543
  let v1429 : Index := Scalar.indexCast v1428
  let c32_544 : Index := 32#32
  ![v1429.toNat, 32]
def k0_off60 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c5_i32_547 : BitVec 32 := 5#32
  let v1438 : BitVec 32 := Scalar.addi v314 c5_i32_547
  let v1439 : Index := Scalar.indexCast v1438
  let c48_548 : Index := 48#32
  ![v1439.toNat, 48]
def k0_off61 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c5_i32_551 : BitVec 32 := 5#32
  let v1448 : BitVec 32 := Scalar.addi v314 c5_i32_551
  let v1449 : Index := Scalar.indexCast v1448
  let c64_552 : Index := 64#32
  ![v1449.toNat, 64]
def k0_off62 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c5_i32_555 : BitVec 32 := 5#32
  let v1458 : BitVec 32 := Scalar.addi v314 c5_i32_555
  let v1459 : Index := Scalar.indexCast v1458
  let c80_556 : Index := 80#32
  ![v1459.toNat, 80]
def k0_off63 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c5_i32_559 : BitVec 32 := 5#32
  let v1468 : BitVec 32 := Scalar.addi v314 c5_i32_559
  let v1469 : Index := Scalar.indexCast v1468
  let c96_560 : Index := 96#32
  ![v1469.toNat, 96]
def k0_off64 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c5_i32_563 : BitVec 32 := 5#32
  let v1478 : BitVec 32 := Scalar.addi v314 c5_i32_563
  let v1479 : Index := Scalar.indexCast v1478
  let c112_564 : Index := 112#32
  ![v1479.toNat, 112]
def k0_off65 (v1489 : BitVec 32) (c0_i32_907 : BitVec 32) : Fin 1 → Nat :=
  let c128_i32_906 : BitVec 32 := 128#32
  let v2356 : BitVec 32 := Scalar.muli v1489 c128_i32_906
  let v2357 : BitVec 32 := Scalar.addi v2356 c0_i32_907
  let v2358 : Index := Scalar.indexCast v2357
  ![v2358.toNat]
def k0_cond10 (v1487 : BitVec 32) (v1489 : BitVec 32) : BitVec 1 :=
  let v1490 : BitVec 1 := Scalar.cmpi .ne v1487 v1489
  let v1491 : BitVec 32 := Scalar.extui v1490
  let c0_i32_567 : BitVec 32 := 0#32
  let v1492 : BitVec 1 := Scalar.cmpi .ne v1491 c0_i32_567
  v1492

def k0_chk7 (i : grid0.Coords) (v951 : BitVec 32) (v953 : BitVec 32) (v956 : BitVec 32) (v1487 : BitVec 32) (v1489 : BitVec 32) : Prop :=
  (∀ (k0_h1 : k0_cond1 i = 1#1), ∀ (k0_h3 : k0_cond3 v951 v953 v956 = 1#1), ∀ (k0_h10 : k0_cond10 v1487 v1489 = 1#1), ∀ (r : Fin 8), ∀ a, (k0_off65 v1489 (BitVec.ofNat 32 (16 * r.val))) a + S16.size a ≤ S32896.size a)
theorem k0_off65_inb : ∀ (i : grid0.Coords) (v951 : BitVec 32) (v953 : BitVec 32) (v956 : BitVec 32) (v1487 : BitVec 32) (v1489 : BitVec 32) (k0_hw7 : k0_chk7 i v951 v953 v956 v1487 v1489), ∀ (k0_h1 : k0_cond1 i = 1#1), ∀ (k0_h3 : k0_cond3 v951 v953 v956 = 1#1), ∀ (k0_h10 : k0_cond10 v1487 v1489 = 1#1), ∀ (r : Fin 8), ∀ a, (k0_off65 v1489 (BitVec.ofNat 32 (16 * r.val))) a + S16.size a ≤ S32896.size a := fun i v951 v953 v956 v1487 v1489 k0_hw7 k0_h1 k0_h3 k0_h10 r => k0_hw7 k0_h1 k0_h3 k0_h10 r

def k0_off66 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c6_i32_569 : BitVec 32 := 6#32
  let v1495 : BitVec 32 := Scalar.addi v314 c6_i32_569
  let v1496 : Index := Scalar.indexCast v1495
  let c0_570 : Index := 0#32
  ![v1496.toNat, 0]
def k0_off67 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c6_i32_573 : BitVec 32 := 6#32
  let v1505 : BitVec 32 := Scalar.addi v314 c6_i32_573
  let v1506 : Index := Scalar.indexCast v1505
  let c16_574 : Index := 16#32
  ![v1506.toNat, 16]
def k0_off68 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c6_i32_577 : BitVec 32 := 6#32
  let v1515 : BitVec 32 := Scalar.addi v314 c6_i32_577
  let v1516 : Index := Scalar.indexCast v1515
  let c32_578 : Index := 32#32
  ![v1516.toNat, 32]
def k0_off69 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c6_i32_581 : BitVec 32 := 6#32
  let v1525 : BitVec 32 := Scalar.addi v314 c6_i32_581
  let v1526 : Index := Scalar.indexCast v1525
  let c48_582 : Index := 48#32
  ![v1526.toNat, 48]
def k0_off70 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c6_i32_585 : BitVec 32 := 6#32
  let v1535 : BitVec 32 := Scalar.addi v314 c6_i32_585
  let v1536 : Index := Scalar.indexCast v1535
  let c64_586 : Index := 64#32
  ![v1536.toNat, 64]
def k0_off71 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c6_i32_589 : BitVec 32 := 6#32
  let v1545 : BitVec 32 := Scalar.addi v314 c6_i32_589
  let v1546 : Index := Scalar.indexCast v1545
  let c80_590 : Index := 80#32
  ![v1546.toNat, 80]
def k0_off72 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c6_i32_593 : BitVec 32 := 6#32
  let v1555 : BitVec 32 := Scalar.addi v314 c6_i32_593
  let v1556 : Index := Scalar.indexCast v1555
  let c96_594 : Index := 96#32
  ![v1556.toNat, 96]
def k0_off73 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c6_i32_597 : BitVec 32 := 6#32
  let v1565 : BitVec 32 := Scalar.addi v314 c6_i32_597
  let v1566 : Index := Scalar.indexCast v1565
  let c112_598 : Index := 112#32
  ![v1566.toNat, 112]
def k0_off74 (v1576 : BitVec 32) (c0_i32_907 : BitVec 32) : Fin 1 → Nat :=
  let c128_i32_906 : BitVec 32 := 128#32
  let v2356 : BitVec 32 := Scalar.muli v1576 c128_i32_906
  let v2357 : BitVec 32 := Scalar.addi v2356 c0_i32_907
  let v2358 : Index := Scalar.indexCast v2357
  ![v2358.toNat]
def k0_cond11 (v1574 : BitVec 32) (v1576 : BitVec 32) : BitVec 1 :=
  let v1577 : BitVec 1 := Scalar.cmpi .ne v1574 v1576
  let v1578 : BitVec 32 := Scalar.extui v1577
  let c0_i32_601 : BitVec 32 := 0#32
  let v1579 : BitVec 1 := Scalar.cmpi .ne v1578 c0_i32_601
  v1579

def k0_chk8 (i : grid0.Coords) (v951 : BitVec 32) (v953 : BitVec 32) (v956 : BitVec 32) (v1574 : BitVec 32) (v1576 : BitVec 32) : Prop :=
  (∀ (k0_h1 : k0_cond1 i = 1#1), ∀ (k0_h3 : k0_cond3 v951 v953 v956 = 1#1), ∀ (k0_h11 : k0_cond11 v1574 v1576 = 1#1), ∀ (r : Fin 8), ∀ a, (k0_off74 v1576 (BitVec.ofNat 32 (16 * r.val))) a + S16.size a ≤ S32896.size a)
theorem k0_off74_inb : ∀ (i : grid0.Coords) (v951 : BitVec 32) (v953 : BitVec 32) (v956 : BitVec 32) (v1574 : BitVec 32) (v1576 : BitVec 32) (k0_hw8 : k0_chk8 i v951 v953 v956 v1574 v1576), ∀ (k0_h1 : k0_cond1 i = 1#1), ∀ (k0_h3 : k0_cond3 v951 v953 v956 = 1#1), ∀ (k0_h11 : k0_cond11 v1574 v1576 = 1#1), ∀ (r : Fin 8), ∀ a, (k0_off74 v1576 (BitVec.ofNat 32 (16 * r.val))) a + S16.size a ≤ S32896.size a := fun i v951 v953 v956 v1574 v1576 k0_hw8 k0_h1 k0_h3 k0_h11 r => k0_hw8 k0_h1 k0_h3 k0_h11 r

def k0_off75 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c7_i32_603 : BitVec 32 := 7#32
  let v1582 : BitVec 32 := Scalar.addi v314 c7_i32_603
  let v1583 : Index := Scalar.indexCast v1582
  let c0_604 : Index := 0#32
  ![v1583.toNat, 0]
def k0_off76 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c7_i32_607 : BitVec 32 := 7#32
  let v1592 : BitVec 32 := Scalar.addi v314 c7_i32_607
  let v1593 : Index := Scalar.indexCast v1592
  let c16_608 : Index := 16#32
  ![v1593.toNat, 16]
def k0_off77 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c7_i32_611 : BitVec 32 := 7#32
  let v1602 : BitVec 32 := Scalar.addi v314 c7_i32_611
  let v1603 : Index := Scalar.indexCast v1602
  let c32_612 : Index := 32#32
  ![v1603.toNat, 32]
def k0_off78 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c7_i32_615 : BitVec 32 := 7#32
  let v1612 : BitVec 32 := Scalar.addi v314 c7_i32_615
  let v1613 : Index := Scalar.indexCast v1612
  let c48_616 : Index := 48#32
  ![v1613.toNat, 48]
def k0_off79 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c7_i32_619 : BitVec 32 := 7#32
  let v1622 : BitVec 32 := Scalar.addi v314 c7_i32_619
  let v1623 : Index := Scalar.indexCast v1622
  let c64_620 : Index := 64#32
  ![v1623.toNat, 64]
def k0_off80 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c7_i32_623 : BitVec 32 := 7#32
  let v1632 : BitVec 32 := Scalar.addi v314 c7_i32_623
  let v1633 : Index := Scalar.indexCast v1632
  let c80_624 : Index := 80#32
  ![v1633.toNat, 80]
def k0_off81 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c7_i32_627 : BitVec 32 := 7#32
  let v1642 : BitVec 32 := Scalar.addi v314 c7_i32_627
  let v1643 : Index := Scalar.indexCast v1642
  let c96_628 : Index := 96#32
  ![v1643.toNat, 96]
def k0_off82 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c7_i32_631 : BitVec 32 := 7#32
  let v1652 : BitVec 32 := Scalar.addi v314 c7_i32_631
  let v1653 : Index := Scalar.indexCast v1652
  let c112_632 : Index := 112#32
  ![v1653.toNat, 112]
def k0_off83 (v1663 : BitVec 32) (c0_i32_907 : BitVec 32) : Fin 1 → Nat :=
  let c128_i32_906 : BitVec 32 := 128#32
  let v2356 : BitVec 32 := Scalar.muli v1663 c128_i32_906
  let v2357 : BitVec 32 := Scalar.addi v2356 c0_i32_907
  let v2358 : Index := Scalar.indexCast v2357
  ![v2358.toNat]
def k0_cond12 (v1661 : BitVec 32) (v1663 : BitVec 32) : BitVec 1 :=
  let v1664 : BitVec 1 := Scalar.cmpi .ne v1661 v1663
  let v1665 : BitVec 32 := Scalar.extui v1664
  let c0_i32_635 : BitVec 32 := 0#32
  let v1666 : BitVec 1 := Scalar.cmpi .ne v1665 c0_i32_635
  v1666

def k0_chk9 (i : grid0.Coords) (v951 : BitVec 32) (v953 : BitVec 32) (v956 : BitVec 32) (v1661 : BitVec 32) (v1663 : BitVec 32) : Prop :=
  (∀ (k0_h1 : k0_cond1 i = 1#1), ∀ (k0_h3 : k0_cond3 v951 v953 v956 = 1#1), ∀ (k0_h12 : k0_cond12 v1661 v1663 = 1#1), ∀ (r : Fin 8), ∀ a, (k0_off83 v1663 (BitVec.ofNat 32 (16 * r.val))) a + S16.size a ≤ S32896.size a)
theorem k0_off83_inb : ∀ (i : grid0.Coords) (v951 : BitVec 32) (v953 : BitVec 32) (v956 : BitVec 32) (v1661 : BitVec 32) (v1663 : BitVec 32) (k0_hw9 : k0_chk9 i v951 v953 v956 v1661 v1663), ∀ (k0_h1 : k0_cond1 i = 1#1), ∀ (k0_h3 : k0_cond3 v951 v953 v956 = 1#1), ∀ (k0_h12 : k0_cond12 v1661 v1663 = 1#1), ∀ (r : Fin 8), ∀ a, (k0_off83 v1663 (BitVec.ofNat 32 (16 * r.val))) a + S16.size a ≤ S32896.size a := fun i v951 v953 v956 v1661 v1663 k0_hw9 k0_h1 k0_h3 k0_h12 r => k0_hw9 k0_h1 k0_h3 k0_h12 r

def k0_off84 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c8_i32_637 : BitVec 32 := 8#32
  let v1669 : BitVec 32 := Scalar.addi v314 c8_i32_637
  let v1670 : Index := Scalar.indexCast v1669
  let c0_638 : Index := 0#32
  ![v1670.toNat, 0]
def k0_off85 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c8_i32_641 : BitVec 32 := 8#32
  let v1679 : BitVec 32 := Scalar.addi v314 c8_i32_641
  let v1680 : Index := Scalar.indexCast v1679
  let c16_642 : Index := 16#32
  ![v1680.toNat, 16]
def k0_off86 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c8_i32_645 : BitVec 32 := 8#32
  let v1689 : BitVec 32 := Scalar.addi v314 c8_i32_645
  let v1690 : Index := Scalar.indexCast v1689
  let c32_646 : Index := 32#32
  ![v1690.toNat, 32]
def k0_off87 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c8_i32_649 : BitVec 32 := 8#32
  let v1699 : BitVec 32 := Scalar.addi v314 c8_i32_649
  let v1700 : Index := Scalar.indexCast v1699
  let c48_650 : Index := 48#32
  ![v1700.toNat, 48]
def k0_off88 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c8_i32_653 : BitVec 32 := 8#32
  let v1709 : BitVec 32 := Scalar.addi v314 c8_i32_653
  let v1710 : Index := Scalar.indexCast v1709
  let c64_654 : Index := 64#32
  ![v1710.toNat, 64]
def k0_off89 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c8_i32_657 : BitVec 32 := 8#32
  let v1719 : BitVec 32 := Scalar.addi v314 c8_i32_657
  let v1720 : Index := Scalar.indexCast v1719
  let c80_658 : Index := 80#32
  ![v1720.toNat, 80]
def k0_off90 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c8_i32_661 : BitVec 32 := 8#32
  let v1729 : BitVec 32 := Scalar.addi v314 c8_i32_661
  let v1730 : Index := Scalar.indexCast v1729
  let c96_662 : Index := 96#32
  ![v1730.toNat, 96]
def k0_off91 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c8_i32_665 : BitVec 32 := 8#32
  let v1739 : BitVec 32 := Scalar.addi v314 c8_i32_665
  let v1740 : Index := Scalar.indexCast v1739
  let c112_666 : Index := 112#32
  ![v1740.toNat, 112]
def k0_off92 (v1750 : BitVec 32) (c0_i32_907 : BitVec 32) : Fin 1 → Nat :=
  let c128_i32_906 : BitVec 32 := 128#32
  let v2356 : BitVec 32 := Scalar.muli v1750 c128_i32_906
  let v2357 : BitVec 32 := Scalar.addi v2356 c0_i32_907
  let v2358 : Index := Scalar.indexCast v2357
  ![v2358.toNat]
def k0_cond13 (v1748 : BitVec 32) (v1750 : BitVec 32) : BitVec 1 :=
  let v1751 : BitVec 1 := Scalar.cmpi .ne v1748 v1750
  let v1752 : BitVec 32 := Scalar.extui v1751
  let c0_i32_669 : BitVec 32 := 0#32
  let v1753 : BitVec 1 := Scalar.cmpi .ne v1752 c0_i32_669
  v1753

def k0_chk10 (i : grid0.Coords) (v951 : BitVec 32) (v953 : BitVec 32) (v956 : BitVec 32) (v1748 : BitVec 32) (v1750 : BitVec 32) : Prop :=
  (∀ (k0_h1 : k0_cond1 i = 1#1), ∀ (k0_h3 : k0_cond3 v951 v953 v956 = 1#1), ∀ (k0_h13 : k0_cond13 v1748 v1750 = 1#1), ∀ (r : Fin 8), ∀ a, (k0_off92 v1750 (BitVec.ofNat 32 (16 * r.val))) a + S16.size a ≤ S32896.size a)
theorem k0_off92_inb : ∀ (i : grid0.Coords) (v951 : BitVec 32) (v953 : BitVec 32) (v956 : BitVec 32) (v1748 : BitVec 32) (v1750 : BitVec 32) (k0_hw10 : k0_chk10 i v951 v953 v956 v1748 v1750), ∀ (k0_h1 : k0_cond1 i = 1#1), ∀ (k0_h3 : k0_cond3 v951 v953 v956 = 1#1), ∀ (k0_h13 : k0_cond13 v1748 v1750 = 1#1), ∀ (r : Fin 8), ∀ a, (k0_off92 v1750 (BitVec.ofNat 32 (16 * r.val))) a + S16.size a ≤ S32896.size a := fun i v951 v953 v956 v1748 v1750 k0_hw10 k0_h1 k0_h3 k0_h13 r => k0_hw10 k0_h1 k0_h3 k0_h13 r

def k0_off93 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c9_i32_671 : BitVec 32 := 9#32
  let v1756 : BitVec 32 := Scalar.addi v314 c9_i32_671
  let v1757 : Index := Scalar.indexCast v1756
  let c0_672 : Index := 0#32
  ![v1757.toNat, 0]
def k0_off94 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c9_i32_675 : BitVec 32 := 9#32
  let v1766 : BitVec 32 := Scalar.addi v314 c9_i32_675
  let v1767 : Index := Scalar.indexCast v1766
  let c16_676 : Index := 16#32
  ![v1767.toNat, 16]
def k0_off95 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c9_i32_679 : BitVec 32 := 9#32
  let v1776 : BitVec 32 := Scalar.addi v314 c9_i32_679
  let v1777 : Index := Scalar.indexCast v1776
  let c32_680 : Index := 32#32
  ![v1777.toNat, 32]
def k0_off96 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c9_i32_683 : BitVec 32 := 9#32
  let v1786 : BitVec 32 := Scalar.addi v314 c9_i32_683
  let v1787 : Index := Scalar.indexCast v1786
  let c48_684 : Index := 48#32
  ![v1787.toNat, 48]
def k0_off97 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c9_i32_687 : BitVec 32 := 9#32
  let v1796 : BitVec 32 := Scalar.addi v314 c9_i32_687
  let v1797 : Index := Scalar.indexCast v1796
  let c64_688 : Index := 64#32
  ![v1797.toNat, 64]
def k0_off98 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c9_i32_691 : BitVec 32 := 9#32
  let v1806 : BitVec 32 := Scalar.addi v314 c9_i32_691
  let v1807 : Index := Scalar.indexCast v1806
  let c80_692 : Index := 80#32
  ![v1807.toNat, 80]
def k0_off99 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c9_i32_695 : BitVec 32 := 9#32
  let v1816 : BitVec 32 := Scalar.addi v314 c9_i32_695
  let v1817 : Index := Scalar.indexCast v1816
  let c96_696 : Index := 96#32
  ![v1817.toNat, 96]
def k0_off100 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c9_i32_699 : BitVec 32 := 9#32
  let v1826 : BitVec 32 := Scalar.addi v314 c9_i32_699
  let v1827 : Index := Scalar.indexCast v1826
  let c112_700 : Index := 112#32
  ![v1827.toNat, 112]
def k0_off101 (v1837 : BitVec 32) (c0_i32_907 : BitVec 32) : Fin 1 → Nat :=
  let c128_i32_906 : BitVec 32 := 128#32
  let v2356 : BitVec 32 := Scalar.muli v1837 c128_i32_906
  let v2357 : BitVec 32 := Scalar.addi v2356 c0_i32_907
  let v2358 : Index := Scalar.indexCast v2357
  ![v2358.toNat]
def k0_cond14 (v1835 : BitVec 32) (v1837 : BitVec 32) : BitVec 1 :=
  let v1838 : BitVec 1 := Scalar.cmpi .ne v1835 v1837
  let v1839 : BitVec 32 := Scalar.extui v1838
  let c0_i32_703 : BitVec 32 := 0#32
  let v1840 : BitVec 1 := Scalar.cmpi .ne v1839 c0_i32_703
  v1840

def k0_chk11 (i : grid0.Coords) (v951 : BitVec 32) (v953 : BitVec 32) (v956 : BitVec 32) (v1835 : BitVec 32) (v1837 : BitVec 32) : Prop :=
  (∀ (k0_h1 : k0_cond1 i = 1#1), ∀ (k0_h3 : k0_cond3 v951 v953 v956 = 1#1), ∀ (k0_h14 : k0_cond14 v1835 v1837 = 1#1), ∀ (r : Fin 8), ∀ a, (k0_off101 v1837 (BitVec.ofNat 32 (16 * r.val))) a + S16.size a ≤ S32896.size a)
theorem k0_off101_inb : ∀ (i : grid0.Coords) (v951 : BitVec 32) (v953 : BitVec 32) (v956 : BitVec 32) (v1835 : BitVec 32) (v1837 : BitVec 32) (k0_hw11 : k0_chk11 i v951 v953 v956 v1835 v1837), ∀ (k0_h1 : k0_cond1 i = 1#1), ∀ (k0_h3 : k0_cond3 v951 v953 v956 = 1#1), ∀ (k0_h14 : k0_cond14 v1835 v1837 = 1#1), ∀ (r : Fin 8), ∀ a, (k0_off101 v1837 (BitVec.ofNat 32 (16 * r.val))) a + S16.size a ≤ S32896.size a := fun i v951 v953 v956 v1835 v1837 k0_hw11 k0_h1 k0_h3 k0_h14 r => k0_hw11 k0_h1 k0_h3 k0_h14 r

def k0_off102 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c10_i32_705 : BitVec 32 := 10#32
  let v1843 : BitVec 32 := Scalar.addi v314 c10_i32_705
  let v1844 : Index := Scalar.indexCast v1843
  let c0_706 : Index := 0#32
  ![v1844.toNat, 0]
def k0_off103 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c10_i32_709 : BitVec 32 := 10#32
  let v1853 : BitVec 32 := Scalar.addi v314 c10_i32_709
  let v1854 : Index := Scalar.indexCast v1853
  let c16_710 : Index := 16#32
  ![v1854.toNat, 16]
def k0_off104 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c10_i32_713 : BitVec 32 := 10#32
  let v1863 : BitVec 32 := Scalar.addi v314 c10_i32_713
  let v1864 : Index := Scalar.indexCast v1863
  let c32_714 : Index := 32#32
  ![v1864.toNat, 32]
def k0_off105 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c10_i32_717 : BitVec 32 := 10#32
  let v1873 : BitVec 32 := Scalar.addi v314 c10_i32_717
  let v1874 : Index := Scalar.indexCast v1873
  let c48_718 : Index := 48#32
  ![v1874.toNat, 48]
def k0_off106 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c10_i32_721 : BitVec 32 := 10#32
  let v1883 : BitVec 32 := Scalar.addi v314 c10_i32_721
  let v1884 : Index := Scalar.indexCast v1883
  let c64_722 : Index := 64#32
  ![v1884.toNat, 64]
def k0_off107 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c10_i32_725 : BitVec 32 := 10#32
  let v1893 : BitVec 32 := Scalar.addi v314 c10_i32_725
  let v1894 : Index := Scalar.indexCast v1893
  let c80_726 : Index := 80#32
  ![v1894.toNat, 80]
def k0_off108 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c10_i32_729 : BitVec 32 := 10#32
  let v1903 : BitVec 32 := Scalar.addi v314 c10_i32_729
  let v1904 : Index := Scalar.indexCast v1903
  let c96_730 : Index := 96#32
  ![v1904.toNat, 96]
def k0_off109 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c10_i32_733 : BitVec 32 := 10#32
  let v1913 : BitVec 32 := Scalar.addi v314 c10_i32_733
  let v1914 : Index := Scalar.indexCast v1913
  let c112_734 : Index := 112#32
  ![v1914.toNat, 112]
def k0_off110 (v1924 : BitVec 32) (c0_i32_907 : BitVec 32) : Fin 1 → Nat :=
  let c128_i32_906 : BitVec 32 := 128#32
  let v2356 : BitVec 32 := Scalar.muli v1924 c128_i32_906
  let v2357 : BitVec 32 := Scalar.addi v2356 c0_i32_907
  let v2358 : Index := Scalar.indexCast v2357
  ![v2358.toNat]
def k0_cond15 (v1922 : BitVec 32) (v1924 : BitVec 32) : BitVec 1 :=
  let v1925 : BitVec 1 := Scalar.cmpi .ne v1922 v1924
  let v1926 : BitVec 32 := Scalar.extui v1925
  let c0_i32_737 : BitVec 32 := 0#32
  let v1927 : BitVec 1 := Scalar.cmpi .ne v1926 c0_i32_737
  v1927

def k0_chk12 (i : grid0.Coords) (v951 : BitVec 32) (v953 : BitVec 32) (v956 : BitVec 32) (v1922 : BitVec 32) (v1924 : BitVec 32) : Prop :=
  (∀ (k0_h1 : k0_cond1 i = 1#1), ∀ (k0_h3 : k0_cond3 v951 v953 v956 = 1#1), ∀ (k0_h15 : k0_cond15 v1922 v1924 = 1#1), ∀ (r : Fin 8), ∀ a, (k0_off110 v1924 (BitVec.ofNat 32 (16 * r.val))) a + S16.size a ≤ S32896.size a)
theorem k0_off110_inb : ∀ (i : grid0.Coords) (v951 : BitVec 32) (v953 : BitVec 32) (v956 : BitVec 32) (v1922 : BitVec 32) (v1924 : BitVec 32) (k0_hw12 : k0_chk12 i v951 v953 v956 v1922 v1924), ∀ (k0_h1 : k0_cond1 i = 1#1), ∀ (k0_h3 : k0_cond3 v951 v953 v956 = 1#1), ∀ (k0_h15 : k0_cond15 v1922 v1924 = 1#1), ∀ (r : Fin 8), ∀ a, (k0_off110 v1924 (BitVec.ofNat 32 (16 * r.val))) a + S16.size a ≤ S32896.size a := fun i v951 v953 v956 v1922 v1924 k0_hw12 k0_h1 k0_h3 k0_h15 r => k0_hw12 k0_h1 k0_h3 k0_h15 r

def k0_off111 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c11_i32_739 : BitVec 32 := 11#32
  let v1930 : BitVec 32 := Scalar.addi v314 c11_i32_739
  let v1931 : Index := Scalar.indexCast v1930
  let c0_740 : Index := 0#32
  ![v1931.toNat, 0]
def k0_off112 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c11_i32_743 : BitVec 32 := 11#32
  let v1940 : BitVec 32 := Scalar.addi v314 c11_i32_743
  let v1941 : Index := Scalar.indexCast v1940
  let c16_744 : Index := 16#32
  ![v1941.toNat, 16]
def k0_off113 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c11_i32_747 : BitVec 32 := 11#32
  let v1950 : BitVec 32 := Scalar.addi v314 c11_i32_747
  let v1951 : Index := Scalar.indexCast v1950
  let c32_748 : Index := 32#32
  ![v1951.toNat, 32]
def k0_off114 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c11_i32_751 : BitVec 32 := 11#32
  let v1960 : BitVec 32 := Scalar.addi v314 c11_i32_751
  let v1961 : Index := Scalar.indexCast v1960
  let c48_752 : Index := 48#32
  ![v1961.toNat, 48]
def k0_off115 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c11_i32_755 : BitVec 32 := 11#32
  let v1970 : BitVec 32 := Scalar.addi v314 c11_i32_755
  let v1971 : Index := Scalar.indexCast v1970
  let c64_756 : Index := 64#32
  ![v1971.toNat, 64]
def k0_off116 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c11_i32_759 : BitVec 32 := 11#32
  let v1980 : BitVec 32 := Scalar.addi v314 c11_i32_759
  let v1981 : Index := Scalar.indexCast v1980
  let c80_760 : Index := 80#32
  ![v1981.toNat, 80]
def k0_off117 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c11_i32_763 : BitVec 32 := 11#32
  let v1990 : BitVec 32 := Scalar.addi v314 c11_i32_763
  let v1991 : Index := Scalar.indexCast v1990
  let c96_764 : Index := 96#32
  ![v1991.toNat, 96]
def k0_off118 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c11_i32_767 : BitVec 32 := 11#32
  let v2000 : BitVec 32 := Scalar.addi v314 c11_i32_767
  let v2001 : Index := Scalar.indexCast v2000
  let c112_768 : Index := 112#32
  ![v2001.toNat, 112]
def k0_off119 (v2011 : BitVec 32) (c0_i32_907 : BitVec 32) : Fin 1 → Nat :=
  let c128_i32_906 : BitVec 32 := 128#32
  let v2356 : BitVec 32 := Scalar.muli v2011 c128_i32_906
  let v2357 : BitVec 32 := Scalar.addi v2356 c0_i32_907
  let v2358 : Index := Scalar.indexCast v2357
  ![v2358.toNat]
def k0_cond16 (v2009 : BitVec 32) (v2011 : BitVec 32) : BitVec 1 :=
  let v2012 : BitVec 1 := Scalar.cmpi .ne v2009 v2011
  let v2013 : BitVec 32 := Scalar.extui v2012
  let c0_i32_771 : BitVec 32 := 0#32
  let v2014 : BitVec 1 := Scalar.cmpi .ne v2013 c0_i32_771
  v2014

def k0_chk13 (i : grid0.Coords) (v951 : BitVec 32) (v953 : BitVec 32) (v956 : BitVec 32) (v2009 : BitVec 32) (v2011 : BitVec 32) : Prop :=
  (∀ (k0_h1 : k0_cond1 i = 1#1), ∀ (k0_h3 : k0_cond3 v951 v953 v956 = 1#1), ∀ (k0_h16 : k0_cond16 v2009 v2011 = 1#1), ∀ (r : Fin 8), ∀ a, (k0_off119 v2011 (BitVec.ofNat 32 (16 * r.val))) a + S16.size a ≤ S32896.size a)
theorem k0_off119_inb : ∀ (i : grid0.Coords) (v951 : BitVec 32) (v953 : BitVec 32) (v956 : BitVec 32) (v2009 : BitVec 32) (v2011 : BitVec 32) (k0_hw13 : k0_chk13 i v951 v953 v956 v2009 v2011), ∀ (k0_h1 : k0_cond1 i = 1#1), ∀ (k0_h3 : k0_cond3 v951 v953 v956 = 1#1), ∀ (k0_h16 : k0_cond16 v2009 v2011 = 1#1), ∀ (r : Fin 8), ∀ a, (k0_off119 v2011 (BitVec.ofNat 32 (16 * r.val))) a + S16.size a ≤ S32896.size a := fun i v951 v953 v956 v2009 v2011 k0_hw13 k0_h1 k0_h3 k0_h16 r => k0_hw13 k0_h1 k0_h3 k0_h16 r

def k0_off120 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c12_i32_773 : BitVec 32 := 12#32
  let v2017 : BitVec 32 := Scalar.addi v314 c12_i32_773
  let v2018 : Index := Scalar.indexCast v2017
  let c0_774 : Index := 0#32
  ![v2018.toNat, 0]
def k0_off121 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c12_i32_777 : BitVec 32 := 12#32
  let v2027 : BitVec 32 := Scalar.addi v314 c12_i32_777
  let v2028 : Index := Scalar.indexCast v2027
  let c16_778 : Index := 16#32
  ![v2028.toNat, 16]
def k0_off122 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c12_i32_781 : BitVec 32 := 12#32
  let v2037 : BitVec 32 := Scalar.addi v314 c12_i32_781
  let v2038 : Index := Scalar.indexCast v2037
  let c32_782 : Index := 32#32
  ![v2038.toNat, 32]
def k0_off123 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c12_i32_785 : BitVec 32 := 12#32
  let v2047 : BitVec 32 := Scalar.addi v314 c12_i32_785
  let v2048 : Index := Scalar.indexCast v2047
  let c48_786 : Index := 48#32
  ![v2048.toNat, 48]
def k0_off124 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c12_i32_789 : BitVec 32 := 12#32
  let v2057 : BitVec 32 := Scalar.addi v314 c12_i32_789
  let v2058 : Index := Scalar.indexCast v2057
  let c64_790 : Index := 64#32
  ![v2058.toNat, 64]
def k0_off125 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c12_i32_793 : BitVec 32 := 12#32
  let v2067 : BitVec 32 := Scalar.addi v314 c12_i32_793
  let v2068 : Index := Scalar.indexCast v2067
  let c80_794 : Index := 80#32
  ![v2068.toNat, 80]
def k0_off126 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c12_i32_797 : BitVec 32 := 12#32
  let v2077 : BitVec 32 := Scalar.addi v314 c12_i32_797
  let v2078 : Index := Scalar.indexCast v2077
  let c96_798 : Index := 96#32
  ![v2078.toNat, 96]
def k0_off127 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c12_i32_801 : BitVec 32 := 12#32
  let v2087 : BitVec 32 := Scalar.addi v314 c12_i32_801
  let v2088 : Index := Scalar.indexCast v2087
  let c112_802 : Index := 112#32
  ![v2088.toNat, 112]
def k0_off128 (v2098 : BitVec 32) (c0_i32_907 : BitVec 32) : Fin 1 → Nat :=
  let c128_i32_906 : BitVec 32 := 128#32
  let v2356 : BitVec 32 := Scalar.muli v2098 c128_i32_906
  let v2357 : BitVec 32 := Scalar.addi v2356 c0_i32_907
  let v2358 : Index := Scalar.indexCast v2357
  ![v2358.toNat]
def k0_cond17 (v2096 : BitVec 32) (v2098 : BitVec 32) : BitVec 1 :=
  let v2099 : BitVec 1 := Scalar.cmpi .ne v2096 v2098
  let v2100 : BitVec 32 := Scalar.extui v2099
  let c0_i32_805 : BitVec 32 := 0#32
  let v2101 : BitVec 1 := Scalar.cmpi .ne v2100 c0_i32_805
  v2101

def k0_chk14 (i : grid0.Coords) (v951 : BitVec 32) (v953 : BitVec 32) (v956 : BitVec 32) (v2096 : BitVec 32) (v2098 : BitVec 32) : Prop :=
  (∀ (k0_h1 : k0_cond1 i = 1#1), ∀ (k0_h3 : k0_cond3 v951 v953 v956 = 1#1), ∀ (k0_h17 : k0_cond17 v2096 v2098 = 1#1), ∀ (r : Fin 8), ∀ a, (k0_off128 v2098 (BitVec.ofNat 32 (16 * r.val))) a + S16.size a ≤ S32896.size a)
theorem k0_off128_inb : ∀ (i : grid0.Coords) (v951 : BitVec 32) (v953 : BitVec 32) (v956 : BitVec 32) (v2096 : BitVec 32) (v2098 : BitVec 32) (k0_hw14 : k0_chk14 i v951 v953 v956 v2096 v2098), ∀ (k0_h1 : k0_cond1 i = 1#1), ∀ (k0_h3 : k0_cond3 v951 v953 v956 = 1#1), ∀ (k0_h17 : k0_cond17 v2096 v2098 = 1#1), ∀ (r : Fin 8), ∀ a, (k0_off128 v2098 (BitVec.ofNat 32 (16 * r.val))) a + S16.size a ≤ S32896.size a := fun i v951 v953 v956 v2096 v2098 k0_hw14 k0_h1 k0_h3 k0_h17 r => k0_hw14 k0_h1 k0_h3 k0_h17 r

def k0_off129 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c13_i32_807 : BitVec 32 := 13#32
  let v2104 : BitVec 32 := Scalar.addi v314 c13_i32_807
  let v2105 : Index := Scalar.indexCast v2104
  let c0_808 : Index := 0#32
  ![v2105.toNat, 0]
def k0_off130 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c13_i32_811 : BitVec 32 := 13#32
  let v2114 : BitVec 32 := Scalar.addi v314 c13_i32_811
  let v2115 : Index := Scalar.indexCast v2114
  let c16_812 : Index := 16#32
  ![v2115.toNat, 16]
def k0_off131 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c13_i32_815 : BitVec 32 := 13#32
  let v2124 : BitVec 32 := Scalar.addi v314 c13_i32_815
  let v2125 : Index := Scalar.indexCast v2124
  let c32_816 : Index := 32#32
  ![v2125.toNat, 32]
def k0_off132 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c13_i32_819 : BitVec 32 := 13#32
  let v2134 : BitVec 32 := Scalar.addi v314 c13_i32_819
  let v2135 : Index := Scalar.indexCast v2134
  let c48_820 : Index := 48#32
  ![v2135.toNat, 48]
def k0_off133 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c13_i32_823 : BitVec 32 := 13#32
  let v2144 : BitVec 32 := Scalar.addi v314 c13_i32_823
  let v2145 : Index := Scalar.indexCast v2144
  let c64_824 : Index := 64#32
  ![v2145.toNat, 64]
def k0_off134 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c13_i32_827 : BitVec 32 := 13#32
  let v2154 : BitVec 32 := Scalar.addi v314 c13_i32_827
  let v2155 : Index := Scalar.indexCast v2154
  let c80_828 : Index := 80#32
  ![v2155.toNat, 80]
def k0_off135 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c13_i32_831 : BitVec 32 := 13#32
  let v2164 : BitVec 32 := Scalar.addi v314 c13_i32_831
  let v2165 : Index := Scalar.indexCast v2164
  let c96_832 : Index := 96#32
  ![v2165.toNat, 96]
def k0_off136 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c13_i32_835 : BitVec 32 := 13#32
  let v2174 : BitVec 32 := Scalar.addi v314 c13_i32_835
  let v2175 : Index := Scalar.indexCast v2174
  let c112_836 : Index := 112#32
  ![v2175.toNat, 112]
def k0_off137 (v2185 : BitVec 32) (c0_i32_907 : BitVec 32) : Fin 1 → Nat :=
  let c128_i32_906 : BitVec 32 := 128#32
  let v2356 : BitVec 32 := Scalar.muli v2185 c128_i32_906
  let v2357 : BitVec 32 := Scalar.addi v2356 c0_i32_907
  let v2358 : Index := Scalar.indexCast v2357
  ![v2358.toNat]
def k0_cond18 (v2183 : BitVec 32) (v2185 : BitVec 32) : BitVec 1 :=
  let v2186 : BitVec 1 := Scalar.cmpi .ne v2183 v2185
  let v2187 : BitVec 32 := Scalar.extui v2186
  let c0_i32_839 : BitVec 32 := 0#32
  let v2188 : BitVec 1 := Scalar.cmpi .ne v2187 c0_i32_839
  v2188

def k0_chk15 (i : grid0.Coords) (v951 : BitVec 32) (v953 : BitVec 32) (v956 : BitVec 32) (v2183 : BitVec 32) (v2185 : BitVec 32) : Prop :=
  (∀ (k0_h1 : k0_cond1 i = 1#1), ∀ (k0_h3 : k0_cond3 v951 v953 v956 = 1#1), ∀ (k0_h18 : k0_cond18 v2183 v2185 = 1#1), ∀ (r : Fin 8), ∀ a, (k0_off137 v2185 (BitVec.ofNat 32 (16 * r.val))) a + S16.size a ≤ S32896.size a)
theorem k0_off137_inb : ∀ (i : grid0.Coords) (v951 : BitVec 32) (v953 : BitVec 32) (v956 : BitVec 32) (v2183 : BitVec 32) (v2185 : BitVec 32) (k0_hw15 : k0_chk15 i v951 v953 v956 v2183 v2185), ∀ (k0_h1 : k0_cond1 i = 1#1), ∀ (k0_h3 : k0_cond3 v951 v953 v956 = 1#1), ∀ (k0_h18 : k0_cond18 v2183 v2185 = 1#1), ∀ (r : Fin 8), ∀ a, (k0_off137 v2185 (BitVec.ofNat 32 (16 * r.val))) a + S16.size a ≤ S32896.size a := fun i v951 v953 v956 v2183 v2185 k0_hw15 k0_h1 k0_h3 k0_h18 r => k0_hw15 k0_h1 k0_h3 k0_h18 r

def k0_off138 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c14_i32_841 : BitVec 32 := 14#32
  let v2191 : BitVec 32 := Scalar.addi v314 c14_i32_841
  let v2192 : Index := Scalar.indexCast v2191
  let c0_842 : Index := 0#32
  ![v2192.toNat, 0]
def k0_off139 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c14_i32_845 : BitVec 32 := 14#32
  let v2201 : BitVec 32 := Scalar.addi v314 c14_i32_845
  let v2202 : Index := Scalar.indexCast v2201
  let c16_846 : Index := 16#32
  ![v2202.toNat, 16]
def k0_off140 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c14_i32_849 : BitVec 32 := 14#32
  let v2211 : BitVec 32 := Scalar.addi v314 c14_i32_849
  let v2212 : Index := Scalar.indexCast v2211
  let c32_850 : Index := 32#32
  ![v2212.toNat, 32]
def k0_off141 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c14_i32_853 : BitVec 32 := 14#32
  let v2221 : BitVec 32 := Scalar.addi v314 c14_i32_853
  let v2222 : Index := Scalar.indexCast v2221
  let c48_854 : Index := 48#32
  ![v2222.toNat, 48]
def k0_off142 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c14_i32_857 : BitVec 32 := 14#32
  let v2231 : BitVec 32 := Scalar.addi v314 c14_i32_857
  let v2232 : Index := Scalar.indexCast v2231
  let c64_858 : Index := 64#32
  ![v2232.toNat, 64]
def k0_off143 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c14_i32_861 : BitVec 32 := 14#32
  let v2241 : BitVec 32 := Scalar.addi v314 c14_i32_861
  let v2242 : Index := Scalar.indexCast v2241
  let c80_862 : Index := 80#32
  ![v2242.toNat, 80]
def k0_off144 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c14_i32_865 : BitVec 32 := 14#32
  let v2251 : BitVec 32 := Scalar.addi v314 c14_i32_865
  let v2252 : Index := Scalar.indexCast v2251
  let c96_866 : Index := 96#32
  ![v2252.toNat, 96]
def k0_off145 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c14_i32_869 : BitVec 32 := 14#32
  let v2261 : BitVec 32 := Scalar.addi v314 c14_i32_869
  let v2262 : Index := Scalar.indexCast v2261
  let c112_870 : Index := 112#32
  ![v2262.toNat, 112]
def k0_off146 (v2272 : BitVec 32) (c0_i32_907 : BitVec 32) : Fin 1 → Nat :=
  let c128_i32_906 : BitVec 32 := 128#32
  let v2356 : BitVec 32 := Scalar.muli v2272 c128_i32_906
  let v2357 : BitVec 32 := Scalar.addi v2356 c0_i32_907
  let v2358 : Index := Scalar.indexCast v2357
  ![v2358.toNat]
def k0_cond19 (v2270 : BitVec 32) (v2272 : BitVec 32) : BitVec 1 :=
  let v2273 : BitVec 1 := Scalar.cmpi .ne v2270 v2272
  let v2274 : BitVec 32 := Scalar.extui v2273
  let c0_i32_873 : BitVec 32 := 0#32
  let v2275 : BitVec 1 := Scalar.cmpi .ne v2274 c0_i32_873
  v2275

def k0_chk16 (i : grid0.Coords) (v951 : BitVec 32) (v953 : BitVec 32) (v956 : BitVec 32) (v2270 : BitVec 32) (v2272 : BitVec 32) : Prop :=
  (∀ (k0_h1 : k0_cond1 i = 1#1), ∀ (k0_h3 : k0_cond3 v951 v953 v956 = 1#1), ∀ (k0_h19 : k0_cond19 v2270 v2272 = 1#1), ∀ (r : Fin 8), ∀ a, (k0_off146 v2272 (BitVec.ofNat 32 (16 * r.val))) a + S16.size a ≤ S32896.size a)
theorem k0_off146_inb : ∀ (i : grid0.Coords) (v951 : BitVec 32) (v953 : BitVec 32) (v956 : BitVec 32) (v2270 : BitVec 32) (v2272 : BitVec 32) (k0_hw16 : k0_chk16 i v951 v953 v956 v2270 v2272), ∀ (k0_h1 : k0_cond1 i = 1#1), ∀ (k0_h3 : k0_cond3 v951 v953 v956 = 1#1), ∀ (k0_h19 : k0_cond19 v2270 v2272 = 1#1), ∀ (r : Fin 8), ∀ a, (k0_off146 v2272 (BitVec.ofNat 32 (16 * r.val))) a + S16.size a ≤ S32896.size a := fun i v951 v953 v956 v2270 v2272 k0_hw16 k0_h1 k0_h3 k0_h19 r => k0_hw16 k0_h1 k0_h3 k0_h19 r

def k0_off147 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c15_i32_875 : BitVec 32 := 15#32
  let v2278 : BitVec 32 := Scalar.addi v314 c15_i32_875
  let v2279 : Index := Scalar.indexCast v2278
  let c0_876 : Index := 0#32
  ![v2279.toNat, 0]
def k0_off148 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c15_i32_879 : BitVec 32 := 15#32
  let v2288 : BitVec 32 := Scalar.addi v314 c15_i32_879
  let v2289 : Index := Scalar.indexCast v2288
  let c16_880 : Index := 16#32
  ![v2289.toNat, 16]
def k0_off149 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c15_i32_883 : BitVec 32 := 15#32
  let v2298 : BitVec 32 := Scalar.addi v314 c15_i32_883
  let v2299 : Index := Scalar.indexCast v2298
  let c32_884 : Index := 32#32
  ![v2299.toNat, 32]
def k0_off150 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c15_i32_887 : BitVec 32 := 15#32
  let v2308 : BitVec 32 := Scalar.addi v314 c15_i32_887
  let v2309 : Index := Scalar.indexCast v2308
  let c48_888 : Index := 48#32
  ![v2309.toNat, 48]
def k0_off151 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c15_i32_891 : BitVec 32 := 15#32
  let v2318 : BitVec 32 := Scalar.addi v314 c15_i32_891
  let v2319 : Index := Scalar.indexCast v2318
  let c64_892 : Index := 64#32
  ![v2319.toNat, 64]
def k0_off152 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c15_i32_895 : BitVec 32 := 15#32
  let v2328 : BitVec 32 := Scalar.addi v314 c15_i32_895
  let v2329 : Index := Scalar.indexCast v2328
  let c80_896 : Index := 80#32
  ![v2329.toNat, 80]
def k0_off153 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c15_i32_899 : BitVec 32 := 15#32
  let v2338 : BitVec 32 := Scalar.addi v314 c15_i32_899
  let v2339 : Index := Scalar.indexCast v2338
  let c96_900 : Index := 96#32
  ![v2339.toNat, 96]
def k0_off154 (k0_t2 : Fin k0_t2_loop.trips) : Fin 2 → Nat :=
  let c0_i32_113 : BitVec 32 := 0#32
  let c0_i32_57 : BitVec 32 := 0#32
  let c1_i32_59 : BitVec 32 := 1#32
  let arg12 : BitVec 32 := Scf.iv c0_i32_57 c1_i32_59 k0_t2
  let c16_i32_112 : BitVec 32 := 16#32
  let v313 : BitVec 32 := Scalar.muli arg12 c16_i32_112
  let v314 : BitVec 32 := Scalar.addi c0_i32_113 v313
  let c15_i32_903 : BitVec 32 := 15#32
  let v2348 : BitVec 32 := Scalar.addi v314 c15_i32_903
  let v2349 : Index := Scalar.indexCast v2348
  let c112_904 : Index := 112#32
  ![v2349.toNat, 112]
def k0_off155 (v174 : BitVec 32) (c0_i32_63 : BitVec 32) : Fin 1 → Nat :=
  let c128_i32_62 : BitVec 32 := 128#32
  let v175 : BitVec 32 := Scalar.muli v174 c128_i32_62
  let v176 : BitVec 32 := Scalar.addi v175 c0_i32_63
  let v177 : Index := Scalar.indexCast v176
  ![v177.toNat]

def k0_chk17 (i : grid0.Coords) (v174 : BitVec 32) : Prop :=
  (∀ (k0_h1 : k0_cond1 i = 1#1), ∀ (r : Fin 8), ∀ a, (k0_off155 v174 (BitVec.ofNat 32 (16 * r.val))) a + S16.size a ≤ S32896.size a)
theorem k0_off155_inb : ∀ (i : grid0.Coords) (v174 : BitVec 32) (k0_hw17 : k0_chk17 i v174), ∀ (k0_h1 : k0_cond1 i = 1#1), ∀ (r : Fin 8), ∀ a, (k0_off155 v174 (BitVec.ofNat 32 (16 * r.val))) a + S16.size a ≤ S32896.size a := fun i v174 k0_hw17 k0_h1 r => k0_hw17 k0_h1 r

def k0_off156 (i : grid0.Coords) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c256_i32_8 : BitVec 32 := 256#32
  let v40 : BitVec 32 := Scalar.muli v35 c256_i32_8
  let c0_i32_11 : BitVec 32 := 0#32
  ![v40.toNat, 0]
def k0_off157 (i : grid0.Coords) : Fin 1 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c256_i32_15 : BitVec 32 := 256#32
  let v45 : BitVec 32 := Scalar.muli v35 c256_i32_15
  ![v45.toNat]
@[reducible] def k0_t3_loop (i : grid0.Coords) : Scf.Loop 32 :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_20 : BitVec 32 := 1#32
  ⟨v35, v54, c1_i32_20⟩
def k0_off158 (i : grid0.Coords) (k0_t3 : Fin (k0_t3_loop i).trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_57 : BitVec 32 := 256#32
  let v174 : BitVec 32 := Scalar.muli v172 c256_i32_57
  let c0_i32_58 : BitVec 32 := 0#32
  ![v174.toNat, 0]
def k0_off159 (i : grid0.Coords) (k0_t3 : Fin (k0_t3_loop i).trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let c256_i32_56 : BitVec 32 := 256#32
  let v173 : BitVec 32 := Scalar.muli arg12 c256_i32_56
  let c0_i32_59 : BitVec 32 := 0#32
  ![v173.toNat, 0]
def k0_off160 (i : grid0.Coords) (k0_t3 : Fin (k0_t3_loop i).trips) : Fin 1 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_63 : BitVec 32 := 256#32
  let v180 : BitVec 32 := Scalar.muli v172 c256_i32_63
  ![v180.toNat]
def k0_off161 (i : grid0.Coords) (k0_t3 : Fin (k0_t3_loop i).trips) : Fin 1 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let c256_i32_62 : BitVec 32 := 256#32
  let v179 : BitVec 32 := Scalar.muli arg12 c256_i32_62
  ![v179.toNat]
def k0_cond20 (i : grid0.Coords) (k0_t3 : Fin (k0_t3_loop i).trips) : BitVec 1 :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let c1_i32_64 : BitVec 32 := 1#32
  let v185 : BitVec 32 := Scalar.addi arg12 c1_i32_64
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v186 : BitVec 1 := Scalar.cmpi .slt v185 v39
  let v187 : BitVec 32 := Scalar.extui v186
  let c0_i32_65 : BitVec 32 := 0#32
  let v188 : BitVec 1 := Scalar.cmpi .ne v187 c0_i32_65
  v188

def k0_off162 (i : grid0.Coords) (k0_t3 : Fin (k0_t3_loop i).trips) : Fin 2 → Nat :=
  let c1_i32_71 : BitVec 32 := 1#32
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let v192 : BitVec 32 := Scalar.subi c1_i32_71 v172
  let c256_i32_73 : BitVec 32 := 256#32
  let v194 : BitVec 32 := Scalar.muli v192 c256_i32_73
  let c0_i32_74 : BitVec 32 := 0#32
  ![v194.toNat, 0]
def k0_off163 (i : grid0.Coords) (k0_t3 : Fin (k0_t3_loop i).trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let c1_i32_70 : BitVec 32 := 1#32
  let v191 : BitVec 32 := Scalar.addi arg12 c1_i32_70
  let c256_i32_72 : BitVec 32 := 256#32
  let v193 : BitVec 32 := Scalar.muli v191 c256_i32_72
  let c0_i32_75 : BitVec 32 := 0#32
  ![v193.toNat, 0]
def k0_off164 (i : grid0.Coords) (k0_t3 : Fin (k0_t3_loop i).trips) : Fin 1 → Nat :=
  let c1_i32_71 : BitVec 32 := 1#32
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let v192 : BitVec 32 := Scalar.subi c1_i32_71 v172
  let c256_i32_79 : BitVec 32 := 256#32
  let v200 : BitVec 32 := Scalar.muli v192 c256_i32_79
  ![v200.toNat]
def k0_off165 (i : grid0.Coords) (k0_t3 : Fin (k0_t3_loop i).trips) : Fin 1 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let c1_i32_70 : BitVec 32 := 1#32
  let v191 : BitVec 32 := Scalar.addi arg12 c1_i32_70
  let c256_i32_78 : BitVec 32 := 256#32
  let v199 : BitVec 32 := Scalar.muli v191 c256_i32_78
  ![v199.toNat]
@[reducible] def k0_t4_loop : Scf.Loop 32 :=
  let c0_i32_66 : BitVec 32 := 0#32
  let c16_i32_67 : BitVec 32 := 16#32
  let v189 : BitVec 32 := Scalar.addi c0_i32_66 c16_i32_67
  let c1_i32_68 : BitVec 32 := 1#32
  ⟨c0_i32_66, v189, c1_i32_68⟩
def k0_off166 (i : grid0.Coords) (k0_t3 : Fin (k0_t3_loop i).trips) (k0_t4 : Fin k0_t4_loop.trips) : Fin 1 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let v194 : Index := Scalar.indexCast v193
  ![v194.toNat]
def k0_off167 (i : grid0.Coords) (k0_t3 : Fin (k0_t3_loop i).trips) (k0_t4 : Fin k0_t4_loop.trips) (c0_i32_72 : BitVec 32) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let v197 : BitVec 32 := Scalar.addi v193 c0_i32_72
  let v198 : Index := Scalar.indexCast v197
  let c0_73 : Index := 0#32
  ![v198.toNat, 0]
def k0_off168 (i : grid0.Coords) (k0_t3 : Fin (k0_t3_loop i).trips) (k0_t4 : Fin k0_t4_loop.trips) (c0_i32_93 : BitVec 32) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let v276 : BitVec 32 := Scalar.addi v193 c0_i32_93
  let v277 : Index := Scalar.indexCast v276
  let c16_94 : Index := 16#32
  ![v277.toNat, 16]
def k0_off169 (i : grid0.Coords) (k0_t3 : Fin (k0_t3_loop i).trips) (k0_t4 : Fin k0_t4_loop.trips) (c0_i32_125 : BitVec 32) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let v355 : BitVec 32 := Scalar.addi v193 c0_i32_125
  let v356 : Index := Scalar.indexCast v355
  let c32_126 : Index := 32#32
  ![v356.toNat, 32]
def k0_off170 (i : grid0.Coords) (k0_t3 : Fin (k0_t3_loop i).trips) (k0_t4 : Fin k0_t4_loop.trips) (c0_i32_157 : BitVec 32) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let v434 : BitVec 32 := Scalar.addi v193 c0_i32_157
  let v435 : Index := Scalar.indexCast v434
  let c48_158 : Index := 48#32
  ![v435.toNat, 48]
def k0_off171 (i : grid0.Coords) (k0_t3 : Fin (k0_t3_loop i).trips) (k0_t4 : Fin k0_t4_loop.trips) (c0_i32_189 : BitVec 32) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let v513 : BitVec 32 := Scalar.addi v193 c0_i32_189
  let v514 : Index := Scalar.indexCast v513
  let c64_190 : Index := 64#32
  ![v514.toNat, 64]
def k0_off172 (i : grid0.Coords) (k0_t3 : Fin (k0_t3_loop i).trips) (k0_t4 : Fin k0_t4_loop.trips) (c0_i32_221 : BitVec 32) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let v592 : BitVec 32 := Scalar.addi v193 c0_i32_221
  let v593 : Index := Scalar.indexCast v592
  let c80_222 : Index := 80#32
  ![v593.toNat, 80]
def k0_off173 (i : grid0.Coords) (k0_t3 : Fin (k0_t3_loop i).trips) (k0_t4 : Fin k0_t4_loop.trips) (c0_i32_253 : BitVec 32) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let v671 : BitVec 32 := Scalar.addi v193 c0_i32_253
  let v672 : Index := Scalar.indexCast v671
  let c96_254 : Index := 96#32
  ![v672.toNat, 96]
def k0_off174 (i : grid0.Coords) (k0_t3 : Fin (k0_t3_loop i).trips) (k0_t4 : Fin k0_t4_loop.trips) (c0_i32_285 : BitVec 32) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let v750 : BitVec 32 := Scalar.addi v193 c0_i32_285
  let v751 : Index := Scalar.indexCast v750
  let c112_286 : Index := 112#32
  ![v751.toNat, 112]
def k0_off175 (v846 : BitVec 32) (c0_i32_866 : BitVec 32) : Fin 1 → Nat :=
  let c128_i32_865 : BitVec 32 := 128#32
  let v2235 : BitVec 32 := Scalar.muli v846 c128_i32_865
  let v2236 : BitVec 32 := Scalar.addi v2235 c0_i32_866
  let v2237 : Index := Scalar.indexCast v2236
  ![v2237.toNat]
def k0_cond22 (v830 : BitVec 32) (v832 : BitVec 32) (v835 : BitVec 32) : BitVec 1 :=
  let v833 : BitVec 1 := Scalar.cmpi .eq v832 v830
  let v836 : BitVec 1 := Scalar.cmpi .eq v835 v830
  let v837 : BitVec 1 := Scalar.andi v833 v836
  let v_true : BitVec 1 := 1#1
  let v840 : BitVec 1 := Scalar.xori v837 v_true
  let v841 : BitVec 32 := Scalar.extui v840
  let c0_i32_319 : BitVec 32 := 0#32
  let v842 : BitVec 1 := Scalar.cmpi .ne v841 c0_i32_319
  v842

def k0_cond23 (v844 : BitVec 32) (v846 : BitVec 32) : BitVec 1 :=
  let v847 : BitVec 1 := Scalar.cmpi .ne v844 v846
  let v848 : BitVec 32 := Scalar.extui v847
  let c0_i32_322 : BitVec 32 := 0#32
  let v849 : BitVec 1 := Scalar.cmpi .ne v848 c0_i32_322
  v849

def k0_chk18 (v830 : BitVec 32) (v832 : BitVec 32) (v835 : BitVec 32) (v844 : BitVec 32) (v846 : BitVec 32) : Prop :=
  (∀ (k0_h22 : k0_cond22 v830 v832 v835 = 1#1), ∀ (k0_h23 : k0_cond23 v844 v846 = 1#1), ∀ (r : Fin 8), ∀ a, (k0_off175 v846 (BitVec.ofNat 32 (16 * r.val))) a + S16.size a ≤ S32896.size a)
theorem k0_off175_inb : ∀ (v830 : BitVec 32) (v832 : BitVec 32) (v835 : BitVec 32) (v844 : BitVec 32) (v846 : BitVec 32) (k0_hw18 : k0_chk18 v830 v832 v835 v844 v846), ∀ (k0_h22 : k0_cond22 v830 v832 v835 = 1#1), ∀ (k0_h23 : k0_cond23 v844 v846 = 1#1), ∀ (r : Fin 8), ∀ a, (k0_off175 v846 (BitVec.ofNat 32 (16 * r.val))) a + S16.size a ≤ S32896.size a := fun v830 v832 v835 v844 v846 k0_hw18 k0_h22 k0_h23 r => k0_hw18 k0_h22 k0_h23 r

def k0_off176 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c0_i32_324 : BitVec 32 := 0#32
  let v852 : BitVec 32 := Scalar.addi v193 c0_i32_324
  let v853 : Index := Scalar.indexCast v852
  let c0_325 : Index := 0#32
  ![v853.toNat, 0]
def k0_off177 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c0_i32_328 : BitVec 32 := 0#32
  let v862 : BitVec 32 := Scalar.addi v193 c0_i32_328
  let v863 : Index := Scalar.indexCast v862
  let c16_329 : Index := 16#32
  ![v863.toNat, 16]
def k0_off178 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c0_i32_332 : BitVec 32 := 0#32
  let v872 : BitVec 32 := Scalar.addi v193 c0_i32_332
  let v873 : Index := Scalar.indexCast v872
  let c32_333 : Index := 32#32
  ![v873.toNat, 32]
def k0_off179 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c0_i32_336 : BitVec 32 := 0#32
  let v882 : BitVec 32 := Scalar.addi v193 c0_i32_336
  let v883 : Index := Scalar.indexCast v882
  let c48_337 : Index := 48#32
  ![v883.toNat, 48]
def k0_off180 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c0_i32_340 : BitVec 32 := 0#32
  let v892 : BitVec 32 := Scalar.addi v193 c0_i32_340
  let v893 : Index := Scalar.indexCast v892
  let c64_341 : Index := 64#32
  ![v893.toNat, 64]
def k0_off181 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c0_i32_344 : BitVec 32 := 0#32
  let v902 : BitVec 32 := Scalar.addi v193 c0_i32_344
  let v903 : Index := Scalar.indexCast v902
  let c80_345 : Index := 80#32
  ![v903.toNat, 80]
def k0_off182 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c0_i32_348 : BitVec 32 := 0#32
  let v912 : BitVec 32 := Scalar.addi v193 c0_i32_348
  let v913 : Index := Scalar.indexCast v912
  let c96_349 : Index := 96#32
  ![v913.toNat, 96]
def k0_off183 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c0_i32_352 : BitVec 32 := 0#32
  let v922 : BitVec 32 := Scalar.addi v193 c0_i32_352
  let v923 : Index := Scalar.indexCast v922
  let c112_353 : Index := 112#32
  ![v923.toNat, 112]
def k0_off184 (v933 : BitVec 32) (c0_i32_866 : BitVec 32) : Fin 1 → Nat :=
  let c128_i32_865 : BitVec 32 := 128#32
  let v2235 : BitVec 32 := Scalar.muli v933 c128_i32_865
  let v2236 : BitVec 32 := Scalar.addi v2235 c0_i32_866
  let v2237 : Index := Scalar.indexCast v2236
  ![v2237.toNat]
def k0_cond24 (v931 : BitVec 32) (v933 : BitVec 32) : BitVec 1 :=
  let v934 : BitVec 1 := Scalar.cmpi .ne v931 v933
  let v935 : BitVec 32 := Scalar.extui v934
  let c0_i32_356 : BitVec 32 := 0#32
  let v936 : BitVec 1 := Scalar.cmpi .ne v935 c0_i32_356
  v936

def k0_chk19 (v830 : BitVec 32) (v832 : BitVec 32) (v835 : BitVec 32) (v931 : BitVec 32) (v933 : BitVec 32) : Prop :=
  (∀ (k0_h22 : k0_cond22 v830 v832 v835 = 1#1), ∀ (k0_h24 : k0_cond24 v931 v933 = 1#1), ∀ (r : Fin 8), ∀ a, (k0_off184 v933 (BitVec.ofNat 32 (16 * r.val))) a + S16.size a ≤ S32896.size a)
theorem k0_off184_inb : ∀ (v830 : BitVec 32) (v832 : BitVec 32) (v835 : BitVec 32) (v931 : BitVec 32) (v933 : BitVec 32) (k0_hw19 : k0_chk19 v830 v832 v835 v931 v933), ∀ (k0_h22 : k0_cond22 v830 v832 v835 = 1#1), ∀ (k0_h24 : k0_cond24 v931 v933 = 1#1), ∀ (r : Fin 8), ∀ a, (k0_off184 v933 (BitVec.ofNat 32 (16 * r.val))) a + S16.size a ≤ S32896.size a := fun v830 v832 v835 v931 v933 k0_hw19 k0_h22 k0_h24 r => k0_hw19 k0_h22 k0_h24 r

def k0_off185 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c1_i32_358 : BitVec 32 := 1#32
  let v939 : BitVec 32 := Scalar.addi v193 c1_i32_358
  let v940 : Index := Scalar.indexCast v939
  let c0_359 : Index := 0#32
  ![v940.toNat, 0]
def k0_off186 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c1_i32_362 : BitVec 32 := 1#32
  let v949 : BitVec 32 := Scalar.addi v193 c1_i32_362
  let v950 : Index := Scalar.indexCast v949
  let c16_363 : Index := 16#32
  ![v950.toNat, 16]
def k0_off187 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c1_i32_366 : BitVec 32 := 1#32
  let v959 : BitVec 32 := Scalar.addi v193 c1_i32_366
  let v960 : Index := Scalar.indexCast v959
  let c32_367 : Index := 32#32
  ![v960.toNat, 32]
def k0_off188 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c1_i32_370 : BitVec 32 := 1#32
  let v969 : BitVec 32 := Scalar.addi v193 c1_i32_370
  let v970 : Index := Scalar.indexCast v969
  let c48_371 : Index := 48#32
  ![v970.toNat, 48]
def k0_off189 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c1_i32_374 : BitVec 32 := 1#32
  let v979 : BitVec 32 := Scalar.addi v193 c1_i32_374
  let v980 : Index := Scalar.indexCast v979
  let c64_375 : Index := 64#32
  ![v980.toNat, 64]
def k0_off190 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c1_i32_378 : BitVec 32 := 1#32
  let v989 : BitVec 32 := Scalar.addi v193 c1_i32_378
  let v990 : Index := Scalar.indexCast v989
  let c80_379 : Index := 80#32
  ![v990.toNat, 80]
def k0_off191 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c1_i32_382 : BitVec 32 := 1#32
  let v999 : BitVec 32 := Scalar.addi v193 c1_i32_382
  let v1000 : Index := Scalar.indexCast v999
  let c96_383 : Index := 96#32
  ![v1000.toNat, 96]
def k0_off192 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c1_i32_386 : BitVec 32 := 1#32
  let v1009 : BitVec 32 := Scalar.addi v193 c1_i32_386
  let v1010 : Index := Scalar.indexCast v1009
  let c112_387 : Index := 112#32
  ![v1010.toNat, 112]
def k0_off193 (v1020 : BitVec 32) (c0_i32_866 : BitVec 32) : Fin 1 → Nat :=
  let c128_i32_865 : BitVec 32 := 128#32
  let v2235 : BitVec 32 := Scalar.muli v1020 c128_i32_865
  let v2236 : BitVec 32 := Scalar.addi v2235 c0_i32_866
  let v2237 : Index := Scalar.indexCast v2236
  ![v2237.toNat]
def k0_cond25 (v1018 : BitVec 32) (v1020 : BitVec 32) : BitVec 1 :=
  let v1021 : BitVec 1 := Scalar.cmpi .ne v1018 v1020
  let v1022 : BitVec 32 := Scalar.extui v1021
  let c0_i32_390 : BitVec 32 := 0#32
  let v1023 : BitVec 1 := Scalar.cmpi .ne v1022 c0_i32_390
  v1023

def k0_chk20 (v830 : BitVec 32) (v832 : BitVec 32) (v835 : BitVec 32) (v1018 : BitVec 32) (v1020 : BitVec 32) : Prop :=
  (∀ (k0_h22 : k0_cond22 v830 v832 v835 = 1#1), ∀ (k0_h25 : k0_cond25 v1018 v1020 = 1#1), ∀ (r : Fin 8), ∀ a, (k0_off193 v1020 (BitVec.ofNat 32 (16 * r.val))) a + S16.size a ≤ S32896.size a)
theorem k0_off193_inb : ∀ (v830 : BitVec 32) (v832 : BitVec 32) (v835 : BitVec 32) (v1018 : BitVec 32) (v1020 : BitVec 32) (k0_hw20 : k0_chk20 v830 v832 v835 v1018 v1020), ∀ (k0_h22 : k0_cond22 v830 v832 v835 = 1#1), ∀ (k0_h25 : k0_cond25 v1018 v1020 = 1#1), ∀ (r : Fin 8), ∀ a, (k0_off193 v1020 (BitVec.ofNat 32 (16 * r.val))) a + S16.size a ≤ S32896.size a := fun v830 v832 v835 v1018 v1020 k0_hw20 k0_h22 k0_h25 r => k0_hw20 k0_h22 k0_h25 r

def k0_off194 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c2_i32_392 : BitVec 32 := 2#32
  let v1026 : BitVec 32 := Scalar.addi v193 c2_i32_392
  let v1027 : Index := Scalar.indexCast v1026
  let c0_393 : Index := 0#32
  ![v1027.toNat, 0]
def k0_off195 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c2_i32_396 : BitVec 32 := 2#32
  let v1036 : BitVec 32 := Scalar.addi v193 c2_i32_396
  let v1037 : Index := Scalar.indexCast v1036
  let c16_397 : Index := 16#32
  ![v1037.toNat, 16]
def k0_off196 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c2_i32_400 : BitVec 32 := 2#32
  let v1046 : BitVec 32 := Scalar.addi v193 c2_i32_400
  let v1047 : Index := Scalar.indexCast v1046
  let c32_401 : Index := 32#32
  ![v1047.toNat, 32]
def k0_off197 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c2_i32_404 : BitVec 32 := 2#32
  let v1056 : BitVec 32 := Scalar.addi v193 c2_i32_404
  let v1057 : Index := Scalar.indexCast v1056
  let c48_405 : Index := 48#32
  ![v1057.toNat, 48]
def k0_off198 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c2_i32_408 : BitVec 32 := 2#32
  let v1066 : BitVec 32 := Scalar.addi v193 c2_i32_408
  let v1067 : Index := Scalar.indexCast v1066
  let c64_409 : Index := 64#32
  ![v1067.toNat, 64]
def k0_off199 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c2_i32_412 : BitVec 32 := 2#32
  let v1076 : BitVec 32 := Scalar.addi v193 c2_i32_412
  let v1077 : Index := Scalar.indexCast v1076
  let c80_413 : Index := 80#32
  ![v1077.toNat, 80]
def k0_off200 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c2_i32_416 : BitVec 32 := 2#32
  let v1086 : BitVec 32 := Scalar.addi v193 c2_i32_416
  let v1087 : Index := Scalar.indexCast v1086
  let c96_417 : Index := 96#32
  ![v1087.toNat, 96]
def k0_off201 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c2_i32_420 : BitVec 32 := 2#32
  let v1096 : BitVec 32 := Scalar.addi v193 c2_i32_420
  let v1097 : Index := Scalar.indexCast v1096
  let c112_421 : Index := 112#32
  ![v1097.toNat, 112]
def k0_off202 (v1107 : BitVec 32) (c0_i32_866 : BitVec 32) : Fin 1 → Nat :=
  let c128_i32_865 : BitVec 32 := 128#32
  let v2235 : BitVec 32 := Scalar.muli v1107 c128_i32_865
  let v2236 : BitVec 32 := Scalar.addi v2235 c0_i32_866
  let v2237 : Index := Scalar.indexCast v2236
  ![v2237.toNat]
def k0_cond26 (v1105 : BitVec 32) (v1107 : BitVec 32) : BitVec 1 :=
  let v1108 : BitVec 1 := Scalar.cmpi .ne v1105 v1107
  let v1109 : BitVec 32 := Scalar.extui v1108
  let c0_i32_424 : BitVec 32 := 0#32
  let v1110 : BitVec 1 := Scalar.cmpi .ne v1109 c0_i32_424
  v1110

def k0_chk21 (v830 : BitVec 32) (v832 : BitVec 32) (v835 : BitVec 32) (v1105 : BitVec 32) (v1107 : BitVec 32) : Prop :=
  (∀ (k0_h22 : k0_cond22 v830 v832 v835 = 1#1), ∀ (k0_h26 : k0_cond26 v1105 v1107 = 1#1), ∀ (r : Fin 8), ∀ a, (k0_off202 v1107 (BitVec.ofNat 32 (16 * r.val))) a + S16.size a ≤ S32896.size a)
theorem k0_off202_inb : ∀ (v830 : BitVec 32) (v832 : BitVec 32) (v835 : BitVec 32) (v1105 : BitVec 32) (v1107 : BitVec 32) (k0_hw21 : k0_chk21 v830 v832 v835 v1105 v1107), ∀ (k0_h22 : k0_cond22 v830 v832 v835 = 1#1), ∀ (k0_h26 : k0_cond26 v1105 v1107 = 1#1), ∀ (r : Fin 8), ∀ a, (k0_off202 v1107 (BitVec.ofNat 32 (16 * r.val))) a + S16.size a ≤ S32896.size a := fun v830 v832 v835 v1105 v1107 k0_hw21 k0_h22 k0_h26 r => k0_hw21 k0_h22 k0_h26 r

def k0_off203 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c3_i32_426 : BitVec 32 := 3#32
  let v1113 : BitVec 32 := Scalar.addi v193 c3_i32_426
  let v1114 : Index := Scalar.indexCast v1113
  let c0_427 : Index := 0#32
  ![v1114.toNat, 0]
def k0_off204 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c3_i32_430 : BitVec 32 := 3#32
  let v1123 : BitVec 32 := Scalar.addi v193 c3_i32_430
  let v1124 : Index := Scalar.indexCast v1123
  let c16_431 : Index := 16#32
  ![v1124.toNat, 16]
def k0_off205 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c3_i32_434 : BitVec 32 := 3#32
  let v1133 : BitVec 32 := Scalar.addi v193 c3_i32_434
  let v1134 : Index := Scalar.indexCast v1133
  let c32_435 : Index := 32#32
  ![v1134.toNat, 32]
def k0_off206 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c3_i32_438 : BitVec 32 := 3#32
  let v1143 : BitVec 32 := Scalar.addi v193 c3_i32_438
  let v1144 : Index := Scalar.indexCast v1143
  let c48_439 : Index := 48#32
  ![v1144.toNat, 48]
def k0_off207 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c3_i32_442 : BitVec 32 := 3#32
  let v1153 : BitVec 32 := Scalar.addi v193 c3_i32_442
  let v1154 : Index := Scalar.indexCast v1153
  let c64_443 : Index := 64#32
  ![v1154.toNat, 64]
def k0_off208 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c3_i32_446 : BitVec 32 := 3#32
  let v1163 : BitVec 32 := Scalar.addi v193 c3_i32_446
  let v1164 : Index := Scalar.indexCast v1163
  let c80_447 : Index := 80#32
  ![v1164.toNat, 80]
def k0_off209 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c3_i32_450 : BitVec 32 := 3#32
  let v1173 : BitVec 32 := Scalar.addi v193 c3_i32_450
  let v1174 : Index := Scalar.indexCast v1173
  let c96_451 : Index := 96#32
  ![v1174.toNat, 96]
def k0_off210 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c3_i32_454 : BitVec 32 := 3#32
  let v1183 : BitVec 32 := Scalar.addi v193 c3_i32_454
  let v1184 : Index := Scalar.indexCast v1183
  let c112_455 : Index := 112#32
  ![v1184.toNat, 112]
def k0_off211 (v1194 : BitVec 32) (c0_i32_866 : BitVec 32) : Fin 1 → Nat :=
  let c128_i32_865 : BitVec 32 := 128#32
  let v2235 : BitVec 32 := Scalar.muli v1194 c128_i32_865
  let v2236 : BitVec 32 := Scalar.addi v2235 c0_i32_866
  let v2237 : Index := Scalar.indexCast v2236
  ![v2237.toNat]
def k0_cond27 (v1192 : BitVec 32) (v1194 : BitVec 32) : BitVec 1 :=
  let v1195 : BitVec 1 := Scalar.cmpi .ne v1192 v1194
  let v1196 : BitVec 32 := Scalar.extui v1195
  let c0_i32_458 : BitVec 32 := 0#32
  let v1197 : BitVec 1 := Scalar.cmpi .ne v1196 c0_i32_458
  v1197

def k0_chk22 (v830 : BitVec 32) (v832 : BitVec 32) (v835 : BitVec 32) (v1192 : BitVec 32) (v1194 : BitVec 32) : Prop :=
  (∀ (k0_h22 : k0_cond22 v830 v832 v835 = 1#1), ∀ (k0_h27 : k0_cond27 v1192 v1194 = 1#1), ∀ (r : Fin 8), ∀ a, (k0_off211 v1194 (BitVec.ofNat 32 (16 * r.val))) a + S16.size a ≤ S32896.size a)
theorem k0_off211_inb : ∀ (v830 : BitVec 32) (v832 : BitVec 32) (v835 : BitVec 32) (v1192 : BitVec 32) (v1194 : BitVec 32) (k0_hw22 : k0_chk22 v830 v832 v835 v1192 v1194), ∀ (k0_h22 : k0_cond22 v830 v832 v835 = 1#1), ∀ (k0_h27 : k0_cond27 v1192 v1194 = 1#1), ∀ (r : Fin 8), ∀ a, (k0_off211 v1194 (BitVec.ofNat 32 (16 * r.val))) a + S16.size a ≤ S32896.size a := fun v830 v832 v835 v1192 v1194 k0_hw22 k0_h22 k0_h27 r => k0_hw22 k0_h22 k0_h27 r

def k0_off212 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c4_i32_460 : BitVec 32 := 4#32
  let v1200 : BitVec 32 := Scalar.addi v193 c4_i32_460
  let v1201 : Index := Scalar.indexCast v1200
  let c0_461 : Index := 0#32
  ![v1201.toNat, 0]
def k0_off213 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c4_i32_464 : BitVec 32 := 4#32
  let v1210 : BitVec 32 := Scalar.addi v193 c4_i32_464
  let v1211 : Index := Scalar.indexCast v1210
  let c16_465 : Index := 16#32
  ![v1211.toNat, 16]
def k0_off214 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c4_i32_468 : BitVec 32 := 4#32
  let v1220 : BitVec 32 := Scalar.addi v193 c4_i32_468
  let v1221 : Index := Scalar.indexCast v1220
  let c32_469 : Index := 32#32
  ![v1221.toNat, 32]
def k0_off215 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c4_i32_472 : BitVec 32 := 4#32
  let v1230 : BitVec 32 := Scalar.addi v193 c4_i32_472
  let v1231 : Index := Scalar.indexCast v1230
  let c48_473 : Index := 48#32
  ![v1231.toNat, 48]
def k0_off216 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c4_i32_476 : BitVec 32 := 4#32
  let v1240 : BitVec 32 := Scalar.addi v193 c4_i32_476
  let v1241 : Index := Scalar.indexCast v1240
  let c64_477 : Index := 64#32
  ![v1241.toNat, 64]
def k0_off217 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c4_i32_480 : BitVec 32 := 4#32
  let v1250 : BitVec 32 := Scalar.addi v193 c4_i32_480
  let v1251 : Index := Scalar.indexCast v1250
  let c80_481 : Index := 80#32
  ![v1251.toNat, 80]
def k0_off218 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c4_i32_484 : BitVec 32 := 4#32
  let v1260 : BitVec 32 := Scalar.addi v193 c4_i32_484
  let v1261 : Index := Scalar.indexCast v1260
  let c96_485 : Index := 96#32
  ![v1261.toNat, 96]
def k0_off219 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c4_i32_488 : BitVec 32 := 4#32
  let v1270 : BitVec 32 := Scalar.addi v193 c4_i32_488
  let v1271 : Index := Scalar.indexCast v1270
  let c112_489 : Index := 112#32
  ![v1271.toNat, 112]
def k0_off220 (v1281 : BitVec 32) (c0_i32_866 : BitVec 32) : Fin 1 → Nat :=
  let c128_i32_865 : BitVec 32 := 128#32
  let v2235 : BitVec 32 := Scalar.muli v1281 c128_i32_865
  let v2236 : BitVec 32 := Scalar.addi v2235 c0_i32_866
  let v2237 : Index := Scalar.indexCast v2236
  ![v2237.toNat]
def k0_cond28 (v1279 : BitVec 32) (v1281 : BitVec 32) : BitVec 1 :=
  let v1282 : BitVec 1 := Scalar.cmpi .ne v1279 v1281
  let v1283 : BitVec 32 := Scalar.extui v1282
  let c0_i32_492 : BitVec 32 := 0#32
  let v1284 : BitVec 1 := Scalar.cmpi .ne v1283 c0_i32_492
  v1284

def k0_chk23 (v830 : BitVec 32) (v832 : BitVec 32) (v835 : BitVec 32) (v1279 : BitVec 32) (v1281 : BitVec 32) : Prop :=
  (∀ (k0_h22 : k0_cond22 v830 v832 v835 = 1#1), ∀ (k0_h28 : k0_cond28 v1279 v1281 = 1#1), ∀ (r : Fin 8), ∀ a, (k0_off220 v1281 (BitVec.ofNat 32 (16 * r.val))) a + S16.size a ≤ S32896.size a)
theorem k0_off220_inb : ∀ (v830 : BitVec 32) (v832 : BitVec 32) (v835 : BitVec 32) (v1279 : BitVec 32) (v1281 : BitVec 32) (k0_hw23 : k0_chk23 v830 v832 v835 v1279 v1281), ∀ (k0_h22 : k0_cond22 v830 v832 v835 = 1#1), ∀ (k0_h28 : k0_cond28 v1279 v1281 = 1#1), ∀ (r : Fin 8), ∀ a, (k0_off220 v1281 (BitVec.ofNat 32 (16 * r.val))) a + S16.size a ≤ S32896.size a := fun v830 v832 v835 v1279 v1281 k0_hw23 k0_h22 k0_h28 r => k0_hw23 k0_h22 k0_h28 r

def k0_off221 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c5_i32_494 : BitVec 32 := 5#32
  let v1287 : BitVec 32 := Scalar.addi v193 c5_i32_494
  let v1288 : Index := Scalar.indexCast v1287
  let c0_495 : Index := 0#32
  ![v1288.toNat, 0]
def k0_off222 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c5_i32_498 : BitVec 32 := 5#32
  let v1297 : BitVec 32 := Scalar.addi v193 c5_i32_498
  let v1298 : Index := Scalar.indexCast v1297
  let c16_499 : Index := 16#32
  ![v1298.toNat, 16]
def k0_off223 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c5_i32_502 : BitVec 32 := 5#32
  let v1307 : BitVec 32 := Scalar.addi v193 c5_i32_502
  let v1308 : Index := Scalar.indexCast v1307
  let c32_503 : Index := 32#32
  ![v1308.toNat, 32]
def k0_off224 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c5_i32_506 : BitVec 32 := 5#32
  let v1317 : BitVec 32 := Scalar.addi v193 c5_i32_506
  let v1318 : Index := Scalar.indexCast v1317
  let c48_507 : Index := 48#32
  ![v1318.toNat, 48]
def k0_off225 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c5_i32_510 : BitVec 32 := 5#32
  let v1327 : BitVec 32 := Scalar.addi v193 c5_i32_510
  let v1328 : Index := Scalar.indexCast v1327
  let c64_511 : Index := 64#32
  ![v1328.toNat, 64]
def k0_off226 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c5_i32_514 : BitVec 32 := 5#32
  let v1337 : BitVec 32 := Scalar.addi v193 c5_i32_514
  let v1338 : Index := Scalar.indexCast v1337
  let c80_515 : Index := 80#32
  ![v1338.toNat, 80]
def k0_off227 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c5_i32_518 : BitVec 32 := 5#32
  let v1347 : BitVec 32 := Scalar.addi v193 c5_i32_518
  let v1348 : Index := Scalar.indexCast v1347
  let c96_519 : Index := 96#32
  ![v1348.toNat, 96]
def k0_off228 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c5_i32_522 : BitVec 32 := 5#32
  let v1357 : BitVec 32 := Scalar.addi v193 c5_i32_522
  let v1358 : Index := Scalar.indexCast v1357
  let c112_523 : Index := 112#32
  ![v1358.toNat, 112]
def k0_off229 (v1368 : BitVec 32) (c0_i32_866 : BitVec 32) : Fin 1 → Nat :=
  let c128_i32_865 : BitVec 32 := 128#32
  let v2235 : BitVec 32 := Scalar.muli v1368 c128_i32_865
  let v2236 : BitVec 32 := Scalar.addi v2235 c0_i32_866
  let v2237 : Index := Scalar.indexCast v2236
  ![v2237.toNat]
def k0_cond29 (v1366 : BitVec 32) (v1368 : BitVec 32) : BitVec 1 :=
  let v1369 : BitVec 1 := Scalar.cmpi .ne v1366 v1368
  let v1370 : BitVec 32 := Scalar.extui v1369
  let c0_i32_526 : BitVec 32 := 0#32
  let v1371 : BitVec 1 := Scalar.cmpi .ne v1370 c0_i32_526
  v1371

def k0_chk24 (v830 : BitVec 32) (v832 : BitVec 32) (v835 : BitVec 32) (v1366 : BitVec 32) (v1368 : BitVec 32) : Prop :=
  (∀ (k0_h22 : k0_cond22 v830 v832 v835 = 1#1), ∀ (k0_h29 : k0_cond29 v1366 v1368 = 1#1), ∀ (r : Fin 8), ∀ a, (k0_off229 v1368 (BitVec.ofNat 32 (16 * r.val))) a + S16.size a ≤ S32896.size a)
theorem k0_off229_inb : ∀ (v830 : BitVec 32) (v832 : BitVec 32) (v835 : BitVec 32) (v1366 : BitVec 32) (v1368 : BitVec 32) (k0_hw24 : k0_chk24 v830 v832 v835 v1366 v1368), ∀ (k0_h22 : k0_cond22 v830 v832 v835 = 1#1), ∀ (k0_h29 : k0_cond29 v1366 v1368 = 1#1), ∀ (r : Fin 8), ∀ a, (k0_off229 v1368 (BitVec.ofNat 32 (16 * r.val))) a + S16.size a ≤ S32896.size a := fun v830 v832 v835 v1366 v1368 k0_hw24 k0_h22 k0_h29 r => k0_hw24 k0_h22 k0_h29 r

def k0_off230 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c6_i32_528 : BitVec 32 := 6#32
  let v1374 : BitVec 32 := Scalar.addi v193 c6_i32_528
  let v1375 : Index := Scalar.indexCast v1374
  let c0_529 : Index := 0#32
  ![v1375.toNat, 0]
def k0_off231 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c6_i32_532 : BitVec 32 := 6#32
  let v1384 : BitVec 32 := Scalar.addi v193 c6_i32_532
  let v1385 : Index := Scalar.indexCast v1384
  let c16_533 : Index := 16#32
  ![v1385.toNat, 16]
def k0_off232 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c6_i32_536 : BitVec 32 := 6#32
  let v1394 : BitVec 32 := Scalar.addi v193 c6_i32_536
  let v1395 : Index := Scalar.indexCast v1394
  let c32_537 : Index := 32#32
  ![v1395.toNat, 32]
def k0_off233 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c6_i32_540 : BitVec 32 := 6#32
  let v1404 : BitVec 32 := Scalar.addi v193 c6_i32_540
  let v1405 : Index := Scalar.indexCast v1404
  let c48_541 : Index := 48#32
  ![v1405.toNat, 48]
def k0_off234 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c6_i32_544 : BitVec 32 := 6#32
  let v1414 : BitVec 32 := Scalar.addi v193 c6_i32_544
  let v1415 : Index := Scalar.indexCast v1414
  let c64_545 : Index := 64#32
  ![v1415.toNat, 64]
def k0_off235 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c6_i32_548 : BitVec 32 := 6#32
  let v1424 : BitVec 32 := Scalar.addi v193 c6_i32_548
  let v1425 : Index := Scalar.indexCast v1424
  let c80_549 : Index := 80#32
  ![v1425.toNat, 80]
def k0_off236 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c6_i32_552 : BitVec 32 := 6#32
  let v1434 : BitVec 32 := Scalar.addi v193 c6_i32_552
  let v1435 : Index := Scalar.indexCast v1434
  let c96_553 : Index := 96#32
  ![v1435.toNat, 96]
def k0_off237 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c6_i32_556 : BitVec 32 := 6#32
  let v1444 : BitVec 32 := Scalar.addi v193 c6_i32_556
  let v1445 : Index := Scalar.indexCast v1444
  let c112_557 : Index := 112#32
  ![v1445.toNat, 112]
def k0_off238 (v1455 : BitVec 32) (c0_i32_866 : BitVec 32) : Fin 1 → Nat :=
  let c128_i32_865 : BitVec 32 := 128#32
  let v2235 : BitVec 32 := Scalar.muli v1455 c128_i32_865
  let v2236 : BitVec 32 := Scalar.addi v2235 c0_i32_866
  let v2237 : Index := Scalar.indexCast v2236
  ![v2237.toNat]
def k0_cond30 (v1453 : BitVec 32) (v1455 : BitVec 32) : BitVec 1 :=
  let v1456 : BitVec 1 := Scalar.cmpi .ne v1453 v1455
  let v1457 : BitVec 32 := Scalar.extui v1456
  let c0_i32_560 : BitVec 32 := 0#32
  let v1458 : BitVec 1 := Scalar.cmpi .ne v1457 c0_i32_560
  v1458

def k0_chk25 (v830 : BitVec 32) (v832 : BitVec 32) (v835 : BitVec 32) (v1453 : BitVec 32) (v1455 : BitVec 32) : Prop :=
  (∀ (k0_h22 : k0_cond22 v830 v832 v835 = 1#1), ∀ (k0_h30 : k0_cond30 v1453 v1455 = 1#1), ∀ (r : Fin 8), ∀ a, (k0_off238 v1455 (BitVec.ofNat 32 (16 * r.val))) a + S16.size a ≤ S32896.size a)
theorem k0_off238_inb : ∀ (v830 : BitVec 32) (v832 : BitVec 32) (v835 : BitVec 32) (v1453 : BitVec 32) (v1455 : BitVec 32) (k0_hw25 : k0_chk25 v830 v832 v835 v1453 v1455), ∀ (k0_h22 : k0_cond22 v830 v832 v835 = 1#1), ∀ (k0_h30 : k0_cond30 v1453 v1455 = 1#1), ∀ (r : Fin 8), ∀ a, (k0_off238 v1455 (BitVec.ofNat 32 (16 * r.val))) a + S16.size a ≤ S32896.size a := fun v830 v832 v835 v1453 v1455 k0_hw25 k0_h22 k0_h30 r => k0_hw25 k0_h22 k0_h30 r

def k0_off239 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c7_i32_562 : BitVec 32 := 7#32
  let v1461 : BitVec 32 := Scalar.addi v193 c7_i32_562
  let v1462 : Index := Scalar.indexCast v1461
  let c0_563 : Index := 0#32
  ![v1462.toNat, 0]
def k0_off240 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c7_i32_566 : BitVec 32 := 7#32
  let v1471 : BitVec 32 := Scalar.addi v193 c7_i32_566
  let v1472 : Index := Scalar.indexCast v1471
  let c16_567 : Index := 16#32
  ![v1472.toNat, 16]
def k0_off241 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c7_i32_570 : BitVec 32 := 7#32
  let v1481 : BitVec 32 := Scalar.addi v193 c7_i32_570
  let v1482 : Index := Scalar.indexCast v1481
  let c32_571 : Index := 32#32
  ![v1482.toNat, 32]
def k0_off242 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c7_i32_574 : BitVec 32 := 7#32
  let v1491 : BitVec 32 := Scalar.addi v193 c7_i32_574
  let v1492 : Index := Scalar.indexCast v1491
  let c48_575 : Index := 48#32
  ![v1492.toNat, 48]
def k0_off243 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c7_i32_578 : BitVec 32 := 7#32
  let v1501 : BitVec 32 := Scalar.addi v193 c7_i32_578
  let v1502 : Index := Scalar.indexCast v1501
  let c64_579 : Index := 64#32
  ![v1502.toNat, 64]
def k0_off244 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c7_i32_582 : BitVec 32 := 7#32
  let v1511 : BitVec 32 := Scalar.addi v193 c7_i32_582
  let v1512 : Index := Scalar.indexCast v1511
  let c80_583 : Index := 80#32
  ![v1512.toNat, 80]
def k0_off245 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c7_i32_586 : BitVec 32 := 7#32
  let v1521 : BitVec 32 := Scalar.addi v193 c7_i32_586
  let v1522 : Index := Scalar.indexCast v1521
  let c96_587 : Index := 96#32
  ![v1522.toNat, 96]
def k0_off246 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c7_i32_590 : BitVec 32 := 7#32
  let v1531 : BitVec 32 := Scalar.addi v193 c7_i32_590
  let v1532 : Index := Scalar.indexCast v1531
  let c112_591 : Index := 112#32
  ![v1532.toNat, 112]
def k0_off247 (v1542 : BitVec 32) (c0_i32_866 : BitVec 32) : Fin 1 → Nat :=
  let c128_i32_865 : BitVec 32 := 128#32
  let v2235 : BitVec 32 := Scalar.muli v1542 c128_i32_865
  let v2236 : BitVec 32 := Scalar.addi v2235 c0_i32_866
  let v2237 : Index := Scalar.indexCast v2236
  ![v2237.toNat]
def k0_cond31 (v1540 : BitVec 32) (v1542 : BitVec 32) : BitVec 1 :=
  let v1543 : BitVec 1 := Scalar.cmpi .ne v1540 v1542
  let v1544 : BitVec 32 := Scalar.extui v1543
  let c0_i32_594 : BitVec 32 := 0#32
  let v1545 : BitVec 1 := Scalar.cmpi .ne v1544 c0_i32_594
  v1545

def k0_chk26 (v830 : BitVec 32) (v832 : BitVec 32) (v835 : BitVec 32) (v1540 : BitVec 32) (v1542 : BitVec 32) : Prop :=
  (∀ (k0_h22 : k0_cond22 v830 v832 v835 = 1#1), ∀ (k0_h31 : k0_cond31 v1540 v1542 = 1#1), ∀ (r : Fin 8), ∀ a, (k0_off247 v1542 (BitVec.ofNat 32 (16 * r.val))) a + S16.size a ≤ S32896.size a)
theorem k0_off247_inb : ∀ (v830 : BitVec 32) (v832 : BitVec 32) (v835 : BitVec 32) (v1540 : BitVec 32) (v1542 : BitVec 32) (k0_hw26 : k0_chk26 v830 v832 v835 v1540 v1542), ∀ (k0_h22 : k0_cond22 v830 v832 v835 = 1#1), ∀ (k0_h31 : k0_cond31 v1540 v1542 = 1#1), ∀ (r : Fin 8), ∀ a, (k0_off247 v1542 (BitVec.ofNat 32 (16 * r.val))) a + S16.size a ≤ S32896.size a := fun v830 v832 v835 v1540 v1542 k0_hw26 k0_h22 k0_h31 r => k0_hw26 k0_h22 k0_h31 r

def k0_off248 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c8_i32_596 : BitVec 32 := 8#32
  let v1548 : BitVec 32 := Scalar.addi v193 c8_i32_596
  let v1549 : Index := Scalar.indexCast v1548
  let c0_597 : Index := 0#32
  ![v1549.toNat, 0]
def k0_off249 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c8_i32_600 : BitVec 32 := 8#32
  let v1558 : BitVec 32 := Scalar.addi v193 c8_i32_600
  let v1559 : Index := Scalar.indexCast v1558
  let c16_601 : Index := 16#32
  ![v1559.toNat, 16]
def k0_off250 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c8_i32_604 : BitVec 32 := 8#32
  let v1568 : BitVec 32 := Scalar.addi v193 c8_i32_604
  let v1569 : Index := Scalar.indexCast v1568
  let c32_605 : Index := 32#32
  ![v1569.toNat, 32]
def k0_off251 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c8_i32_608 : BitVec 32 := 8#32
  let v1578 : BitVec 32 := Scalar.addi v193 c8_i32_608
  let v1579 : Index := Scalar.indexCast v1578
  let c48_609 : Index := 48#32
  ![v1579.toNat, 48]
def k0_off252 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c8_i32_612 : BitVec 32 := 8#32
  let v1588 : BitVec 32 := Scalar.addi v193 c8_i32_612
  let v1589 : Index := Scalar.indexCast v1588
  let c64_613 : Index := 64#32
  ![v1589.toNat, 64]
def k0_off253 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c8_i32_616 : BitVec 32 := 8#32
  let v1598 : BitVec 32 := Scalar.addi v193 c8_i32_616
  let v1599 : Index := Scalar.indexCast v1598
  let c80_617 : Index := 80#32
  ![v1599.toNat, 80]
def k0_off254 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c8_i32_620 : BitVec 32 := 8#32
  let v1608 : BitVec 32 := Scalar.addi v193 c8_i32_620
  let v1609 : Index := Scalar.indexCast v1608
  let c96_621 : Index := 96#32
  ![v1609.toNat, 96]
def k0_off255 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c8_i32_624 : BitVec 32 := 8#32
  let v1618 : BitVec 32 := Scalar.addi v193 c8_i32_624
  let v1619 : Index := Scalar.indexCast v1618
  let c112_625 : Index := 112#32
  ![v1619.toNat, 112]
def k0_off256 (v1629 : BitVec 32) (c0_i32_866 : BitVec 32) : Fin 1 → Nat :=
  let c128_i32_865 : BitVec 32 := 128#32
  let v2235 : BitVec 32 := Scalar.muli v1629 c128_i32_865
  let v2236 : BitVec 32 := Scalar.addi v2235 c0_i32_866
  let v2237 : Index := Scalar.indexCast v2236
  ![v2237.toNat]
def k0_cond32 (v1627 : BitVec 32) (v1629 : BitVec 32) : BitVec 1 :=
  let v1630 : BitVec 1 := Scalar.cmpi .ne v1627 v1629
  let v1631 : BitVec 32 := Scalar.extui v1630
  let c0_i32_628 : BitVec 32 := 0#32
  let v1632 : BitVec 1 := Scalar.cmpi .ne v1631 c0_i32_628
  v1632

def k0_chk27 (v830 : BitVec 32) (v832 : BitVec 32) (v835 : BitVec 32) (v1627 : BitVec 32) (v1629 : BitVec 32) : Prop :=
  (∀ (k0_h22 : k0_cond22 v830 v832 v835 = 1#1), ∀ (k0_h32 : k0_cond32 v1627 v1629 = 1#1), ∀ (r : Fin 8), ∀ a, (k0_off256 v1629 (BitVec.ofNat 32 (16 * r.val))) a + S16.size a ≤ S32896.size a)
theorem k0_off256_inb : ∀ (v830 : BitVec 32) (v832 : BitVec 32) (v835 : BitVec 32) (v1627 : BitVec 32) (v1629 : BitVec 32) (k0_hw27 : k0_chk27 v830 v832 v835 v1627 v1629), ∀ (k0_h22 : k0_cond22 v830 v832 v835 = 1#1), ∀ (k0_h32 : k0_cond32 v1627 v1629 = 1#1), ∀ (r : Fin 8), ∀ a, (k0_off256 v1629 (BitVec.ofNat 32 (16 * r.val))) a + S16.size a ≤ S32896.size a := fun v830 v832 v835 v1627 v1629 k0_hw27 k0_h22 k0_h32 r => k0_hw27 k0_h22 k0_h32 r

def k0_off257 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c9_i32_630 : BitVec 32 := 9#32
  let v1635 : BitVec 32 := Scalar.addi v193 c9_i32_630
  let v1636 : Index := Scalar.indexCast v1635
  let c0_631 : Index := 0#32
  ![v1636.toNat, 0]
def k0_off258 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c9_i32_634 : BitVec 32 := 9#32
  let v1645 : BitVec 32 := Scalar.addi v193 c9_i32_634
  let v1646 : Index := Scalar.indexCast v1645
  let c16_635 : Index := 16#32
  ![v1646.toNat, 16]
def k0_off259 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c9_i32_638 : BitVec 32 := 9#32
  let v1655 : BitVec 32 := Scalar.addi v193 c9_i32_638
  let v1656 : Index := Scalar.indexCast v1655
  let c32_639 : Index := 32#32
  ![v1656.toNat, 32]
def k0_off260 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c9_i32_642 : BitVec 32 := 9#32
  let v1665 : BitVec 32 := Scalar.addi v193 c9_i32_642
  let v1666 : Index := Scalar.indexCast v1665
  let c48_643 : Index := 48#32
  ![v1666.toNat, 48]
def k0_off261 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c9_i32_646 : BitVec 32 := 9#32
  let v1675 : BitVec 32 := Scalar.addi v193 c9_i32_646
  let v1676 : Index := Scalar.indexCast v1675
  let c64_647 : Index := 64#32
  ![v1676.toNat, 64]
def k0_off262 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c9_i32_650 : BitVec 32 := 9#32
  let v1685 : BitVec 32 := Scalar.addi v193 c9_i32_650
  let v1686 : Index := Scalar.indexCast v1685
  let c80_651 : Index := 80#32
  ![v1686.toNat, 80]
def k0_off263 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c9_i32_654 : BitVec 32 := 9#32
  let v1695 : BitVec 32 := Scalar.addi v193 c9_i32_654
  let v1696 : Index := Scalar.indexCast v1695
  let c96_655 : Index := 96#32
  ![v1696.toNat, 96]
def k0_off264 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c9_i32_658 : BitVec 32 := 9#32
  let v1705 : BitVec 32 := Scalar.addi v193 c9_i32_658
  let v1706 : Index := Scalar.indexCast v1705
  let c112_659 : Index := 112#32
  ![v1706.toNat, 112]
def k0_off265 (v1716 : BitVec 32) (c0_i32_866 : BitVec 32) : Fin 1 → Nat :=
  let c128_i32_865 : BitVec 32 := 128#32
  let v2235 : BitVec 32 := Scalar.muli v1716 c128_i32_865
  let v2236 : BitVec 32 := Scalar.addi v2235 c0_i32_866
  let v2237 : Index := Scalar.indexCast v2236
  ![v2237.toNat]
def k0_cond33 (v1714 : BitVec 32) (v1716 : BitVec 32) : BitVec 1 :=
  let v1717 : BitVec 1 := Scalar.cmpi .ne v1714 v1716
  let v1718 : BitVec 32 := Scalar.extui v1717
  let c0_i32_662 : BitVec 32 := 0#32
  let v1719 : BitVec 1 := Scalar.cmpi .ne v1718 c0_i32_662
  v1719

def k0_chk28 (v830 : BitVec 32) (v832 : BitVec 32) (v835 : BitVec 32) (v1714 : BitVec 32) (v1716 : BitVec 32) : Prop :=
  (∀ (k0_h22 : k0_cond22 v830 v832 v835 = 1#1), ∀ (k0_h33 : k0_cond33 v1714 v1716 = 1#1), ∀ (r : Fin 8), ∀ a, (k0_off265 v1716 (BitVec.ofNat 32 (16 * r.val))) a + S16.size a ≤ S32896.size a)
theorem k0_off265_inb : ∀ (v830 : BitVec 32) (v832 : BitVec 32) (v835 : BitVec 32) (v1714 : BitVec 32) (v1716 : BitVec 32) (k0_hw28 : k0_chk28 v830 v832 v835 v1714 v1716), ∀ (k0_h22 : k0_cond22 v830 v832 v835 = 1#1), ∀ (k0_h33 : k0_cond33 v1714 v1716 = 1#1), ∀ (r : Fin 8), ∀ a, (k0_off265 v1716 (BitVec.ofNat 32 (16 * r.val))) a + S16.size a ≤ S32896.size a := fun v830 v832 v835 v1714 v1716 k0_hw28 k0_h22 k0_h33 r => k0_hw28 k0_h22 k0_h33 r

def k0_off266 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c10_i32_664 : BitVec 32 := 10#32
  let v1722 : BitVec 32 := Scalar.addi v193 c10_i32_664
  let v1723 : Index := Scalar.indexCast v1722
  let c0_665 : Index := 0#32
  ![v1723.toNat, 0]
def k0_off267 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c10_i32_668 : BitVec 32 := 10#32
  let v1732 : BitVec 32 := Scalar.addi v193 c10_i32_668
  let v1733 : Index := Scalar.indexCast v1732
  let c16_669 : Index := 16#32
  ![v1733.toNat, 16]
def k0_off268 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c10_i32_672 : BitVec 32 := 10#32
  let v1742 : BitVec 32 := Scalar.addi v193 c10_i32_672
  let v1743 : Index := Scalar.indexCast v1742
  let c32_673 : Index := 32#32
  ![v1743.toNat, 32]
def k0_off269 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c10_i32_676 : BitVec 32 := 10#32
  let v1752 : BitVec 32 := Scalar.addi v193 c10_i32_676
  let v1753 : Index := Scalar.indexCast v1752
  let c48_677 : Index := 48#32
  ![v1753.toNat, 48]
def k0_off270 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c10_i32_680 : BitVec 32 := 10#32
  let v1762 : BitVec 32 := Scalar.addi v193 c10_i32_680
  let v1763 : Index := Scalar.indexCast v1762
  let c64_681 : Index := 64#32
  ![v1763.toNat, 64]
def k0_off271 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c10_i32_684 : BitVec 32 := 10#32
  let v1772 : BitVec 32 := Scalar.addi v193 c10_i32_684
  let v1773 : Index := Scalar.indexCast v1772
  let c80_685 : Index := 80#32
  ![v1773.toNat, 80]
def k0_off272 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c10_i32_688 : BitVec 32 := 10#32
  let v1782 : BitVec 32 := Scalar.addi v193 c10_i32_688
  let v1783 : Index := Scalar.indexCast v1782
  let c96_689 : Index := 96#32
  ![v1783.toNat, 96]
def k0_off273 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c10_i32_692 : BitVec 32 := 10#32
  let v1792 : BitVec 32 := Scalar.addi v193 c10_i32_692
  let v1793 : Index := Scalar.indexCast v1792
  let c112_693 : Index := 112#32
  ![v1793.toNat, 112]
def k0_off274 (v1803 : BitVec 32) (c0_i32_866 : BitVec 32) : Fin 1 → Nat :=
  let c128_i32_865 : BitVec 32 := 128#32
  let v2235 : BitVec 32 := Scalar.muli v1803 c128_i32_865
  let v2236 : BitVec 32 := Scalar.addi v2235 c0_i32_866
  let v2237 : Index := Scalar.indexCast v2236
  ![v2237.toNat]
def k0_cond34 (v1801 : BitVec 32) (v1803 : BitVec 32) : BitVec 1 :=
  let v1804 : BitVec 1 := Scalar.cmpi .ne v1801 v1803
  let v1805 : BitVec 32 := Scalar.extui v1804
  let c0_i32_696 : BitVec 32 := 0#32
  let v1806 : BitVec 1 := Scalar.cmpi .ne v1805 c0_i32_696
  v1806

def k0_chk29 (v830 : BitVec 32) (v832 : BitVec 32) (v835 : BitVec 32) (v1801 : BitVec 32) (v1803 : BitVec 32) : Prop :=
  (∀ (k0_h22 : k0_cond22 v830 v832 v835 = 1#1), ∀ (k0_h34 : k0_cond34 v1801 v1803 = 1#1), ∀ (r : Fin 8), ∀ a, (k0_off274 v1803 (BitVec.ofNat 32 (16 * r.val))) a + S16.size a ≤ S32896.size a)
theorem k0_off274_inb : ∀ (v830 : BitVec 32) (v832 : BitVec 32) (v835 : BitVec 32) (v1801 : BitVec 32) (v1803 : BitVec 32) (k0_hw29 : k0_chk29 v830 v832 v835 v1801 v1803), ∀ (k0_h22 : k0_cond22 v830 v832 v835 = 1#1), ∀ (k0_h34 : k0_cond34 v1801 v1803 = 1#1), ∀ (r : Fin 8), ∀ a, (k0_off274 v1803 (BitVec.ofNat 32 (16 * r.val))) a + S16.size a ≤ S32896.size a := fun v830 v832 v835 v1801 v1803 k0_hw29 k0_h22 k0_h34 r => k0_hw29 k0_h22 k0_h34 r

def k0_off275 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c11_i32_698 : BitVec 32 := 11#32
  let v1809 : BitVec 32 := Scalar.addi v193 c11_i32_698
  let v1810 : Index := Scalar.indexCast v1809
  let c0_699 : Index := 0#32
  ![v1810.toNat, 0]
def k0_off276 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c11_i32_702 : BitVec 32 := 11#32
  let v1819 : BitVec 32 := Scalar.addi v193 c11_i32_702
  let v1820 : Index := Scalar.indexCast v1819
  let c16_703 : Index := 16#32
  ![v1820.toNat, 16]
def k0_off277 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c11_i32_706 : BitVec 32 := 11#32
  let v1829 : BitVec 32 := Scalar.addi v193 c11_i32_706
  let v1830 : Index := Scalar.indexCast v1829
  let c32_707 : Index := 32#32
  ![v1830.toNat, 32]
def k0_off278 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c11_i32_710 : BitVec 32 := 11#32
  let v1839 : BitVec 32 := Scalar.addi v193 c11_i32_710
  let v1840 : Index := Scalar.indexCast v1839
  let c48_711 : Index := 48#32
  ![v1840.toNat, 48]
def k0_off279 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c11_i32_714 : BitVec 32 := 11#32
  let v1849 : BitVec 32 := Scalar.addi v193 c11_i32_714
  let v1850 : Index := Scalar.indexCast v1849
  let c64_715 : Index := 64#32
  ![v1850.toNat, 64]
def k0_off280 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c11_i32_718 : BitVec 32 := 11#32
  let v1859 : BitVec 32 := Scalar.addi v193 c11_i32_718
  let v1860 : Index := Scalar.indexCast v1859
  let c80_719 : Index := 80#32
  ![v1860.toNat, 80]
def k0_off281 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c11_i32_722 : BitVec 32 := 11#32
  let v1869 : BitVec 32 := Scalar.addi v193 c11_i32_722
  let v1870 : Index := Scalar.indexCast v1869
  let c96_723 : Index := 96#32
  ![v1870.toNat, 96]
def k0_off282 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c11_i32_726 : BitVec 32 := 11#32
  let v1879 : BitVec 32 := Scalar.addi v193 c11_i32_726
  let v1880 : Index := Scalar.indexCast v1879
  let c112_727 : Index := 112#32
  ![v1880.toNat, 112]
def k0_off283 (v1890 : BitVec 32) (c0_i32_866 : BitVec 32) : Fin 1 → Nat :=
  let c128_i32_865 : BitVec 32 := 128#32
  let v2235 : BitVec 32 := Scalar.muli v1890 c128_i32_865
  let v2236 : BitVec 32 := Scalar.addi v2235 c0_i32_866
  let v2237 : Index := Scalar.indexCast v2236
  ![v2237.toNat]
def k0_cond35 (v1888 : BitVec 32) (v1890 : BitVec 32) : BitVec 1 :=
  let v1891 : BitVec 1 := Scalar.cmpi .ne v1888 v1890
  let v1892 : BitVec 32 := Scalar.extui v1891
  let c0_i32_730 : BitVec 32 := 0#32
  let v1893 : BitVec 1 := Scalar.cmpi .ne v1892 c0_i32_730
  v1893

def k0_chk30 (v830 : BitVec 32) (v832 : BitVec 32) (v835 : BitVec 32) (v1888 : BitVec 32) (v1890 : BitVec 32) : Prop :=
  (∀ (k0_h22 : k0_cond22 v830 v832 v835 = 1#1), ∀ (k0_h35 : k0_cond35 v1888 v1890 = 1#1), ∀ (r : Fin 8), ∀ a, (k0_off283 v1890 (BitVec.ofNat 32 (16 * r.val))) a + S16.size a ≤ S32896.size a)
theorem k0_off283_inb : ∀ (v830 : BitVec 32) (v832 : BitVec 32) (v835 : BitVec 32) (v1888 : BitVec 32) (v1890 : BitVec 32) (k0_hw30 : k0_chk30 v830 v832 v835 v1888 v1890), ∀ (k0_h22 : k0_cond22 v830 v832 v835 = 1#1), ∀ (k0_h35 : k0_cond35 v1888 v1890 = 1#1), ∀ (r : Fin 8), ∀ a, (k0_off283 v1890 (BitVec.ofNat 32 (16 * r.val))) a + S16.size a ≤ S32896.size a := fun v830 v832 v835 v1888 v1890 k0_hw30 k0_h22 k0_h35 r => k0_hw30 k0_h22 k0_h35 r

def k0_off284 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c12_i32_732 : BitVec 32 := 12#32
  let v1896 : BitVec 32 := Scalar.addi v193 c12_i32_732
  let v1897 : Index := Scalar.indexCast v1896
  let c0_733 : Index := 0#32
  ![v1897.toNat, 0]
def k0_off285 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c12_i32_736 : BitVec 32 := 12#32
  let v1906 : BitVec 32 := Scalar.addi v193 c12_i32_736
  let v1907 : Index := Scalar.indexCast v1906
  let c16_737 : Index := 16#32
  ![v1907.toNat, 16]
def k0_off286 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c12_i32_740 : BitVec 32 := 12#32
  let v1916 : BitVec 32 := Scalar.addi v193 c12_i32_740
  let v1917 : Index := Scalar.indexCast v1916
  let c32_741 : Index := 32#32
  ![v1917.toNat, 32]
def k0_off287 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c12_i32_744 : BitVec 32 := 12#32
  let v1926 : BitVec 32 := Scalar.addi v193 c12_i32_744
  let v1927 : Index := Scalar.indexCast v1926
  let c48_745 : Index := 48#32
  ![v1927.toNat, 48]
def k0_off288 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c12_i32_748 : BitVec 32 := 12#32
  let v1936 : BitVec 32 := Scalar.addi v193 c12_i32_748
  let v1937 : Index := Scalar.indexCast v1936
  let c64_749 : Index := 64#32
  ![v1937.toNat, 64]
def k0_off289 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c12_i32_752 : BitVec 32 := 12#32
  let v1946 : BitVec 32 := Scalar.addi v193 c12_i32_752
  let v1947 : Index := Scalar.indexCast v1946
  let c80_753 : Index := 80#32
  ![v1947.toNat, 80]
def k0_off290 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c12_i32_756 : BitVec 32 := 12#32
  let v1956 : BitVec 32 := Scalar.addi v193 c12_i32_756
  let v1957 : Index := Scalar.indexCast v1956
  let c96_757 : Index := 96#32
  ![v1957.toNat, 96]
def k0_off291 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c12_i32_760 : BitVec 32 := 12#32
  let v1966 : BitVec 32 := Scalar.addi v193 c12_i32_760
  let v1967 : Index := Scalar.indexCast v1966
  let c112_761 : Index := 112#32
  ![v1967.toNat, 112]
def k0_off292 (v1977 : BitVec 32) (c0_i32_866 : BitVec 32) : Fin 1 → Nat :=
  let c128_i32_865 : BitVec 32 := 128#32
  let v2235 : BitVec 32 := Scalar.muli v1977 c128_i32_865
  let v2236 : BitVec 32 := Scalar.addi v2235 c0_i32_866
  let v2237 : Index := Scalar.indexCast v2236
  ![v2237.toNat]
def k0_cond36 (v1975 : BitVec 32) (v1977 : BitVec 32) : BitVec 1 :=
  let v1978 : BitVec 1 := Scalar.cmpi .ne v1975 v1977
  let v1979 : BitVec 32 := Scalar.extui v1978
  let c0_i32_764 : BitVec 32 := 0#32
  let v1980 : BitVec 1 := Scalar.cmpi .ne v1979 c0_i32_764
  v1980

def k0_chk31 (v830 : BitVec 32) (v832 : BitVec 32) (v835 : BitVec 32) (v1975 : BitVec 32) (v1977 : BitVec 32) : Prop :=
  (∀ (k0_h22 : k0_cond22 v830 v832 v835 = 1#1), ∀ (k0_h36 : k0_cond36 v1975 v1977 = 1#1), ∀ (r : Fin 8), ∀ a, (k0_off292 v1977 (BitVec.ofNat 32 (16 * r.val))) a + S16.size a ≤ S32896.size a)
theorem k0_off292_inb : ∀ (v830 : BitVec 32) (v832 : BitVec 32) (v835 : BitVec 32) (v1975 : BitVec 32) (v1977 : BitVec 32) (k0_hw31 : k0_chk31 v830 v832 v835 v1975 v1977), ∀ (k0_h22 : k0_cond22 v830 v832 v835 = 1#1), ∀ (k0_h36 : k0_cond36 v1975 v1977 = 1#1), ∀ (r : Fin 8), ∀ a, (k0_off292 v1977 (BitVec.ofNat 32 (16 * r.val))) a + S16.size a ≤ S32896.size a := fun v830 v832 v835 v1975 v1977 k0_hw31 k0_h22 k0_h36 r => k0_hw31 k0_h22 k0_h36 r

def k0_off293 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c13_i32_766 : BitVec 32 := 13#32
  let v1983 : BitVec 32 := Scalar.addi v193 c13_i32_766
  let v1984 : Index := Scalar.indexCast v1983
  let c0_767 : Index := 0#32
  ![v1984.toNat, 0]
def k0_off294 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c13_i32_770 : BitVec 32 := 13#32
  let v1993 : BitVec 32 := Scalar.addi v193 c13_i32_770
  let v1994 : Index := Scalar.indexCast v1993
  let c16_771 : Index := 16#32
  ![v1994.toNat, 16]
def k0_off295 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c13_i32_774 : BitVec 32 := 13#32
  let v2003 : BitVec 32 := Scalar.addi v193 c13_i32_774
  let v2004 : Index := Scalar.indexCast v2003
  let c32_775 : Index := 32#32
  ![v2004.toNat, 32]
def k0_off296 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c13_i32_778 : BitVec 32 := 13#32
  let v2013 : BitVec 32 := Scalar.addi v193 c13_i32_778
  let v2014 : Index := Scalar.indexCast v2013
  let c48_779 : Index := 48#32
  ![v2014.toNat, 48]
def k0_off297 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c13_i32_782 : BitVec 32 := 13#32
  let v2023 : BitVec 32 := Scalar.addi v193 c13_i32_782
  let v2024 : Index := Scalar.indexCast v2023
  let c64_783 : Index := 64#32
  ![v2024.toNat, 64]
def k0_off298 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c13_i32_786 : BitVec 32 := 13#32
  let v2033 : BitVec 32 := Scalar.addi v193 c13_i32_786
  let v2034 : Index := Scalar.indexCast v2033
  let c80_787 : Index := 80#32
  ![v2034.toNat, 80]
def k0_off299 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c13_i32_790 : BitVec 32 := 13#32
  let v2043 : BitVec 32 := Scalar.addi v193 c13_i32_790
  let v2044 : Index := Scalar.indexCast v2043
  let c96_791 : Index := 96#32
  ![v2044.toNat, 96]
def k0_off300 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c13_i32_794 : BitVec 32 := 13#32
  let v2053 : BitVec 32 := Scalar.addi v193 c13_i32_794
  let v2054 : Index := Scalar.indexCast v2053
  let c112_795 : Index := 112#32
  ![v2054.toNat, 112]
def k0_off301 (v2064 : BitVec 32) (c0_i32_866 : BitVec 32) : Fin 1 → Nat :=
  let c128_i32_865 : BitVec 32 := 128#32
  let v2235 : BitVec 32 := Scalar.muli v2064 c128_i32_865
  let v2236 : BitVec 32 := Scalar.addi v2235 c0_i32_866
  let v2237 : Index := Scalar.indexCast v2236
  ![v2237.toNat]
def k0_cond37 (v2062 : BitVec 32) (v2064 : BitVec 32) : BitVec 1 :=
  let v2065 : BitVec 1 := Scalar.cmpi .ne v2062 v2064
  let v2066 : BitVec 32 := Scalar.extui v2065
  let c0_i32_798 : BitVec 32 := 0#32
  let v2067 : BitVec 1 := Scalar.cmpi .ne v2066 c0_i32_798
  v2067

def k0_chk32 (v830 : BitVec 32) (v832 : BitVec 32) (v835 : BitVec 32) (v2062 : BitVec 32) (v2064 : BitVec 32) : Prop :=
  (∀ (k0_h22 : k0_cond22 v830 v832 v835 = 1#1), ∀ (k0_h37 : k0_cond37 v2062 v2064 = 1#1), ∀ (r : Fin 8), ∀ a, (k0_off301 v2064 (BitVec.ofNat 32 (16 * r.val))) a + S16.size a ≤ S32896.size a)
theorem k0_off301_inb : ∀ (v830 : BitVec 32) (v832 : BitVec 32) (v835 : BitVec 32) (v2062 : BitVec 32) (v2064 : BitVec 32) (k0_hw32 : k0_chk32 v830 v832 v835 v2062 v2064), ∀ (k0_h22 : k0_cond22 v830 v832 v835 = 1#1), ∀ (k0_h37 : k0_cond37 v2062 v2064 = 1#1), ∀ (r : Fin 8), ∀ a, (k0_off301 v2064 (BitVec.ofNat 32 (16 * r.val))) a + S16.size a ≤ S32896.size a := fun v830 v832 v835 v2062 v2064 k0_hw32 k0_h22 k0_h37 r => k0_hw32 k0_h22 k0_h37 r

def k0_off302 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c14_i32_800 : BitVec 32 := 14#32
  let v2070 : BitVec 32 := Scalar.addi v193 c14_i32_800
  let v2071 : Index := Scalar.indexCast v2070
  let c0_801 : Index := 0#32
  ![v2071.toNat, 0]
def k0_off303 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c14_i32_804 : BitVec 32 := 14#32
  let v2080 : BitVec 32 := Scalar.addi v193 c14_i32_804
  let v2081 : Index := Scalar.indexCast v2080
  let c16_805 : Index := 16#32
  ![v2081.toNat, 16]
def k0_off304 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c14_i32_808 : BitVec 32 := 14#32
  let v2090 : BitVec 32 := Scalar.addi v193 c14_i32_808
  let v2091 : Index := Scalar.indexCast v2090
  let c32_809 : Index := 32#32
  ![v2091.toNat, 32]
def k0_off305 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c14_i32_812 : BitVec 32 := 14#32
  let v2100 : BitVec 32 := Scalar.addi v193 c14_i32_812
  let v2101 : Index := Scalar.indexCast v2100
  let c48_813 : Index := 48#32
  ![v2101.toNat, 48]
def k0_off306 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c14_i32_816 : BitVec 32 := 14#32
  let v2110 : BitVec 32 := Scalar.addi v193 c14_i32_816
  let v2111 : Index := Scalar.indexCast v2110
  let c64_817 : Index := 64#32
  ![v2111.toNat, 64]
def k0_off307 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c14_i32_820 : BitVec 32 := 14#32
  let v2120 : BitVec 32 := Scalar.addi v193 c14_i32_820
  let v2121 : Index := Scalar.indexCast v2120
  let c80_821 : Index := 80#32
  ![v2121.toNat, 80]
def k0_off308 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c14_i32_824 : BitVec 32 := 14#32
  let v2130 : BitVec 32 := Scalar.addi v193 c14_i32_824
  let v2131 : Index := Scalar.indexCast v2130
  let c96_825 : Index := 96#32
  ![v2131.toNat, 96]
def k0_off309 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c14_i32_828 : BitVec 32 := 14#32
  let v2140 : BitVec 32 := Scalar.addi v193 c14_i32_828
  let v2141 : Index := Scalar.indexCast v2140
  let c112_829 : Index := 112#32
  ![v2141.toNat, 112]
def k0_off310 (v2151 : BitVec 32) (c0_i32_866 : BitVec 32) : Fin 1 → Nat :=
  let c128_i32_865 : BitVec 32 := 128#32
  let v2235 : BitVec 32 := Scalar.muli v2151 c128_i32_865
  let v2236 : BitVec 32 := Scalar.addi v2235 c0_i32_866
  let v2237 : Index := Scalar.indexCast v2236
  ![v2237.toNat]
def k0_cond38 (v2149 : BitVec 32) (v2151 : BitVec 32) : BitVec 1 :=
  let v2152 : BitVec 1 := Scalar.cmpi .ne v2149 v2151
  let v2153 : BitVec 32 := Scalar.extui v2152
  let c0_i32_832 : BitVec 32 := 0#32
  let v2154 : BitVec 1 := Scalar.cmpi .ne v2153 c0_i32_832
  v2154

def k0_chk33 (v830 : BitVec 32) (v832 : BitVec 32) (v835 : BitVec 32) (v2149 : BitVec 32) (v2151 : BitVec 32) : Prop :=
  (∀ (k0_h22 : k0_cond22 v830 v832 v835 = 1#1), ∀ (k0_h38 : k0_cond38 v2149 v2151 = 1#1), ∀ (r : Fin 8), ∀ a, (k0_off310 v2151 (BitVec.ofNat 32 (16 * r.val))) a + S16.size a ≤ S32896.size a)
theorem k0_off310_inb : ∀ (v830 : BitVec 32) (v832 : BitVec 32) (v835 : BitVec 32) (v2149 : BitVec 32) (v2151 : BitVec 32) (k0_hw33 : k0_chk33 v830 v832 v835 v2149 v2151), ∀ (k0_h22 : k0_cond22 v830 v832 v835 = 1#1), ∀ (k0_h38 : k0_cond38 v2149 v2151 = 1#1), ∀ (r : Fin 8), ∀ a, (k0_off310 v2151 (BitVec.ofNat 32 (16 * r.val))) a + S16.size a ≤ S32896.size a := fun v830 v832 v835 v2149 v2151 k0_hw33 k0_h22 k0_h38 r => k0_hw33 k0_h22 k0_h38 r

def k0_off311 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c15_i32_834 : BitVec 32 := 15#32
  let v2157 : BitVec 32 := Scalar.addi v193 c15_i32_834
  let v2158 : Index := Scalar.indexCast v2157
  let c0_835 : Index := 0#32
  ![v2158.toNat, 0]
def k0_off312 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c15_i32_838 : BitVec 32 := 15#32
  let v2167 : BitVec 32 := Scalar.addi v193 c15_i32_838
  let v2168 : Index := Scalar.indexCast v2167
  let c16_839 : Index := 16#32
  ![v2168.toNat, 16]
def k0_off313 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c15_i32_842 : BitVec 32 := 15#32
  let v2177 : BitVec 32 := Scalar.addi v193 c15_i32_842
  let v2178 : Index := Scalar.indexCast v2177
  let c32_843 : Index := 32#32
  ![v2178.toNat, 32]
def k0_off314 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c15_i32_846 : BitVec 32 := 15#32
  let v2187 : BitVec 32 := Scalar.addi v193 c15_i32_846
  let v2188 : Index := Scalar.indexCast v2187
  let c48_847 : Index := 48#32
  ![v2188.toNat, 48]
def k0_off315 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c15_i32_850 : BitVec 32 := 15#32
  let v2197 : BitVec 32 := Scalar.addi v193 c15_i32_850
  let v2198 : Index := Scalar.indexCast v2197
  let c64_851 : Index := 64#32
  ![v2198.toNat, 64]
def k0_off316 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c15_i32_854 : BitVec 32 := 15#32
  let v2207 : BitVec 32 := Scalar.addi v193 c15_i32_854
  let v2208 : Index := Scalar.indexCast v2207
  let c80_855 : Index := 80#32
  ![v2208.toNat, 80]
def k0_off317 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c15_i32_858 : BitVec 32 := 15#32
  let v2217 : BitVec 32 := Scalar.addi v193 c15_i32_858
  let v2218 : Index := Scalar.indexCast v2217
  let c96_859 : Index := 96#32
  ![v2218.toNat, 96]
def k0_off318 (i : grid0.Coords) (k0_t3 : Fin (k0_t3_loop i).trips) (k0_t4 : Fin k0_t4_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c1_i32_20 : BitVec 32 := 1#32
  let arg12 : BitVec 32 := Scf.iv v35 c1_i32_20 k0_t3
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t4
  let c16_i32_71 : BitVec 32 := 16#32
  let v192 : BitVec 32 := Scalar.muli arg14 c16_i32_71
  let v193 : BitVec 32 := Scalar.addi v191 v192
  let c15_i32_862 : BitVec 32 := 15#32
  let v2227 : BitVec 32 := Scalar.addi v193 c15_i32_862
  let v2228 : Index := Scalar.indexCast v2227
  let c112_863 : Index := 112#32
  ![v2228.toNat, 112]
@[reducible] def k0_t5_loop (i : grid0.Coords) : Scf.Loop 32 :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let v51 : BitVec 32 := Scalar.addi v35 v50
  let c1_i32_21 : BitVec 32 := 1#32
  ⟨v54, v51, c1_i32_21⟩
def k0_off319 (i : grid0.Coords) (k0_t5 : Fin (k0_t5_loop i).trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_57 : BitVec 32 := 256#32
  let v174 : BitVec 32 := Scalar.muli v172 c256_i32_57
  let c0_i32_58 : BitVec 32 := 0#32
  ![v174.toNat, 0]
def k0_off320 (i : grid0.Coords) (k0_t5 : Fin (k0_t5_loop i).trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let c256_i32_56 : BitVec 32 := 256#32
  let v173 : BitVec 32 := Scalar.muli arg12 c256_i32_56
  let c0_i32_59 : BitVec 32 := 0#32
  ![v173.toNat, 0]
def k0_off321 (i : grid0.Coords) (k0_t5 : Fin (k0_t5_loop i).trips) : Fin 1 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_63 : BitVec 32 := 256#32
  let v180 : BitVec 32 := Scalar.muli v172 c256_i32_63
  ![v180.toNat]
def k0_off322 (i : grid0.Coords) (k0_t5 : Fin (k0_t5_loop i).trips) : Fin 1 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let c256_i32_62 : BitVec 32 := 256#32
  let v179 : BitVec 32 := Scalar.muli arg12 c256_i32_62
  ![v179.toNat]
def k0_cond39 (i : grid0.Coords) (k0_t5 : Fin (k0_t5_loop i).trips) : BitVec 1 :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let c1_i32_64 : BitVec 32 := 1#32
  let v185 : BitVec 32 := Scalar.addi arg12 c1_i32_64
  let v186 : BitVec 1 := Scalar.cmpi .slt v185 v39
  let v187 : BitVec 32 := Scalar.extui v186
  let c0_i32_65 : BitVec 32 := 0#32
  let v188 : BitVec 1 := Scalar.cmpi .ne v187 c0_i32_65
  v188

def k0_off323 (i : grid0.Coords) (k0_t5 : Fin (k0_t5_loop i).trips) : Fin 2 → Nat :=
  let c1_i32_71 : BitVec 32 := 1#32
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let v192 : BitVec 32 := Scalar.subi c1_i32_71 v172
  let c256_i32_73 : BitVec 32 := 256#32
  let v194 : BitVec 32 := Scalar.muli v192 c256_i32_73
  let c0_i32_74 : BitVec 32 := 0#32
  ![v194.toNat, 0]
def k0_off324 (i : grid0.Coords) (k0_t5 : Fin (k0_t5_loop i).trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let c1_i32_70 : BitVec 32 := 1#32
  let v191 : BitVec 32 := Scalar.addi arg12 c1_i32_70
  let c256_i32_72 : BitVec 32 := 256#32
  let v193 : BitVec 32 := Scalar.muli v191 c256_i32_72
  let c0_i32_75 : BitVec 32 := 0#32
  ![v193.toNat, 0]
def k0_off325 (i : grid0.Coords) (k0_t5 : Fin (k0_t5_loop i).trips) : Fin 1 → Nat :=
  let c1_i32_71 : BitVec 32 := 1#32
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let v192 : BitVec 32 := Scalar.subi c1_i32_71 v172
  let c256_i32_79 : BitVec 32 := 256#32
  let v200 : BitVec 32 := Scalar.muli v192 c256_i32_79
  ![v200.toNat]
def k0_off326 (i : grid0.Coords) (k0_t5 : Fin (k0_t5_loop i).trips) : Fin 1 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let c1_i32_70 : BitVec 32 := 1#32
  let v191 : BitVec 32 := Scalar.addi arg12 c1_i32_70
  let c256_i32_78 : BitVec 32 := 256#32
  let v199 : BitVec 32 := Scalar.muli v191 c256_i32_78
  ![v199.toNat]
@[reducible] def k0_t6_loop : Scf.Loop 32 :=
  let c0_i32_66 : BitVec 32 := 0#32
  let c16_i32_67 : BitVec 32 := 16#32
  let v189 : BitVec 32 := Scalar.addi c0_i32_66 c16_i32_67
  let c1_i32_68 : BitVec 32 := 1#32
  ⟨c0_i32_66, v189, c1_i32_68⟩
def k0_off327 (i : grid0.Coords) (k0_t5 : Fin (k0_t5_loop i).trips) (k0_t6 : Fin k0_t6_loop.trips) : Fin 1 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let v194 : Index := Scalar.indexCast v193
  ![v194.toNat]
def k0_off328 (i : grid0.Coords) (k0_t5 : Fin (k0_t5_loop i).trips) (k0_t6 : Fin k0_t6_loop.trips) (c0_i32_72 : BitVec 32) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let v197 : BitVec 32 := Scalar.addi v193 c0_i32_72
  let v198 : Index := Scalar.indexCast v197
  let c0_73 : Index := 0#32
  ![v198.toNat, 0]
def k0_off329 (i : grid0.Coords) (k0_t5 : Fin (k0_t5_loop i).trips) (k0_t6 : Fin k0_t6_loop.trips) (c0_i32_93 : BitVec 32) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let v276 : BitVec 32 := Scalar.addi v193 c0_i32_93
  let v277 : Index := Scalar.indexCast v276
  let c16_94 : Index := 16#32
  ![v277.toNat, 16]
def k0_off330 (i : grid0.Coords) (k0_t5 : Fin (k0_t5_loop i).trips) (k0_t6 : Fin k0_t6_loop.trips) (c0_i32_125 : BitVec 32) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let v355 : BitVec 32 := Scalar.addi v193 c0_i32_125
  let v356 : Index := Scalar.indexCast v355
  let c32_126 : Index := 32#32
  ![v356.toNat, 32]
def k0_off331 (i : grid0.Coords) (k0_t5 : Fin (k0_t5_loop i).trips) (k0_t6 : Fin k0_t6_loop.trips) (c0_i32_157 : BitVec 32) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let v434 : BitVec 32 := Scalar.addi v193 c0_i32_157
  let v435 : Index := Scalar.indexCast v434
  let c48_158 : Index := 48#32
  ![v435.toNat, 48]
def k0_off332 (i : grid0.Coords) (k0_t5 : Fin (k0_t5_loop i).trips) (k0_t6 : Fin k0_t6_loop.trips) (c0_i32_189 : BitVec 32) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let v513 : BitVec 32 := Scalar.addi v193 c0_i32_189
  let v514 : Index := Scalar.indexCast v513
  let c64_190 : Index := 64#32
  ![v514.toNat, 64]
def k0_off333 (i : grid0.Coords) (k0_t5 : Fin (k0_t5_loop i).trips) (k0_t6 : Fin k0_t6_loop.trips) (c0_i32_221 : BitVec 32) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let v592 : BitVec 32 := Scalar.addi v193 c0_i32_221
  let v593 : Index := Scalar.indexCast v592
  let c80_222 : Index := 80#32
  ![v593.toNat, 80]
def k0_off334 (i : grid0.Coords) (k0_t5 : Fin (k0_t5_loop i).trips) (k0_t6 : Fin k0_t6_loop.trips) (c0_i32_253 : BitVec 32) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let v671 : BitVec 32 := Scalar.addi v193 c0_i32_253
  let v672 : Index := Scalar.indexCast v671
  let c96_254 : Index := 96#32
  ![v672.toNat, 96]
def k0_off335 (i : grid0.Coords) (k0_t5 : Fin (k0_t5_loop i).trips) (k0_t6 : Fin k0_t6_loop.trips) (c0_i32_285 : BitVec 32) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let v750 : BitVec 32 := Scalar.addi v193 c0_i32_285
  let v751 : Index := Scalar.indexCast v750
  let c112_286 : Index := 112#32
  ![v751.toNat, 112]
def k0_off336 (v846 : BitVec 32) (c0_i32_866 : BitVec 32) : Fin 1 → Nat :=
  let c128_i32_865 : BitVec 32 := 128#32
  let v2235 : BitVec 32 := Scalar.muli v846 c128_i32_865
  let v2236 : BitVec 32 := Scalar.addi v2235 c0_i32_866
  let v2237 : Index := Scalar.indexCast v2236
  ![v2237.toNat]
def k0_cond41 (v830 : BitVec 32) (v832 : BitVec 32) (v835 : BitVec 32) : BitVec 1 :=
  let v833 : BitVec 1 := Scalar.cmpi .eq v832 v830
  let v836 : BitVec 1 := Scalar.cmpi .eq v835 v830
  let v837 : BitVec 1 := Scalar.andi v833 v836
  let v_true : BitVec 1 := 1#1
  let v840 : BitVec 1 := Scalar.xori v837 v_true
  let v841 : BitVec 32 := Scalar.extui v840
  let c0_i32_319 : BitVec 32 := 0#32
  let v842 : BitVec 1 := Scalar.cmpi .ne v841 c0_i32_319
  v842

def k0_cond42 (v844 : BitVec 32) (v846 : BitVec 32) : BitVec 1 :=
  let v847 : BitVec 1 := Scalar.cmpi .ne v844 v846
  let v848 : BitVec 32 := Scalar.extui v847
  let c0_i32_322 : BitVec 32 := 0#32
  let v849 : BitVec 1 := Scalar.cmpi .ne v848 c0_i32_322
  v849

def k0_chk34 (i : grid0.Coords) (k0_t5 : Fin (k0_t5_loop i).trips) (v830 : BitVec 32) (v832 : BitVec 32) (v835 : BitVec 32) (v844 : BitVec 32) (v846 : BitVec 32) : Prop :=
  (∀ (k0_h41 : k0_cond41 v830 v832 v835 = 1#1), ∀ (k0_h42 : k0_cond42 v844 v846 = 1#1), ∀ (r : Fin 8), ∀ a, (k0_off336 v846 (BitVec.ofNat 32 (16 * r.val))) a + S16.size a ≤ S32896.size a)
theorem k0_off336_inb : ∀ (i : grid0.Coords) (k0_t5 : Fin (k0_t5_loop i).trips) (v830 : BitVec 32) (v832 : BitVec 32) (v835 : BitVec 32) (v844 : BitVec 32) (v846 : BitVec 32) (k0_hw34 : k0_chk34 i k0_t5 v830 v832 v835 v844 v846), ∀ (k0_h41 : k0_cond41 v830 v832 v835 = 1#1), ∀ (k0_h42 : k0_cond42 v844 v846 = 1#1), ∀ (r : Fin 8), ∀ a, (k0_off336 v846 (BitVec.ofNat 32 (16 * r.val))) a + S16.size a ≤ S32896.size a := fun i k0_t5 v830 v832 v835 v844 v846 k0_hw34 k0_h41 k0_h42 r => k0_hw34 k0_h41 k0_h42 r

def k0_off337 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c0_i32_324 : BitVec 32 := 0#32
  let v852 : BitVec 32 := Scalar.addi v193 c0_i32_324
  let v853 : Index := Scalar.indexCast v852
  let c0_325 : Index := 0#32
  ![v853.toNat, 0]
def k0_off338 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c0_i32_328 : BitVec 32 := 0#32
  let v862 : BitVec 32 := Scalar.addi v193 c0_i32_328
  let v863 : Index := Scalar.indexCast v862
  let c16_329 : Index := 16#32
  ![v863.toNat, 16]
def k0_off339 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c0_i32_332 : BitVec 32 := 0#32
  let v872 : BitVec 32 := Scalar.addi v193 c0_i32_332
  let v873 : Index := Scalar.indexCast v872
  let c32_333 : Index := 32#32
  ![v873.toNat, 32]
def k0_off340 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c0_i32_336 : BitVec 32 := 0#32
  let v882 : BitVec 32 := Scalar.addi v193 c0_i32_336
  let v883 : Index := Scalar.indexCast v882
  let c48_337 : Index := 48#32
  ![v883.toNat, 48]
def k0_off341 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c0_i32_340 : BitVec 32 := 0#32
  let v892 : BitVec 32 := Scalar.addi v193 c0_i32_340
  let v893 : Index := Scalar.indexCast v892
  let c64_341 : Index := 64#32
  ![v893.toNat, 64]
def k0_off342 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c0_i32_344 : BitVec 32 := 0#32
  let v902 : BitVec 32 := Scalar.addi v193 c0_i32_344
  let v903 : Index := Scalar.indexCast v902
  let c80_345 : Index := 80#32
  ![v903.toNat, 80]
def k0_off343 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c0_i32_348 : BitVec 32 := 0#32
  let v912 : BitVec 32 := Scalar.addi v193 c0_i32_348
  let v913 : Index := Scalar.indexCast v912
  let c96_349 : Index := 96#32
  ![v913.toNat, 96]
def k0_off344 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c0_i32_352 : BitVec 32 := 0#32
  let v922 : BitVec 32 := Scalar.addi v193 c0_i32_352
  let v923 : Index := Scalar.indexCast v922
  let c112_353 : Index := 112#32
  ![v923.toNat, 112]
def k0_off345 (v933 : BitVec 32) (c0_i32_866 : BitVec 32) : Fin 1 → Nat :=
  let c128_i32_865 : BitVec 32 := 128#32
  let v2235 : BitVec 32 := Scalar.muli v933 c128_i32_865
  let v2236 : BitVec 32 := Scalar.addi v2235 c0_i32_866
  let v2237 : Index := Scalar.indexCast v2236
  ![v2237.toNat]
def k0_cond43 (v931 : BitVec 32) (v933 : BitVec 32) : BitVec 1 :=
  let v934 : BitVec 1 := Scalar.cmpi .ne v931 v933
  let v935 : BitVec 32 := Scalar.extui v934
  let c0_i32_356 : BitVec 32 := 0#32
  let v936 : BitVec 1 := Scalar.cmpi .ne v935 c0_i32_356
  v936

def k0_chk35 (i : grid0.Coords) (k0_t5 : Fin (k0_t5_loop i).trips) (v830 : BitVec 32) (v832 : BitVec 32) (v835 : BitVec 32) (v931 : BitVec 32) (v933 : BitVec 32) : Prop :=
  (∀ (k0_h41 : k0_cond41 v830 v832 v835 = 1#1), ∀ (k0_h43 : k0_cond43 v931 v933 = 1#1), ∀ (r : Fin 8), ∀ a, (k0_off345 v933 (BitVec.ofNat 32 (16 * r.val))) a + S16.size a ≤ S32896.size a)
theorem k0_off345_inb : ∀ (i : grid0.Coords) (k0_t5 : Fin (k0_t5_loop i).trips) (v830 : BitVec 32) (v832 : BitVec 32) (v835 : BitVec 32) (v931 : BitVec 32) (v933 : BitVec 32) (k0_hw35 : k0_chk35 i k0_t5 v830 v832 v835 v931 v933), ∀ (k0_h41 : k0_cond41 v830 v832 v835 = 1#1), ∀ (k0_h43 : k0_cond43 v931 v933 = 1#1), ∀ (r : Fin 8), ∀ a, (k0_off345 v933 (BitVec.ofNat 32 (16 * r.val))) a + S16.size a ≤ S32896.size a := fun i k0_t5 v830 v832 v835 v931 v933 k0_hw35 k0_h41 k0_h43 r => k0_hw35 k0_h41 k0_h43 r

def k0_off346 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c1_i32_358 : BitVec 32 := 1#32
  let v939 : BitVec 32 := Scalar.addi v193 c1_i32_358
  let v940 : Index := Scalar.indexCast v939
  let c0_359 : Index := 0#32
  ![v940.toNat, 0]
def k0_off347 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c1_i32_362 : BitVec 32 := 1#32
  let v949 : BitVec 32 := Scalar.addi v193 c1_i32_362
  let v950 : Index := Scalar.indexCast v949
  let c16_363 : Index := 16#32
  ![v950.toNat, 16]
def k0_off348 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c1_i32_366 : BitVec 32 := 1#32
  let v959 : BitVec 32 := Scalar.addi v193 c1_i32_366
  let v960 : Index := Scalar.indexCast v959
  let c32_367 : Index := 32#32
  ![v960.toNat, 32]
def k0_off349 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c1_i32_370 : BitVec 32 := 1#32
  let v969 : BitVec 32 := Scalar.addi v193 c1_i32_370
  let v970 : Index := Scalar.indexCast v969
  let c48_371 : Index := 48#32
  ![v970.toNat, 48]
def k0_off350 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c1_i32_374 : BitVec 32 := 1#32
  let v979 : BitVec 32 := Scalar.addi v193 c1_i32_374
  let v980 : Index := Scalar.indexCast v979
  let c64_375 : Index := 64#32
  ![v980.toNat, 64]
def k0_off351 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c1_i32_378 : BitVec 32 := 1#32
  let v989 : BitVec 32 := Scalar.addi v193 c1_i32_378
  let v990 : Index := Scalar.indexCast v989
  let c80_379 : Index := 80#32
  ![v990.toNat, 80]
def k0_off352 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c1_i32_382 : BitVec 32 := 1#32
  let v999 : BitVec 32 := Scalar.addi v193 c1_i32_382
  let v1000 : Index := Scalar.indexCast v999
  let c96_383 : Index := 96#32
  ![v1000.toNat, 96]
def k0_off353 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c1_i32_386 : BitVec 32 := 1#32
  let v1009 : BitVec 32 := Scalar.addi v193 c1_i32_386
  let v1010 : Index := Scalar.indexCast v1009
  let c112_387 : Index := 112#32
  ![v1010.toNat, 112]
def k0_off354 (v1020 : BitVec 32) (c0_i32_866 : BitVec 32) : Fin 1 → Nat :=
  let c128_i32_865 : BitVec 32 := 128#32
  let v2235 : BitVec 32 := Scalar.muli v1020 c128_i32_865
  let v2236 : BitVec 32 := Scalar.addi v2235 c0_i32_866
  let v2237 : Index := Scalar.indexCast v2236
  ![v2237.toNat]
def k0_cond44 (v1018 : BitVec 32) (v1020 : BitVec 32) : BitVec 1 :=
  let v1021 : BitVec 1 := Scalar.cmpi .ne v1018 v1020
  let v1022 : BitVec 32 := Scalar.extui v1021
  let c0_i32_390 : BitVec 32 := 0#32
  let v1023 : BitVec 1 := Scalar.cmpi .ne v1022 c0_i32_390
  v1023

def k0_chk36 (i : grid0.Coords) (k0_t5 : Fin (k0_t5_loop i).trips) (v830 : BitVec 32) (v832 : BitVec 32) (v835 : BitVec 32) (v1018 : BitVec 32) (v1020 : BitVec 32) : Prop :=
  (∀ (k0_h41 : k0_cond41 v830 v832 v835 = 1#1), ∀ (k0_h44 : k0_cond44 v1018 v1020 = 1#1), ∀ (r : Fin 8), ∀ a, (k0_off354 v1020 (BitVec.ofNat 32 (16 * r.val))) a + S16.size a ≤ S32896.size a)
theorem k0_off354_inb : ∀ (i : grid0.Coords) (k0_t5 : Fin (k0_t5_loop i).trips) (v830 : BitVec 32) (v832 : BitVec 32) (v835 : BitVec 32) (v1018 : BitVec 32) (v1020 : BitVec 32) (k0_hw36 : k0_chk36 i k0_t5 v830 v832 v835 v1018 v1020), ∀ (k0_h41 : k0_cond41 v830 v832 v835 = 1#1), ∀ (k0_h44 : k0_cond44 v1018 v1020 = 1#1), ∀ (r : Fin 8), ∀ a, (k0_off354 v1020 (BitVec.ofNat 32 (16 * r.val))) a + S16.size a ≤ S32896.size a := fun i k0_t5 v830 v832 v835 v1018 v1020 k0_hw36 k0_h41 k0_h44 r => k0_hw36 k0_h41 k0_h44 r

def k0_off355 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c2_i32_392 : BitVec 32 := 2#32
  let v1026 : BitVec 32 := Scalar.addi v193 c2_i32_392
  let v1027 : Index := Scalar.indexCast v1026
  let c0_393 : Index := 0#32
  ![v1027.toNat, 0]
def k0_off356 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c2_i32_396 : BitVec 32 := 2#32
  let v1036 : BitVec 32 := Scalar.addi v193 c2_i32_396
  let v1037 : Index := Scalar.indexCast v1036
  let c16_397 : Index := 16#32
  ![v1037.toNat, 16]
def k0_off357 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c2_i32_400 : BitVec 32 := 2#32
  let v1046 : BitVec 32 := Scalar.addi v193 c2_i32_400
  let v1047 : Index := Scalar.indexCast v1046
  let c32_401 : Index := 32#32
  ![v1047.toNat, 32]
def k0_off358 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c2_i32_404 : BitVec 32 := 2#32
  let v1056 : BitVec 32 := Scalar.addi v193 c2_i32_404
  let v1057 : Index := Scalar.indexCast v1056
  let c48_405 : Index := 48#32
  ![v1057.toNat, 48]
def k0_off359 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c2_i32_408 : BitVec 32 := 2#32
  let v1066 : BitVec 32 := Scalar.addi v193 c2_i32_408
  let v1067 : Index := Scalar.indexCast v1066
  let c64_409 : Index := 64#32
  ![v1067.toNat, 64]
def k0_off360 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c2_i32_412 : BitVec 32 := 2#32
  let v1076 : BitVec 32 := Scalar.addi v193 c2_i32_412
  let v1077 : Index := Scalar.indexCast v1076
  let c80_413 : Index := 80#32
  ![v1077.toNat, 80]
def k0_off361 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c2_i32_416 : BitVec 32 := 2#32
  let v1086 : BitVec 32 := Scalar.addi v193 c2_i32_416
  let v1087 : Index := Scalar.indexCast v1086
  let c96_417 : Index := 96#32
  ![v1087.toNat, 96]
def k0_off362 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c2_i32_420 : BitVec 32 := 2#32
  let v1096 : BitVec 32 := Scalar.addi v193 c2_i32_420
  let v1097 : Index := Scalar.indexCast v1096
  let c112_421 : Index := 112#32
  ![v1097.toNat, 112]
def k0_off363 (v1107 : BitVec 32) (c0_i32_866 : BitVec 32) : Fin 1 → Nat :=
  let c128_i32_865 : BitVec 32 := 128#32
  let v2235 : BitVec 32 := Scalar.muli v1107 c128_i32_865
  let v2236 : BitVec 32 := Scalar.addi v2235 c0_i32_866
  let v2237 : Index := Scalar.indexCast v2236
  ![v2237.toNat]
def k0_cond45 (v1105 : BitVec 32) (v1107 : BitVec 32) : BitVec 1 :=
  let v1108 : BitVec 1 := Scalar.cmpi .ne v1105 v1107
  let v1109 : BitVec 32 := Scalar.extui v1108
  let c0_i32_424 : BitVec 32 := 0#32
  let v1110 : BitVec 1 := Scalar.cmpi .ne v1109 c0_i32_424
  v1110

def k0_chk37 (i : grid0.Coords) (k0_t5 : Fin (k0_t5_loop i).trips) (v830 : BitVec 32) (v832 : BitVec 32) (v835 : BitVec 32) (v1105 : BitVec 32) (v1107 : BitVec 32) : Prop :=
  (∀ (k0_h41 : k0_cond41 v830 v832 v835 = 1#1), ∀ (k0_h45 : k0_cond45 v1105 v1107 = 1#1), ∀ (r : Fin 8), ∀ a, (k0_off363 v1107 (BitVec.ofNat 32 (16 * r.val))) a + S16.size a ≤ S32896.size a)
theorem k0_off363_inb : ∀ (i : grid0.Coords) (k0_t5 : Fin (k0_t5_loop i).trips) (v830 : BitVec 32) (v832 : BitVec 32) (v835 : BitVec 32) (v1105 : BitVec 32) (v1107 : BitVec 32) (k0_hw37 : k0_chk37 i k0_t5 v830 v832 v835 v1105 v1107), ∀ (k0_h41 : k0_cond41 v830 v832 v835 = 1#1), ∀ (k0_h45 : k0_cond45 v1105 v1107 = 1#1), ∀ (r : Fin 8), ∀ a, (k0_off363 v1107 (BitVec.ofNat 32 (16 * r.val))) a + S16.size a ≤ S32896.size a := fun i k0_t5 v830 v832 v835 v1105 v1107 k0_hw37 k0_h41 k0_h45 r => k0_hw37 k0_h41 k0_h45 r

def k0_off364 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c3_i32_426 : BitVec 32 := 3#32
  let v1113 : BitVec 32 := Scalar.addi v193 c3_i32_426
  let v1114 : Index := Scalar.indexCast v1113
  let c0_427 : Index := 0#32
  ![v1114.toNat, 0]
def k0_off365 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c3_i32_430 : BitVec 32 := 3#32
  let v1123 : BitVec 32 := Scalar.addi v193 c3_i32_430
  let v1124 : Index := Scalar.indexCast v1123
  let c16_431 : Index := 16#32
  ![v1124.toNat, 16]
def k0_off366 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c3_i32_434 : BitVec 32 := 3#32
  let v1133 : BitVec 32 := Scalar.addi v193 c3_i32_434
  let v1134 : Index := Scalar.indexCast v1133
  let c32_435 : Index := 32#32
  ![v1134.toNat, 32]
def k0_off367 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c3_i32_438 : BitVec 32 := 3#32
  let v1143 : BitVec 32 := Scalar.addi v193 c3_i32_438
  let v1144 : Index := Scalar.indexCast v1143
  let c48_439 : Index := 48#32
  ![v1144.toNat, 48]
def k0_off368 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c3_i32_442 : BitVec 32 := 3#32
  let v1153 : BitVec 32 := Scalar.addi v193 c3_i32_442
  let v1154 : Index := Scalar.indexCast v1153
  let c64_443 : Index := 64#32
  ![v1154.toNat, 64]
def k0_off369 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c3_i32_446 : BitVec 32 := 3#32
  let v1163 : BitVec 32 := Scalar.addi v193 c3_i32_446
  let v1164 : Index := Scalar.indexCast v1163
  let c80_447 : Index := 80#32
  ![v1164.toNat, 80]
def k0_off370 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c3_i32_450 : BitVec 32 := 3#32
  let v1173 : BitVec 32 := Scalar.addi v193 c3_i32_450
  let v1174 : Index := Scalar.indexCast v1173
  let c96_451 : Index := 96#32
  ![v1174.toNat, 96]
def k0_off371 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c3_i32_454 : BitVec 32 := 3#32
  let v1183 : BitVec 32 := Scalar.addi v193 c3_i32_454
  let v1184 : Index := Scalar.indexCast v1183
  let c112_455 : Index := 112#32
  ![v1184.toNat, 112]
def k0_off372 (v1194 : BitVec 32) (c0_i32_866 : BitVec 32) : Fin 1 → Nat :=
  let c128_i32_865 : BitVec 32 := 128#32
  let v2235 : BitVec 32 := Scalar.muli v1194 c128_i32_865
  let v2236 : BitVec 32 := Scalar.addi v2235 c0_i32_866
  let v2237 : Index := Scalar.indexCast v2236
  ![v2237.toNat]
def k0_cond46 (v1192 : BitVec 32) (v1194 : BitVec 32) : BitVec 1 :=
  let v1195 : BitVec 1 := Scalar.cmpi .ne v1192 v1194
  let v1196 : BitVec 32 := Scalar.extui v1195
  let c0_i32_458 : BitVec 32 := 0#32
  let v1197 : BitVec 1 := Scalar.cmpi .ne v1196 c0_i32_458
  v1197

def k0_chk38 (i : grid0.Coords) (k0_t5 : Fin (k0_t5_loop i).trips) (v830 : BitVec 32) (v832 : BitVec 32) (v835 : BitVec 32) (v1192 : BitVec 32) (v1194 : BitVec 32) : Prop :=
  (∀ (k0_h41 : k0_cond41 v830 v832 v835 = 1#1), ∀ (k0_h46 : k0_cond46 v1192 v1194 = 1#1), ∀ (r : Fin 8), ∀ a, (k0_off372 v1194 (BitVec.ofNat 32 (16 * r.val))) a + S16.size a ≤ S32896.size a)
theorem k0_off372_inb : ∀ (i : grid0.Coords) (k0_t5 : Fin (k0_t5_loop i).trips) (v830 : BitVec 32) (v832 : BitVec 32) (v835 : BitVec 32) (v1192 : BitVec 32) (v1194 : BitVec 32) (k0_hw38 : k0_chk38 i k0_t5 v830 v832 v835 v1192 v1194), ∀ (k0_h41 : k0_cond41 v830 v832 v835 = 1#1), ∀ (k0_h46 : k0_cond46 v1192 v1194 = 1#1), ∀ (r : Fin 8), ∀ a, (k0_off372 v1194 (BitVec.ofNat 32 (16 * r.val))) a + S16.size a ≤ S32896.size a := fun i k0_t5 v830 v832 v835 v1192 v1194 k0_hw38 k0_h41 k0_h46 r => k0_hw38 k0_h41 k0_h46 r

def k0_off373 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c4_i32_460 : BitVec 32 := 4#32
  let v1200 : BitVec 32 := Scalar.addi v193 c4_i32_460
  let v1201 : Index := Scalar.indexCast v1200
  let c0_461 : Index := 0#32
  ![v1201.toNat, 0]
def k0_off374 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c4_i32_464 : BitVec 32 := 4#32
  let v1210 : BitVec 32 := Scalar.addi v193 c4_i32_464
  let v1211 : Index := Scalar.indexCast v1210
  let c16_465 : Index := 16#32
  ![v1211.toNat, 16]
def k0_off375 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c4_i32_468 : BitVec 32 := 4#32
  let v1220 : BitVec 32 := Scalar.addi v193 c4_i32_468
  let v1221 : Index := Scalar.indexCast v1220
  let c32_469 : Index := 32#32
  ![v1221.toNat, 32]
def k0_off376 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c4_i32_472 : BitVec 32 := 4#32
  let v1230 : BitVec 32 := Scalar.addi v193 c4_i32_472
  let v1231 : Index := Scalar.indexCast v1230
  let c48_473 : Index := 48#32
  ![v1231.toNat, 48]
def k0_off377 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c4_i32_476 : BitVec 32 := 4#32
  let v1240 : BitVec 32 := Scalar.addi v193 c4_i32_476
  let v1241 : Index := Scalar.indexCast v1240
  let c64_477 : Index := 64#32
  ![v1241.toNat, 64]
def k0_off378 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c4_i32_480 : BitVec 32 := 4#32
  let v1250 : BitVec 32 := Scalar.addi v193 c4_i32_480
  let v1251 : Index := Scalar.indexCast v1250
  let c80_481 : Index := 80#32
  ![v1251.toNat, 80]
def k0_off379 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c4_i32_484 : BitVec 32 := 4#32
  let v1260 : BitVec 32 := Scalar.addi v193 c4_i32_484
  let v1261 : Index := Scalar.indexCast v1260
  let c96_485 : Index := 96#32
  ![v1261.toNat, 96]
def k0_off380 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c4_i32_488 : BitVec 32 := 4#32
  let v1270 : BitVec 32 := Scalar.addi v193 c4_i32_488
  let v1271 : Index := Scalar.indexCast v1270
  let c112_489 : Index := 112#32
  ![v1271.toNat, 112]
def k0_off381 (v1281 : BitVec 32) (c0_i32_866 : BitVec 32) : Fin 1 → Nat :=
  let c128_i32_865 : BitVec 32 := 128#32
  let v2235 : BitVec 32 := Scalar.muli v1281 c128_i32_865
  let v2236 : BitVec 32 := Scalar.addi v2235 c0_i32_866
  let v2237 : Index := Scalar.indexCast v2236
  ![v2237.toNat]
def k0_cond47 (v1279 : BitVec 32) (v1281 : BitVec 32) : BitVec 1 :=
  let v1282 : BitVec 1 := Scalar.cmpi .ne v1279 v1281
  let v1283 : BitVec 32 := Scalar.extui v1282
  let c0_i32_492 : BitVec 32 := 0#32
  let v1284 : BitVec 1 := Scalar.cmpi .ne v1283 c0_i32_492
  v1284

def k0_chk39 (i : grid0.Coords) (k0_t5 : Fin (k0_t5_loop i).trips) (v830 : BitVec 32) (v832 : BitVec 32) (v835 : BitVec 32) (v1279 : BitVec 32) (v1281 : BitVec 32) : Prop :=
  (∀ (k0_h41 : k0_cond41 v830 v832 v835 = 1#1), ∀ (k0_h47 : k0_cond47 v1279 v1281 = 1#1), ∀ (r : Fin 8), ∀ a, (k0_off381 v1281 (BitVec.ofNat 32 (16 * r.val))) a + S16.size a ≤ S32896.size a)
theorem k0_off381_inb : ∀ (i : grid0.Coords) (k0_t5 : Fin (k0_t5_loop i).trips) (v830 : BitVec 32) (v832 : BitVec 32) (v835 : BitVec 32) (v1279 : BitVec 32) (v1281 : BitVec 32) (k0_hw39 : k0_chk39 i k0_t5 v830 v832 v835 v1279 v1281), ∀ (k0_h41 : k0_cond41 v830 v832 v835 = 1#1), ∀ (k0_h47 : k0_cond47 v1279 v1281 = 1#1), ∀ (r : Fin 8), ∀ a, (k0_off381 v1281 (BitVec.ofNat 32 (16 * r.val))) a + S16.size a ≤ S32896.size a := fun i k0_t5 v830 v832 v835 v1279 v1281 k0_hw39 k0_h41 k0_h47 r => k0_hw39 k0_h41 k0_h47 r

def k0_off382 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c5_i32_494 : BitVec 32 := 5#32
  let v1287 : BitVec 32 := Scalar.addi v193 c5_i32_494
  let v1288 : Index := Scalar.indexCast v1287
  let c0_495 : Index := 0#32
  ![v1288.toNat, 0]
def k0_off383 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c5_i32_498 : BitVec 32 := 5#32
  let v1297 : BitVec 32 := Scalar.addi v193 c5_i32_498
  let v1298 : Index := Scalar.indexCast v1297
  let c16_499 : Index := 16#32
  ![v1298.toNat, 16]
def k0_off384 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c5_i32_502 : BitVec 32 := 5#32
  let v1307 : BitVec 32 := Scalar.addi v193 c5_i32_502
  let v1308 : Index := Scalar.indexCast v1307
  let c32_503 : Index := 32#32
  ![v1308.toNat, 32]
def k0_off385 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c5_i32_506 : BitVec 32 := 5#32
  let v1317 : BitVec 32 := Scalar.addi v193 c5_i32_506
  let v1318 : Index := Scalar.indexCast v1317
  let c48_507 : Index := 48#32
  ![v1318.toNat, 48]
def k0_off386 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c5_i32_510 : BitVec 32 := 5#32
  let v1327 : BitVec 32 := Scalar.addi v193 c5_i32_510
  let v1328 : Index := Scalar.indexCast v1327
  let c64_511 : Index := 64#32
  ![v1328.toNat, 64]
def k0_off387 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c5_i32_514 : BitVec 32 := 5#32
  let v1337 : BitVec 32 := Scalar.addi v193 c5_i32_514
  let v1338 : Index := Scalar.indexCast v1337
  let c80_515 : Index := 80#32
  ![v1338.toNat, 80]
def k0_off388 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c5_i32_518 : BitVec 32 := 5#32
  let v1347 : BitVec 32 := Scalar.addi v193 c5_i32_518
  let v1348 : Index := Scalar.indexCast v1347
  let c96_519 : Index := 96#32
  ![v1348.toNat, 96]
def k0_off389 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c5_i32_522 : BitVec 32 := 5#32
  let v1357 : BitVec 32 := Scalar.addi v193 c5_i32_522
  let v1358 : Index := Scalar.indexCast v1357
  let c112_523 : Index := 112#32
  ![v1358.toNat, 112]
def k0_off390 (v1368 : BitVec 32) (c0_i32_866 : BitVec 32) : Fin 1 → Nat :=
  let c128_i32_865 : BitVec 32 := 128#32
  let v2235 : BitVec 32 := Scalar.muli v1368 c128_i32_865
  let v2236 : BitVec 32 := Scalar.addi v2235 c0_i32_866
  let v2237 : Index := Scalar.indexCast v2236
  ![v2237.toNat]
def k0_cond48 (v1366 : BitVec 32) (v1368 : BitVec 32) : BitVec 1 :=
  let v1369 : BitVec 1 := Scalar.cmpi .ne v1366 v1368
  let v1370 : BitVec 32 := Scalar.extui v1369
  let c0_i32_526 : BitVec 32 := 0#32
  let v1371 : BitVec 1 := Scalar.cmpi .ne v1370 c0_i32_526
  v1371

def k0_chk40 (i : grid0.Coords) (k0_t5 : Fin (k0_t5_loop i).trips) (v830 : BitVec 32) (v832 : BitVec 32) (v835 : BitVec 32) (v1366 : BitVec 32) (v1368 : BitVec 32) : Prop :=
  (∀ (k0_h41 : k0_cond41 v830 v832 v835 = 1#1), ∀ (k0_h48 : k0_cond48 v1366 v1368 = 1#1), ∀ (r : Fin 8), ∀ a, (k0_off390 v1368 (BitVec.ofNat 32 (16 * r.val))) a + S16.size a ≤ S32896.size a)
theorem k0_off390_inb : ∀ (i : grid0.Coords) (k0_t5 : Fin (k0_t5_loop i).trips) (v830 : BitVec 32) (v832 : BitVec 32) (v835 : BitVec 32) (v1366 : BitVec 32) (v1368 : BitVec 32) (k0_hw40 : k0_chk40 i k0_t5 v830 v832 v835 v1366 v1368), ∀ (k0_h41 : k0_cond41 v830 v832 v835 = 1#1), ∀ (k0_h48 : k0_cond48 v1366 v1368 = 1#1), ∀ (r : Fin 8), ∀ a, (k0_off390 v1368 (BitVec.ofNat 32 (16 * r.val))) a + S16.size a ≤ S32896.size a := fun i k0_t5 v830 v832 v835 v1366 v1368 k0_hw40 k0_h41 k0_h48 r => k0_hw40 k0_h41 k0_h48 r

def k0_off391 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c6_i32_528 : BitVec 32 := 6#32
  let v1374 : BitVec 32 := Scalar.addi v193 c6_i32_528
  let v1375 : Index := Scalar.indexCast v1374
  let c0_529 : Index := 0#32
  ![v1375.toNat, 0]
def k0_off392 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c6_i32_532 : BitVec 32 := 6#32
  let v1384 : BitVec 32 := Scalar.addi v193 c6_i32_532
  let v1385 : Index := Scalar.indexCast v1384
  let c16_533 : Index := 16#32
  ![v1385.toNat, 16]
def k0_off393 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c6_i32_536 : BitVec 32 := 6#32
  let v1394 : BitVec 32 := Scalar.addi v193 c6_i32_536
  let v1395 : Index := Scalar.indexCast v1394
  let c32_537 : Index := 32#32
  ![v1395.toNat, 32]
def k0_off394 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c6_i32_540 : BitVec 32 := 6#32
  let v1404 : BitVec 32 := Scalar.addi v193 c6_i32_540
  let v1405 : Index := Scalar.indexCast v1404
  let c48_541 : Index := 48#32
  ![v1405.toNat, 48]
def k0_off395 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c6_i32_544 : BitVec 32 := 6#32
  let v1414 : BitVec 32 := Scalar.addi v193 c6_i32_544
  let v1415 : Index := Scalar.indexCast v1414
  let c64_545 : Index := 64#32
  ![v1415.toNat, 64]
def k0_off396 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c6_i32_548 : BitVec 32 := 6#32
  let v1424 : BitVec 32 := Scalar.addi v193 c6_i32_548
  let v1425 : Index := Scalar.indexCast v1424
  let c80_549 : Index := 80#32
  ![v1425.toNat, 80]
def k0_off397 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c6_i32_552 : BitVec 32 := 6#32
  let v1434 : BitVec 32 := Scalar.addi v193 c6_i32_552
  let v1435 : Index := Scalar.indexCast v1434
  let c96_553 : Index := 96#32
  ![v1435.toNat, 96]
def k0_off398 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c6_i32_556 : BitVec 32 := 6#32
  let v1444 : BitVec 32 := Scalar.addi v193 c6_i32_556
  let v1445 : Index := Scalar.indexCast v1444
  let c112_557 : Index := 112#32
  ![v1445.toNat, 112]
def k0_off399 (v1455 : BitVec 32) (c0_i32_866 : BitVec 32) : Fin 1 → Nat :=
  let c128_i32_865 : BitVec 32 := 128#32
  let v2235 : BitVec 32 := Scalar.muli v1455 c128_i32_865
  let v2236 : BitVec 32 := Scalar.addi v2235 c0_i32_866
  let v2237 : Index := Scalar.indexCast v2236
  ![v2237.toNat]
def k0_cond49 (v1453 : BitVec 32) (v1455 : BitVec 32) : BitVec 1 :=
  let v1456 : BitVec 1 := Scalar.cmpi .ne v1453 v1455
  let v1457 : BitVec 32 := Scalar.extui v1456
  let c0_i32_560 : BitVec 32 := 0#32
  let v1458 : BitVec 1 := Scalar.cmpi .ne v1457 c0_i32_560
  v1458

def k0_chk41 (i : grid0.Coords) (k0_t5 : Fin (k0_t5_loop i).trips) (v830 : BitVec 32) (v832 : BitVec 32) (v835 : BitVec 32) (v1453 : BitVec 32) (v1455 : BitVec 32) : Prop :=
  (∀ (k0_h41 : k0_cond41 v830 v832 v835 = 1#1), ∀ (k0_h49 : k0_cond49 v1453 v1455 = 1#1), ∀ (r : Fin 8), ∀ a, (k0_off399 v1455 (BitVec.ofNat 32 (16 * r.val))) a + S16.size a ≤ S32896.size a)
theorem k0_off399_inb : ∀ (i : grid0.Coords) (k0_t5 : Fin (k0_t5_loop i).trips) (v830 : BitVec 32) (v832 : BitVec 32) (v835 : BitVec 32) (v1453 : BitVec 32) (v1455 : BitVec 32) (k0_hw41 : k0_chk41 i k0_t5 v830 v832 v835 v1453 v1455), ∀ (k0_h41 : k0_cond41 v830 v832 v835 = 1#1), ∀ (k0_h49 : k0_cond49 v1453 v1455 = 1#1), ∀ (r : Fin 8), ∀ a, (k0_off399 v1455 (BitVec.ofNat 32 (16 * r.val))) a + S16.size a ≤ S32896.size a := fun i k0_t5 v830 v832 v835 v1453 v1455 k0_hw41 k0_h41 k0_h49 r => k0_hw41 k0_h41 k0_h49 r

def k0_off400 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c7_i32_562 : BitVec 32 := 7#32
  let v1461 : BitVec 32 := Scalar.addi v193 c7_i32_562
  let v1462 : Index := Scalar.indexCast v1461
  let c0_563 : Index := 0#32
  ![v1462.toNat, 0]
def k0_off401 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c7_i32_566 : BitVec 32 := 7#32
  let v1471 : BitVec 32 := Scalar.addi v193 c7_i32_566
  let v1472 : Index := Scalar.indexCast v1471
  let c16_567 : Index := 16#32
  ![v1472.toNat, 16]
def k0_off402 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c7_i32_570 : BitVec 32 := 7#32
  let v1481 : BitVec 32 := Scalar.addi v193 c7_i32_570
  let v1482 : Index := Scalar.indexCast v1481
  let c32_571 : Index := 32#32
  ![v1482.toNat, 32]
def k0_off403 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c7_i32_574 : BitVec 32 := 7#32
  let v1491 : BitVec 32 := Scalar.addi v193 c7_i32_574
  let v1492 : Index := Scalar.indexCast v1491
  let c48_575 : Index := 48#32
  ![v1492.toNat, 48]
def k0_off404 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c7_i32_578 : BitVec 32 := 7#32
  let v1501 : BitVec 32 := Scalar.addi v193 c7_i32_578
  let v1502 : Index := Scalar.indexCast v1501
  let c64_579 : Index := 64#32
  ![v1502.toNat, 64]
def k0_off405 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c7_i32_582 : BitVec 32 := 7#32
  let v1511 : BitVec 32 := Scalar.addi v193 c7_i32_582
  let v1512 : Index := Scalar.indexCast v1511
  let c80_583 : Index := 80#32
  ![v1512.toNat, 80]
def k0_off406 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c7_i32_586 : BitVec 32 := 7#32
  let v1521 : BitVec 32 := Scalar.addi v193 c7_i32_586
  let v1522 : Index := Scalar.indexCast v1521
  let c96_587 : Index := 96#32
  ![v1522.toNat, 96]
def k0_off407 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c7_i32_590 : BitVec 32 := 7#32
  let v1531 : BitVec 32 := Scalar.addi v193 c7_i32_590
  let v1532 : Index := Scalar.indexCast v1531
  let c112_591 : Index := 112#32
  ![v1532.toNat, 112]
def k0_off408 (v1542 : BitVec 32) (c0_i32_866 : BitVec 32) : Fin 1 → Nat :=
  let c128_i32_865 : BitVec 32 := 128#32
  let v2235 : BitVec 32 := Scalar.muli v1542 c128_i32_865
  let v2236 : BitVec 32 := Scalar.addi v2235 c0_i32_866
  let v2237 : Index := Scalar.indexCast v2236
  ![v2237.toNat]
def k0_cond50 (v1540 : BitVec 32) (v1542 : BitVec 32) : BitVec 1 :=
  let v1543 : BitVec 1 := Scalar.cmpi .ne v1540 v1542
  let v1544 : BitVec 32 := Scalar.extui v1543
  let c0_i32_594 : BitVec 32 := 0#32
  let v1545 : BitVec 1 := Scalar.cmpi .ne v1544 c0_i32_594
  v1545

def k0_chk42 (i : grid0.Coords) (k0_t5 : Fin (k0_t5_loop i).trips) (v830 : BitVec 32) (v832 : BitVec 32) (v835 : BitVec 32) (v1540 : BitVec 32) (v1542 : BitVec 32) : Prop :=
  (∀ (k0_h41 : k0_cond41 v830 v832 v835 = 1#1), ∀ (k0_h50 : k0_cond50 v1540 v1542 = 1#1), ∀ (r : Fin 8), ∀ a, (k0_off408 v1542 (BitVec.ofNat 32 (16 * r.val))) a + S16.size a ≤ S32896.size a)
theorem k0_off408_inb : ∀ (i : grid0.Coords) (k0_t5 : Fin (k0_t5_loop i).trips) (v830 : BitVec 32) (v832 : BitVec 32) (v835 : BitVec 32) (v1540 : BitVec 32) (v1542 : BitVec 32) (k0_hw42 : k0_chk42 i k0_t5 v830 v832 v835 v1540 v1542), ∀ (k0_h41 : k0_cond41 v830 v832 v835 = 1#1), ∀ (k0_h50 : k0_cond50 v1540 v1542 = 1#1), ∀ (r : Fin 8), ∀ a, (k0_off408 v1542 (BitVec.ofNat 32 (16 * r.val))) a + S16.size a ≤ S32896.size a := fun i k0_t5 v830 v832 v835 v1540 v1542 k0_hw42 k0_h41 k0_h50 r => k0_hw42 k0_h41 k0_h50 r

def k0_off409 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c8_i32_596 : BitVec 32 := 8#32
  let v1548 : BitVec 32 := Scalar.addi v193 c8_i32_596
  let v1549 : Index := Scalar.indexCast v1548
  let c0_597 : Index := 0#32
  ![v1549.toNat, 0]
def k0_off410 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c8_i32_600 : BitVec 32 := 8#32
  let v1558 : BitVec 32 := Scalar.addi v193 c8_i32_600
  let v1559 : Index := Scalar.indexCast v1558
  let c16_601 : Index := 16#32
  ![v1559.toNat, 16]
def k0_off411 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c8_i32_604 : BitVec 32 := 8#32
  let v1568 : BitVec 32 := Scalar.addi v193 c8_i32_604
  let v1569 : Index := Scalar.indexCast v1568
  let c32_605 : Index := 32#32
  ![v1569.toNat, 32]
def k0_off412 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c8_i32_608 : BitVec 32 := 8#32
  let v1578 : BitVec 32 := Scalar.addi v193 c8_i32_608
  let v1579 : Index := Scalar.indexCast v1578
  let c48_609 : Index := 48#32
  ![v1579.toNat, 48]
def k0_off413 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c8_i32_612 : BitVec 32 := 8#32
  let v1588 : BitVec 32 := Scalar.addi v193 c8_i32_612
  let v1589 : Index := Scalar.indexCast v1588
  let c64_613 : Index := 64#32
  ![v1589.toNat, 64]
def k0_off414 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c8_i32_616 : BitVec 32 := 8#32
  let v1598 : BitVec 32 := Scalar.addi v193 c8_i32_616
  let v1599 : Index := Scalar.indexCast v1598
  let c80_617 : Index := 80#32
  ![v1599.toNat, 80]
def k0_off415 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c8_i32_620 : BitVec 32 := 8#32
  let v1608 : BitVec 32 := Scalar.addi v193 c8_i32_620
  let v1609 : Index := Scalar.indexCast v1608
  let c96_621 : Index := 96#32
  ![v1609.toNat, 96]
def k0_off416 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c8_i32_624 : BitVec 32 := 8#32
  let v1618 : BitVec 32 := Scalar.addi v193 c8_i32_624
  let v1619 : Index := Scalar.indexCast v1618
  let c112_625 : Index := 112#32
  ![v1619.toNat, 112]
def k0_off417 (v1629 : BitVec 32) (c0_i32_866 : BitVec 32) : Fin 1 → Nat :=
  let c128_i32_865 : BitVec 32 := 128#32
  let v2235 : BitVec 32 := Scalar.muli v1629 c128_i32_865
  let v2236 : BitVec 32 := Scalar.addi v2235 c0_i32_866
  let v2237 : Index := Scalar.indexCast v2236
  ![v2237.toNat]
def k0_cond51 (v1627 : BitVec 32) (v1629 : BitVec 32) : BitVec 1 :=
  let v1630 : BitVec 1 := Scalar.cmpi .ne v1627 v1629
  let v1631 : BitVec 32 := Scalar.extui v1630
  let c0_i32_628 : BitVec 32 := 0#32
  let v1632 : BitVec 1 := Scalar.cmpi .ne v1631 c0_i32_628
  v1632

def k0_chk43 (i : grid0.Coords) (k0_t5 : Fin (k0_t5_loop i).trips) (v830 : BitVec 32) (v832 : BitVec 32) (v835 : BitVec 32) (v1627 : BitVec 32) (v1629 : BitVec 32) : Prop :=
  (∀ (k0_h41 : k0_cond41 v830 v832 v835 = 1#1), ∀ (k0_h51 : k0_cond51 v1627 v1629 = 1#1), ∀ (r : Fin 8), ∀ a, (k0_off417 v1629 (BitVec.ofNat 32 (16 * r.val))) a + S16.size a ≤ S32896.size a)
theorem k0_off417_inb : ∀ (i : grid0.Coords) (k0_t5 : Fin (k0_t5_loop i).trips) (v830 : BitVec 32) (v832 : BitVec 32) (v835 : BitVec 32) (v1627 : BitVec 32) (v1629 : BitVec 32) (k0_hw43 : k0_chk43 i k0_t5 v830 v832 v835 v1627 v1629), ∀ (k0_h41 : k0_cond41 v830 v832 v835 = 1#1), ∀ (k0_h51 : k0_cond51 v1627 v1629 = 1#1), ∀ (r : Fin 8), ∀ a, (k0_off417 v1629 (BitVec.ofNat 32 (16 * r.val))) a + S16.size a ≤ S32896.size a := fun i k0_t5 v830 v832 v835 v1627 v1629 k0_hw43 k0_h41 k0_h51 r => k0_hw43 k0_h41 k0_h51 r

def k0_off418 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c9_i32_630 : BitVec 32 := 9#32
  let v1635 : BitVec 32 := Scalar.addi v193 c9_i32_630
  let v1636 : Index := Scalar.indexCast v1635
  let c0_631 : Index := 0#32
  ![v1636.toNat, 0]
def k0_off419 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c9_i32_634 : BitVec 32 := 9#32
  let v1645 : BitVec 32 := Scalar.addi v193 c9_i32_634
  let v1646 : Index := Scalar.indexCast v1645
  let c16_635 : Index := 16#32
  ![v1646.toNat, 16]
def k0_off420 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c9_i32_638 : BitVec 32 := 9#32
  let v1655 : BitVec 32 := Scalar.addi v193 c9_i32_638
  let v1656 : Index := Scalar.indexCast v1655
  let c32_639 : Index := 32#32
  ![v1656.toNat, 32]
def k0_off421 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c9_i32_642 : BitVec 32 := 9#32
  let v1665 : BitVec 32 := Scalar.addi v193 c9_i32_642
  let v1666 : Index := Scalar.indexCast v1665
  let c48_643 : Index := 48#32
  ![v1666.toNat, 48]
def k0_off422 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c9_i32_646 : BitVec 32 := 9#32
  let v1675 : BitVec 32 := Scalar.addi v193 c9_i32_646
  let v1676 : Index := Scalar.indexCast v1675
  let c64_647 : Index := 64#32
  ![v1676.toNat, 64]
def k0_off423 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c9_i32_650 : BitVec 32 := 9#32
  let v1685 : BitVec 32 := Scalar.addi v193 c9_i32_650
  let v1686 : Index := Scalar.indexCast v1685
  let c80_651 : Index := 80#32
  ![v1686.toNat, 80]
def k0_off424 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c9_i32_654 : BitVec 32 := 9#32
  let v1695 : BitVec 32 := Scalar.addi v193 c9_i32_654
  let v1696 : Index := Scalar.indexCast v1695
  let c96_655 : Index := 96#32
  ![v1696.toNat, 96]
def k0_off425 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c9_i32_658 : BitVec 32 := 9#32
  let v1705 : BitVec 32 := Scalar.addi v193 c9_i32_658
  let v1706 : Index := Scalar.indexCast v1705
  let c112_659 : Index := 112#32
  ![v1706.toNat, 112]
def k0_off426 (v1716 : BitVec 32) (c0_i32_866 : BitVec 32) : Fin 1 → Nat :=
  let c128_i32_865 : BitVec 32 := 128#32
  let v2235 : BitVec 32 := Scalar.muli v1716 c128_i32_865
  let v2236 : BitVec 32 := Scalar.addi v2235 c0_i32_866
  let v2237 : Index := Scalar.indexCast v2236
  ![v2237.toNat]
def k0_cond52 (v1714 : BitVec 32) (v1716 : BitVec 32) : BitVec 1 :=
  let v1717 : BitVec 1 := Scalar.cmpi .ne v1714 v1716
  let v1718 : BitVec 32 := Scalar.extui v1717
  let c0_i32_662 : BitVec 32 := 0#32
  let v1719 : BitVec 1 := Scalar.cmpi .ne v1718 c0_i32_662
  v1719

def k0_chk44 (i : grid0.Coords) (k0_t5 : Fin (k0_t5_loop i).trips) (v830 : BitVec 32) (v832 : BitVec 32) (v835 : BitVec 32) (v1714 : BitVec 32) (v1716 : BitVec 32) : Prop :=
  (∀ (k0_h41 : k0_cond41 v830 v832 v835 = 1#1), ∀ (k0_h52 : k0_cond52 v1714 v1716 = 1#1), ∀ (r : Fin 8), ∀ a, (k0_off426 v1716 (BitVec.ofNat 32 (16 * r.val))) a + S16.size a ≤ S32896.size a)
theorem k0_off426_inb : ∀ (i : grid0.Coords) (k0_t5 : Fin (k0_t5_loop i).trips) (v830 : BitVec 32) (v832 : BitVec 32) (v835 : BitVec 32) (v1714 : BitVec 32) (v1716 : BitVec 32) (k0_hw44 : k0_chk44 i k0_t5 v830 v832 v835 v1714 v1716), ∀ (k0_h41 : k0_cond41 v830 v832 v835 = 1#1), ∀ (k0_h52 : k0_cond52 v1714 v1716 = 1#1), ∀ (r : Fin 8), ∀ a, (k0_off426 v1716 (BitVec.ofNat 32 (16 * r.val))) a + S16.size a ≤ S32896.size a := fun i k0_t5 v830 v832 v835 v1714 v1716 k0_hw44 k0_h41 k0_h52 r => k0_hw44 k0_h41 k0_h52 r

def k0_off427 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c10_i32_664 : BitVec 32 := 10#32
  let v1722 : BitVec 32 := Scalar.addi v193 c10_i32_664
  let v1723 : Index := Scalar.indexCast v1722
  let c0_665 : Index := 0#32
  ![v1723.toNat, 0]
def k0_off428 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c10_i32_668 : BitVec 32 := 10#32
  let v1732 : BitVec 32 := Scalar.addi v193 c10_i32_668
  let v1733 : Index := Scalar.indexCast v1732
  let c16_669 : Index := 16#32
  ![v1733.toNat, 16]
def k0_off429 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c10_i32_672 : BitVec 32 := 10#32
  let v1742 : BitVec 32 := Scalar.addi v193 c10_i32_672
  let v1743 : Index := Scalar.indexCast v1742
  let c32_673 : Index := 32#32
  ![v1743.toNat, 32]
def k0_off430 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c10_i32_676 : BitVec 32 := 10#32
  let v1752 : BitVec 32 := Scalar.addi v193 c10_i32_676
  let v1753 : Index := Scalar.indexCast v1752
  let c48_677 : Index := 48#32
  ![v1753.toNat, 48]
def k0_off431 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c10_i32_680 : BitVec 32 := 10#32
  let v1762 : BitVec 32 := Scalar.addi v193 c10_i32_680
  let v1763 : Index := Scalar.indexCast v1762
  let c64_681 : Index := 64#32
  ![v1763.toNat, 64]
def k0_off432 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c10_i32_684 : BitVec 32 := 10#32
  let v1772 : BitVec 32 := Scalar.addi v193 c10_i32_684
  let v1773 : Index := Scalar.indexCast v1772
  let c80_685 : Index := 80#32
  ![v1773.toNat, 80]
def k0_off433 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c10_i32_688 : BitVec 32 := 10#32
  let v1782 : BitVec 32 := Scalar.addi v193 c10_i32_688
  let v1783 : Index := Scalar.indexCast v1782
  let c96_689 : Index := 96#32
  ![v1783.toNat, 96]
def k0_off434 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c10_i32_692 : BitVec 32 := 10#32
  let v1792 : BitVec 32 := Scalar.addi v193 c10_i32_692
  let v1793 : Index := Scalar.indexCast v1792
  let c112_693 : Index := 112#32
  ![v1793.toNat, 112]
def k0_off435 (v1803 : BitVec 32) (c0_i32_866 : BitVec 32) : Fin 1 → Nat :=
  let c128_i32_865 : BitVec 32 := 128#32
  let v2235 : BitVec 32 := Scalar.muli v1803 c128_i32_865
  let v2236 : BitVec 32 := Scalar.addi v2235 c0_i32_866
  let v2237 : Index := Scalar.indexCast v2236
  ![v2237.toNat]
def k0_cond53 (v1801 : BitVec 32) (v1803 : BitVec 32) : BitVec 1 :=
  let v1804 : BitVec 1 := Scalar.cmpi .ne v1801 v1803
  let v1805 : BitVec 32 := Scalar.extui v1804
  let c0_i32_696 : BitVec 32 := 0#32
  let v1806 : BitVec 1 := Scalar.cmpi .ne v1805 c0_i32_696
  v1806

def k0_chk45 (i : grid0.Coords) (k0_t5 : Fin (k0_t5_loop i).trips) (v830 : BitVec 32) (v832 : BitVec 32) (v835 : BitVec 32) (v1801 : BitVec 32) (v1803 : BitVec 32) : Prop :=
  (∀ (k0_h41 : k0_cond41 v830 v832 v835 = 1#1), ∀ (k0_h53 : k0_cond53 v1801 v1803 = 1#1), ∀ (r : Fin 8), ∀ a, (k0_off435 v1803 (BitVec.ofNat 32 (16 * r.val))) a + S16.size a ≤ S32896.size a)
theorem k0_off435_inb : ∀ (i : grid0.Coords) (k0_t5 : Fin (k0_t5_loop i).trips) (v830 : BitVec 32) (v832 : BitVec 32) (v835 : BitVec 32) (v1801 : BitVec 32) (v1803 : BitVec 32) (k0_hw45 : k0_chk45 i k0_t5 v830 v832 v835 v1801 v1803), ∀ (k0_h41 : k0_cond41 v830 v832 v835 = 1#1), ∀ (k0_h53 : k0_cond53 v1801 v1803 = 1#1), ∀ (r : Fin 8), ∀ a, (k0_off435 v1803 (BitVec.ofNat 32 (16 * r.val))) a + S16.size a ≤ S32896.size a := fun i k0_t5 v830 v832 v835 v1801 v1803 k0_hw45 k0_h41 k0_h53 r => k0_hw45 k0_h41 k0_h53 r

def k0_off436 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c11_i32_698 : BitVec 32 := 11#32
  let v1809 : BitVec 32 := Scalar.addi v193 c11_i32_698
  let v1810 : Index := Scalar.indexCast v1809
  let c0_699 : Index := 0#32
  ![v1810.toNat, 0]
def k0_off437 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c11_i32_702 : BitVec 32 := 11#32
  let v1819 : BitVec 32 := Scalar.addi v193 c11_i32_702
  let v1820 : Index := Scalar.indexCast v1819
  let c16_703 : Index := 16#32
  ![v1820.toNat, 16]
def k0_off438 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c11_i32_706 : BitVec 32 := 11#32
  let v1829 : BitVec 32 := Scalar.addi v193 c11_i32_706
  let v1830 : Index := Scalar.indexCast v1829
  let c32_707 : Index := 32#32
  ![v1830.toNat, 32]
def k0_off439 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c11_i32_710 : BitVec 32 := 11#32
  let v1839 : BitVec 32 := Scalar.addi v193 c11_i32_710
  let v1840 : Index := Scalar.indexCast v1839
  let c48_711 : Index := 48#32
  ![v1840.toNat, 48]
def k0_off440 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c11_i32_714 : BitVec 32 := 11#32
  let v1849 : BitVec 32 := Scalar.addi v193 c11_i32_714
  let v1850 : Index := Scalar.indexCast v1849
  let c64_715 : Index := 64#32
  ![v1850.toNat, 64]
def k0_off441 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c11_i32_718 : BitVec 32 := 11#32
  let v1859 : BitVec 32 := Scalar.addi v193 c11_i32_718
  let v1860 : Index := Scalar.indexCast v1859
  let c80_719 : Index := 80#32
  ![v1860.toNat, 80]
def k0_off442 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c11_i32_722 : BitVec 32 := 11#32
  let v1869 : BitVec 32 := Scalar.addi v193 c11_i32_722
  let v1870 : Index := Scalar.indexCast v1869
  let c96_723 : Index := 96#32
  ![v1870.toNat, 96]
def k0_off443 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c11_i32_726 : BitVec 32 := 11#32
  let v1879 : BitVec 32 := Scalar.addi v193 c11_i32_726
  let v1880 : Index := Scalar.indexCast v1879
  let c112_727 : Index := 112#32
  ![v1880.toNat, 112]
def k0_off444 (v1890 : BitVec 32) (c0_i32_866 : BitVec 32) : Fin 1 → Nat :=
  let c128_i32_865 : BitVec 32 := 128#32
  let v2235 : BitVec 32 := Scalar.muli v1890 c128_i32_865
  let v2236 : BitVec 32 := Scalar.addi v2235 c0_i32_866
  let v2237 : Index := Scalar.indexCast v2236
  ![v2237.toNat]
def k0_cond54 (v1888 : BitVec 32) (v1890 : BitVec 32) : BitVec 1 :=
  let v1891 : BitVec 1 := Scalar.cmpi .ne v1888 v1890
  let v1892 : BitVec 32 := Scalar.extui v1891
  let c0_i32_730 : BitVec 32 := 0#32
  let v1893 : BitVec 1 := Scalar.cmpi .ne v1892 c0_i32_730
  v1893

def k0_chk46 (i : grid0.Coords) (k0_t5 : Fin (k0_t5_loop i).trips) (v830 : BitVec 32) (v832 : BitVec 32) (v835 : BitVec 32) (v1888 : BitVec 32) (v1890 : BitVec 32) : Prop :=
  (∀ (k0_h41 : k0_cond41 v830 v832 v835 = 1#1), ∀ (k0_h54 : k0_cond54 v1888 v1890 = 1#1), ∀ (r : Fin 8), ∀ a, (k0_off444 v1890 (BitVec.ofNat 32 (16 * r.val))) a + S16.size a ≤ S32896.size a)
theorem k0_off444_inb : ∀ (i : grid0.Coords) (k0_t5 : Fin (k0_t5_loop i).trips) (v830 : BitVec 32) (v832 : BitVec 32) (v835 : BitVec 32) (v1888 : BitVec 32) (v1890 : BitVec 32) (k0_hw46 : k0_chk46 i k0_t5 v830 v832 v835 v1888 v1890), ∀ (k0_h41 : k0_cond41 v830 v832 v835 = 1#1), ∀ (k0_h54 : k0_cond54 v1888 v1890 = 1#1), ∀ (r : Fin 8), ∀ a, (k0_off444 v1890 (BitVec.ofNat 32 (16 * r.val))) a + S16.size a ≤ S32896.size a := fun i k0_t5 v830 v832 v835 v1888 v1890 k0_hw46 k0_h41 k0_h54 r => k0_hw46 k0_h41 k0_h54 r

def k0_off445 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c12_i32_732 : BitVec 32 := 12#32
  let v1896 : BitVec 32 := Scalar.addi v193 c12_i32_732
  let v1897 : Index := Scalar.indexCast v1896
  let c0_733 : Index := 0#32
  ![v1897.toNat, 0]
def k0_off446 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c12_i32_736 : BitVec 32 := 12#32
  let v1906 : BitVec 32 := Scalar.addi v193 c12_i32_736
  let v1907 : Index := Scalar.indexCast v1906
  let c16_737 : Index := 16#32
  ![v1907.toNat, 16]
def k0_off447 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c12_i32_740 : BitVec 32 := 12#32
  let v1916 : BitVec 32 := Scalar.addi v193 c12_i32_740
  let v1917 : Index := Scalar.indexCast v1916
  let c32_741 : Index := 32#32
  ![v1917.toNat, 32]
def k0_off448 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c12_i32_744 : BitVec 32 := 12#32
  let v1926 : BitVec 32 := Scalar.addi v193 c12_i32_744
  let v1927 : Index := Scalar.indexCast v1926
  let c48_745 : Index := 48#32
  ![v1927.toNat, 48]
def k0_off449 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c12_i32_748 : BitVec 32 := 12#32
  let v1936 : BitVec 32 := Scalar.addi v193 c12_i32_748
  let v1937 : Index := Scalar.indexCast v1936
  let c64_749 : Index := 64#32
  ![v1937.toNat, 64]
def k0_off450 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c12_i32_752 : BitVec 32 := 12#32
  let v1946 : BitVec 32 := Scalar.addi v193 c12_i32_752
  let v1947 : Index := Scalar.indexCast v1946
  let c80_753 : Index := 80#32
  ![v1947.toNat, 80]
def k0_off451 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c12_i32_756 : BitVec 32 := 12#32
  let v1956 : BitVec 32 := Scalar.addi v193 c12_i32_756
  let v1957 : Index := Scalar.indexCast v1956
  let c96_757 : Index := 96#32
  ![v1957.toNat, 96]
def k0_off452 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c12_i32_760 : BitVec 32 := 12#32
  let v1966 : BitVec 32 := Scalar.addi v193 c12_i32_760
  let v1967 : Index := Scalar.indexCast v1966
  let c112_761 : Index := 112#32
  ![v1967.toNat, 112]
def k0_off453 (v1977 : BitVec 32) (c0_i32_866 : BitVec 32) : Fin 1 → Nat :=
  let c128_i32_865 : BitVec 32 := 128#32
  let v2235 : BitVec 32 := Scalar.muli v1977 c128_i32_865
  let v2236 : BitVec 32 := Scalar.addi v2235 c0_i32_866
  let v2237 : Index := Scalar.indexCast v2236
  ![v2237.toNat]
def k0_cond55 (v1975 : BitVec 32) (v1977 : BitVec 32) : BitVec 1 :=
  let v1978 : BitVec 1 := Scalar.cmpi .ne v1975 v1977
  let v1979 : BitVec 32 := Scalar.extui v1978
  let c0_i32_764 : BitVec 32 := 0#32
  let v1980 : BitVec 1 := Scalar.cmpi .ne v1979 c0_i32_764
  v1980

def k0_chk47 (i : grid0.Coords) (k0_t5 : Fin (k0_t5_loop i).trips) (v830 : BitVec 32) (v832 : BitVec 32) (v835 : BitVec 32) (v1975 : BitVec 32) (v1977 : BitVec 32) : Prop :=
  (∀ (k0_h41 : k0_cond41 v830 v832 v835 = 1#1), ∀ (k0_h55 : k0_cond55 v1975 v1977 = 1#1), ∀ (r : Fin 8), ∀ a, (k0_off453 v1977 (BitVec.ofNat 32 (16 * r.val))) a + S16.size a ≤ S32896.size a)
theorem k0_off453_inb : ∀ (i : grid0.Coords) (k0_t5 : Fin (k0_t5_loop i).trips) (v830 : BitVec 32) (v832 : BitVec 32) (v835 : BitVec 32) (v1975 : BitVec 32) (v1977 : BitVec 32) (k0_hw47 : k0_chk47 i k0_t5 v830 v832 v835 v1975 v1977), ∀ (k0_h41 : k0_cond41 v830 v832 v835 = 1#1), ∀ (k0_h55 : k0_cond55 v1975 v1977 = 1#1), ∀ (r : Fin 8), ∀ a, (k0_off453 v1977 (BitVec.ofNat 32 (16 * r.val))) a + S16.size a ≤ S32896.size a := fun i k0_t5 v830 v832 v835 v1975 v1977 k0_hw47 k0_h41 k0_h55 r => k0_hw47 k0_h41 k0_h55 r

def k0_off454 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c13_i32_766 : BitVec 32 := 13#32
  let v1983 : BitVec 32 := Scalar.addi v193 c13_i32_766
  let v1984 : Index := Scalar.indexCast v1983
  let c0_767 : Index := 0#32
  ![v1984.toNat, 0]
def k0_off455 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c13_i32_770 : BitVec 32 := 13#32
  let v1993 : BitVec 32 := Scalar.addi v193 c13_i32_770
  let v1994 : Index := Scalar.indexCast v1993
  let c16_771 : Index := 16#32
  ![v1994.toNat, 16]
def k0_off456 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c13_i32_774 : BitVec 32 := 13#32
  let v2003 : BitVec 32 := Scalar.addi v193 c13_i32_774
  let v2004 : Index := Scalar.indexCast v2003
  let c32_775 : Index := 32#32
  ![v2004.toNat, 32]
def k0_off457 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c13_i32_778 : BitVec 32 := 13#32
  let v2013 : BitVec 32 := Scalar.addi v193 c13_i32_778
  let v2014 : Index := Scalar.indexCast v2013
  let c48_779 : Index := 48#32
  ![v2014.toNat, 48]
def k0_off458 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c13_i32_782 : BitVec 32 := 13#32
  let v2023 : BitVec 32 := Scalar.addi v193 c13_i32_782
  let v2024 : Index := Scalar.indexCast v2023
  let c64_783 : Index := 64#32
  ![v2024.toNat, 64]
def k0_off459 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c13_i32_786 : BitVec 32 := 13#32
  let v2033 : BitVec 32 := Scalar.addi v193 c13_i32_786
  let v2034 : Index := Scalar.indexCast v2033
  let c80_787 : Index := 80#32
  ![v2034.toNat, 80]
def k0_off460 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c13_i32_790 : BitVec 32 := 13#32
  let v2043 : BitVec 32 := Scalar.addi v193 c13_i32_790
  let v2044 : Index := Scalar.indexCast v2043
  let c96_791 : Index := 96#32
  ![v2044.toNat, 96]
def k0_off461 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c13_i32_794 : BitVec 32 := 13#32
  let v2053 : BitVec 32 := Scalar.addi v193 c13_i32_794
  let v2054 : Index := Scalar.indexCast v2053
  let c112_795 : Index := 112#32
  ![v2054.toNat, 112]
def k0_off462 (v2064 : BitVec 32) (c0_i32_866 : BitVec 32) : Fin 1 → Nat :=
  let c128_i32_865 : BitVec 32 := 128#32
  let v2235 : BitVec 32 := Scalar.muli v2064 c128_i32_865
  let v2236 : BitVec 32 := Scalar.addi v2235 c0_i32_866
  let v2237 : Index := Scalar.indexCast v2236
  ![v2237.toNat]
def k0_cond56 (v2062 : BitVec 32) (v2064 : BitVec 32) : BitVec 1 :=
  let v2065 : BitVec 1 := Scalar.cmpi .ne v2062 v2064
  let v2066 : BitVec 32 := Scalar.extui v2065
  let c0_i32_798 : BitVec 32 := 0#32
  let v2067 : BitVec 1 := Scalar.cmpi .ne v2066 c0_i32_798
  v2067

def k0_chk48 (i : grid0.Coords) (k0_t5 : Fin (k0_t5_loop i).trips) (v830 : BitVec 32) (v832 : BitVec 32) (v835 : BitVec 32) (v2062 : BitVec 32) (v2064 : BitVec 32) : Prop :=
  (∀ (k0_h41 : k0_cond41 v830 v832 v835 = 1#1), ∀ (k0_h56 : k0_cond56 v2062 v2064 = 1#1), ∀ (r : Fin 8), ∀ a, (k0_off462 v2064 (BitVec.ofNat 32 (16 * r.val))) a + S16.size a ≤ S32896.size a)
theorem k0_off462_inb : ∀ (i : grid0.Coords) (k0_t5 : Fin (k0_t5_loop i).trips) (v830 : BitVec 32) (v832 : BitVec 32) (v835 : BitVec 32) (v2062 : BitVec 32) (v2064 : BitVec 32) (k0_hw48 : k0_chk48 i k0_t5 v830 v832 v835 v2062 v2064), ∀ (k0_h41 : k0_cond41 v830 v832 v835 = 1#1), ∀ (k0_h56 : k0_cond56 v2062 v2064 = 1#1), ∀ (r : Fin 8), ∀ a, (k0_off462 v2064 (BitVec.ofNat 32 (16 * r.val))) a + S16.size a ≤ S32896.size a := fun i k0_t5 v830 v832 v835 v2062 v2064 k0_hw48 k0_h41 k0_h56 r => k0_hw48 k0_h41 k0_h56 r

def k0_off463 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c14_i32_800 : BitVec 32 := 14#32
  let v2070 : BitVec 32 := Scalar.addi v193 c14_i32_800
  let v2071 : Index := Scalar.indexCast v2070
  let c0_801 : Index := 0#32
  ![v2071.toNat, 0]
def k0_off464 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c14_i32_804 : BitVec 32 := 14#32
  let v2080 : BitVec 32 := Scalar.addi v193 c14_i32_804
  let v2081 : Index := Scalar.indexCast v2080
  let c16_805 : Index := 16#32
  ![v2081.toNat, 16]
def k0_off465 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c14_i32_808 : BitVec 32 := 14#32
  let v2090 : BitVec 32 := Scalar.addi v193 c14_i32_808
  let v2091 : Index := Scalar.indexCast v2090
  let c32_809 : Index := 32#32
  ![v2091.toNat, 32]
def k0_off466 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c14_i32_812 : BitVec 32 := 14#32
  let v2100 : BitVec 32 := Scalar.addi v193 c14_i32_812
  let v2101 : Index := Scalar.indexCast v2100
  let c48_813 : Index := 48#32
  ![v2101.toNat, 48]
def k0_off467 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c14_i32_816 : BitVec 32 := 14#32
  let v2110 : BitVec 32 := Scalar.addi v193 c14_i32_816
  let v2111 : Index := Scalar.indexCast v2110
  let c64_817 : Index := 64#32
  ![v2111.toNat, 64]
def k0_off468 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c14_i32_820 : BitVec 32 := 14#32
  let v2120 : BitVec 32 := Scalar.addi v193 c14_i32_820
  let v2121 : Index := Scalar.indexCast v2120
  let c80_821 : Index := 80#32
  ![v2121.toNat, 80]
def k0_off469 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c14_i32_824 : BitVec 32 := 14#32
  let v2130 : BitVec 32 := Scalar.addi v193 c14_i32_824
  let v2131 : Index := Scalar.indexCast v2130
  let c96_825 : Index := 96#32
  ![v2131.toNat, 96]
def k0_off470 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c14_i32_828 : BitVec 32 := 14#32
  let v2140 : BitVec 32 := Scalar.addi v193 c14_i32_828
  let v2141 : Index := Scalar.indexCast v2140
  let c112_829 : Index := 112#32
  ![v2141.toNat, 112]
def k0_off471 (v2151 : BitVec 32) (c0_i32_866 : BitVec 32) : Fin 1 → Nat :=
  let c128_i32_865 : BitVec 32 := 128#32
  let v2235 : BitVec 32 := Scalar.muli v2151 c128_i32_865
  let v2236 : BitVec 32 := Scalar.addi v2235 c0_i32_866
  let v2237 : Index := Scalar.indexCast v2236
  ![v2237.toNat]
def k0_cond57 (v2149 : BitVec 32) (v2151 : BitVec 32) : BitVec 1 :=
  let v2152 : BitVec 1 := Scalar.cmpi .ne v2149 v2151
  let v2153 : BitVec 32 := Scalar.extui v2152
  let c0_i32_832 : BitVec 32 := 0#32
  let v2154 : BitVec 1 := Scalar.cmpi .ne v2153 c0_i32_832
  v2154

def k0_chk49 (i : grid0.Coords) (k0_t5 : Fin (k0_t5_loop i).trips) (v830 : BitVec 32) (v832 : BitVec 32) (v835 : BitVec 32) (v2149 : BitVec 32) (v2151 : BitVec 32) : Prop :=
  (∀ (k0_h41 : k0_cond41 v830 v832 v835 = 1#1), ∀ (k0_h57 : k0_cond57 v2149 v2151 = 1#1), ∀ (r : Fin 8), ∀ a, (k0_off471 v2151 (BitVec.ofNat 32 (16 * r.val))) a + S16.size a ≤ S32896.size a)
theorem k0_off471_inb : ∀ (i : grid0.Coords) (k0_t5 : Fin (k0_t5_loop i).trips) (v830 : BitVec 32) (v832 : BitVec 32) (v835 : BitVec 32) (v2149 : BitVec 32) (v2151 : BitVec 32) (k0_hw49 : k0_chk49 i k0_t5 v830 v832 v835 v2149 v2151), ∀ (k0_h41 : k0_cond41 v830 v832 v835 = 1#1), ∀ (k0_h57 : k0_cond57 v2149 v2151 = 1#1), ∀ (r : Fin 8), ∀ a, (k0_off471 v2151 (BitVec.ofNat 32 (16 * r.val))) a + S16.size a ≤ S32896.size a := fun i k0_t5 v830 v832 v835 v2149 v2151 k0_hw49 k0_h41 k0_h57 r => k0_hw49 k0_h41 k0_h57 r

def k0_off472 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c15_i32_834 : BitVec 32 := 15#32
  let v2157 : BitVec 32 := Scalar.addi v193 c15_i32_834
  let v2158 : Index := Scalar.indexCast v2157
  let c0_835 : Index := 0#32
  ![v2158.toNat, 0]
def k0_off473 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c15_i32_838 : BitVec 32 := 15#32
  let v2167 : BitVec 32 := Scalar.addi v193 c15_i32_838
  let v2168 : Index := Scalar.indexCast v2167
  let c16_839 : Index := 16#32
  ![v2168.toNat, 16]
def k0_off474 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c15_i32_842 : BitVec 32 := 15#32
  let v2177 : BitVec 32 := Scalar.addi v193 c15_i32_842
  let v2178 : Index := Scalar.indexCast v2177
  let c32_843 : Index := 32#32
  ![v2178.toNat, 32]
def k0_off475 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c15_i32_846 : BitVec 32 := 15#32
  let v2187 : BitVec 32 := Scalar.addi v193 c15_i32_846
  let v2188 : Index := Scalar.indexCast v2187
  let c48_847 : Index := 48#32
  ![v2188.toNat, 48]
def k0_off476 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c15_i32_850 : BitVec 32 := 15#32
  let v2197 : BitVec 32 := Scalar.addi v193 c15_i32_850
  let v2198 : Index := Scalar.indexCast v2197
  let c64_851 : Index := 64#32
  ![v2198.toNat, 64]
def k0_off477 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c15_i32_854 : BitVec 32 := 15#32
  let v2207 : BitVec 32 := Scalar.addi v193 c15_i32_854
  let v2208 : Index := Scalar.indexCast v2207
  let c80_855 : Index := 80#32
  ![v2208.toNat, 80]
def k0_off478 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c15_i32_858 : BitVec 32 := 15#32
  let v2217 : BitVec 32 := Scalar.addi v193 c15_i32_858
  let v2218 : Index := Scalar.indexCast v2217
  let c96_859 : Index := 96#32
  ![v2218.toNat, 96]
def k0_off479 (i : grid0.Coords) (k0_t5 : Fin (k0_t5_loop i).trips) (k0_t6 : Fin k0_t6_loop.trips) : Fin 2 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v33 : BitVec 32 := Scalar.muli c12_i32 v1
  let c6_i32 : BitVec 32 := 6#32
  let v34 : BitVec 32 := Scalar.minsi v1 c6_i32
  let v35 : BitVec 32 := Scalar.addi v33 v34
  let c12_i32_7 : BitVec 32 := 12#32
  let c6_i32_4 : BitVec 32 := 6#32
  let v36 : BitVec 1 := Scalar.cmpi .slt v1 c6_i32_4
  let c1_i32_5 : BitVec 32 := 1#32
  let c0_i32_6 : BitVec 32 := 0#32
  let v37 : BitVec 32 := Scalar.select v36 c1_i32_5 c0_i32_6
  let v38 : BitVec 32 := Scalar.addi c12_i32_7 v37
  let v39 : BitVec 32 := Scalar.addi v35 v38
  let v50 : BitVec 32 := Scalar.subi v39 v35
  let c1_i32_19 : BitVec 32 := 1#32
  let v52 : BitVec 32 := Scalar.divsi v50 c1_i32_19
  let v53 : BitVec 32 := Scalar.muli v52 c1_i32_19
  let v54 : BitVec 32 := Scalar.addi v35 v53
  let c1_i32_21 : BitVec 32 := 1#32
  let arg12 : BitVec 32 := Scf.iv v54 c1_i32_21 k0_t5
  let v171 : BitVec 32 := Scalar.subi arg12 v35
  let c2_i32 : BitVec 32 := 2#32
  let v172 : BitVec 32 := Scalar.remsi v171 c2_i32
  let c256_i32_70 : BitVec 32 := 256#32
  let v191 : BitVec 32 := Scalar.muli v172 c256_i32_70
  let c0_i32_66 : BitVec 32 := 0#32
  let c1_i32_68 : BitVec 32 := 1#32
  let arg14 : BitVec 32 := Scf.iv c0_i32_66 c1_i32_68 k0_t6
  let c16_i32_71 : BitVec 32 := 16#32
  let v192 : BitVec 32 := Scalar.muli arg14 c16_i32_71
  let v193 : BitVec 32 := Scalar.addi v191 v192
  let c15_i32_862 : BitVec 32 := 15#32
  let v2227 : BitVec 32 := Scalar.addi v193 c15_i32_862
  let v2228 : Index := Scalar.indexCast v2227
  let c112_863 : Index := 112#32
  ![v2228.toNat, 112]
def k0_off480 (v58 : BitVec 32) (c0_i32_23 : BitVec 32) : Fin 1 → Nat :=
  let c128_i32 : BitVec 32 := 128#32
  let v59 : BitVec 32 := Scalar.muli v58 c128_i32
  let v60 : BitVec 32 := Scalar.addi v59 c0_i32_23
  let v61 : Index := Scalar.indexCast v60
  ![v61.toNat]

def k0_chk50 (v58 : BitVec 32) : Prop :=
  (∀ (r : Fin 8), ∀ a, (k0_off480 v58 (BitVec.ofNat 32 (16 * r.val))) a + S16.size a ≤ S32896.size a)
theorem k0_off480_inb : ∀ (v58 : BitVec 32) (k0_hw50 : k0_chk50 v58), ∀ (r : Fin 8), ∀ a, (k0_off480 v58 (BitVec.ofNat 32 (16 * r.val))) a + S16.size a ≤ S32896.size a := fun v58 k0_hw50 r => k0_hw50 r

def k0_off481 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_57_r2 : BitVec 32 := 0#32
  ![v1.toNat, 0]
abbrev grid1 : Pipeline.Grid := .none

abbrev stage1_0 : Fin 1 → Memref sig .tc .vmem S32x256x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S100000 : Shape := ⟨1, ![100000]⟩
abbrev S1x100000x1 : Shape := ⟨3, ![1, 100000, 1]⟩
abbrev S256 : Shape := ⟨1, ![256]⟩
abbrev S256x1x1 : Shape := ⟨3, ![256, 1, 1]⟩
abbrev S256x100000x1 : Shape := ⟨3, ![256, 100000, 1]⟩
abbrev S1x100000x128 : Shape := ⟨3, ![1, 100000, 128]⟩
abbrev S_ : Shape := ⟨0, ![]⟩
abbrev S256x100000x128 : Shape := ⟨3, ![256, 100000, 128]⟩
abbrev S256x128 : Shape := ⟨2, ![256, 128]⟩

abbrev nBuf : Space → Nat
  | .hbm => 17
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S1x100000x1, .i32⟩
  | .hbm, ⟨3, _⟩ => ⟨S256, .i32⟩
  | .hbm, ⟨4, _⟩ => ⟨S256x1x1, .i32⟩
  | .hbm, ⟨5, _⟩ => ⟨S256x100000x1, .i32⟩
  | .hbm, ⟨6, _⟩ => ⟨S256x100000x1, .i32⟩
  | .hbm, ⟨7, _⟩ => ⟨S256x100000x1, .i1⟩
  | .hbm, ⟨8, _⟩ => ⟨S1x100000x128, .f32⟩
  | .hbm, ⟨9, _⟩ => ⟨S_, .f32⟩
  | .hbm, ⟨10, _⟩ => ⟨S_, .f32⟩
  | .hbm, ⟨11, _⟩ => ⟨S256x100000x128, .i1⟩
  | .hbm, ⟨12, _⟩ => ⟨S256x100000x128, .f32⟩
  | .hbm, ⟨13, _⟩ => ⟨S256x100000x128, .f32⟩
  | .hbm, ⟨14, _⟩ => ⟨S256x100000x128, .f32⟩
  | .hbm, ⟨15, _⟩ => ⟨S_, .f32⟩
  | .hbm, ⟨16, _⟩ => ⟨S256x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Proof.Base.lean ====
/-
  The set-up every module of this proof shares: the program as the SparseCore launch theorem sees it, the resource
  algebra, the memrefs of the buffers, and what it means for a tile to hold a scratch buffer at given contents
  (`Held`), with the rules that step a vector load, a vector store and a scalar load through it.
-/
module

public import proofs.«01_k».proof.Defs
public import Idealize.ShloMosaic.Lib.SparseCore.Quiescent
public import Idealize.ShloMosaic.Lib.StableHlo.Run
public import Idealize.ShloMosaic.Lib.Tactic
public import Idealize.ShloMosaic.Lib.Transfers
public import Idealize.ShloMosaic.Lib.WritesUnit
public import Idealize.ShloMosaic.Lib.Pipeline.Value
public import proofs.«01_k».proof.Proof.Gen.KernelIdeal

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra -/

abbrev UH : Type := URounds (GSem nD τ sig) ℕ
/-- The pipeline rounds the TensorCore call runs its windows by. -/
abbrev UP : Type := URounds (GSem nD τ sig) Unit
/-- The user component: the launch rounds, the pipeline rounds and the transfer counters. -/
abbrev UU : Type := UH × (UP × Counters)

/-- The machine's algebra at this program. -/
abbrev MM (F : FTy → Type) : Type := MT nD τ sig (HIx 1) (Elt F) ℕ UU ℕ

abbrev 𝒱₀ : Variants := Variants.none

/-- The tile at grid coordinates `i` of device `d`. -/
abbrev thr (d : Dev nD) (i : grid0.Coords) : Thread nD τ := V d ((i 0).castLE hcore0) ((i 1).castLE hsub0)

variable [FloatOps F]

/-- The weakest precondition of a tile's program, the kernels' bodies called by their labels. -/
abbrev WP (d : Dev nD) (i : grid0.Coords) {α : Type}
    (p : Prog (TpuEff nD τ sig (Elt F) Λ₀ (.scVector ((i 0).castLE hcore0) ((i 1).castLE hsub0))) α)
    (Q : α → sProp (MM F)) : sProp (MM F) :=
  wp (M := MM F) frame (wpE (defs₀ (F := F)) 𝒱₀ (thr d i) none) Set.univ p Q

/-- A tile's program. -/
abbrev TProg (F : FTy → Type) (i : grid0.Coords) (α : Type) : Type 1 :=
  Prog (TpuEff nD τ sig (Elt F) Λ₀ (.scVector ((i 0).castLE hcore0) ((i 1).castLE hsub0))) α

/-! ## Holding a scratch buffer at given contents -/

section Hold

variable (d : Dev nD) (i : grid0.Coords)

/-- The tile holds the elements `S` of the buffer under `m`, which read through `m` as `X` wherever `P` says so. -/
def HeldOn {cs : CoreSpace} {s : Shape} {e : EltTy} (m : Memref sig .scVector cs s e) (S : Finset (Idx (m.view.loc (thr d i))))
    (P : s.Idx → Prop) (X : s.Idx → Elt F e) : sProp (MM F) :=
  iprop(∃ f : Buf (Elt F) (m.view.loc (thr d i)), (m.view.loc (thr d i) ↦[S]{fullShare} f)
    ∗ ⌜∀ j, P j → m.view.read (Elt F) f j = X j⌝)

/-- The tile holds the whole buffer under `m`, which reads through `m` as `X`. -/
abbrev Held {cs : CoreSpace} {s : Shape} {e : EltTy} (m : Memref sig .scVector cs s e) (X : s.Idx → Elt F e) : sProp (MM F) :=
  HeldOn (F := F) d i m Finset.univ (fun _ => True) X

theorem HeldOn_congr {cs : CoreSpace} {s : Shape} {e : EltTy} {m : Memref sig .scVector cs s e} {S : Finset (Idx (m.view.loc (thr d i)))}
    {P : s.Idx → Prop} {X Y : s.Idx → Elt F e} (h : ∀ j, P j → X j = Y j) :
    HeldOn (F := F) d i m S P X ⊢ HeldOn (F := F) d i m S P Y := by
  unfold HeldOn
  iintro ⟨%f, Hf, %hf⟩
  iexists f
  isplitl [Hf]; · iexact Hf
  ipureintro; exact fun j hj => (hf j hj).trans (h j hj)

variable {α : Type} {Q : α → sProp (MM F)}

/-- A vector load of a unit rectangle inside the held elements reads the held contents there. -/
theorem wp_load_held {cs : CoreSpace} {s : Shape} {e : EltTy} {m : Memref sig .scVector cs s e} {S : Finset (Idx (m.view.loc (thr d i)))}
    {P : s.Idx → Prop} {X : s.Idx → Elt F e} {r : Rect s} {hl : m.view.LoadsAt r.toLoadRect}
    {k : (r.shape.Idx → Elt F e) → TProg F i α} (hS : m.view.setOn r.set ⊆ S) (hP : ∀ x, P (r.emb x)) :
    HeldOn (F := F) d i m S P X ⊢ iprop((HeldOn (F := F) d i m S P X -∗ WP d i (k (fun x => X (r.emb x))) Q)
      -∗ WP d i (.op (.load m r.toLoadRect hl) k) Q) := by
  unfold HeldOn
  iintro ⟨%f, Hf, %hf⟩ Hk
  iapply (wp_load 𝒱₀ (thr d i) none Set.univ (m := m) (r := r.toLoadRect) (S := S) hS) $$ Hf
  iintro Hf
  have : m.view.readAt (Elt F) r.toLoadRect f = fun x => X (r.emb x) :=
    funext fun x => (View.readAt_apply ..).trans (hf _ (hP x))
  rw [this]
  iapply Hk
  iexists f
  isplitl [Hf]; · iexact Hf
  ipureintro; exact hf

/-- A vector store into a unit rectangle of a buffer held whole. -/
theorem wp_store_held {cs : CoreSpace} {s : Shape} {e : EltTy} {m : Memref sig .scVector cs s e}
    {X Y : s.Idx → Elt F e} {off size : Fin s.rank → ℕ} {inb : ∀ a, off a + size a ≤ s.size a}
    {w : (Rect.unit off size inb).shape.Idx → Elt F e}
    {hx : (m.access (Rect.unit off size inb)).Stores Finset.univ} {hm : Finset.univ = Finset.univ ∨ ∀ a, (Rect.unit off size inb).stride a = 1}
    {k : PUnit → TProg F i α}
    (hY : ∀ y, Y y = if h : ∀ a, off a ≤ (y a).val ∧ (y a).val < off a + size a then
          w (Rect.unitLocal (s := s) (off := off) (size := size) y h) else X y) :
    Held (F := F) d i m X ⊢ iprop((Held (F := F) d i m Y -∗ WP d i (k ⟨⟩) Q)
      -∗ WP d i (.op (.store m (Rect.unit off size inb) w Finset.univ hx hm) k) Q) := by
  unfold Held HeldOn
  iintro ⟨%f, Hf, %hf⟩ Hk
  iapply (wp_store_writes₀ 𝒱₀ (thr d i) none Set.univ (m := m) (r := Rect.unit off size inb) (w := w) (S := Finset.univ) (Finset.subset_univ _)) $$ Hf
  iintro Hf
  iapply Hk
  iexists _
  isplitl [Hf]; · iexact Hf
  ipureintro
  intro j _
  rw [View.read_writes_cons_unit m.view f inb w [] j rfl, hY]
  split
  · rfl
  · exact hf j trivial

/-- A scalar load of a one-element buffer held whole. -/
theorem wp_smem_held {m : Memref sig .scVector .smem S1 .i32} {X : S1.Idx → Elt F .i32} {r : Rect S1}
    {hl : m.view.LoadsAt r.toLoadRect} {x : r.shape.Idx} {k : Elt F .i32 → TProg F i α} :
    Held (F := F) d i m X ⊢ iprop((Held (F := F) d i m X -∗ WP d i (k (X (r.emb x))) Q)
      -∗ WP d i (.op (.load m r.toLoadRect hl) (fun f => k (f x))) Q) :=
  wp_load_held (F := F) d i (k := fun f => k (f x)) (Finset.subset_univ _) (fun _ => trivial)

end Hold

end Cert.Proof.SegMax
end
-- ==== Proof.Chains.lean ====
/-
  The straight-line stretches of the tile's body, each proved once for any continuation: the eight-lane maximum of one
  row into the running segment's buffer, the flush of that buffer into the accumulator and its reset, the tree maximum's
  loads, the scalar loads and stores. The body repeats each many times; a later module applies these where they occur.
-/
module

public import proofs.«01_k».proof.Proof.Base

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The tile's state -/

/-- The kernel's maximum of two values, and the value it starts from. -/
abbrev mx (a b : F .f32) : F .f32 := FloatOps.maximumf a b
abbrev ninf : F .f32 := FloatOps.ofBits .f32 0xFF800000#32

/-- What a tile carries between rows: the accumulator (row `s` at words `[128 s, 128 s + 128)`), the running segment's
    maximum, and the running segment. -/
structure SS (F : FTy → Type) where
  acc : ℕ → F .f32
  cur : ℕ → F .f32
  prev : BitVec 32

/-- The accumulator with the running maximum `cur` folded into row `q`. -/
def flushA (acc cur : ℕ → F .f32) (q : ℕ) : ℕ → F .f32 :=
  fun w => if 128 * q ≤ w ∧ w < 128 * q + 128 then mx (acc w) (cur (w - 128 * q)) else acc w

/-- The step before a row of segment `sid`: a new segment flushes the running one. -/
def flushS (sid : BitVec 32) (s : SS F) : SS F :=
  if sid = s.prev then s else ⟨flushA s.acc s.cur s.prev.toNat, fun _ => ninf, sid⟩

/-- The step of one row: the flush, then the row's maximum into the running segment. -/
def rowS (sid : BitVec 32) (row : ℕ → F .f32) (s : SS F) : SS F :=
  ⟨(flushS sid s).acc, fun k => mx ((flushS sid s).cur k) (row k), (flushS sid s).prev⟩

/-- `G` on the first `n` words, `cur` on the rest. -/
def mix (n : ℕ) (G cur : ℕ → F .f32) : ℕ → F .f32 := fun k => if k < n then G k else cur k

/-- The flat buffer contents `acc`, and the rank-1 and rank-2 scratches' contents, over their indices. -/
abbrev c1 {n : ℕ} {α : Type} (a : ℕ → α) : (⟨1, ![n]⟩ : Shape).Idx → α := fun j => a (j 0).val
abbrev c2 {n m : ℕ} {α : Type} (a : ℕ → ℕ → α) : (⟨2, ![n, m]⟩ : Shape).Idx → α := fun j => a (j 0).val (j 1).val

section Chains

variable (d : Dev nD) (i : grid0.Coords)
variable (arg5 : Memref sig .scVector .vmem S512x128 .f32) (arg6 : Memref sig .scVector .vmem S512 .i32)
variable (arg7 : Memref sig .scVector .vmem S32896 .f32) (arg8 : Memref sig .scVector .vmem S128 .f32) (arg9 : Memref sig .scVector .smem S1 .i32)

/-- The tile holds its accumulator, running maximum and running segment at the state `s`; `Fr` besides. -/
def T3 (s : SS F) (Fr : sProp (MM F)) : sProp (MM F) :=
  iprop(Held (F := F) d i arg7 (c1 s.acc) ∗ Held (F := F) d i arg8 (c1 s.cur) ∗ Held (F := F) d i arg9 (fun _ => s.prev) ∗ Fr)

/-- The elements of the fetched rows' buffer at rows `[o, o + 256)`, and of the fetched ids' at those places. -/
def slot5 (o : ℕ) : Finset (Idx (arg5.view.loc (thr d i))) :=
  arg5.view.setOn (Finset.univ.filter fun j : S512x128.Idx => o ≤ (j 0).val ∧ (j 0).val < o + 256)
def slot6 (o : ℕ) : Finset (Idx (arg6.view.loc (thr d i))) :=
  arg6.view.setOn (Finset.univ.filter fun j : S512.Idx => o ≤ (j 0).val ∧ (j 0).val < o + 256)

/-- The tile holds the half of the fetch buffers at rows `[o, o + 256)`: the rows `B`, the ids `I`. -/
def Slot (o : ℕ) (B : ℕ → ℕ → F .f32) (I : ℕ → BitVec 32) (Fr : sProp (MM F)) : sProp (MM F) :=
  iprop(HeldOn (F := F) d i arg5 (slot5 d i arg5 o) (fun j => o ≤ (j 0).val ∧ (j 0).val < o + 256) (c2 B)
    ∗ HeldOn (F := F) d i arg6 (slot6 d i arg6 o) (fun j => o ≤ (j 0).val ∧ (j 0).val < o + 256) (c1 I) ∗ Fr)

variable {d i arg5 arg6 arg7 arg8 arg9}
variable {α : Type} {Q : α → sProp (MM F)}

theorem T3_congr {s s' : SS F} {Fr : sProp (MM F)} (ha : ∀ w, w < 32896 → s.acc w = s'.acc w) (hc : ∀ k, k < 128 → s.cur k = s'.cur k)
    (hp : s.prev = s'.prev) : T3 d i arg7 arg8 arg9 s Fr ⊢ T3 d i arg7 arg8 arg9 s' Fr := by
  unfold T3
  rw [hp]
  exact BIClass.sep_mono (HeldOn_congr d i fun j _ => ha _ (j 0).isLt) (BIClass.sep_mono (HeldOn_congr d i fun j _ => hc _ (j 0).isLt) .rfl)

theorem T3_congr' {s s' : SS F} {Fr X : sProp (MM F)} (ha : ∀ w, w < 32896 → s.acc w = s'.acc w) (hc : ∀ k, k < 128 → s.cur k = s'.cur k)
    (hp : s.prev = s'.prev) (h : T3 d i arg7 arg8 arg9 s' Fr ⊢ X) : T3 d i arg7 arg8 arg9 s Fr ⊢ X :=
  (T3_congr ha hc hp).trans h

/-! ## One lane group -/

theorem c1_mix (n N : ℕ) (G cur : ℕ → F .f32) (off : Fin 1 → ℕ) (hoff : off = ![n]) (w : (⟨1, ![16]⟩ : Shape).Idx → F .f32)
    (hw : ∀ x : (⟨1, ![16]⟩ : Shape).Idx, w x = G (n + (x 0).val)) (y : (⟨1, ![N]⟩ : Shape).Idx) :
    (c1 (mix (n + 16) G cur) : (⟨1, ![N]⟩ : Shape).Idx → F .f32) y
      = if h : ∀ a : Fin 1, off a ≤ (y a).val ∧ (y a).val < off a + S16.size a then
          w (Rect.unitLocal (s := ⟨1, ![N]⟩) (off := off) (size := S16.size) y h)
        else (c1 (mix n G cur) : (⟨1, ![N]⟩ : Shape).Idx → F .f32) y := by
  subst hoff
  split
  · rename_i h
    rw [hw]
    have h0 := h 0
    have e1 : ((![n] : Fin 1 → ℕ) 0) = n := rfl
    have e2 : S16.size 0 = 16 := rfl
    rw [e1, e2] at h0
    have e : n + (Rect.unitLocal (s := ⟨1, ![N]⟩) (off := ![n]) (size := S16.size) y h 0).val = (y 0).val := by
      rw [Rect.unitLocal_val]; show n + ((y 0).val - n) = _; omega
    rw [e]
    show mix (n + 16) G cur (y 0).val = _
    rw [mix, if_pos (by omega)]
  · rename_i h
    have hn : ¬(n ≤ (y 0).val ∧ (y 0).val < n + 16) := fun hh => h (fun a => by
      have : a = 0 := Subsingleton.elim _ _
      subst this; exact hh)
    show mix (n + 16) G cur (y 0).val = mix n G cur (y 0).val
    unfold mix
    by_cases h1 : (y 0).val < n
    · rw [if_pos (by omega), if_pos h1]
    · rw [if_neg (by omega), if_neg h1]

/-- A read of 16 consecutive words of a rank-1 buffer. -/
theorem c1_emb (n N : ℕ) (a : ℕ → F .f32) (off : Fin 1 → ℕ) (inb : ∀ k, off k + S16.size k ≤ (⟨1, ![N]⟩ : Shape).size k) (hoff : off = ![n])
    (x : (⟨1, ![16]⟩ : Shape).Idx) :
    (c1 a : (⟨1, ![N]⟩ : Shape).Idx → F .f32) ((Rect.unit (s := ⟨1, ![N]⟩) off S16.size inb).emb x) = a (n + (x 0).val) := by
  subst hoff
  show a (n + 1 * (x 0).val) = _
  rw [Nat.one_mul]

/-- A read of 16 consecutive words of one row of the fetched rows' buffer, read as a vector of 16. -/
theorem c2_emb (R n : ℕ) (B : ℕ → ℕ → F .f32) (off : Fin 2 → ℕ) (inb : ∀ k, off k + S1x16.size k ≤ S512x128.size k) (hoff : off = ![R, n])
    (h : S1x16.ShapeCasts S16) (x : S16.Idx) :
    shapeCast S16 (fun y : S1x16.Idx => (c2 B : S512x128.Idx → F .f32) ((Rect.unit (s := S512x128) off S1x16.size inb).emb y)) h x = B R (n + (x 0).val) := by
  subst hoff
  rw [shapeCast_dropUnit_apply]
  show B (R + 1 * 0) (n + 1 * (x 0).val) = _
  rw [Nat.one_mul, Nat.one_mul, Nat.add_zero]

theorem row_in {R n o : ℕ} {off : Fin 2 → ℕ} {inb : ∀ k, off k + S1x16.size k ≤ S512x128.size k} (hoff : off = ![R, n])
    (hR : o ≤ R ∧ R < o + 256) (x : (Rect.unit (s := S512x128) off S1x16.size inb).shape.Idx) :
    o ≤ ((Rect.unit (s := S512x128) off S1x16.size inb).emb x 0).val ∧ ((Rect.unit (s := S512x128) off S1x16.size inb).emb x 0).val < o + 256 := by
  subst hoff
  have h1 : (x 0).val < 1 := (x 0).isLt
  have : ((Rect.unit (s := S512x128) ![R, n] S1x16.size inb).emb x 0).val = R := by
    show R + 1 * (x 0).val = R; omega
  rw [this]; exact hR

theorem row_subset {R n o : ℕ} {off : Fin 2 → ℕ} {inb : ∀ k, off k + S1x16.size k ≤ S512x128.size k} (hoff : off = ![R, n])
    (hR : o ≤ R ∧ R < o + 256) : arg5.view.setOn (Rect.unit (s := S512x128) off S1x16.size inb).set ⊆ slot5 d i arg5 o := by
  refine Finset.map_subset_map.mpr fun j hj => ?_
  rw [← Rect.map_emb_univ, Finset.mem_map] at hj
  obtain ⟨x, -, rfl⟩ := hj
  exact Finset.mem_filter.mpr ⟨Finset.mem_univ _, row_in hoff hR x⟩

theorem ids_in {R o : ℕ} {off : Fin 1 → ℕ} {inb : ∀ k, off k + S16.size k ≤ S512.size k} (hoff : off = ![R])
    (hR : o ≤ R ∧ R + 16 ≤ o + 256) (x : (Rect.unit (s := S512) off S16.size inb).shape.Idx) :
    o ≤ ((Rect.unit (s := S512) off S16.size inb).emb x 0).val ∧ ((Rect.unit (s := S512) off S16.size inb).emb x 0).val < o + 256 := by
  subst hoff
  have h1 : (x 0).val < 16 := (x 0).isLt
  have : ((Rect.unit (s := S512) ![R] S16.size inb).emb x 0).val = R + (x 0).val := by
    show R + 1 * (x 0).val = _; omega
  rw [this]; omega

theorem ids_subset {R o : ℕ} {off : Fin 1 → ℕ} {inb : ∀ k, off k + S16.size k ≤ S512.size k} (hoff : off = ![R])
    (hR : o ≤ R ∧ R + 16 ≤ o + 256) : arg6.view.setOn (Rect.unit (s := S512) off S16.size inb).set ⊆ slot6 d i arg6 o := by
  refine Finset.map_subset_map.mpr fun j hj => ?_
  rw [← Rect.map_emb_univ, Finset.mem_map] at hj
  obtain ⟨x, -, rfl⟩ := hj
  exact Finset.mem_filter.mpr ⟨Finset.mem_univ _, ids_in hoff hR x⟩

/-- One lane group of a row's maximum into the running segment's buffer. -/
theorem lane_max {s : SS F} {o : ℕ} {B : ℕ → ℕ → F .f32} {I : ℕ → BitVec 32} {Fr : sProp (MM F)} {G cur : ℕ → F .f32} {R : ℕ} {n : ℕ} {inb : ∀ a, (![n] : Fin 1 → ℕ) a + S16.size a ≤ S128.size a} {off : Fin 2 → ℕ} {p : ∀ a, off a + S1x16.size a ≤ S512x128.size a}
    {h0 h2 : arg8.view.LoadsAt (Rect.unit (s := S128) ![n] S16.size inb).toLoadRect} {h1 : arg5.view.LoadsAt (Rect.unit (s := S512x128) off S1x16.size p).toLoadRect} {hx : (arg8.access (Rect.unit (s := S128) ![n] S16.size inb)).Stores Finset.univ} {hm : Finset.univ = Finset.univ ∨ ∀ a, (Rect.unit (s := S128) ![n] S16.size inb).stride a = 1}
    {rest : TProg F i α} (hG : ∀ k, n ≤ k → G k = mx (cur k) (B R k)) (hR : o ≤ R ∧ R < o + 256) (hoff : off = ![R, n])
    (h : T3 d i arg7 arg8 arg9 ⟨s.acc, mix (n + 16) G cur, s.prev⟩ (Slot d i arg5 arg6 o B I Fr) ⊢ WP d i rest Q) :
    T3 d i arg7 arg8 arg9 ⟨s.acc, mix n G cur, s.prev⟩ (Slot d i arg5 arg6 o B I Fr)
      ⊢ WP d i (.op (.load arg8 (Rect.unit (s := S128) ![n] S16.size inb).toLoadRect h0) fun (a : Vec F S16 .f32) =>
        .op (.load arg5 (Rect.unit (s := S512x128) off S1x16.size p).toLoadRect h1) fun (b : Vec F S1x16 .f32) =>
        .op (.load arg8 (Rect.unit (s := S128) ![n] S16.size inb).toLoadRect h2) fun (_ : Vec F S16 .f32) =>
        .op (.store arg8 (Rect.unit (s := S128) ![n] S16.size inb) (shapeCast S16 (maximumf (shapeCast S16 a shapeCasts_S16_S16) (shapeCast S16 b shapeCasts_S1x16_S16)) shapeCasts_S16_S16) Finset.univ hx hm) fun _ => rest) Q := by
  unfold T3 Slot at h ⊢
  iintro ⟨H7, H8, H9, H5, H6, HF⟩
  iapply (wp_load_held (F := F) d i (m := arg8) (r := (Rect.unit (s := S128) ![n] S16.size inb)) (Finset.subset_univ _) (fun _ => trivial)) $$ H8
  iintro H8
  iapply (wp_load_held (F := F) d i (m := arg5) (r := (Rect.unit (s := S512x128) off S1x16.size p)) (row_subset hoff hR) (row_in hoff hR)) $$ H5
  iintro H5
  iapply (wp_load_held (F := F) d i (m := arg8) (r := (Rect.unit (s := S128) ![n] S16.size inb)) (Finset.subset_univ _) (fun _ => trivial)) $$ H8
  iintro H8
  iapply (wp_store_held (F := F) d i (m := arg8) (Y := c1 (mix (n + 16) G cur)) (c1_mix n 128 G cur ![n] rfl _ ?_)) $$ H8
  · intro x
    rw [shapeCast_self]
    refine (congrArg₂ mx ((congrFun (shapeCast_self _ _) x).trans (c1_emb n 128 _ ![n] inb rfl x)) (c2_emb R n B off p hoff _ x)).trans ?_
    rw [hG _ (Nat.le_add_right _ _)]
    show mx (mix n G cur _) _ = _
    rw [mix, if_neg (by omega)]
  iintro H8
  iapply h
  isplitl [H7]; · iexact H7
  isplitl [H8]; · iexact H8
  isplitl [H9]; · iexact H9
  isplitl [H5]; · iexact H5
  isplitl [H6]; · iexact H6
  iexact HF

/-- One lane group of a group's maximum `g` into the running segment's buffer. -/
theorem lane_fast {s : SS F} {Fr : sProp (MM F)} {G cur : ℕ → F .f32} {g : FVec F S16 .f32} {n : ℕ} {inb : ∀ a, (![n] : Fin 1 → ℕ) a + S16.size a ≤ S128.size a} {h0 h2 : arg8.view.LoadsAt (Rect.unit (s := S128) ![n] S16.size inb).toLoadRect} {hx : (arg8.access (Rect.unit (s := S128) ![n] S16.size inb)).Stores Finset.univ} {hm : Finset.univ = Finset.univ ∨ ∀ a, (Rect.unit (s := S128) ![n] S16.size inb).stride a = 1}
    {rest : TProg F i α} (hG : ∀ x : S16.Idx, G (n + (x 0).val) = mx (cur (n + (x 0).val)) (g x))
    (h : T3 d i arg7 arg8 arg9 ⟨s.acc, mix (n + 16) G cur, s.prev⟩ Fr ⊢ WP d i rest Q) :
    T3 d i arg7 arg8 arg9 ⟨s.acc, mix n G cur, s.prev⟩ Fr
      ⊢ WP d i (.op (.load arg8 (Rect.unit (s := S128) ![n] S16.size inb).toLoadRect h0) fun (a : Vec F S16 .f32) =>
        .op (.load arg8 (Rect.unit (s := S128) ![n] S16.size inb).toLoadRect h2) fun (_ : Vec F S16 .f32) =>
        .op (.store arg8 (Rect.unit (s := S128) ![n] S16.size inb) (shapeCast S16 (maximumf (shapeCast S16 a shapeCasts_S16_S16) g) shapeCasts_S16_S16) Finset.univ hx hm) fun _ => rest) Q := by
  unfold T3 at h ⊢
  iintro ⟨H7, H8, H9, HF⟩
  iapply (wp_load_held (F := F) d i (m := arg8) (r := (Rect.unit (s := S128) ![n] S16.size inb)) (Finset.subset_univ _) (fun _ => trivial)) $$ H8
  iintro H8
  iapply (wp_load_held (F := F) d i (m := arg8) (r := (Rect.unit (s := S128) ![n] S16.size inb)) (Finset.subset_univ _) (fun _ => trivial)) $$ H8
  iintro H8
  iapply (wp_store_held (F := F) d i (m := arg8) (Y := c1 (mix (n + 16) G cur)) (c1_mix n 128 G cur ![n] rfl _ ?_)) $$ H8
  · intro x
    rw [shapeCast_self]
    refine (congrArg₂ mx ((congrFun (shapeCast_self _ _) x).trans (c1_emb n 128 _ ![n] inb rfl x)) rfl).trans ?_
    rw [hG]
    show mx (mix n G cur _) _ = _
    rw [mix, if_neg (by omega)]
  iintro H8
  iapply h
  isplitl [H7]; · iexact H7
  isplitl [H8]; · iexact H8
  isplitl [H9]; · iexact H9
  iexact HF

/-- One lane group of the running segment's buffer set to `v`. -/
theorem lane_reset {s : SS F} {Fr : sProp (MM F)} {G cur : ℕ → F .f32} {v : FVec F S16 .f32} {n : ℕ} {inb : ∀ a, (![n] : Fin 1 → ℕ) a + S16.size a ≤ S128.size a} {h0 : arg8.view.LoadsAt (Rect.unit (s := S128) ![n] S16.size inb).toLoadRect} {hx : (arg8.access (Rect.unit (s := S128) ![n] S16.size inb)).Stores Finset.univ} {hm : Finset.univ = Finset.univ ∨ ∀ a, (Rect.unit (s := S128) ![n] S16.size inb).stride a = 1}
    {rest : TProg F i α} (hG : ∀ x : S16.Idx, v x = G (n + (x 0).val))
    (h : T3 d i arg7 arg8 arg9 ⟨s.acc, mix (n + 16) G cur, s.prev⟩ Fr ⊢ WP d i rest Q) :
    T3 d i arg7 arg8 arg9 ⟨s.acc, mix n G cur, s.prev⟩ Fr
      ⊢ WP d i (.op (.load arg8 (Rect.unit (s := S128) ![n] S16.size inb).toLoadRect h0) fun (_ : Vec F S16 .f32) =>
        .op (.store arg8 (Rect.unit (s := S128) ![n] S16.size inb) (shapeCast S16 v shapeCasts_S16_S16) Finset.univ hx hm) fun _ => rest) Q := by
  unfold T3 at h ⊢
  iintro ⟨H7, H8, H9, HF⟩
  iapply (wp_load_held (F := F) d i (m := arg8) (r := (Rect.unit (s := S128) ![n] S16.size inb)) (Finset.subset_univ _) (fun _ => trivial)) $$ H8
  iintro H8
  iapply (wp_store_held (F := F) d i (m := arg8) (Y := c1 (mix (n + 16) G cur)) (c1_mix n 128 G cur ![n] rfl _ ?_)) $$ H8
  · intro x
    rw [shapeCast_self, hG]
  iintro H8
  iapply h
  isplitl [H7]; · iexact H7
  isplitl [H8]; · iexact H8
  isplitl [H9]; · iexact H9
  iexact HF

/-- `G` on the words `[m, n)`, `acc` on the rest. -/
def mixA (m n : ℕ) (G acc : ℕ → F .f32) : ℕ → F .f32 := fun k => if m ≤ k ∧ k < n then G k else acc k

theorem c1_mixA (m n N : ℕ) (hmn : m ≤ n) (G cur : ℕ → F .f32) (off : Fin 1 → ℕ) (hoff : off = ![n]) (w : (⟨1, ![16]⟩ : Shape).Idx → F .f32)
    (hw : ∀ x : (⟨1, ![16]⟩ : Shape).Idx, w x = G (n + (x 0).val)) (y : (⟨1, ![N]⟩ : Shape).Idx) :
    (c1 (mixA m (n + 16) G cur) : (⟨1, ![N]⟩ : Shape).Idx → F .f32) y
      = if h : ∀ a : Fin 1, off a ≤ (y a).val ∧ (y a).val < off a + S16.size a then
          w (Rect.unitLocal (s := ⟨1, ![N]⟩) (off := off) (size := S16.size) y h)
        else (c1 (mixA m n G cur) : (⟨1, ![N]⟩ : Shape).Idx → F .f32) y := by
  have := c1_mix n N G (mixA m n G cur) off hoff w hw y
  have e1 : mixA m (n + 16) G cur (y 0).val = if n ≤ (y 0).val ∧ (y 0).val < n + 16 then G (y 0).val else mixA m n G cur (y 0).val := by
    unfold mixA
    by_cases h1 : m ≤ (y 0).val <;> by_cases h2 : (y 0).val < n <;> by_cases h3 : (y 0).val < n + 16 <;>
      simp only [h1, h2, h3, true_and, and_true, false_and, and_false, if_true, if_false] <;> (try (split <;> first | rfl | omega)) <;> omega
  subst hoff
  split
  · rename_i h
    have h0 := h 0
    have a1 : ((![n] : Fin 1 → ℕ) 0) = n := rfl
    have a2 : S16.size 0 = 16 := rfl
    rw [a1, a2] at h0
    rw [dif_pos h] at this
    rw [← this]
    show mixA m (n + 16) G cur (y 0).val = mix (n + 16) G _ (y 0).val
    rw [e1, if_pos h0, mix, if_pos (by omega)]
  · rename_i h
    have hn : ¬(n ≤ (y 0).val ∧ (y 0).val < n + 16) := fun hh => h (fun a => by
      have : a = 0 := Subsingleton.elim _ _
      subst this; exact hh)
    show mixA m (n + 16) G cur (y 0).val = mixA m n G cur (y 0).val
    rw [e1, if_neg hn]

/-- One lane group of the running segment's maximum folded into row `q` of the accumulator. -/
theorem lane_flush {s : SS F} {Fr : sProp (MM F)} {G acc : ℕ → F .f32} {q : ℕ} {n : ℕ} {inb : ∀ a, (![n] : Fin 1 → ℕ) a + S16.size a ≤ S128.size a} {off : Fin 1 → ℕ} {p : ∀ a, off a + S16.size a ≤ S32896.size a}
    {h0 h2 : arg7.view.LoadsAt (Rect.unit (s := S32896) off S16.size p).toLoadRect} {h1 : arg8.view.LoadsAt (Rect.unit (s := S128) ![n] S16.size inb).toLoadRect} {hx : (arg7.access (Rect.unit (s := S32896) off S16.size p)).Stores Finset.univ} {hm : Finset.univ = Finset.univ ∨ ∀ a, (Rect.unit (s := S32896) off S16.size p).stride a = 1}
    {rest : TProg F i α} (hG : ∀ k, G (q + k) = mx (acc (q + k)) (s.cur k)) (hoff : off = ![q + n])
    (h : T3 d i arg7 arg8 arg9 ⟨mixA q (q + (n + 16)) G acc, s.cur, s.prev⟩ Fr ⊢ WP d i rest Q) :
    T3 d i arg7 arg8 arg9 ⟨mixA q (q + n) G acc, s.cur, s.prev⟩ Fr
      ⊢ WP d i (.op (.load arg7 (Rect.unit (s := S32896) off S16.size p).toLoadRect h0) fun (a : Vec F S16 .f32) =>
        .op (.load arg8 (Rect.unit (s := S128) ![n] S16.size inb).toLoadRect h1) fun (b : Vec F S16 .f32) =>
        .op (.load arg7 (Rect.unit (s := S32896) off S16.size p).toLoadRect h2) fun (_ : Vec F S16 .f32) =>
        .op (.store arg7 (Rect.unit (s := S32896) off S16.size p) (shapeCast S16 (maximumf (shapeCast S16 a shapeCasts_S16_S16) (shapeCast S16 b shapeCasts_S16_S16)) shapeCasts_S16_S16) Finset.univ hx hm) fun _ => rest) Q := by
  rw [← Nat.add_assoc] at h
  unfold T3 at h ⊢
  iintro ⟨H7, H8, H9, HF⟩
  iapply (wp_load_held (F := F) d i (m := arg7) (r := (Rect.unit (s := S32896) off S16.size p)) (Finset.subset_univ _) (fun _ => trivial)) $$ H7
  iintro H7
  iapply (wp_load_held (F := F) d i (m := arg8) (r := (Rect.unit (s := S128) ![n] S16.size inb)) (Finset.subset_univ _) (fun _ => trivial)) $$ H8
  iintro H8
  iapply (wp_load_held (F := F) d i (m := arg7) (r := (Rect.unit (s := S32896) off S16.size p)) (Finset.subset_univ _) (fun _ => trivial)) $$ H7
  iintro H7
  iapply (wp_store_held (F := F) d i (m := arg7) (Y := c1 (mixA q (q + n + 16) G acc)) (c1_mixA q (q + n) 32896 (Nat.le_add_right _ _) G acc off hoff _ ?_)) $$ H7
  · intro x
    rw [shapeCast_self]
    refine (congrArg₂ mx ((congrFun (shapeCast_self _ _) x).trans (c1_emb (q + n) 32896 _ off p hoff x))
      ((congrFun (shapeCast_self _ _) x).trans (c1_emb n 128 _ ![n] inb rfl x))).trans ?_
    rw [Nat.add_assoc, hG]
    show mx (mixA q (q + n) G acc _) _ = _
    rw [mixA, if_neg (by omega)]
  iintro H7
  iapply h
  isplitl [H7]; · iexact H7
  isplitl [H8]; · iexact H8
  isplitl [H9]; · iexact H9
  iexact HF

/-- One lane group of row `q` of the accumulator set to `v`. -/
theorem lane_init {s : SS F} {Fr : sProp (MM F)} {G acc : ℕ → F .f32} {q n : ℕ} {v : FVec F S16 .f32} {off : Fin 1 → ℕ} {p : ∀ a, off a + S16.size a ≤ S32896.size a} {h0 : arg7.view.LoadsAt (Rect.unit (s := S32896) off S16.size p).toLoadRect} {hx : (arg7.access (Rect.unit (s := S32896) off S16.size p)).Stores Finset.univ} {hm : Finset.univ = Finset.univ ∨ ∀ a, (Rect.unit (s := S32896) off S16.size p).stride a = 1}
    {rest : TProg F i α} (hG : ∀ x : S16.Idx, v x = G (q + n + (x 0).val)) (hoff : off = ![q + n])
    (h : T3 d i arg7 arg8 arg9 ⟨mixA q (q + (n + 16)) G acc, s.cur, s.prev⟩ Fr ⊢ WP d i rest Q) :
    T3 d i arg7 arg8 arg9 ⟨mixA q (q + n) G acc, s.cur, s.prev⟩ Fr
      ⊢ WP d i (.op (.load arg7 (Rect.unit (s := S32896) off S16.size p).toLoadRect h0) fun (_ : Vec F S16 .f32) =>
        .op (.store arg7 (Rect.unit (s := S32896) off S16.size p) (shapeCast S16 v shapeCasts_S16_S16) Finset.univ hx hm) fun _ => rest) Q := by
  rw [← Nat.add_assoc] at h
  unfold T3 at h ⊢
  iintro ⟨H7, H8, H9, HF⟩
  iapply (wp_load_held (F := F) d i (m := arg7) (r := (Rect.unit (s := S32896) off S16.size p)) (Finset.subset_univ _) (fun _ => trivial)) $$ H7
  iintro H7
  iapply (wp_store_held (F := F) d i (m := arg7) (Y := c1 (mixA q (q + n + 16) G acc)) (c1_mixA q (q + n) 32896 (Nat.le_add_right _ _) G acc off hoff _ ?_)) $$ H7
  · intro x
    rw [shapeCast_self, hG]
  iintro H7
  iapply h
  isplitl [H7]; · iexact H7
  isplitl [H8]; · iexact H8
  isplitl [H9]; · iexact H9
  iexact HF

/-! ## Eight lane groups at once -/

/-- A row's maximum into the running segment's buffer. -/
theorem lanes {s : SS F} {o : ℕ} {B : ℕ → ℕ → F .f32} {I : ℕ → BitVec 32} {Fr : sProp (MM F)} {off0 off1 off2 off3 off4 off5 off6 off7 : Fin 2 → ℕ}
    {p0 : ∀ a, off0 a + S1x16.size a ≤ S512x128.size a} {p1 : ∀ a, off1 a + S1x16.size a ≤ S512x128.size a} {p2 : ∀ a, off2 a + S1x16.size a ≤ S512x128.size a} {p3 : ∀ a, off3 a + S1x16.size a ≤ S512x128.size a} {p4 : ∀ a, off4 a + S1x16.size a ≤ S512x128.size a} {p5 : ∀ a, off5 a + S1x16.size a ≤ S512x128.size a} {p6 : ∀ a, off6 a + S1x16.size a ≤ S512x128.size a} {p7 : ∀ a, off7 a + S1x16.size a ≤ S512x128.size a}
    {h0 g0 : arg8.view.LoadsAt (Rect.unit (s := S128) ![0] S16.size inb_S128_S16_0).toLoadRect} {f0 : arg5.view.LoadsAt (Rect.unit (s := S512x128) off0 S1x16.size p0).toLoadRect} {x0 : (arg8.access (Rect.unit (s := S128) ![0] S16.size inb_S128_S16_0)).Stores Finset.univ} {m0 : Finset.univ = Finset.univ ∨ ∀ a, (Rect.unit (s := S128) ![0] S16.size inb_S128_S16_0).stride a = 1}
    {h1 g1 : arg8.view.LoadsAt (Rect.unit (s := S128) ![16] S16.size inb_S128_S16_16).toLoadRect} {f1 : arg5.view.LoadsAt (Rect.unit (s := S512x128) off1 S1x16.size p1).toLoadRect} {x1 : (arg8.access (Rect.unit (s := S128) ![16] S16.size inb_S128_S16_16)).Stores Finset.univ} {m1 : Finset.univ = Finset.univ ∨ ∀ a, (Rect.unit (s := S128) ![16] S16.size inb_S128_S16_16).stride a = 1}
    {h2 g2 : arg8.view.LoadsAt (Rect.unit (s := S128) ![32] S16.size inb_S128_S16_32).toLoadRect} {f2 : arg5.view.LoadsAt (Rect.unit (s := S512x128) off2 S1x16.size p2).toLoadRect} {x2 : (arg8.access (Rect.unit (s := S128) ![32] S16.size inb_S128_S16_32)).Stores Finset.univ} {m2 : Finset.univ = Finset.univ ∨ ∀ a, (Rect.unit (s := S128) ![32] S16.size inb_S128_S16_32).stride a = 1}
    {h3 g3 : arg8.view.LoadsAt (Rect.unit (s := S128) ![48] S16.size inb_S128_S16_48).toLoadRect} {f3 : arg5.view.LoadsAt (Rect.unit (s := S512x128) off3 S1x16.size p3).toLoadRect} {x3 : (arg8.access (Rect.unit (s := S128) ![48] S16.size inb_S128_S16_48)).Stores Finset.univ} {m3 : Finset.univ = Finset.univ ∨ ∀ a, (Rect.unit (s := S128) ![48] S16.size inb_S128_S16_48).stride a = 1}
    {h4 g4 : arg8.view.LoadsAt (Rect.unit (s := S128) ![64] S16.size inb_S128_S16_64).toLoadRect} {f4 : arg5.view.LoadsAt (Rect.unit (s := S512x128) off4 S1x16.size p4).toLoadRect} {x4 : (arg8.access (Rect.unit (s := S128) ![64] S16.size inb_S128_S16_64)).Stores Finset.univ} {m4 : Finset.univ = Finset.univ ∨ ∀ a, (Rect.unit (s := S128) ![64] S16.size inb_S128_S16_64).stride a = 1}
    {h5 g5 : arg8.view.LoadsAt (Rect.unit (s := S128) ![80] S16.size inb_S128_S16_80).toLoadRect} {f5 : arg5.view.LoadsAt (Rect.unit (s := S512x128) off5 S1x16.size p5).toLoadRect} {x5 : (arg8.access (Rect.unit (s := S128) ![80] S16.size inb_S128_S16_80)).Stores Finset.univ} {m5 : Finset.univ = Finset.univ ∨ ∀ a, (Rect.unit (s := S128) ![80] S16.size inb_S128_S16_80).stride a = 1}
    {h6 g6 : arg8.view.LoadsAt (Rect.unit (s := S128) ![96] S16.size inb_S128_S16_96).toLoadRect} {f6 : arg5.view.LoadsAt (Rect.unit (s := S512x128) off6 S1x16.size p6).toLoadRect} {x6 : (arg8.access (Rect.unit (s := S128) ![96] S16.size inb_S128_S16_96)).Stores Finset.univ} {m6 : Finset.univ = Finset.univ ∨ ∀ a, (Rect.unit (s := S128) ![96] S16.size inb_S128_S16_96).stride a = 1}
    {h7 g7 : arg8.view.LoadsAt (Rect.unit (s := S128) ![112] S16.size inb_S128_S16_112).toLoadRect} {f7 : arg5.view.LoadsAt (Rect.unit (s := S512x128) off7 S1x16.size p7).toLoadRect} {x7 : (arg8.access (Rect.unit (s := S128) ![112] S16.size inb_S128_S16_112)).Stores Finset.univ} {m7 : Finset.univ = Finset.univ ∨ ∀ a, (Rect.unit (s := S128) ![112] S16.size inb_S128_S16_112).stride a = 1}
    {rest : TProg F i α} (R : ℕ) (hR : o ≤ R ∧ R < o + 256) (e0 : off0 = ![R, 0]) (e1 : off1 = ![R, 16]) (e2 : off2 = ![R, 32]) (e3 : off3 = ![R, 48]) (e4 : off4 = ![R, 64]) (e5 : off5 = ![R, 80]) (e6 : off6 = ![R, 96]) (e7 : off7 = ![R, 112])
    (h : T3 d i arg7 arg8 arg9 ⟨s.acc, fun k => mx (s.cur k) (B R k), s.prev⟩ (Slot d i arg5 arg6 o B I Fr) ⊢ WP d i rest Q) :
    T3 d i arg7 arg8 arg9 s (Slot d i arg5 arg6 o B I Fr)
      ⊢ WP d i (
        .op (.load arg8 (Rect.unit (s := S128) ![0] S16.size inb_S128_S16_0).toLoadRect h0) fun (a : Vec F S16 .f32) =>
        .op (.load arg5 (Rect.unit (s := S512x128) off0 S1x16.size p0).toLoadRect f0) fun (b : Vec F S1x16 .f32) =>
        .op (.load arg8 (Rect.unit (s := S128) ![0] S16.size inb_S128_S16_0).toLoadRect g0) fun (_ : Vec F S16 .f32) =>
        .op (.store arg8 (Rect.unit (s := S128) ![0] S16.size inb_S128_S16_0) (shapeCast S16 (maximumf (shapeCast S16 a shapeCasts_S16_S16) (shapeCast S16 b shapeCasts_S1x16_S16)) shapeCasts_S16_S16) Finset.univ x0 m0) fun _ =>
        .op (.load arg8 (Rect.unit (s := S128) ![16] S16.size inb_S128_S16_16).toLoadRect h1) fun (a : Vec F S16 .f32) =>
        .op (.load arg5 (Rect.unit (s := S512x128) off1 S1x16.size p1).toLoadRect f1) fun (b : Vec F S1x16 .f32) =>
        .op (.load arg8 (Rect.unit (s := S128) ![16] S16.size inb_S128_S16_16).toLoadRect g1) fun (_ : Vec F S16 .f32) =>
        .op (.store arg8 (Rect.unit (s := S128) ![16] S16.size inb_S128_S16_16) (shapeCast S16 (maximumf (shapeCast S16 a shapeCasts_S16_S16) (shapeCast S16 b shapeCasts_S1x16_S16)) shapeCasts_S16_S16) Finset.univ x1 m1) fun _ =>
        .op (.load arg8 (Rect.unit (s := S128) ![32] S16.size inb_S128_S16_32).toLoadRect h2) fun (a : Vec F S16 .f32) =>
        .op (.load arg5 (Rect.unit (s := S512x128) off2 S1x16.size p2).toLoadRect f2) fun (b : Vec F S1x16 .f32) =>
        .op (.load arg8 (Rect.unit (s := S128) ![32] S16.size inb_S128_S16_32).toLoadRect g2) fun (_ : Vec F S16 .f32) =>
        .op (.store arg8 (Rect.unit (s := S128) ![32] S16.size inb_S128_S16_32) (shapeCast S16 (maximumf (shapeCast S16 a shapeCasts_S16_S16) (shapeCast S16 b shapeCasts_S1x16_S16)) shapeCasts_S16_S16) Finset.univ x2 m2) fun _ =>
        .op (.load arg8 (Rect.unit (s := S128) ![48] S16.size inb_S128_S16_48).toLoadRect h3) fun (a : Vec F S16 .f32) =>
        .op (.load arg5 (Rect.unit (s := S512x128) off3 S1x16.size p3).toLoadRect f3) fun (b : Vec F S1x16 .f32) =>
        .op (.load arg8 (Rect.unit (s := S128) ![48] S16.size inb_S128_S16_48).toLoadRect g3) fun (_ : Vec F S16 .f32) =>
        .op (.store arg8 (Rect.unit (s := S128) ![48] S16.size inb_S128_S16_48) (shapeCast S16 (maximumf (shapeCast S16 a shapeCasts_S16_S16) (shapeCast S16 b shapeCasts_S1x16_S16)) shapeCasts_S16_S16) Finset.univ x3 m3) fun _ =>
        .op (.load arg8 (Rect.unit (s := S128) ![64] S16.size inb_S128_S16_64).toLoadRect h4) fun (a : Vec F S16 .f32) =>
        .op (.load arg5 (Rect.unit (s := S512x128) off4 S1x16.size p4).toLoadRect f4) fun (b : Vec F S1x16 .f32) =>
        .op (.load arg8 (Rect.unit (s := S128) ![64] S16.size inb_S128_S16_64).toLoadRect g4) fun (_ : Vec F S16 .f32) =>
        .op (.store arg8 (Rect.unit (s := S128) ![64] S16.size inb_S128_S16_64) (shapeCast S16 (maximumf (shapeCast S16 a shapeCasts_S16_S16) (shapeCast S16 b shapeCasts_S1x16_S16)) shapeCasts_S16_S16) Finset.univ x4 m4) fun _ =>
        .op (.load arg8 (Rect.unit (s := S128) ![80] S16.size inb_S128_S16_80).toLoadRect h5) fun (a : Vec F S16 .f32) =>
        .op (.load arg5 (Rect.unit (s := S512x128) off5 S1x16.size p5).toLoadRect f5) fun (b : Vec F S1x16 .f32) =>
        .op (.load arg8 (Rect.unit (s := S128) ![80] S16.size inb_S128_S16_80).toLoadRect g5) fun (_ : Vec F S16 .f32) =>
        .op (.store arg8 (Rect.unit (s := S128) ![80] S16.size inb_S128_S16_80) (shapeCast S16 (maximumf (shapeCast S16 a shapeCasts_S16_S16) (shapeCast S16 b shapeCasts_S1x16_S16)) shapeCasts_S16_S16) Finset.univ x5 m5) fun _ =>
        .op (.load arg8 (Rect.unit (s := S128) ![96] S16.size inb_S128_S16_96).toLoadRect h6) fun (a : Vec F S16 .f32) =>
        .op (.load arg5 (Rect.unit (s := S512x128) off6 S1x16.size p6).toLoadRect f6) fun (b : Vec F S1x16 .f32) =>
        .op (.load arg8 (Rect.unit (s := S128) ![96] S16.size inb_S128_S16_96).toLoadRect g6) fun (_ : Vec F S16 .f32) =>
        .op (.store arg8 (Rect.unit (s := S128) ![96] S16.size inb_S128_S16_96) (shapeCast S16 (maximumf (shapeCast S16 a shapeCasts_S16_S16) (shapeCast S16 b shapeCasts_S1x16_S16)) shapeCasts_S16_S16) Finset.univ x6 m6) fun _ =>
        .op (.load arg8 (Rect.unit (s := S128) ![112] S16.size inb_S128_S16_112).toLoadRect h7) fun (a : Vec F S16 .f32) =>
        .op (.load arg5 (Rect.unit (s := S512x128) off7 S1x16.size p7).toLoadRect f7) fun (b : Vec F S1x16 .f32) =>
        .op (.load arg8 (Rect.unit (s := S128) ![112] S16.size inb_S128_S16_112).toLoadRect g7) fun (_ : Vec F S16 .f32) =>
        .op (.store arg8 (Rect.unit (s := S128) ![112] S16.size inb_S128_S16_112) (shapeCast S16 (maximumf (shapeCast S16 a shapeCasts_S16_S16) (shapeCast S16 b shapeCasts_S1x16_S16)) shapeCasts_S16_S16) Finset.univ x7 m7) fun _ => rest) Q := by
  have hG : ∀ n k : ℕ, n ≤ k → (fun k => mx (s.cur k) (B R k)) k = mx (s.cur k) (B R k) := fun _ _ _ => rfl
  refine T3_congr' (s' := ⟨s.acc, mix 0 (fun k => mx (s.cur k) (B R k)) s.cur, s.prev⟩) (fun _ _ => rfl)
    (fun k _ => by simp [mix]) rfl ?_
  refine lane_max (s := s) (n := 0) (hG _) hR e0 ?_
  refine lane_max (s := s) (n := 16) (hG _) hR e1 ?_
  refine lane_max (s := s) (n := 32) (hG _) hR e2 ?_
  refine lane_max (s := s) (n := 48) (hG _) hR e3 ?_
  refine lane_max (s := s) (n := 64) (hG _) hR e4 ?_
  refine lane_max (s := s) (n := 80) (hG _) hR e5 ?_
  refine lane_max (s := s) (n := 96) (hG _) hR e6 ?_
  refine lane_max (s := s) (n := 112) (hG _) hR e7 ?_
  exact T3_congr' (s' := ⟨s.acc, fun k => mx (s.cur k) (B R k), s.prev⟩) (fun _ _ => rfl) (fun k (hk : k < 112 + 16) => if_pos hk) rfl h

/-- A group's maximum `g` into the running segment's buffer. -/
theorem fasts {s : SS F} {Fr : sProp (MM F)} {v0 v1 v2 v3 v4 v5 v6 v7 : FVec F S16 .f32}
    {h0 g0 : arg8.view.LoadsAt (Rect.unit (s := S128) ![0] S16.size inb_S128_S16_0).toLoadRect} {x0 : (arg8.access (Rect.unit (s := S128) ![0] S16.size inb_S128_S16_0)).Stores Finset.univ} {m0 : Finset.univ = Finset.univ ∨ ∀ a, (Rect.unit (s := S128) ![0] S16.size inb_S128_S16_0).stride a = 1}
    {h1 g1 : arg8.view.LoadsAt (Rect.unit (s := S128) ![16] S16.size inb_S128_S16_16).toLoadRect} {x1 : (arg8.access (Rect.unit (s := S128) ![16] S16.size inb_S128_S16_16)).Stores Finset.univ} {m1 : Finset.univ = Finset.univ ∨ ∀ a, (Rect.unit (s := S128) ![16] S16.size inb_S128_S16_16).stride a = 1}
    {h2 g2 : arg8.view.LoadsAt (Rect.unit (s := S128) ![32] S16.size inb_S128_S16_32).toLoadRect} {x2 : (arg8.access (Rect.unit (s := S128) ![32] S16.size inb_S128_S16_32)).Stores Finset.univ} {m2 : Finset.univ = Finset.univ ∨ ∀ a, (Rect.unit (s := S128) ![32] S16.size inb_S128_S16_32).stride a = 1}
    {h3 g3 : arg8.view.LoadsAt (Rect.unit (s := S128) ![48] S16.size inb_S128_S16_48).toLoadRect} {x3 : (arg8.access (Rect.unit (s := S128) ![48] S16.size inb_S128_S16_48)).Stores Finset.univ} {m3 : Finset.univ = Finset.univ ∨ ∀ a, (Rect.unit (s := S128) ![48] S16.size inb_S128_S16_48).stride a = 1}
    {h4 g4 : arg8.view.LoadsAt (Rect.unit (s := S128) ![64] S16.size inb_S128_S16_64).toLoadRect} {x4 : (arg8.access (Rect.unit (s := S128) ![64] S16.size inb_S128_S16_64)).Stores Finset.univ} {m4 : Finset.univ = Finset.univ ∨ ∀ a, (Rect.unit (s := S128) ![64] S16.size inb_S128_S16_64).stride a = 1}
    {h5 g5 : arg8.view.LoadsAt (Rect.unit (s := S128) ![80] S16.size inb_S128_S16_80).toLoadRect} {x5 : (arg8.access (Rect.unit (s := S128) ![80] S16.size inb_S128_S16_80)).Stores Finset.univ} {m5 : Finset.univ = Finset.univ ∨ ∀ a, (Rect.unit (s := S128) ![80] S16.size inb_S128_S16_80).stride a = 1}
    {h6 g6 : arg8.view.LoadsAt (Rect.unit (s := S128) ![96] S16.size inb_S128_S16_96).toLoadRect} {x6 : (arg8.access (Rect.unit (s := S128) ![96] S16.size inb_S128_S16_96)).Stores Finset.univ} {m6 : Finset.univ = Finset.univ ∨ ∀ a, (Rect.unit (s := S128) ![96] S16.size inb_S128_S16_96).stride a = 1}
    {h7 g7 : arg8.view.LoadsAt (Rect.unit (s := S128) ![112] S16.size inb_S128_S16_112).toLoadRect} {x7 : (arg8.access (Rect.unit (s := S128) ![112] S16.size inb_S128_S16_112)).Stores Finset.univ} {m7 : Finset.univ = Finset.univ ∨ ∀ a, (Rect.unit (s := S128) ![112] S16.size inb_S128_S16_112).stride a = 1}
    {rest : TProg F i α} (g : ℕ → F .f32) (e0 : ∀ x : S16.Idx, v0 x = g (0 + (x 0).val)) (e1 : ∀ x : S16.Idx, v1 x = g (16 + (x 0).val)) (e2 : ∀ x : S16.Idx, v2 x = g (32 + (x 0).val)) (e3 : ∀ x : S16.Idx, v3 x = g (48 + (x 0).val)) (e4 : ∀ x : S16.Idx, v4 x = g (64 + (x 0).val)) (e5 : ∀ x : S16.Idx, v5 x = g (80 + (x 0).val)) (e6 : ∀ x : S16.Idx, v6 x = g (96 + (x 0).val)) (e7 : ∀ x : S16.Idx, v7 x = g (112 + (x 0).val))
    (h : T3 d i arg7 arg8 arg9 ⟨s.acc, fun k => mx (s.cur k) (g k), s.prev⟩ Fr ⊢ WP d i rest Q) :
    T3 d i arg7 arg8 arg9 s Fr
      ⊢ WP d i (
        .op (.load arg8 (Rect.unit (s := S128) ![0] S16.size inb_S128_S16_0).toLoadRect h0) fun (a : Vec F S16 .f32) =>
        .op (.load arg8 (Rect.unit (s := S128) ![0] S16.size inb_S128_S16_0).toLoadRect g0) fun (_ : Vec F S16 .f32) =>
        .op (.store arg8 (Rect.unit (s := S128) ![0] S16.size inb_S128_S16_0) (shapeCast S16 (maximumf (shapeCast S16 a shapeCasts_S16_S16) v0) shapeCasts_S16_S16) Finset.univ x0 m0) fun _ =>
        .op (.load arg8 (Rect.unit (s := S128) ![16] S16.size inb_S128_S16_16).toLoadRect h1) fun (a : Vec F S16 .f32) =>
        .op (.load arg8 (Rect.unit (s := S128) ![16] S16.size inb_S128_S16_16).toLoadRect g1) fun (_ : Vec F S16 .f32) =>
        .op (.store arg8 (Rect.unit (s := S128) ![16] S16.size inb_S128_S16_16) (shapeCast S16 (maximumf (shapeCast S16 a shapeCasts_S16_S16) v1) shapeCasts_S16_S16) Finset.univ x1 m1) fun _ =>
        .op (.load arg8 (Rect.unit (s := S128) ![32] S16.size inb_S128_S16_32).toLoadRect h2) fun (a : Vec F S16 .f32) =>
        .op (.load arg8 (Rect.unit (s := S128) ![32] S16.size inb_S128_S16_32).toLoadRect g2) fun (_ : Vec F S16 .f32) =>
        .op (.store arg8 (Rect.unit (s := S128) ![32] S16.size inb_S128_S16_32) (shapeCast S16 (maximumf (shapeCast S16 a shapeCasts_S16_S16) v2) shapeCasts_S16_S16) Finset.univ x2 m2) fun _ =>
        .op (.load arg8 (Rect.unit (s := S128) ![48] S16.size inb_S128_S16_48).toLoadRect h3) fun (a : Vec F S16 .f32) =>
        .op (.load arg8 (Rect.unit (s := S128) ![48] S16.size inb_S128_S16_48).toLoadRect g3) fun (_ : Vec F S16 .f32) =>
        .op (.store arg8 (Rect.unit (s := S128) ![48] S16.size inb_S128_S16_48) (shapeCast S16 (maximumf (shapeCast S16 a shapeCasts_S16_S16) v3) shapeCasts_S16_S16) Finset.univ x3 m3) fun _ =>
        .op (.load arg8 (Rect.unit (s := S128) ![64] S16.size inb_S128_S16_64).toLoadRect h4) fun (a : Vec F S16 .f32) =>
        .op (.load arg8 (Rect.unit (s := S128) ![64] S16.size inb_S128_S16_64).toLoadRect g4) fun (_ : Vec F S16 .f32) =>
        .op (.store arg8 (Rect.unit (s := S128) ![64] S16.size inb_S128_S16_64) (shapeCast S16 (maximumf (shapeCast S16 a shapeCasts_S16_S16) v4) shapeCasts_S16_S16) Finset.univ x4 m4) fun _ =>
        .op (.load arg8 (Rect.unit (s := S128) ![80] S16.size inb_S128_S16_80).toLoadRect h5) fun (a : Vec F S16 .f32) =>
        .op (.load arg8 (Rect.unit (s := S128) ![80] S16.size inb_S128_S16_80).toLoadRect g5) fun (_ : Vec F S16 .f32) =>
        .op (.store arg8 (Rect.unit (s := S128) ![80] S16.size inb_S128_S16_80) (shapeCast S16 (maximumf (shapeCast S16 a shapeCasts_S16_S16) v5) shapeCasts_S16_S16) Finset.univ x5 m5) fun _ =>
        .op (.load arg8 (Rect.unit (s := S128) ![96] S16.size inb_S128_S16_96).toLoadRect h6) fun (a : Vec F S16 .f32) =>
        .op (.load arg8 (Rect.unit (s := S128) ![96] S16.size inb_S128_S16_96).toLoadRect g6) fun (_ : Vec F S16 .f32) =>
        .op (.store arg8 (Rect.unit (s := S128) ![96] S16.size inb_S128_S16_96) (shapeCast S16 (maximumf (shapeCast S16 a shapeCasts_S16_S16) v6) shapeCasts_S16_S16) Finset.univ x6 m6) fun _ =>
        .op (.load arg8 (Rect.unit (s := S128) ![112] S16.size inb_S128_S16_112).toLoadRect h7) fun (a : Vec F S16 .f32) =>
        .op (.load arg8 (Rect.unit (s := S128) ![112] S16.size inb_S128_S16_112).toLoadRect g7) fun (_ : Vec F S16 .f32) =>
        .op (.store arg8 (Rect.unit (s := S128) ![112] S16.size inb_S128_S16_112) (shapeCast S16 (maximumf (shapeCast S16 a shapeCasts_S16_S16) v7) shapeCasts_S16_S16) Finset.univ x7 m7) fun _ => rest) Q := by
  refine T3_congr' (s' := ⟨s.acc, mix 0 (fun k => mx (s.cur k) (g k)) s.cur, s.prev⟩) (fun _ _ => rfl)
    (fun k _ => by simp [mix]) rfl ?_
  refine lane_fast (s := s) (n := 0) (fun x => by rw [e0]) ?_
  refine lane_fast (s := s) (n := 16) (fun x => by rw [e1]) ?_
  refine lane_fast (s := s) (n := 32) (fun x => by rw [e2]) ?_
  refine lane_fast (s := s) (n := 48) (fun x => by rw [e3]) ?_
  refine lane_fast (s := s) (n := 64) (fun x => by rw [e4]) ?_
  refine lane_fast (s := s) (n := 80) (fun x => by rw [e5]) ?_
  refine lane_fast (s := s) (n := 96) (fun x => by rw [e6]) ?_
  refine lane_fast (s := s) (n := 112) (fun x => by rw [e7]) ?_
  exact T3_congr' (s' := ⟨s.acc, fun k => mx (s.cur k) (g k), s.prev⟩) (fun _ _ => rfl) (fun k (hk : k < 112 + 16) => if_pos hk) rfl h

/-- The running segment's buffer set to `z`. -/
theorem resets {s : SS F} {Fr : sProp (MM F)} {v0 v1 v2 v3 v4 v5 v6 v7 : FVec F S16 .f32}
    {h0 : arg8.view.LoadsAt (Rect.unit (s := S128) ![0] S16.size inb_S128_S16_0).toLoadRect} {x0 : (arg8.access (Rect.unit (s := S128) ![0] S16.size inb_S128_S16_0)).Stores Finset.univ} {m0 : Finset.univ = Finset.univ ∨ ∀ a, (Rect.unit (s := S128) ![0] S16.size inb_S128_S16_0).stride a = 1}
    {h1 : arg8.view.LoadsAt (Rect.unit (s := S128) ![16] S16.size inb_S128_S16_16).toLoadRect} {x1 : (arg8.access (Rect.unit (s := S128) ![16] S16.size inb_S128_S16_16)).Stores Finset.univ} {m1 : Finset.univ = Finset.univ ∨ ∀ a, (Rect.unit (s := S128) ![16] S16.size inb_S128_S16_16).stride a = 1}
    {h2 : arg8.view.LoadsAt (Rect.unit (s := S128) ![32] S16.size inb_S128_S16_32).toLoadRect} {x2 : (arg8.access (Rect.unit (s := S128) ![32] S16.size inb_S128_S16_32)).Stores Finset.univ} {m2 : Finset.univ = Finset.univ ∨ ∀ a, (Rect.unit (s := S128) ![32] S16.size inb_S128_S16_32).stride a = 1}
    {h3 : arg8.view.LoadsAt (Rect.unit (s := S128) ![48] S16.size inb_S128_S16_48).toLoadRect} {x3 : (arg8.access (Rect.unit (s := S128) ![48] S16.size inb_S128_S16_48)).Stores Finset.univ} {m3 : Finset.univ = Finset.univ ∨ ∀ a, (Rect.unit (s := S128) ![48] S16.size inb_S128_S16_48).stride a = 1}
    {h4 : arg8.view.LoadsAt (Rect.unit (s := S128) ![64] S16.size inb_S128_S16_64).toLoadRect} {x4 : (arg8.access (Rect.unit (s := S128) ![64] S16.size inb_S128_S16_64)).Stores Finset.univ} {m4 : Finset.univ = Finset.univ ∨ ∀ a, (Rect.unit (s := S128) ![64] S16.size inb_S128_S16_64).stride a = 1}
    {h5 : arg8.view.LoadsAt (Rect.unit (s := S128) ![80] S16.size inb_S128_S16_80).toLoadRect} {x5 : (arg8.access (Rect.unit (s := S128) ![80] S16.size inb_S128_S16_80)).Stores Finset.univ} {m5 : Finset.univ = Finset.univ ∨ ∀ a, (Rect.unit (s := S128) ![80] S16.size inb_S128_S16_80).stride a = 1}
    {h6 : arg8.view.LoadsAt (Rect.unit (s := S128) ![96] S16.size inb_S128_S16_96).toLoadRect} {x6 : (arg8.access (Rect.unit (s := S128) ![96] S16.size inb_S128_S16_96)).Stores Finset.univ} {m6 : Finset.univ = Finset.univ ∨ ∀ a, (Rect.unit (s := S128) ![96] S16.size inb_S128_S16_96).stride a = 1}
    {h7 : arg8.view.LoadsAt (Rect.unit (s := S128) ![112] S16.size inb_S128_S16_112).toLoadRect} {x7 : (arg8.access (Rect.unit (s := S128) ![112] S16.size inb_S128_S16_112)).Stores Finset.univ} {m7 : Finset.univ = Finset.univ ∨ ∀ a, (Rect.unit (s := S128) ![112] S16.size inb_S128_S16_112).stride a = 1}
    {rest : TProg F i α} (z : F .f32) (e0 : v0 = fun _ => z) (e1 : v1 = fun _ => z) (e2 : v2 = fun _ => z) (e3 : v3 = fun _ => z) (e4 : v4 = fun _ => z) (e5 : v5 = fun _ => z) (e6 : v6 = fun _ => z) (e7 : v7 = fun _ => z)
    (h : T3 d i arg7 arg8 arg9 ⟨s.acc, fun _ => z, s.prev⟩ Fr ⊢ WP d i rest Q) :
    T3 d i arg7 arg8 arg9 s Fr
      ⊢ WP d i (
        .op (.load arg8 (Rect.unit (s := S128) ![0] S16.size inb_S128_S16_0).toLoadRect h0) fun (_ : Vec F S16 .f32) =>
        .op (.store arg8 (Rect.unit (s := S128) ![0] S16.size inb_S128_S16_0) (shapeCast S16 v0 shapeCasts_S16_S16) Finset.univ x0 m0) fun _ =>
        .op (.load arg8 (Rect.unit (s := S128) ![16] S16.size inb_S128_S16_16).toLoadRect h1) fun (_ : Vec F S16 .f32) =>
        .op (.store arg8 (Rect.unit (s := S128) ![16] S16.size inb_S128_S16_16) (shapeCast S16 v1 shapeCasts_S16_S16) Finset.univ x1 m1) fun _ =>
        .op (.load arg8 (Rect.unit (s := S128) ![32] S16.size inb_S128_S16_32).toLoadRect h2) fun (_ : Vec F S16 .f32) =>
        .op (.store arg8 (Rect.unit (s := S128) ![32] S16.size inb_S128_S16_32) (shapeCast S16 v2 shapeCasts_S16_S16) Finset.univ x2 m2) fun _ =>
        .op (.load arg8 (Rect.unit (s := S128) ![48] S16.size inb_S128_S16_48).toLoadRect h3) fun (_ : Vec F S16 .f32) =>
        .op (.store arg8 (Rect.unit (s := S128) ![48] S16.size inb_S128_S16_48) (shapeCast S16 v3 shapeCasts_S16_S16) Finset.univ x3 m3) fun _ =>
        .op (.load arg8 (Rect.unit (s := S128) ![64] S16.size inb_S128_S16_64).toLoadRect h4) fun (_ : Vec F S16 .f32) =>
        .op (.store arg8 (Rect.unit (s := S128) ![64] S16.size inb_S128_S16_64) (shapeCast S16 v4 shapeCasts_S16_S16) Finset.univ x4 m4) fun _ =>
        .op (.load arg8 (Rect.unit (s := S128) ![80] S16.size inb_S128_S16_80).toLoadRect h5) fun (_ : Vec F S16 .f32) =>
        .op (.store arg8 (Rect.unit (s := S128) ![80] S16.size inb_S128_S16_80) (shapeCast S16 v5 shapeCasts_S16_S16) Finset.univ x5 m5) fun _ =>
        .op (.load arg8 (Rect.unit (s := S128) ![96] S16.size inb_S128_S16_96).toLoadRect h6) fun (_ : Vec F S16 .f32) =>
        .op (.store arg8 (Rect.unit (s := S128) ![96] S16.size inb_S128_S16_96) (shapeCast S16 v6 shapeCasts_S16_S16) Finset.univ x6 m6) fun _ =>
        .op (.load arg8 (Rect.unit (s := S128) ![112] S16.size inb_S128_S16_112).toLoadRect h7) fun (_ : Vec F S16 .f32) =>
        .op (.store arg8 (Rect.unit (s := S128) ![112] S16.size inb_S128_S16_112) (shapeCast S16 v7 shapeCasts_S16_S16) Finset.univ x7 m7) fun _ => rest) Q := by
  refine T3_congr' (s' := ⟨s.acc, mix 0 (fun _ => z) s.cur, s.prev⟩) (fun _ _ => rfl)
    (fun k _ => by simp [mix]) rfl ?_
  refine lane_reset (s := s) (n := 0) (fun x => by rw [e0]) ?_
  refine lane_reset (s := s) (n := 16) (fun x => by rw [e1]) ?_
  refine lane_reset (s := s) (n := 32) (fun x => by rw [e2]) ?_
  refine lane_reset (s := s) (n := 48) (fun x => by rw [e3]) ?_
  refine lane_reset (s := s) (n := 64) (fun x => by rw [e4]) ?_
  refine lane_reset (s := s) (n := 80) (fun x => by rw [e5]) ?_
  refine lane_reset (s := s) (n := 96) (fun x => by rw [e6]) ?_
  refine lane_reset (s := s) (n := 112) (fun x => by rw [e7]) ?_
  exact T3_congr' (s' := ⟨s.acc, fun _ => z, s.prev⟩) (fun _ _ => rfl) (fun k (hk : k < 112 + 16) => if_pos hk) rfl h

/-- The running segment's maximum folded into row `q` of the accumulator. -/
theorem flushes {s : SS F} {Fr : sProp (MM F)} {off0 off1 off2 off3 off4 off5 off6 off7 : Fin 1 → ℕ}
    {p0 : ∀ a, off0 a + S16.size a ≤ S32896.size a} {p1 : ∀ a, off1 a + S16.size a ≤ S32896.size a} {p2 : ∀ a, off2 a + S16.size a ≤ S32896.size a} {p3 : ∀ a, off3 a + S16.size a ≤ S32896.size a} {p4 : ∀ a, off4 a + S16.size a ≤ S32896.size a} {p5 : ∀ a, off5 a + S16.size a ≤ S32896.size a} {p6 : ∀ a, off6 a + S16.size a ≤ S32896.size a} {p7 : ∀ a, off7 a + S16.size a ≤ S32896.size a}
    {h0 g0 : arg7.view.LoadsAt (Rect.unit (s := S32896) off0 S16.size p0).toLoadRect} {f0 : arg8.view.LoadsAt (Rect.unit (s := S128) ![0] S16.size inb_S128_S16_0).toLoadRect} {x0 : (arg7.access (Rect.unit (s := S32896) off0 S16.size p0)).Stores Finset.univ} {m0 : Finset.univ = Finset.univ ∨ ∀ a, (Rect.unit (s := S32896) off0 S16.size p0).stride a = 1}
    {h1 g1 : arg7.view.LoadsAt (Rect.unit (s := S32896) off1 S16.size p1).toLoadRect} {f1 : arg8.view.LoadsAt (Rect.unit (s := S128) ![16] S16.size inb_S128_S16_16).toLoadRect} {x1 : (arg7.access (Rect.unit (s := S32896) off1 S16.size p1)).Stores Finset.univ} {m1 : Finset.univ = Finset.univ ∨ ∀ a, (Rect.unit (s := S32896) off1 S16.size p1).stride a = 1}
    {h2 g2 : arg7.view.LoadsAt (Rect.unit (s := S32896) off2 S16.size p2).toLoadRect} {f2 : arg8.view.LoadsAt (Rect.unit (s := S128) ![32] S16.size inb_S128_S16_32).toLoadRect} {x2 : (arg7.access (Rect.unit (s := S32896) off2 S16.size p2)).Stores Finset.univ} {m2 : Finset.univ = Finset.univ ∨ ∀ a, (Rect.unit (s := S32896) off2 S16.size p2).stride a = 1}
    {h3 g3 : arg7.view.LoadsAt (Rect.unit (s := S32896) off3 S16.size p3).toLoadRect} {f3 : arg8.view.LoadsAt (Rect.unit (s := S128) ![48] S16.size inb_S128_S16_48).toLoadRect} {x3 : (arg7.access (Rect.unit (s := S32896) off3 S16.size p3)).Stores Finset.univ} {m3 : Finset.univ = Finset.univ ∨ ∀ a, (Rect.unit (s := S32896) off3 S16.size p3).stride a = 1}
    {h4 g4 : arg7.view.LoadsAt (Rect.unit (s := S32896) off4 S16.size p4).toLoadRect} {f4 : arg8.view.LoadsAt (Rect.unit (s := S128) ![64] S16.size inb_S128_S16_64).toLoadRect} {x4 : (arg7.access (Rect.unit (s := S32896) off4 S16.size p4)).Stores Finset.univ} {m4 : Finset.univ = Finset.univ ∨ ∀ a, (Rect.unit (s := S32896) off4 S16.size p4).stride a = 1}
    {h5 g5 : arg7.view.LoadsAt (Rect.unit (s := S32896) off5 S16.size p5).toLoadRect} {f5 : arg8.view.LoadsAt (Rect.unit (s := S128) ![80] S16.size inb_S128_S16_80).toLoadRect} {x5 : (arg7.access (Rect.unit (s := S32896) off5 S16.size p5)).Stores Finset.univ} {m5 : Finset.univ = Finset.univ ∨ ∀ a, (Rect.unit (s := S32896) off5 S16.size p5).stride a = 1}
    {h6 g6 : arg7.view.LoadsAt (Rect.unit (s := S32896) off6 S16.size p6).toLoadRect} {f6 : arg8.view.LoadsAt (Rect.unit (s := S128) ![96] S16.size inb_S128_S16_96).toLoadRect} {x6 : (arg7.access (Rect.unit (s := S32896) off6 S16.size p6)).Stores Finset.univ} {m6 : Finset.univ = Finset.univ ∨ ∀ a, (Rect.unit (s := S32896) off6 S16.size p6).stride a = 1}
    {h7 g7 : arg7.view.LoadsAt (Rect.unit (s := S32896) off7 S16.size p7).toLoadRect} {f7 : arg8.view.LoadsAt (Rect.unit (s := S128) ![112] S16.size inb_S128_S16_112).toLoadRect} {x7 : (arg7.access (Rect.unit (s := S32896) off7 S16.size p7)).Stores Finset.univ} {m7 : Finset.univ = Finset.univ ∨ ∀ a, (Rect.unit (s := S32896) off7 S16.size p7).stride a = 1}
    {rest : TProg F i α} (q : ℕ) (e0 : off0 = ![128 * q + 0]) (e1 : off1 = ![128 * q + 16]) (e2 : off2 = ![128 * q + 32]) (e3 : off3 = ![128 * q + 48]) (e4 : off4 = ![128 * q + 64]) (e5 : off5 = ![128 * q + 80]) (e6 : off6 = ![128 * q + 96]) (e7 : off7 = ![128 * q + 112])
    (h : T3 d i arg7 arg8 arg9 ⟨flushA s.acc s.cur q, s.cur, s.prev⟩ Fr ⊢ WP d i rest Q) :
    T3 d i arg7 arg8 arg9 s Fr
      ⊢ WP d i (
        .op (.load arg7 (Rect.unit (s := S32896) off0 S16.size p0).toLoadRect h0) fun (a : Vec F S16 .f32) =>
        .op (.load arg8 (Rect.unit (s := S128) ![0] S16.size inb_S128_S16_0).toLoadRect f0) fun (b : Vec F S16 .f32) =>
        .op (.load arg7 (Rect.unit (s := S32896) off0 S16.size p0).toLoadRect g0) fun (_ : Vec F S16 .f32) =>
        .op (.store arg7 (Rect.unit (s := S32896) off0 S16.size p0) (shapeCast S16 (maximumf (shapeCast S16 a shapeCasts_S16_S16) (shapeCast S16 b shapeCasts_S16_S16)) shapeCasts_S16_S16) Finset.univ x0 m0) fun _ =>
        .op (.load arg7 (Rect.unit (s := S32896) off1 S16.size p1).toLoadRect h1) fun (a : Vec F S16 .f32) =>
        .op (.load arg8 (Rect.unit (s := S128) ![16] S16.size inb_S128_S16_16).toLoadRect f1) fun (b : Vec F S16 .f32) =>
        .op (.load arg7 (Rect.unit (s := S32896) off1 S16.size p1).toLoadRect g1) fun (_ : Vec F S16 .f32) =>
        .op (.store arg7 (Rect.unit (s := S32896) off1 S16.size p1) (shapeCast S16 (maximumf (shapeCast S16 a shapeCasts_S16_S16) (shapeCast S16 b shapeCasts_S16_S16)) shapeCasts_S16_S16) Finset.univ x1 m1) fun _ =>
        .op (.load arg7 (Rect.unit (s := S32896) off2 S16.size p2).toLoadRect h2) fun (a : Vec F S16 .f32) =>
        .op (.load arg8 (Rect.unit (s := S128) ![32] S16.size inb_S128_S16_32).toLoadRect f2) fun (b : Vec F S16 .f32) =>
        .op (.load arg7 (Rect.unit (s := S32896) off2 S16.size p2).toLoadRect g2) fun (_ : Vec F S16 .f32) =>
        .op (.store arg7 (Rect.unit (s := S32896) off2 S16.size p2) (shapeCast S16 (maximumf (shapeCast S16 a shapeCasts_S16_S16) (shapeCast S16 b shapeCasts_S16_S16)) shapeCasts_S16_S16) Finset.univ x2 m2) fun _ =>
        .op (.load arg7 (Rect.unit (s := S32896) off3 S16.size p3).toLoadRect h3) fun (a : Vec F S16 .f32) =>
        .op (.load arg8 (Rect.unit (s := S128) ![48] S16.size inb_S128_S16_48).toLoadRect f3) fun (b : Vec F S16 .f32) =>
        .op (.load arg7 (Rect.unit (s := S32896) off3 S16.size p3).toLoadRect g3) fun (_ : Vec F S16 .f32) =>
        .op (.store arg7 (Rect.unit (s := S32896) off3 S16.size p3) (shapeCast S16 (maximumf (shapeCast S16 a shapeCasts_S16_S16) (shapeCast S16 b shapeCasts_S16_S16)) shapeCasts_S16_S16) Finset.univ x3 m3) fun _ =>
        .op (.load arg7 (Rect.unit (s := S32896) off4 S16.size p4).toLoadRect h4) fun (a : Vec F S16 .f32) =>
        .op (.load arg8 (Rect.unit (s := S128) ![64] S16.size inb_S128_S16_64).toLoadRect f4) fun (b : Vec F S16 .f32) =>
        .op (.load arg7 (Rect.unit (s := S32896) off4 S16.size p4).toLoadRect g4) fun (_ : Vec F S16 .f32) =>
        .op (.store arg7 (Rect.unit (s := S32896) off4 S16.size p4) (shapeCast S16 (maximumf (shapeCast S16 a shapeCasts_S16_S16) (shapeCast S16 b shapeCasts_S16_S16)) shapeCasts_S16_S16) Finset.univ x4 m4) fun _ =>
        .op (.load arg7 (Rect.unit (s := S32896) off5 S16.size p5).toLoadRect h5) fun (a : Vec F S16 .f32) =>
        .op (.load arg8 (Rect.unit (s := S128) ![80] S16.size inb_S128_S16_80).toLoadRect f5) fun (b : Vec F S16 .f32) =>
        .op (.load arg7 (Rect.unit (s := S32896) off5 S16.size p5).toLoadRect g5) fun (_ : Vec F S16 .f32) =>
        .op (.store arg7 (Rect.unit (s := S32896) off5 S16.size p5) (shapeCast S16 (maximumf (shapeCast S16 a shapeCasts_S16_S16) (shapeCast S16 b shapeCasts_S16_S16)) shapeCasts_S16_S16) Finset.univ x5 m5) fun _ =>
        .op (.load arg7 (Rect.unit (s := S32896) off6 S16.size p6).toLoadRect h6) fun (a : Vec F S16 .f32) =>
        .op (.load arg8 (Rect.unit (s := S128) ![96] S16.size inb_S128_S16_96).toLoadRect f6) fun (b : Vec F S16 .f32) =>
        .op (.load arg7 (Rect.unit (s := S32896) off6 S16.size p6).toLoadRect g6) fun (_ : Vec F S16 .f32) =>
        .op (.store arg7 (Rect.unit (s := S32896) off6 S16.size p6) (shapeCast S16 (maximumf (shapeCast S16 a shapeCasts_S16_S16) (shapeCast S16 b shapeCasts_S16_S16)) shapeCasts_S16_S16) Finset.univ x6 m6) fun _ =>
        .op (.load arg7 (Rect.unit (s := S32896) off7 S16.size p7).toLoadRect h7) fun (a : Vec F S16 .f32) =>
        .op (.load arg8 (Rect.unit (s := S128) ![112] S16.size inb_S128_S16_112).toLoadRect f7) fun (b : Vec F S16 .f32) =>
        .op (.load arg7 (Rect.unit (s := S32896) off7 S16.size p7).toLoadRect g7) fun (_ : Vec F S16 .f32) =>
        .op (.store arg7 (Rect.unit (s := S32896) off7 S16.size p7) (shapeCast S16 (maximumf (shapeCast S16 a shapeCasts_S16_S16) (shapeCast S16 b shapeCasts_S16_S16)) shapeCasts_S16_S16) Finset.univ x7 m7) fun _ => rest) Q := by
  have hG : ∀ k : ℕ, (fun w => mx (s.acc w) (s.cur (w - 128 * q))) (128 * q + k) = mx (s.acc (128 * q + k)) (s.cur k) := fun k => by
    simp only [Nat.add_sub_cancel_left]
  refine T3_congr' (s' := ⟨mixA (128 * q) (128 * q + 0) (fun w => mx (s.acc w) (s.cur (w - 128 * q))) s.acc, s.cur, s.prev⟩)
    (fun w _ => (if_neg (by omega)).symm) (fun _ _ => rfl) rfl ?_
  refine lane_flush (s := s) (n := 0) hG e0 ?_
  refine lane_flush (s := s) (n := 16) hG e1 ?_
  refine lane_flush (s := s) (n := 32) hG e2 ?_
  refine lane_flush (s := s) (n := 48) hG e3 ?_
  refine lane_flush (s := s) (n := 64) hG e4 ?_
  refine lane_flush (s := s) (n := 80) hG e5 ?_
  refine lane_flush (s := s) (n := 96) hG e6 ?_
  refine lane_flush (s := s) (n := 112) hG e7 ?_
  exact T3_congr' (fun _ _ => rfl) (fun k hk => rfl) rfl h

/-- Row `q` of the accumulator set to `z`. -/
theorem inits {s : SS F} {Fr : sProp (MM F)} {v0 v1 v2 v3 v4 v5 v6 v7 : FVec F S16 .f32} {off0 off1 off2 off3 off4 off5 off6 off7 : Fin 1 → ℕ}
    {p0 : ∀ a, off0 a + S16.size a ≤ S32896.size a} {p1 : ∀ a, off1 a + S16.size a ≤ S32896.size a} {p2 : ∀ a, off2 a + S16.size a ≤ S32896.size a} {p3 : ∀ a, off3 a + S16.size a ≤ S32896.size a} {p4 : ∀ a, off4 a + S16.size a ≤ S32896.size a} {p5 : ∀ a, off5 a + S16.size a ≤ S32896.size a} {p6 : ∀ a, off6 a + S16.size a ≤ S32896.size a} {p7 : ∀ a, off7 a + S16.size a ≤ S32896.size a}
    {h0 : arg7.view.LoadsAt (Rect.unit (s := S32896) off0 S16.size p0).toLoadRect} {x0 : (arg7.access (Rect.unit (s := S32896) off0 S16.size p0)).Stores Finset.univ} {m0 : Finset.univ = Finset.univ ∨ ∀ a, (Rect.unit (s := S32896) off0 S16.size p0).stride a = 1}
    {h1 : arg7.view.LoadsAt (Rect.unit (s := S32896) off1 S16.size p1).toLoadRect} {x1 : (arg7.access (Rect.unit (s := S32896) off1 S16.size p1)).Stores Finset.univ} {m1 : Finset.univ = Finset.univ ∨ ∀ a, (Rect.unit (s := S32896) off1 S16.size p1).stride a = 1}
    {h2 : arg7.view.LoadsAt (Rect.unit (s := S32896) off2 S16.size p2).toLoadRect} {x2 : (arg7.access (Rect.unit (s := S32896) off2 S16.size p2)).Stores Finset.univ} {m2 : Finset.univ = Finset.univ ∨ ∀ a, (Rect.unit (s := S32896) off2 S16.size p2).stride a = 1}
    {h3 : arg7.view.LoadsAt (Rect.unit (s := S32896) off3 S16.size p3).toLoadRect} {x3 : (arg7.access (Rect.unit (s := S32896) off3 S16.size p3)).Stores Finset.univ} {m3 : Finset.univ = Finset.univ ∨ ∀ a, (Rect.unit (s := S32896) off3 S16.size p3).stride a = 1}
    {h4 : arg7.view.LoadsAt (Rect.unit (s := S32896) off4 S16.size p4).toLoadRect} {x4 : (arg7.access (Rect.unit (s := S32896) off4 S16.size p4)).Stores Finset.univ} {m4 : Finset.univ = Finset.univ ∨ ∀ a, (Rect.unit (s := S32896) off4 S16.size p4).stride a = 1}
    {h5 : arg7.view.LoadsAt (Rect.unit (s := S32896) off5 S16.size p5).toLoadRect} {x5 : (arg7.access (Rect.unit (s := S32896) off5 S16.size p5)).Stores Finset.univ} {m5 : Finset.univ = Finset.univ ∨ ∀ a, (Rect.unit (s := S32896) off5 S16.size p5).stride a = 1}
    {h6 : arg7.view.LoadsAt (Rect.unit (s := S32896) off6 S16.size p6).toLoadRect} {x6 : (arg7.access (Rect.unit (s := S32896) off6 S16.size p6)).Stores Finset.univ} {m6 : Finset.univ = Finset.univ ∨ ∀ a, (Rect.unit (s := S32896) off6 S16.size p6).stride a = 1}
    {h7 : arg7.view.LoadsAt (Rect.unit (s := S32896) off7 S16.size p7).toLoadRect} {x7 : (arg7.access (Rect.unit (s := S32896) off7 S16.size p7)).Stores Finset.univ} {m7 : Finset.univ = Finset.univ ∨ ∀ a, (Rect.unit (s := S32896) off7 S16.size p7).stride a = 1}
    {rest : TProg F i α} (q : ℕ) (z : F .f32) (e0 : off0 = ![128 * q + 0]) (e1 : off1 = ![128 * q + 16]) (e2 : off2 = ![128 * q + 32]) (e3 : off3 = ![128 * q + 48]) (e4 : off4 = ![128 * q + 64]) (e5 : off5 = ![128 * q + 80]) (e6 : off6 = ![128 * q + 96]) (e7 : off7 = ![128 * q + 112]) (w0 : v0 = fun _ => z) (w1 : v1 = fun _ => z) (w2 : v2 = fun _ => z) (w3 : v3 = fun _ => z) (w4 : v4 = fun _ => z) (w5 : v5 = fun _ => z) (w6 : v6 = fun _ => z) (w7 : v7 = fun _ => z)
    (h : T3 d i arg7 arg8 arg9 ⟨mixA (128 * q) (128 * q + 128) (fun _ => z) s.acc, s.cur, s.prev⟩ Fr ⊢ WP d i rest Q) :
    T3 d i arg7 arg8 arg9 s Fr
      ⊢ WP d i (
        .op (.load arg7 (Rect.unit (s := S32896) off0 S16.size p0).toLoadRect h0) fun (_ : Vec F S16 .f32) =>
        .op (.store arg7 (Rect.unit (s := S32896) off0 S16.size p0) (shapeCast S16 v0 shapeCasts_S16_S16) Finset.univ x0 m0) fun _ =>
        .op (.load arg7 (Rect.unit (s := S32896) off1 S16.size p1).toLoadRect h1) fun (_ : Vec F S16 .f32) =>
        .op (.store arg7 (Rect.unit (s := S32896) off1 S16.size p1) (shapeCast S16 v1 shapeCasts_S16_S16) Finset.univ x1 m1) fun _ =>
        .op (.load arg7 (Rect.unit (s := S32896) off2 S16.size p2).toLoadRect h2) fun (_ : Vec F S16 .f32) =>
        .op (.store arg7 (Rect.unit (s := S32896) off2 S16.size p2) (shapeCast S16 v2 shapeCasts_S16_S16) Finset.univ x2 m2) fun _ =>
        .op (.load arg7 (Rect.unit (s := S32896) off3 S16.size p3).toLoadRect h3) fun (_ : Vec F S16 .f32) =>
        .op (.store arg7 (Rect.unit (s := S32896) off3 S16.size p3) (shapeCast S16 v3 shapeCasts_S16_S16) Finset.univ x3 m3) fun _ =>
        .op (.load arg7 (Rect.unit (s := S32896) off4 S16.size p4).toLoadRect h4) fun (_ : Vec F S16 .f32) =>
        .op (.store arg7 (Rect.unit (s := S32896) off4 S16.size p4) (shapeCast S16 v4 shapeCasts_S16_S16) Finset.univ x4 m4) fun _ =>
        .op (.load arg7 (Rect.unit (s := S32896) off5 S16.size p5).toLoadRect h5) fun (_ : Vec F S16 .f32) =>
        .op (.store arg7 (Rect.unit (s := S32896) off5 S16.size p5) (shapeCast S16 v5 shapeCasts_S16_S16) Finset.univ x5 m5) fun _ =>
        .op (.load arg7 (Rect.unit (s := S32896) off6 S16.size p6).toLoadRect h6) fun (_ : Vec F S16 .f32) =>
        .op (.store arg7 (Rect.unit (s := S32896) off6 S16.size p6) (shapeCast S16 v6 shapeCasts_S16_S16) Finset.univ x6 m6) fun _ =>
        .op (.load arg7 (Rect.unit (s := S32896) off7 S16.size p7).toLoadRect h7) fun (_ : Vec F S16 .f32) =>
        .op (.store arg7 (Rect.unit (s := S32896) off7 S16.size p7) (shapeCast S16 v7 shapeCasts_S16_S16) Finset.univ x7 m7) fun _ => rest) Q := by
  refine T3_congr' (s' := ⟨mixA (128 * q) (128 * q + 0) (fun _ => z) s.acc, s.cur, s.prev⟩)
    (fun w _ => (if_neg (by omega)).symm) (fun _ _ => rfl) rfl ?_
  refine lane_init (s := s) (n := 0) (q := 128 * q) (G := fun _ => z) (acc := s.acc) (fun x => by rw [w0]) e0 ?_
  refine lane_init (s := s) (n := 16) (q := 128 * q) (G := fun _ => z) (acc := s.acc) (fun x => by rw [w1]) e1 ?_
  refine lane_init (s := s) (n := 32) (q := 128 * q) (G := fun _ => z) (acc := s.acc) (fun x => by rw [w2]) e2 ?_
  refine lane_init (s := s) (n := 48) (q := 128 * q) (G := fun _ => z) (acc := s.acc) (fun x => by rw [w3]) e3 ?_
  refine lane_init (s := s) (n := 64) (q := 128 * q) (G := fun _ => z) (acc := s.acc) (fun x => by rw [w4]) e4 ?_
  refine lane_init (s := s) (n := 80) (q := 128 * q) (G := fun _ => z) (acc := s.acc) (fun x => by rw [w5]) e5 ?_
  refine lane_init (s := s) (n := 96) (q := 128 * q) (G := fun _ => z) (acc := s.acc) (fun x => by rw [w6]) e6 ?_
  refine lane_init (s := s) (n := 112) (q := 128 * q) (G := fun _ => z) (acc := s.acc) (fun x => by rw [w7]) e7 ?_
  exact h

/-! ## The running segment's scalar, and the loads that only read -/

/-- A scalar load of the running segment. -/
theorem sload {s : SS F} {Fr : sProp (MM F)} {hl : arg9.view.LoadsAt (Rect.unit (s := S1) ![0] S1.size inb_S1_S1_0).toLoadRect}
    {k : ((Rect.unit (s := S1) ![0] S1.size inb_S1_S1_0).shape.Idx → Elt F .i32) → TProg F i α} (h : T3 d i arg7 arg8 arg9 s Fr ⊢ WP d i (k fun _ => s.prev) Q) :
    T3 d i arg7 arg8 arg9 s Fr ⊢ WP d i (.op (.load arg9 (Rect.unit (s := S1) ![0] S1.size inb_S1_S1_0).toLoadRect hl) k) Q := by
  unfold T3 at h ⊢
  iintro ⟨H7, H8, H9, HF⟩
  iapply (wp_load_held (F := F) d i (m := arg9) (r := (Rect.unit (s := S1) ![0] S1.size inb_S1_S1_0)) (Finset.subset_univ _) (fun _ => trivial)) $$ H9
  iintro H9
  iapply h
  isplitl [H7]; · iexact H7
  isplitl [H8]; · iexact H8
  isplitl [H9]; · iexact H9
  iexact HF

/-- A scalar load whose value is not used, then a store of `v`: the running segment becomes `v`. -/
theorem setp {s : SS F} {Fr : sProp (MM F)} {v : BitVec 32} {hl : arg9.view.LoadsAt (Rect.unit (s := S1) ![0] S1.size inb_S1_S1_0).toLoadRect}
    {hx : (arg9.access (Rect.unit (s := S1) ![0] S1.size inb_S1_S1_0)).Stores Finset.univ} {hm : Finset.univ = Finset.univ ∨ ∀ a, (Rect.unit (s := S1) ![0] S1.size inb_S1_S1_0).stride a = 1}
    {rest : TProg F i α} (h : T3 d i arg7 arg8 arg9 ⟨s.acc, s.cur, v⟩ Fr ⊢ WP d i rest Q) :
    T3 d i arg7 arg8 arg9 s Fr ⊢ WP d i (.op (.load arg9 (Rect.unit (s := S1) ![0] S1.size inb_S1_S1_0).toLoadRect hl) fun _ => .op (.store arg9 (Rect.unit (s := S1) ![0] S1.size inb_S1_S1_0) (fun _ => v) Finset.univ hx hm) fun _ => rest) Q := by
  unfold T3 at h ⊢
  iintro ⟨H7, H8, H9, HF⟩
  iapply (wp_load_held (F := F) d i (m := arg9) (r := (Rect.unit (s := S1) ![0] S1.size inb_S1_S1_0)) (Finset.subset_univ _) (fun _ => trivial)) $$ H9
  iintro H9
  iapply (wp_store_held (F := F) d i (m := arg9) (Y := fun _ => v) (fun y => by
    rw [dif_pos]
    intro a
    have : a = 0 := Subsingleton.elim _ _
    subst this
    exact ⟨Nat.zero_le _, (y 0).isLt⟩)) $$ H9
  iintro H9
  iapply h
  isplitl [H7]; · iexact H7
  isplitl [H8]; · iexact H8
  isplitl [H9]; · iexact H9
  iexact HF

/-- The scalar load and the check before a row: the check holds of what the tile holds. -/
theorem head {s : SS F} {Fr : sProp (MM F)} {hl : arg9.view.LoadsAt (Rect.unit (s := S1) ![0] S1.size inb_S1_S1_0).toLoadRect}
    {chk : ((Rect.unit (s := S1) ![0] S1.size inb_S1_S1_0).shape.Idx → Elt F .i32) → Prop} {dec : (f : (Rect.unit (s := S1) ![0] S1.size inb_S1_S1_0).shape.Idx → Elt F .i32) → Decidable (chk f)}
    {k : (f : (Rect.unit (s := S1) ![0] S1.size inb_S1_S1_0).shape.Idx → Elt F .i32) → PLift (chk f) → TProg F i α} (hc : chk fun _ => s.prev)
    (h : T3 d i arg7 arg8 arg9 s Fr ⊢ WP d i (k (fun _ => s.prev) ⟨hc⟩) Q) :
    T3 d i arg7 arg8 arg9 s Fr ⊢ WP d i (.op (.load arg9 (Rect.unit (s := S1) ![0] S1.size inb_S1_S1_0).toLoadRect hl) fun (f : (Rect.unit (s := S1) ![0] S1.size inb_S1_S1_0).shape.Idx → Elt F .i32) => .op (.assume (chk f) (dec f)) (k f)) Q :=
  sload (k := fun (f : (Rect.unit (s := S1) ![0] S1.size inb_S1_S1_0).shape.Idx → Elt F .i32) => .op (.assume (chk f) (dec f)) (k f)) (h.trans (wp_assume 𝒱₀ (thr d i) none Set.univ hc))

/-- The load of a group's sixteen ids. -/
theorem idload {s : SS F} {o : ℕ} {B : ℕ → ℕ → F .f32} {I : ℕ → BitVec 32} {Fr : sProp (MM F)} {off : Fin 1 → ℕ}
    {p : ∀ a, off a + S16.size a ≤ S512.size a} {hl : arg6.view.LoadsAt (Rect.unit (s := S512) off S16.size p).toLoadRect}
    {k : IVec S16 32 → TProg F i α} (R : ℕ) (hR : o ≤ R ∧ R + 16 ≤ o + 256) (hoff : off = ![R])
    (h : T3 d i arg7 arg8 arg9 s (Slot d i arg5 arg6 o B I Fr) ⊢ WP d i (k fun x => I (R + (x 0).val)) Q) :
    T3 d i arg7 arg8 arg9 s (Slot d i arg5 arg6 o B I Fr) ⊢ WP d i (.op (.load arg6 (Rect.unit (s := S512) off S16.size p).toLoadRect hl) k) Q := by
  unfold T3 Slot at h ⊢
  iintro ⟨H7, H8, H9, H5, H6, HF⟩
  iapply (wp_load_held (F := F) d i (m := arg6) (r := (Rect.unit (s := S512) off S16.size p)) (ids_subset hoff hR) (ids_in hoff hR)) $$ H6
  iintro H6
  have e : (fun x => (c1 I : S512.Idx → BitVec 32) ((Rect.unit (s := S512) off S16.size p).emb x)) = fun x : S16.Idx => I (R + (x 0).val) := by
    funext x; subst hoff
    show I (R + 1 * (x 0).val) = _
    rw [Nat.one_mul]
  rw [e]
  iapply h
  isplitl [H7]; · iexact H7
  isplitl [H8]; · iexact H8
  isplitl [H9]; · iexact H9
  isplitl [H5]; · iexact H5
  isplitl [H6]; · iexact H6
  iexact HF

/-- Sixteen words of row `R` of `B` from word `n`. -/
abbrev rowV (B : ℕ → ℕ → F .f32) (R n : ℕ) : Vec F S1x16 .f32 := fun x => B R (n + (x 1).val)

/-- The load of one lane group of one row. -/
theorem rload {s : SS F} {o : ℕ} {B : ℕ → ℕ → F .f32} {I : ℕ → BitVec 32} {Fr : sProp (MM F)} {off : Fin 2 → ℕ}
    {p : ∀ a, off a + S1x16.size a ≤ S512x128.size a} {hl : arg5.view.LoadsAt (Rect.unit (s := S512x128) off S1x16.size p).toLoadRect}
    {k : Vec F S1x16 .f32 → TProg F i α} (R n : ℕ) (hR : o ≤ R ∧ R < o + 256) (hoff : off = ![R, n])
    (h : T3 d i arg7 arg8 arg9 s (Slot d i arg5 arg6 o B I Fr) ⊢ WP d i (k (rowV B R n)) Q) :
    T3 d i arg7 arg8 arg9 s (Slot d i arg5 arg6 o B I Fr) ⊢ WP d i (.op (.load arg5 (Rect.unit (s := S512x128) off S1x16.size p).toLoadRect hl) k) Q := by
  unfold T3 Slot at h ⊢
  iintro ⟨H7, H8, H9, H5, H6, HF⟩
  iapply (wp_load_held (F := F) d i (m := arg5) (r := (Rect.unit (s := S512x128) off S1x16.size p)) (row_subset hoff hR) (row_in hoff hR)) $$ H5
  iintro H5
  have e : (fun x => (c2 B : S512x128.Idx → F .f32) ((Rect.unit (s := S512x128) off S1x16.size p).emb x)) = rowV B R n := by
    funext x; subst hoff
    have h1 : (x 0).val < 1 := (x 0).isLt
    show B (R + 1 * (x 0).val) (n + 1 * (x 1).val) = _
    rw [Nat.one_mul, Nat.one_mul, show (x 0).val = 0 by omega, Nat.add_zero]
  rw [e]
  iapply h
  isplitl [H7]; · iexact H7
  isplitl [H8]; · iexact H8
  isplitl [H9]; · iexact H9
  isplitl [H5]; · iexact H5
  isplitl [H6]; · iexact H6
  iexact HF

/-- The sixteen loads of one lane group of a group's rows. -/
theorem rloads {s : SS F} {o : ℕ} {B : ℕ → ℕ → F .f32} {I : ℕ → BitVec 32} {Fr : sProp (MM F)} {off0 off1 off2 off3 off4 off5 off6 off7 off8 off9 off10 off11 off12 off13 off14 off15 : Fin 2 → ℕ}
    {p0 : ∀ a, off0 a + S1x16.size a ≤ S512x128.size a} {h0 : arg5.view.LoadsAt (Rect.unit (s := S512x128) off0 S1x16.size p0).toLoadRect}
    {p1 : ∀ a, off1 a + S1x16.size a ≤ S512x128.size a} {h1 : arg5.view.LoadsAt (Rect.unit (s := S512x128) off1 S1x16.size p1).toLoadRect}
    {p2 : ∀ a, off2 a + S1x16.size a ≤ S512x128.size a} {h2 : arg5.view.LoadsAt (Rect.unit (s := S512x128) off2 S1x16.size p2).toLoadRect}
    {p3 : ∀ a, off3 a + S1x16.size a ≤ S512x128.size a} {h3 : arg5.view.LoadsAt (Rect.unit (s := S512x128) off3 S1x16.size p3).toLoadRect}
    {p4 : ∀ a, off4 a + S1x16.size a ≤ S512x128.size a} {h4 : arg5.view.LoadsAt (Rect.unit (s := S512x128) off4 S1x16.size p4).toLoadRect}
    {p5 : ∀ a, off5 a + S1x16.size a ≤ S512x128.size a} {h5 : arg5.view.LoadsAt (Rect.unit (s := S512x128) off5 S1x16.size p5).toLoadRect}
    {p6 : ∀ a, off6 a + S1x16.size a ≤ S512x128.size a} {h6 : arg5.view.LoadsAt (Rect.unit (s := S512x128) off6 S1x16.size p6).toLoadRect}
    {p7 : ∀ a, off7 a + S1x16.size a ≤ S512x128.size a} {h7 : arg5.view.LoadsAt (Rect.unit (s := S512x128) off7 S1x16.size p7).toLoadRect}
    {p8 : ∀ a, off8 a + S1x16.size a ≤ S512x128.size a} {h8 : arg5.view.LoadsAt (Rect.unit (s := S512x128) off8 S1x16.size p8).toLoadRect}
    {p9 : ∀ a, off9 a + S1x16.size a ≤ S512x128.size a} {h9 : arg5.view.LoadsAt (Rect.unit (s := S512x128) off9 S1x16.size p9).toLoadRect}
    {p10 : ∀ a, off10 a + S1x16.size a ≤ S512x128.size a} {h10 : arg5.view.LoadsAt (Rect.unit (s := S512x128) off10 S1x16.size p10).toLoadRect}
    {p11 : ∀ a, off11 a + S1x16.size a ≤ S512x128.size a} {h11 : arg5.view.LoadsAt (Rect.unit (s := S512x128) off11 S1x16.size p11).toLoadRect}
    {p12 : ∀ a, off12 a + S1x16.size a ≤ S512x128.size a} {h12 : arg5.view.LoadsAt (Rect.unit (s := S512x128) off12 S1x16.size p12).toLoadRect}
    {p13 : ∀ a, off13 a + S1x16.size a ≤ S512x128.size a} {h13 : arg5.view.LoadsAt (Rect.unit (s := S512x128) off13 S1x16.size p13).toLoadRect}
    {p14 : ∀ a, off14 a + S1x16.size a ≤ S512x128.size a} {h14 : arg5.view.LoadsAt (Rect.unit (s := S512x128) off14 S1x16.size p14).toLoadRect}
    {p15 : ∀ a, off15 a + S1x16.size a ≤ S512x128.size a} {h15 : arg5.view.LoadsAt (Rect.unit (s := S512x128) off15 S1x16.size p15).toLoadRect}
    {k : Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → TProg F i α} (R n : ℕ) (hR : o ≤ R ∧ R + 16 ≤ o + 256) (e0 : off0 = ![R + 0, n]) (e1 : off1 = ![R + 1, n]) (e2 : off2 = ![R + 2, n]) (e3 : off3 = ![R + 3, n]) (e4 : off4 = ![R + 4, n]) (e5 : off5 = ![R + 5, n]) (e6 : off6 = ![R + 6, n]) (e7 : off7 = ![R + 7, n]) (e8 : off8 = ![R + 8, n]) (e9 : off9 = ![R + 9, n]) (e10 : off10 = ![R + 10, n]) (e11 : off11 = ![R + 11, n]) (e12 : off12 = ![R + 12, n]) (e13 : off13 = ![R + 13, n]) (e14 : off14 = ![R + 14, n]) (e15 : off15 = ![R + 15, n])
    (h : T3 d i arg7 arg8 arg9 s (Slot d i arg5 arg6 o B I Fr) ⊢ WP d i (k (rowV B (R + 0) n) (rowV B (R + 1) n) (rowV B (R + 2) n) (rowV B (R + 3) n) (rowV B (R + 4) n) (rowV B (R + 5) n) (rowV B (R + 6) n) (rowV B (R + 7) n) (rowV B (R + 8) n) (rowV B (R + 9) n) (rowV B (R + 10) n) (rowV B (R + 11) n) (rowV B (R + 12) n) (rowV B (R + 13) n) (rowV B (R + 14) n) (rowV B (R + 15) n)) Q) :
    T3 d i arg7 arg8 arg9 s (Slot d i arg5 arg6 o B I Fr) ⊢ WP d i (
        .op (.load arg5 (Rect.unit (s := S512x128) off0 S1x16.size p0).toLoadRect h0) fun v0 =>
        .op (.load arg5 (Rect.unit (s := S512x128) off1 S1x16.size p1).toLoadRect h1) fun v1 =>
        .op (.load arg5 (Rect.unit (s := S512x128) off2 S1x16.size p2).toLoadRect h2) fun v2 =>
        .op (.load arg5 (Rect.unit (s := S512x128) off3 S1x16.size p3).toLoadRect h3) fun v3 =>
        .op (.load arg5 (Rect.unit (s := S512x128) off4 S1x16.size p4).toLoadRect h4) fun v4 =>
        .op (.load arg5 (Rect.unit (s := S512x128) off5 S1x16.size p5).toLoadRect h5) fun v5 =>
        .op (.load arg5 (Rect.unit (s := S512x128) off6 S1x16.size p6).toLoadRect h6) fun v6 =>
        .op (.load arg5 (Rect.unit (s := S512x128) off7 S1x16.size p7).toLoadRect h7) fun v7 =>
        .op (.load arg5 (Rect.unit (s := S512x128) off8 S1x16.size p8).toLoadRect h8) fun v8 =>
        .op (.load arg5 (Rect.unit (s := S512x128) off9 S1x16.size p9).toLoadRect h9) fun v9 =>
        .op (.load arg5 (Rect.unit (s := S512x128) off10 S1x16.size p10).toLoadRect h10) fun v10 =>
        .op (.load arg5 (Rect.unit (s := S512x128) off11 S1x16.size p11).toLoadRect h11) fun v11 =>
        .op (.load arg5 (Rect.unit (s := S512x128) off12 S1x16.size p12).toLoadRect h12) fun v12 =>
        .op (.load arg5 (Rect.unit (s := S512x128) off13 S1x16.size p13).toLoadRect h13) fun v13 =>
        .op (.load arg5 (Rect.unit (s := S512x128) off14 S1x16.size p14).toLoadRect h14) fun v14 =>
        .op (.load arg5 (Rect.unit (s := S512x128) off15 S1x16.size p15).toLoadRect h15) fun v15 =>
        k v0 v1 v2 v3 v4 v5 v6 v7 v8 v9 v10 v11 v12 v13 v14 v15) Q := by
  refine rload (R + 0) n (by omega) e0 ?_
  refine rload (R + 1) n (by omega) e1 ?_
  refine rload (R + 2) n (by omega) e2 ?_
  refine rload (R + 3) n (by omega) e3 ?_
  refine rload (R + 4) n (by omega) e4 ?_
  refine rload (R + 5) n (by omega) e5 ?_
  refine rload (R + 6) n (by omega) e6 ?_
  refine rload (R + 7) n (by omega) e7 ?_
  refine rload (R + 8) n (by omega) e8 ?_
  refine rload (R + 9) n (by omega) e9 ?_
  refine rload (R + 10) n (by omega) e10 ?_
  refine rload (R + 11) n (by omega) e11 ?_
  refine rload (R + 12) n (by omega) e12 ?_
  refine rload (R + 13) n (by omega) e13 ?_
  refine rload (R + 14) n (by omega) e14 ?_
  refine rload (R + 15) n (by omega) e15 ?_
  exact h

/-! ## A conditional in the middle of a program -/

/-- A conditional followed by the rest of its block: each branch reaches the same resources. -/
theorem ifJp1 {c : Prop} {inst : Decidable c} {β γ : Type} {P P' : sProp (MM F)} {A : c → TProg F i β} {C : TProg F i β} {f : β → TProg F i γ}
    {Q : γ → sProp (MM F)} (hA : ∀ h : c, (P' ⊢ WP d i (Prog.bind C f) Q) → P ⊢ WP d i (Prog.bind (A h) f) Q) (hB : ¬c → P ⊢ P')
    (hC : P' ⊢ WP d i (Prog.bind C f) Q) :
    P ⊢ WP d i (Prog.bind (@dite _ c inst A fun _ => C) f) Q := by
  by_cases h : c
  · rw [dif_pos h]; exact hA h hC
  · rw [dif_neg h]; exact (hB h).trans hC

theorem ifJp2 {c : Prop} {inst : Decidable c} {β γ δ : Type} {P P' : sProp (MM F)} {A : c → TProg F i β} {C : TProg F i β} {f : β → TProg F i γ} {g : γ → TProg F i δ}
    {Q : δ → sProp (MM F)} (hA : ∀ h : c, (P' ⊢ WP d i (Prog.bind (Prog.bind C f) g) Q) → P ⊢ WP d i (Prog.bind (Prog.bind (A h) f) g) Q) (hB : ¬c → P ⊢ P')
    (hC : P' ⊢ WP d i (Prog.bind (Prog.bind C f) g) Q) :
    P ⊢ WP d i (Prog.bind (Prog.bind (@dite _ c inst A fun _ => C) f) g) Q := by
  by_cases h : c
  · rw [dif_pos h]; exact hA h hC
  · rw [dif_neg h]; exact (hB h).trans hC

/-- The last conditional of a block, with nothing after it. -/
theorem ifJp0 {c : Prop} {inst : Decidable c} {β : Type} {P P' : sProp (MM F)} {A : c → TProg F i β} {C : TProg F i β}
    {Q : β → sProp (MM F)} (hA : ∀ h : c, (P' ⊢ WP d i C Q) → P ⊢ WP d i (A h) Q) (hB : ¬c → P ⊢ P') (hC : P' ⊢ WP d i C Q) :
    P ⊢ WP d i (@dite _ c inst A fun _ => C) Q := by
  by_cases h : c
  · rw [dif_pos h]; exact hA h hC
  · rw [dif_neg h]; exact (hB h).trans hC

end Chains

end Cert.Proof.SegMax
end
-- ==== Proof.Arith.lean ====
/-
  Word arithmetic of the tile's body: its offsets in closed form, the conditions it branches on, the side conditions it
  assumes, and the states its row steps go through.
-/
module

public import proofs.«01_k».proof.Proof.Chains

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A boolean condition word is one exactly when the bit is. -/
theorem bit_one (b : Bool) : Scalar.cmpi .ne (Scalar.extui (BitVec.ofBool b)) 0#32 = 1#1 ↔ b = true := by
  cases b <;> decide

/-- The kernel's "differs" condition. -/
theorem cond_ne (a b : BitVec 32) : Scalar.cmpi .ne (Scalar.extui (Scalar.cmpi .ne a b)) 0#32 = 1#1 ↔ a ≠ b := by
  show Scalar.cmpi .ne (Scalar.extui (BitVec.ofBool (a != b))) 0#32 = 1#1 ↔ a ≠ b
  rw [bit_one, bne_iff_ne]

/-- The kernel's "both equal" condition. -/
theorem cond_uni (a b p : BitVec 32) :
    Scalar.cmpi .ne (Scalar.extui (Scalar.andi (Scalar.cmpi .eq a p) (Scalar.cmpi .eq b p))) 0#32 = 1#1 ↔ a = p ∧ b = p := by
  show Scalar.cmpi .ne (Scalar.extui (BitVec.ofBool (a == p) &&& BitVec.ofBool (b == p))) 0#32 = 1#1 ↔ _
  rw [show BitVec.ofBool (a == p) &&& BitVec.ofBool (b == p) = BitVec.ofBool ((a == p) && (b == p)) from by
    cases (a == p) <;> cases (b == p) <;> rfl, bit_one, Bool.and_eq_true, beq_iff_eq, beq_iff_eq]

/-- The kernel's "not both equal" condition. -/
theorem cond_mixed (a b p : BitVec 32) :
    Scalar.cmpi .ne (Scalar.extui (Scalar.xori (Scalar.andi (Scalar.cmpi .eq a p) (Scalar.cmpi .eq b p)) 1#1)) 0#32 = 1#1 ↔ ¬(a = p ∧ b = p) := by
  show Scalar.cmpi .ne (Scalar.extui ((BitVec.ofBool (a == p) &&& BitVec.ofBool (b == p)) ^^^ 1#1)) 0#32 = 1#1 ↔ _
  rw [show (BitVec.ofBool (a == p) &&& BitVec.ofBool (b == p)) ^^^ 1#1 = BitVec.ofBool (!((a == p) && (b == p))) from by
    cases (a == p) <;> cases (b == p) <;> rfl, bit_one, Bool.not_eq_true', Bool.and_eq_false_iff, beq_eq_false_iff_ne, beq_eq_false_iff_ne]
  tauto

/-- The accumulator's word offset of a lane group of row `p`. -/
theorem offw (p : BitVec 32) (hp : p.toNat ≤ 256) (j : ℕ) (hj : j < 128) :
    (Scalar.addi (Scalar.muli p 128#32) (BitVec.ofNat 32 j)).toNat = 128 * p.toNat + j := by
  show (p * 128#32 + BitVec.ofNat 32 j).toNat = _
  rw [BitVec.toNat_add, BitVec.toNat_mul, BitVec.toNat_ofNat, BitVec.toNat_ofNat]
  omega

theorem offp (p : BitVec 32) (hp : p.toNat ≤ 256) (j : ℕ) (hj : j < 128) :
    (![(Scalar.addi (Scalar.muli p 128#32) (BitVec.ofNat 32 j)).toNat] : Fin 1 → ℕ) = ![128 * p.toNat + j] := by
  rw [offw p hp j hj]

/-- A lane group of an accumulator row lies inside the accumulator. -/
theorem chkp (p : BitVec 32) (hp : p.toNat ≤ 256) (r : Fin 8) (a : Fin 1) :
    (![(Scalar.addi (Scalar.muli p 128#32) (BitVec.ofNat 32 (16 * r.val))).toNat] : Fin 1 → ℕ) a + S16.size a ≤ S32896.size a := by
  have hr := r.isLt
  rw [offp p hp _ (by omega)]
  have : a = 0 := Subsingleton.elim _ _
  subst this
  show 128 * p.toNat + 16 * r.val + 16 ≤ 32896
  omega

/-- The word of row `r` of group `t4` in the half of the fetch buffer that iteration `t3` reads. -/
theorem mainRow (b : BitVec 32) (t3 t4 : ℕ) (h3 : t3 ≤ 13) (h4 : t4 < 16) (r : ℕ) (hr : r < 16) :
    (Scalar.addi (Scalar.addi (Scalar.muli (Scalar.remsi (Scalar.subi (Scf.iv b 1#32 t3) b) 2#32) 256#32) (Scalar.muli (Scf.iv 0#32 1#32 t4) 16#32))
      (BitVec.ofNat 32 r)).toNat = 256 * (t3 % 2) + 16 * t4 + r := by
  have e : Scalar.subi (Scf.iv b 1#32 t3) b = BitVec.ofNat 32 t3 := by
    show b + BitVec.ofNat 32 t3 * 1#32 - b = _
    rw [BitVec.mul_one, BitVec.add_comm, BitVec.add_sub_cancel]
  rw [e]
  have e2 : Scalar.remsi (BitVec.ofNat 32 t3) 2#32 = BitVec.ofNat 32 (t3 % 2) := by
    have : ∀ t : Fin 14, Scalar.remsi (BitVec.ofNat 32 t.val) 2#32 = BitVec.ofNat 32 (t.val % 2) := by decide
    exact this ⟨t3, by omega⟩
  rw [e2]
  show (BitVec.ofNat 32 (t3 % 2) * 256#32 + (0#32 + BitVec.ofNat 32 t4 * 1#32) * 16#32 + BitVec.ofNat 32 r).toNat = _
  simp only [BitVec.toNat_add, BitVec.toNat_mul, BitVec.toNat_ofNat]
  omega

theorem mainRow0 (b : BitVec 32) (t3 t4 : ℕ) (h3 : t3 ≤ 13) (h4 : t4 < 16) :
    (Scalar.addi (Scalar.muli (Scalar.remsi (Scalar.subi (Scf.iv b 1#32 t3) b) 2#32) 256#32) (Scalar.muli (Scf.iv 0#32 1#32 t4) 16#32)).toNat
      = 256 * (t3 % 2) + 16 * t4 := by
  have := mainRow b t3 t4 h3 h4 0 (by decide)
  rwa [show Scalar.addi (Scalar.addi (Scalar.muli (Scalar.remsi (Scalar.subi (Scf.iv b 1#32 t3) b) 2#32) 256#32) (Scalar.muli (Scf.iv 0#32 1#32 t4) 16#32))
      (BitVec.ofNat 32 0) = _ from BitVec.add_zero _] at this

/-! ## The states of the row steps -/

/-- The state after the first `n` rows from row `R` of the rows `B` with ids `I`. -/
def rowsS (I : ℕ → BitVec 32) (B : ℕ → ℕ → F .f32) (R : ℕ) : ℕ → SS F → SS F
  | 0, s => s
  | n + 1, s => rowS (I (R + n)) (B (R + n)) (rowsS I B R n s)

theorem flushS_prev (sid : BitVec 32) (s : SS F) : (flushS sid s).prev = sid := by
  by_cases h : sid = s.prev
  · rw [flushS, if_pos h]; exact h.symm
  · rw [flushS, if_neg h]

theorem rowsS_prev {I : ℕ → BitVec 32} {B : ℕ → ℕ → F .f32} {R : ℕ} {s : SS F} (hp : s.prev.toNat ≤ 256) (n : ℕ)
    (hI : ∀ r, r < n → (I (R + r)).toNat ≤ 256) : (rowsS I B R n s).prev.toNat ≤ 256 := by
  cases n with
  | zero => exact hp
  | succ n =>
    show (flushS _ _).prev.toNat ≤ 256
    rw [flushS_prev]; exact hI n (Nat.lt_succ_self n)

section
variable {d : Dev nD} {i : grid0.Coords}
variable {arg7 : Memref sig .scVector .vmem S32896 .f32} {arg8 : Memref sig .scVector .vmem S128 .f32} {arg9 : Memref sig .scVector .smem S1 .i32}

theorem flush_ne {s : SS F} {Fr X : sProp (MM F)} {sid v : BitVec 32} (h : sid ≠ s.prev) (hv : v = sid)
    (hK : T3 d i arg7 arg8 arg9 (flushS sid s) Fr ⊢ X) :
    T3 d i arg7 arg8 arg9 ⟨flushA s.acc s.cur s.prev.toNat, fun _ => ninf, v⟩ Fr ⊢ X := by
  subst hv
  rw [flushS, if_neg h] at hK; exact hK

theorem flush_eq {s : SS F} {Fr : sProp (MM F)} {sid : BitVec 32} (h : sid = s.prev) :
    T3 d i arg7 arg8 arg9 s Fr ⊢ T3 d i arg7 arg8 arg9 (flushS sid s) Fr := by
  rw [flushS, if_pos h]
end

end Cert.Proof.SegMax
end
-- ==== Proof.Chunks.lean ====
/-
  Which rows a tile reads: the tile's number, its chunks of 256 rows, and the closed forms of the offsets its copies name
  and of the conditions and trip counts that depend on the tile.
-/
module

public import proofs.«01_k».proof.Proof.Arith

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The tile's number, its first chunk, and how many chunks it has. -/
def wid (i : grid0.Coords) : ℕ := 16 * (i 0).val + (i 1).val
def c0w (w : ℕ) : ℕ := 12 * w + min w 6
def nch (w : ℕ) : ℕ := if w < 6 then 13 else 12

theorem wid_lt (i : grid0.Coords) : wid i < 32 := by
  have h0 : (i 0).val < 2 := (i 0).isLt
  have h1 : (i 1).val < 16 := (i 1).isLt
  unfold wid; omega

/-- The words the body computes these by. -/
def w1 (a b : ℕ) : BitVec 32 := Scalar.addi (Scalar.muli (BitVec.ofNat 32 a) 16#32) (BitVec.ofNat 32 b)
def w35 (a b : ℕ) : BitVec 32 := Scalar.addi (Scalar.muli 12#32 (w1 a b)) (Scalar.minsi (w1 a b) 6#32)
def w39 (a b : ℕ) : BitVec 32 := Scalar.addi (w35 a b) (Scalar.addi 12#32 (Scalar.select (Scalar.cmpi .slt (w1 a b) 6#32) 1#32 0#32))
def w54 (a b : ℕ) : BitVec 32 := Scalar.addi (w35 a b) (Scalar.muli (Scalar.divsi (Scalar.subi (w39 a b) (w35 a b)) 1#32) 1#32)
def w51 (a b : ℕ) : BitVec 32 := Scalar.addi (w35 a b) (Scalar.subi (w39 a b) (w35 a b))

theorem w1_toNat : ∀ a : Fin 2, ∀ b : Fin 16, (w1 a.val b.val).toNat = 16 * a.val + b.val := by decide +kernel

theorem w35_toNat : ∀ a : Fin 2, ∀ b : Fin 16, (Scalar.muli (w35 a.val b.val) 256#32).toNat = 256 * c0w (16 * a.val + b.val) := by decide +kernel

theorem trips3' : ∀ a : Fin 2, ∀ b : Fin 16, (Scf.Loop.mk (w35 a.val b.val) (w54 a.val b.val) 1#32).trips = nch (16 * a.val + b.val) := by decide +kernel

theorem trips5' : ∀ a : Fin 2, ∀ b : Fin 16, (Scf.Loop.mk (w54 a.val b.val) (w51 a.val b.val) 1#32).trips = 0 := by decide +kernel

theorem row3' : ∀ a : Fin 2, ∀ b : Fin 16, ∀ t : Fin 13,
    (Scalar.muli (Scf.iv (w35 a.val b.val) 1#32 t.val) 256#32).toNat = 256 * (c0w (16 * a.val + b.val) + t.val) := by decide +kernel

theorem row3n' : ∀ a : Fin 2, ∀ b : Fin 16, ∀ t : Fin 13,
    (Scalar.muli (Scalar.addi (Scf.iv (w35 a.val b.val) 1#32 t.val) 1#32) 256#32).toNat = 256 * (c0w (16 * a.val + b.val) + t.val + 1) := by decide +kernel

theorem half3' : ∀ a : Fin 2, ∀ b : Fin 16, ∀ t : Fin 13,
    (Scalar.muli (Scalar.remsi (Scalar.subi (Scf.iv (w35 a.val b.val) 1#32 t.val) (w35 a.val b.val)) 2#32) 256#32).toNat = 256 * (t.val % 2) := by decide +kernel

theorem half3n' : ∀ a : Fin 2, ∀ b : Fin 16, ∀ t : Fin 13,
    (Scalar.muli (Scalar.subi 1#32 (Scalar.remsi (Scalar.subi (Scf.iv (w35 a.val b.val) 1#32 t.val) (w35 a.val b.val)) 2#32)) 256#32).toNat
      = 256 * ((t.val + 1) % 2) := by decide +kernel

theorem more3' : ∀ a : Fin 2, ∀ b : Fin 16, ∀ t : Fin 13,
    Scalar.cmpi .ne (Scalar.extui (Scalar.cmpi .slt (Scalar.addi (Scf.iv (w35 a.val b.val) 1#32 t.val) 1#32) (w39 a.val b.val))) 0#32 = 1#1
      ↔ t.val + 1 < nch (16 * a.val + b.val) := by decide +kernel

theorem last' : ∀ a : Fin 2, ∀ b : Fin 16,
    Scalar.cmpi .ne (Scalar.extui (Scalar.cmpi .eq (w1 a.val b.val) 31#32)) 0#32 = 1#1 ↔ 16 * a.val + b.val = 31 := by decide +kernel

theorem trips3 (i : grid0.Coords) : (k0_t3_loop i).trips = nch (wid i) := trips3' (i 0) (i 1)
theorem trips5 (i : grid0.Coords) : (k0_t5_loop i).trips = 0 := trips5' (i 0) (i 1)
theorem trips1 : k0_t1_loop.trips = 257 := by decide +kernel
theorem trips2 : k0_t2_loop.trips = 16 := by decide +kernel
theorem trips4 : k0_t4_loop.trips = 16 := by decide +kernel
theorem nch_le (w : ℕ) : nch w ≤ 13 := by unfold nch; split <;> omega
theorem nch_pos (w : ℕ) : 0 < nch w := by unfold nch; split <;> omega
theorem c0w_le (w t : ℕ) (hw : w < 32) (ht : t < nch w) : 256 * (c0w w + t) + 256 ≤ 100000 := by
  unfold nch at ht; unfold c0w
  split at ht <;> omega

theorem t3_lt (i : grid0.Coords) (t : Fin (k0_t3_loop i).trips) : t.val < nch (wid i) := (trips3 i) ▸ t.isLt
theorem t3_lt13 (i : grid0.Coords) (t : Fin (k0_t3_loop i).trips) : t.val < 13 := lt_of_lt_of_le (t3_lt i t) (nch_le _)

theorem last_iff (i : grid0.Coords) : k0_cond1 i = 1#1 ↔ wid i = 31 := last' (i 0) (i 1)
theorem more_iff (i : grid0.Coords) (t : Fin (k0_t3_loop i).trips) : k0_cond20 i t = 1#1 ↔ t.val + 1 < nch (wid i) :=
  more3' (i 0) (i 1) ⟨t.val, t3_lt13 i t⟩

theorem off156 (i : grid0.Coords) : k0_off156 i = ![256 * (c0w (wid i) + 0), 0] := congrArg (fun n => (![n, 0] : Fin 2 → ℕ)) (w35_toNat (i 0) (i 1))
theorem off157 (i : grid0.Coords) : k0_off157 i = ![256 * (c0w (wid i) + 0)] := congrArg (fun n => (![n] : Fin 1 → ℕ)) (w35_toNat (i 0) (i 1))
theorem off158 (i : grid0.Coords) (t : Fin (k0_t3_loop i).trips) : k0_off158 i t = ![256 * (t.val % 2), 0] :=
  congrArg (fun n => (![n, 0] : Fin 2 → ℕ)) (half3' (i 0) (i 1) ⟨t.val, t3_lt13 i t⟩)
theorem off160 (i : grid0.Coords) (t : Fin (k0_t3_loop i).trips) : k0_off160 i t = ![256 * (t.val % 2)] :=
  congrArg (fun n => (![n] : Fin 1 → ℕ)) (half3' (i 0) (i 1) ⟨t.val, t3_lt13 i t⟩)
theorem off162 (i : grid0.Coords) (t : Fin (k0_t3_loop i).trips) : k0_off162 i t = ![256 * ((t.val + 1) % 2), 0] :=
  congrArg (fun n => (![n, 0] : Fin 2 → ℕ)) (half3n' (i 0) (i 1) ⟨t.val, t3_lt13 i t⟩)
theorem off164 (i : grid0.Coords) (t : Fin (k0_t3_loop i).trips) : k0_off164 i t = ![256 * ((t.val + 1) % 2)] :=
  congrArg (fun n => (![n] : Fin 1 → ℕ)) (half3n' (i 0) (i 1) ⟨t.val, t3_lt13 i t⟩)
theorem off163 (i : grid0.Coords) (t : Fin (k0_t3_loop i).trips) : k0_off163 i t = ![256 * (c0w (wid i) + (t.val + 1)), 0] :=
  congrArg (fun n => (![n, 0] : Fin 2 → ℕ)) (row3n' (i 0) (i 1) ⟨t.val, t3_lt13 i t⟩)
theorem off165 (i : grid0.Coords) (t : Fin (k0_t3_loop i).trips) : k0_off165 i t = ![256 * (c0w (wid i) + (t.val + 1))] :=
  congrArg (fun n => (![n] : Fin 1 → ℕ)) (row3n' (i 0) (i 1) ⟨t.val, t3_lt13 i t⟩)
theorem off481 (i : grid0.Coords) : k0_off481 i = ![wid i, 0] := congrArg (fun n => (![n, 0] : Fin 2 → ℕ)) (w1_toNat (i 0) (i 1))

end Cert.Proof.SegMax
end
-- ==== Proof.Tree.lean ====
/-
  The maximum of a group of 16 rows and the state a group leaves.
-/
module

public import proofs.«01_k».proof.Proof.Arith

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The maximum of 16 rows, in the kernel's order. -/
def gmx (B : ℕ → ℕ → F .f32) (R k : ℕ) : F .f32 :=
  mx (mx (mx (mx (B (R + 0) k) (B (R + 1) k)) (mx (B (R + 2) k) (B (R + 3) k))) (mx (mx (B (R + 4) k) (B (R + 5) k)) (mx (B (R + 6) k) (B (R + 7) k)))) (mx (mx (mx (B (R + 8) k) (B (R + 9) k)) (mx (B (R + 10) k) (B (R + 11) k))) (mx (mx (B (R + 12) k) (B (R + 13) k)) (mx (B (R + 14) k) (B (R + 15) k))))

/-- The state after a group of 16 rows: at once when the first and the last are of the running segment, row by row otherwise. -/
def groupS (I : ℕ → BitVec 32) (B : ℕ → ℕ → F .f32) (R : ℕ) (s : SS F) : SS F :=
  if I (R + 0) = s.prev ∧ I (R + 15) = s.prev then ⟨s.acc, fun k => mx (s.cur k) (gmx B R k), s.prev⟩ else rowsS I B R 16 s

theorem rowV_cast (B : ℕ → ℕ → F .f32) (R n : ℕ) (h : S1x16.ShapeCasts S16) (x : S16.Idx) :
    shapeCast S16 (rowV B R n : S1x16.Idx → F .f32) h x = B R (n + (x 0).val) := by
  rw [shapeCast_dropUnit_apply]; rfl

/-- The kernel's tree of maxima over one lane group. -/
theorem tree16 (B : ℕ → ℕ → F .f32) (R n : ℕ) (h : S1x16.ShapeCasts S16) (x : S16.Idx) :
    ((maximumf (maximumf (maximumf (maximumf (shapeCast S16 (rowV B (R + 0) n : S1x16.Idx → F .f32) h) (shapeCast S16 (rowV B (R + 1) n : S1x16.Idx → F .f32) h)) (maximumf (shapeCast S16 (rowV B (R + 2) n : S1x16.Idx → F .f32) h) (shapeCast S16 (rowV B (R + 3) n : S1x16.Idx → F .f32) h))) (maximumf (maximumf (shapeCast S16 (rowV B (R + 4) n : S1x16.Idx → F .f32) h) (shapeCast S16 (rowV B (R + 5) n : S1x16.Idx → F .f32) h)) (maximumf (shapeCast S16 (rowV B (R + 6) n : S1x16.Idx → F .f32) h) (shapeCast S16 (rowV B (R + 7) n : S1x16.Idx → F .f32) h)))) (maximumf (maximumf (maximumf (shapeCast S16 (rowV B (R + 8) n : S1x16.Idx → F .f32) h) (shapeCast S16 (rowV B (R + 9) n : S1x16.Idx → F .f32) h)) (maximumf (shapeCast S16 (rowV B (R + 10) n : S1x16.Idx → F .f32) h) (shapeCast S16 (rowV B (R + 11) n : S1x16.Idx → F .f32) h))) (maximumf (maximumf (shapeCast S16 (rowV B (R + 12) n : S1x16.Idx → F .f32) h) (shapeCast S16 (rowV B (R + 13) n : S1x16.Idx → F .f32) h)) (maximumf (shapeCast S16 (rowV B (R + 14) n : S1x16.Idx → F .f32) h) (shapeCast S16 (rowV B (R + 15) n : S1x16.Idx → F .f32) h))))) : FVec F S16 .f32) x = gmx B R (n + (x 0).val) := by
  exact congrArg₂ mx (congrArg₂ mx (congrArg₂ mx (congrArg₂ mx (rowV_cast B (R + 0) n h x) (rowV_cast B (R + 1) n h x)) (congrArg₂ mx (rowV_cast B (R + 2) n h x) (rowV_cast B (R + 3) n h x))) (congrArg₂ mx (congrArg₂ mx (rowV_cast B (R + 4) n h x) (rowV_cast B (R + 5) n h x)) (congrArg₂ mx (rowV_cast B (R + 6) n h x) (rowV_cast B (R + 7) n h x)))) (congrArg₂ mx (congrArg₂ mx (congrArg₂ mx (rowV_cast B (R + 8) n h x) (rowV_cast B (R + 9) n h x)) (congrArg₂ mx (rowV_cast B (R + 10) n h x) (rowV_cast B (R + 11) n h x))) (congrArg₂ mx (congrArg₂ mx (rowV_cast B (R + 12) n h x) (rowV_cast B (R + 13) n h x)) (congrArg₂ mx (rowV_cast B (R + 14) n h x) (rowV_cast B (R + 15) n h x))))

/-- A conditional without evidence, with nothing after it. -/
theorem ifJpI0 {d : Dev nD} {i : grid0.Coords} {c : Prop} {inst : Decidable c} {β : Type} {P P' : sProp (MM F)} {A C : TProg F i β}
    {Q : β → sProp (MM F)} (hA : ∀ h : c, (P' ⊢ WP d i C Q) → P ⊢ WP d i A Q) (hB : ¬c → P ⊢ P') (hC : P' ⊢ WP d i C Q) :
    P ⊢ WP d i (@ite _ c inst A C) Q := by
  by_cases h : c
  · rw [if_pos h]; exact hA h hC
  · rw [if_neg h]; exact (hB h).trans hC

end Cert.Proof.SegMax
end
-- ==== Proof.SlowTail.lean ====
/-
  The row-by-row path of a group of 16 rows of the last 256 rows: each row flushes the running segment when its id
  differs from it and takes its maximum into the running segment's buffer.
-/
module

public import proofs.«01_k».proof.Proof.Arith

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 4000000 in
/-- A group of 16 rows of several segments, row by row (the last 256 rows): all but the last row's last two lane groups. -/
theorem slow_tail {d : Dev nD} {i : grid0.Coords} {arg2 : Memref sig .scVector .hbm S100000x128 .f32} {harg2 : arg2.IsWhole} {arg3 : Memref sig .scVector .hbm S100000 .i32} {harg3 : arg3.IsWhole} {arg4 : Memref sig .scVector .hbm S32x32768 .f32} {harg4 : arg4.IsWhole} {arg5 : Memref sig .scVector .vmem S512x128 .f32} {harg5 : arg5.IsWhole} {arg6 : Memref sig .scVector .vmem S512 .i32} {harg6 : arg6.IsWhole} {arg7 : Memref sig .scVector .vmem S32896 .f32} {harg7 : arg7.IsWhole} {arg8 : Memref sig .scVector .vmem S128 .f32} {harg8 : arg8.IsWhole} {arg9 : Memref sig .scVector .smem S1 .i32} {harg9 : arg9.IsWhole} {arg10 : DmaSems sig S_} {arg11 : DmaSems sig S_} {v313_r0 : DmaSems sig S_} {v313_r1 : DmaSems sig S_} {v171_r2 : DmaSems sig S_} {v2 : FVec F S16 .f32} {k0_h1 : k0_cond1 i = 1#1} {k0_t2 : Fin k0_t2_loop.trips} {v314 : BitVec 32} {v951 : Elt F .i32} {v953 : BitVec 32} {v956 : BitVec 32} {k0_h3 : k0_cond3 v951 v953 v956 = 1#1}
    (hv2 : v2 = fun _ => ninf) {s : SS F} {B : ℕ → ℕ → F .f32} {I : ℕ → BitVec 32} {Fr : sProp (MM F)} (hp : s.prev.toNat ≤ 256)
    (hI : ∀ r, r < 16 → (I ((16 * k0_t2.val) + r)).toNat ≤ 256) {α : Type} {K : PUnit → TProg F i α} {Q : α → sProp (MM F)}
    (h : T3 d i arg7 arg8 arg9 ⟨(flushS (I ((16 * k0_t2.val) + 15)) (rowsS I B (16 * k0_t2.val) 15 s)).acc,
        mix 96 (rowsS I B (16 * k0_t2.val) 16 s).cur (flushS (I ((16 * k0_t2.val) + 15)) (rowsS I B (16 * k0_t2.val) 15 s)).cur,
        (flushS (I ((16 * k0_t2.val) + 15)) (rowsS I B (16 * k0_t2.val) 15 s)).prev⟩ (Slot d i arg5 arg6 0 B I Fr) ⊢ WP d i (K ⟨⟩) Q) :
    T3 d i arg7 arg8 arg9 s (Slot d i arg5 arg6 0 B I Fr)
      ⊢ WP d i (Prog.bind (k0_part85 (F := F) i arg2 harg2 arg3 harg3 arg4 harg4 arg5 harg5 arg6 harg6 arg7 harg7 arg8 harg8 arg9 harg9 arg10 arg11 v313_r0 v313_r1 v171_r2 v2 k0_h1 k0_t2 v314 (fun x => I ((16 * k0_t2.val) + (x 0).val)) v951 v953 v956 k0_h3) K) Q := by
  have ht : k0_t2.val < 16 := k0_t2.isLt
  have p0 : (rowsS I B (16 * k0_t2.val) 0 s).prev.toNat ≤ 256 := rowsS_prev hp 0 fun r hr => hI r (hr.trans_le (by decide))
  refine head ?_ ?_
  · exact fun _ _ _ r a => chkp _ p0 r a
  refine ifJp2 (P' := T3 d i arg7 arg8 arg9 (flushS (I ((16 * k0_t2.val) + 0)) (rowsS I B (16 * k0_t2.val) 0 s)) (Slot d i arg5 arg6 0 B I Fr)) (fun hc hK => ?_) (fun hc => ?_) ?_
  · replace hc := (cond_ne (I ((16 * k0_t2.val) + 0)) (rowsS I B (16 * k0_t2.val) 0 s).prev).1 hc
    refine flushes (rowsS I B (16 * k0_t2.val) 0 s).prev.toNat (offp _ p0 0 (by decide)) (offp _ p0 16 (by decide)) (offp _ p0 32 (by decide)) (offp _ p0 48 (by decide)) (offp _ p0 64 (by decide)) (offp _ p0 80 (by decide)) (offp _ p0 96 (by decide)) (offp _ p0 112 (by decide)) ?_
    refine resets ninf hv2 hv2 hv2 hv2 hv2 hv2 hv2 hv2 ?_
    refine setp ?_
    exact flush_ne hc rfl hK
  · exact flush_eq (not_not.1 fun hn => hc ((cond_ne (I ((16 * k0_t2.val) + 0)) (rowsS I B (16 * k0_t2.val) 0 s).prev).2 hn))
  refine lanes ((16 * k0_t2.val) + 0) (by omega) (k0_off12_eq ..) (k0_off13_eq ..) (k0_off14_eq ..) (k0_off15_eq ..) (k0_off16_eq ..) (k0_off17_eq ..) (k0_off18_eq ..) (k0_off19_eq ..) ?_
  have p1 : (rowsS I B (16 * k0_t2.val) 1 s).prev.toNat ≤ 256 := rowsS_prev hp 1 fun r hr => hI r (hr.trans_le (by decide))
  refine head ?_ ?_
  · exact fun _ _ _ r a => chkp _ p1 r a
  refine ifJp2 (P' := T3 d i arg7 arg8 arg9 (flushS (I ((16 * k0_t2.val) + 1)) (rowsS I B (16 * k0_t2.val) 1 s)) (Slot d i arg5 arg6 0 B I Fr)) (fun hc hK => ?_) (fun hc => ?_) ?_
  · replace hc := (cond_ne (I ((16 * k0_t2.val) + 1)) (rowsS I B (16 * k0_t2.val) 1 s).prev).1 hc
    refine flushes (rowsS I B (16 * k0_t2.val) 1 s).prev.toNat (offp _ p1 0 (by decide)) (offp _ p1 16 (by decide)) (offp _ p1 32 (by decide)) (offp _ p1 48 (by decide)) (offp _ p1 64 (by decide)) (offp _ p1 80 (by decide)) (offp _ p1 96 (by decide)) (offp _ p1 112 (by decide)) ?_
    refine resets ninf hv2 hv2 hv2 hv2 hv2 hv2 hv2 hv2 ?_
    refine setp ?_
    exact flush_ne hc rfl hK
  · exact flush_eq (not_not.1 fun hn => hc ((cond_ne (I ((16 * k0_t2.val) + 1)) (rowsS I B (16 * k0_t2.val) 1 s).prev).2 hn))
  refine lanes ((16 * k0_t2.val) + 1) (by omega) (k0_off21_eq ..) (k0_off22_eq ..) (k0_off23_eq ..) (k0_off24_eq ..) (k0_off25_eq ..) (k0_off26_eq ..) (k0_off27_eq ..) (k0_off28_eq ..) ?_
  have p2 : (rowsS I B (16 * k0_t2.val) 2 s).prev.toNat ≤ 256 := rowsS_prev hp 2 fun r hr => hI r (hr.trans_le (by decide))
  refine head ?_ ?_
  · exact fun _ _ _ r a => chkp _ p2 r a
  refine ifJp2 (P' := T3 d i arg7 arg8 arg9 (flushS (I ((16 * k0_t2.val) + 2)) (rowsS I B (16 * k0_t2.val) 2 s)) (Slot d i arg5 arg6 0 B I Fr)) (fun hc hK => ?_) (fun hc => ?_) ?_
  · replace hc := (cond_ne (I ((16 * k0_t2.val) + 2)) (rowsS I B (16 * k0_t2.val) 2 s).prev).1 hc
    refine flushes (rowsS I B (16 * k0_t2.val) 2 s).prev.toNat (offp _ p2 0 (by decide)) (offp _ p2 16 (by decide)) (offp _ p2 32 (by decide)) (offp _ p2 48 (by decide)) (offp _ p2 64 (by decide)) (offp _ p2 80 (by decide)) (offp _ p2 96 (by decide)) (offp _ p2 112 (by decide)) ?_
    refine resets ninf hv2 hv2 hv2 hv2 hv2 hv2 hv2 hv2 ?_
    refine setp ?_
    exact flush_ne hc rfl hK
  · exact flush_eq (not_not.1 fun hn => hc ((cond_ne (I ((16 * k0_t2.val) + 2)) (rowsS I B (16 * k0_t2.val) 2 s).prev).2 hn))
  refine lanes ((16 * k0_t2.val) + 2) (by omega) (k0_off30_eq ..) (k0_off31_eq ..) (k0_off32_eq ..) (k0_off33_eq ..) (k0_off34_eq ..) (k0_off35_eq ..) (k0_off36_eq ..) (k0_off37_eq ..) ?_
  have p3 : (rowsS I B (16 * k0_t2.val) 3 s).prev.toNat ≤ 256 := rowsS_prev hp 3 fun r hr => hI r (hr.trans_le (by decide))
  refine head ?_ ?_
  · exact fun _ _ _ r a => chkp _ p3 r a
  refine ifJp2 (P' := T3 d i arg7 arg8 arg9 (flushS (I ((16 * k0_t2.val) + 3)) (rowsS I B (16 * k0_t2.val) 3 s)) (Slot d i arg5 arg6 0 B I Fr)) (fun hc hK => ?_) (fun hc => ?_) ?_
  · replace hc := (cond_ne (I ((16 * k0_t2.val) + 3)) (rowsS I B (16 * k0_t2.val) 3 s).prev).1 hc
    refine flushes (rowsS I B (16 * k0_t2.val) 3 s).prev.toNat (offp _ p3 0 (by decide)) (offp _ p3 16 (by decide)) (offp _ p3 32 (by decide)) (offp _ p3 48 (by decide)) (offp _ p3 64 (by decide)) (offp _ p3 80 (by decide)) (offp _ p3 96 (by decide)) (offp _ p3 112 (by decide)) ?_
    refine resets ninf hv2 hv2 hv2 hv2 hv2 hv2 hv2 hv2 ?_
    refine setp ?_
    exact flush_ne hc rfl hK
  · exact flush_eq (not_not.1 fun hn => hc ((cond_ne (I ((16 * k0_t2.val) + 3)) (rowsS I B (16 * k0_t2.val) 3 s).prev).2 hn))
  refine lanes ((16 * k0_t2.val) + 3) (by omega) (k0_off39_eq ..) (k0_off40_eq ..) (k0_off41_eq ..) (k0_off42_eq ..) (k0_off43_eq ..) (k0_off44_eq ..) (k0_off45_eq ..) (k0_off46_eq ..) ?_
  have p4 : (rowsS I B (16 * k0_t2.val) 4 s).prev.toNat ≤ 256 := rowsS_prev hp 4 fun r hr => hI r (hr.trans_le (by decide))
  refine head ?_ ?_
  · exact fun _ _ _ r a => chkp _ p4 r a
  refine ifJp2 (P' := T3 d i arg7 arg8 arg9 (flushS (I ((16 * k0_t2.val) + 4)) (rowsS I B (16 * k0_t2.val) 4 s)) (Slot d i arg5 arg6 0 B I Fr)) (fun hc hK => ?_) (fun hc => ?_) ?_
  · replace hc := (cond_ne (I ((16 * k0_t2.val) + 4)) (rowsS I B (16 * k0_t2.val) 4 s).prev).1 hc
    refine flushes (rowsS I B (16 * k0_t2.val) 4 s).prev.toNat (offp _ p4 0 (by decide)) (offp _ p4 16 (by decide)) (offp _ p4 32 (by decide)) (offp _ p4 48 (by decide)) (offp _ p4 64 (by decide)) (offp _ p4 80 (by decide)) (offp _ p4 96 (by decide)) (offp _ p4 112 (by decide)) ?_
    refine resets ninf hv2 hv2 hv2 hv2 hv2 hv2 hv2 hv2 ?_
    refine setp ?_
    exact flush_ne hc rfl hK
  · exact flush_eq (not_not.1 fun hn => hc ((cond_ne (I ((16 * k0_t2.val) + 4)) (rowsS I B (16 * k0_t2.val) 4 s).prev).2 hn))
  refine lanes ((16 * k0_t2.val) + 4) (by omega) (k0_off48_eq ..) (k0_off49_eq ..) (k0_off50_eq ..) (k0_off51_eq ..) (k0_off52_eq ..) (k0_off53_eq ..) (k0_off54_eq ..) (k0_off55_eq ..) ?_
  have p5 : (rowsS I B (16 * k0_t2.val) 5 s).prev.toNat ≤ 256 := rowsS_prev hp 5 fun r hr => hI r (hr.trans_le (by decide))
  refine head ?_ ?_
  · exact fun _ _ _ r a => chkp _ p5 r a
  refine ifJp2 (P' := T3 d i arg7 arg8 arg9 (flushS (I ((16 * k0_t2.val) + 5)) (rowsS I B (16 * k0_t2.val) 5 s)) (Slot d i arg5 arg6 0 B I Fr)) (fun hc hK => ?_) (fun hc => ?_) ?_
  · replace hc := (cond_ne (I ((16 * k0_t2.val) + 5)) (rowsS I B (16 * k0_t2.val) 5 s).prev).1 hc
    refine flushes (rowsS I B (16 * k0_t2.val) 5 s).prev.toNat (offp _ p5 0 (by decide)) (offp _ p5 16 (by decide)) (offp _ p5 32 (by decide)) (offp _ p5 48 (by decide)) (offp _ p5 64 (by decide)) (offp _ p5 80 (by decide)) (offp _ p5 96 (by decide)) (offp _ p5 112 (by decide)) ?_
    refine resets ninf hv2 hv2 hv2 hv2 hv2 hv2 hv2 hv2 ?_
    refine setp ?_
    exact flush_ne hc rfl hK
  · exact flush_eq (not_not.1 fun hn => hc ((cond_ne (I ((16 * k0_t2.val) + 5)) (rowsS I B (16 * k0_t2.val) 5 s).prev).2 hn))
  refine lanes ((16 * k0_t2.val) + 5) (by omega) (k0_off57_eq ..) (k0_off58_eq ..) (k0_off59_eq ..) (k0_off60_eq ..) (k0_off61_eq ..) (k0_off62_eq ..) (k0_off63_eq ..) (k0_off64_eq ..) ?_
  have p6 : (rowsS I B (16 * k0_t2.val) 6 s).prev.toNat ≤ 256 := rowsS_prev hp 6 fun r hr => hI r (hr.trans_le (by decide))
  refine head ?_ ?_
  · exact fun _ _ _ r a => chkp _ p6 r a
  refine ifJp2 (P' := T3 d i arg7 arg8 arg9 (flushS (I ((16 * k0_t2.val) + 6)) (rowsS I B (16 * k0_t2.val) 6 s)) (Slot d i arg5 arg6 0 B I Fr)) (fun hc hK => ?_) (fun hc => ?_) ?_
  · replace hc := (cond_ne (I ((16 * k0_t2.val) + 6)) (rowsS I B (16 * k0_t2.val) 6 s).prev).1 hc
    refine flushes (rowsS I B (16 * k0_t2.val) 6 s).prev.toNat (offp _ p6 0 (by decide)) (offp _ p6 16 (by decide)) (offp _ p6 32 (by decide)) (offp _ p6 48 (by decide)) (offp _ p6 64 (by decide)) (offp _ p6 80 (by decide)) (offp _ p6 96 (by decide)) (offp _ p6 112 (by decide)) ?_
    refine resets ninf hv2 hv2 hv2 hv2 hv2 hv2 hv2 hv2 ?_
    refine setp ?_
    exact flush_ne hc rfl hK
  · exact flush_eq (not_not.1 fun hn => hc ((cond_ne (I ((16 * k0_t2.val) + 6)) (rowsS I B (16 * k0_t2.val) 6 s).prev).2 hn))
  refine lanes ((16 * k0_t2.val) + 6) (by omega) (k0_off66_eq ..) (k0_off67_eq ..) (k0_off68_eq ..) (k0_off69_eq ..) (k0_off70_eq ..) (k0_off71_eq ..) (k0_off72_eq ..) (k0_off73_eq ..) ?_
  have p7 : (rowsS I B (16 * k0_t2.val) 7 s).prev.toNat ≤ 256 := rowsS_prev hp 7 fun r hr => hI r (hr.trans_le (by decide))
  refine head ?_ ?_
  · exact fun _ _ _ r a => chkp _ p7 r a
  refine ifJp2 (P' := T3 d i arg7 arg8 arg9 (flushS (I ((16 * k0_t2.val) + 7)) (rowsS I B (16 * k0_t2.val) 7 s)) (Slot d i arg5 arg6 0 B I Fr)) (fun hc hK => ?_) (fun hc => ?_) ?_
  · replace hc := (cond_ne (I ((16 * k0_t2.val) + 7)) (rowsS I B (16 * k0_t2.val) 7 s).prev).1 hc
    refine flushes (rowsS I B (16 * k0_t2.val) 7 s).prev.toNat (offp _ p7 0 (by decide)) (offp _ p7 16 (by decide)) (offp _ p7 32 (by decide)) (offp _ p7 48 (by decide)) (offp _ p7 64 (by decide)) (offp _ p7 80 (by decide)) (offp _ p7 96 (by decide)) (offp _ p7 112 (by decide)) ?_
    refine resets ninf hv2 hv2 hv2 hv2 hv2 hv2 hv2 hv2 ?_
    refine setp ?_
    exact flush_ne hc rfl hK
  · exact flush_eq (not_not.1 fun hn => hc ((cond_ne (I ((16 * k0_t2.val) + 7)) (rowsS I B (16 * k0_t2.val) 7 s).prev).2 hn))
  refine lanes ((16 * k0_t2.val) + 7) (by omega) (k0_off75_eq ..) (k0_off76_eq ..) (k0_off77_eq ..) (k0_off78_eq ..) (k0_off79_eq ..) (k0_off80_eq ..) (k0_off81_eq ..) (k0_off82_eq ..) ?_
  have p8 : (rowsS I B (16 * k0_t2.val) 8 s).prev.toNat ≤ 256 := rowsS_prev hp 8 fun r hr => hI r (hr.trans_le (by decide))
  refine head ?_ ?_
  · exact fun _ _ _ r a => chkp _ p8 r a
  refine ifJp2 (P' := T3 d i arg7 arg8 arg9 (flushS (I ((16 * k0_t2.val) + 8)) (rowsS I B (16 * k0_t2.val) 8 s)) (Slot d i arg5 arg6 0 B I Fr)) (fun hc hK => ?_) (fun hc => ?_) ?_
  · replace hc := (cond_ne (I ((16 * k0_t2.val) + 8)) (rowsS I B (16 * k0_t2.val) 8 s).prev).1 hc
    refine flushes (rowsS I B (16 * k0_t2.val) 8 s).prev.toNat (offp _ p8 0 (by decide)) (offp _ p8 16 (by decide)) (offp _ p8 32 (by decide)) (offp _ p8 48 (by decide)) (offp _ p8 64 (by decide)) (offp _ p8 80 (by decide)) (offp _ p8 96 (by decide)) (offp _ p8 112 (by decide)) ?_
    refine resets ninf hv2 hv2 hv2 hv2 hv2 hv2 hv2 hv2 ?_
    refine setp ?_
    exact flush_ne hc rfl hK
  · exact flush_eq (not_not.1 fun hn => hc ((cond_ne (I ((16 * k0_t2.val) + 8)) (rowsS I B (16 * k0_t2.val) 8 s).prev).2 hn))
  refine lanes ((16 * k0_t2.val) + 8) (by omega) (k0_off84_eq ..) (k0_off85_eq ..) (k0_off86_eq ..) (k0_off87_eq ..) (k0_off88_eq ..) (k0_off89_eq ..) (k0_off90_eq ..) (k0_off91_eq ..) ?_
  have p9 : (rowsS I B (16 * k0_t2.val) 9 s).prev.toNat ≤ 256 := rowsS_prev hp 9 fun r hr => hI r (hr.trans_le (by decide))
  refine head ?_ ?_
  · exact fun _ _ _ r a => chkp _ p9 r a
  refine ifJp2 (P' := T3 d i arg7 arg8 arg9 (flushS (I ((16 * k0_t2.val) + 9)) (rowsS I B (16 * k0_t2.val) 9 s)) (Slot d i arg5 arg6 0 B I Fr)) (fun hc hK => ?_) (fun hc => ?_) ?_
  · replace hc := (cond_ne (I ((16 * k0_t2.val) + 9)) (rowsS I B (16 * k0_t2.val) 9 s).prev).1 hc
    refine flushes (rowsS I B (16 * k0_t2.val) 9 s).prev.toNat (offp _ p9 0 (by decide)) (offp _ p9 16 (by decide)) (offp _ p9 32 (by decide)) (offp _ p9 48 (by decide)) (offp _ p9 64 (by decide)) (offp _ p9 80 (by decide)) (offp _ p9 96 (by decide)) (offp _ p9 112 (by decide)) ?_
    refine resets ninf hv2 hv2 hv2 hv2 hv2 hv2 hv2 hv2 ?_
    refine setp ?_
    exact flush_ne hc rfl hK
  · exact flush_eq (not_not.1 fun hn => hc ((cond_ne (I ((16 * k0_t2.val) + 9)) (rowsS I B (16 * k0_t2.val) 9 s).prev).2 hn))
  refine lanes ((16 * k0_t2.val) + 9) (by omega) (k0_off93_eq ..) (k0_off94_eq ..) (k0_off95_eq ..) (k0_off96_eq ..) (k0_off97_eq ..) (k0_off98_eq ..) (k0_off99_eq ..) (k0_off100_eq ..) ?_
  have p10 : (rowsS I B (16 * k0_t2.val) 10 s).prev.toNat ≤ 256 := rowsS_prev hp 10 fun r hr => hI r (hr.trans_le (by decide))
  refine head ?_ ?_
  · exact fun _ _ _ r a => chkp _ p10 r a
  refine ifJp2 (P' := T3 d i arg7 arg8 arg9 (flushS (I ((16 * k0_t2.val) + 10)) (rowsS I B (16 * k0_t2.val) 10 s)) (Slot d i arg5 arg6 0 B I Fr)) (fun hc hK => ?_) (fun hc => ?_) ?_
  · replace hc := (cond_ne (I ((16 * k0_t2.val) + 10)) (rowsS I B (16 * k0_t2.val) 10 s).prev).1 hc
    refine flushes (rowsS I B (16 * k0_t2.val) 10 s).prev.toNat (offp _ p10 0 (by decide)) (offp _ p10 16 (by decide)) (offp _ p10 32 (by decide)) (offp _ p10 48 (by decide)) (offp _ p10 64 (by decide)) (offp _ p10 80 (by decide)) (offp _ p10 96 (by decide)) (offp _ p10 112 (by decide)) ?_
    refine resets ninf hv2 hv2 hv2 hv2 hv2 hv2 hv2 hv2 ?_
    refine setp ?_
    exact flush_ne hc rfl hK
  · exact flush_eq (not_not.1 fun hn => hc ((cond_ne (I ((16 * k0_t2.val) + 10)) (rowsS I B (16 * k0_t2.val) 10 s).prev).2 hn))
  refine lanes ((16 * k0_t2.val) + 10) (by omega) (k0_off102_eq ..) (k0_off103_eq ..) (k0_off104_eq ..) (k0_off105_eq ..) (k0_off106_eq ..) (k0_off107_eq ..) (k0_off108_eq ..) (k0_off109_eq ..) ?_
  have p11 : (rowsS I B (16 * k0_t2.val) 11 s).prev.toNat ≤ 256 := rowsS_prev hp 11 fun r hr => hI r (hr.trans_le (by decide))
  refine head ?_ ?_
  · exact fun _ _ _ r a => chkp _ p11 r a
  refine ifJp2 (P' := T3 d i arg7 arg8 arg9 (flushS (I ((16 * k0_t2.val) + 11)) (rowsS I B (16 * k0_t2.val) 11 s)) (Slot d i arg5 arg6 0 B I Fr)) (fun hc hK => ?_) (fun hc => ?_) ?_
  · replace hc := (cond_ne (I ((16 * k0_t2.val) + 11)) (rowsS I B (16 * k0_t2.val) 11 s).prev).1 hc
    refine flushes (rowsS I B (16 * k0_t2.val) 11 s).prev.toNat (offp _ p11 0 (by decide)) (offp _ p11 16 (by decide)) (offp _ p11 32 (by decide)) (offp _ p11 48 (by decide)) (offp _ p11 64 (by decide)) (offp _ p11 80 (by decide)) (offp _ p11 96 (by decide)) (offp _ p11 112 (by decide)) ?_
    refine resets ninf hv2 hv2 hv2 hv2 hv2 hv2 hv2 hv2 ?_
    refine setp ?_
    exact flush_ne hc rfl hK
  · exact flush_eq (not_not.1 fun hn => hc ((cond_ne (I ((16 * k0_t2.val) + 11)) (rowsS I B (16 * k0_t2.val) 11 s).prev).2 hn))
  refine lanes ((16 * k0_t2.val) + 11) (by omega) (k0_off111_eq ..) (k0_off112_eq ..) (k0_off113_eq ..) (k0_off114_eq ..) (k0_off115_eq ..) (k0_off116_eq ..) (k0_off117_eq ..) (k0_off118_eq ..) ?_
  have p12 : (rowsS I B (16 * k0_t2.val) 12 s).prev.toNat ≤ 256 := rowsS_prev hp 12 fun r hr => hI r (hr.trans_le (by decide))
  refine head ?_ ?_
  · exact fun _ _ _ r a => chkp _ p12 r a
  refine ifJp2 (P' := T3 d i arg7 arg8 arg9 (flushS (I ((16 * k0_t2.val) + 12)) (rowsS I B (16 * k0_t2.val) 12 s)) (Slot d i arg5 arg6 0 B I Fr)) (fun hc hK => ?_) (fun hc => ?_) ?_
  · replace hc := (cond_ne (I ((16 * k0_t2.val) + 12)) (rowsS I B (16 * k0_t2.val) 12 s).prev).1 hc
    refine flushes (rowsS I B (16 * k0_t2.val) 12 s).prev.toNat (offp _ p12 0 (by decide)) (offp _ p12 16 (by decide)) (offp _ p12 32 (by decide)) (offp _ p12 48 (by decide)) (offp _ p12 64 (by decide)) (offp _ p12 80 (by decide)) (offp _ p12 96 (by decide)) (offp _ p12 112 (by decide)) ?_
    refine resets ninf hv2 hv2 hv2 hv2 hv2 hv2 hv2 hv2 ?_
    refine setp ?_
    exact flush_ne hc rfl hK
  · exact flush_eq (not_not.1 fun hn => hc ((cond_ne (I ((16 * k0_t2.val) + 12)) (rowsS I B (16 * k0_t2.val) 12 s).prev).2 hn))
  refine lanes ((16 * k0_t2.val) + 12) (by omega) (k0_off120_eq ..) (k0_off121_eq ..) (k0_off122_eq ..) (k0_off123_eq ..) (k0_off124_eq ..) (k0_off125_eq ..) (k0_off126_eq ..) (k0_off127_eq ..) ?_
  have p13 : (rowsS I B (16 * k0_t2.val) 13 s).prev.toNat ≤ 256 := rowsS_prev hp 13 fun r hr => hI r (hr.trans_le (by decide))
  refine head ?_ ?_
  · exact fun _ _ _ r a => chkp _ p13 r a
  refine ifJp2 (P' := T3 d i arg7 arg8 arg9 (flushS (I ((16 * k0_t2.val) + 13)) (rowsS I B (16 * k0_t2.val) 13 s)) (Slot d i arg5 arg6 0 B I Fr)) (fun hc hK => ?_) (fun hc => ?_) ?_
  · replace hc := (cond_ne (I ((16 * k0_t2.val) + 13)) (rowsS I B (16 * k0_t2.val) 13 s).prev).1 hc
    refine flushes (rowsS I B (16 * k0_t2.val) 13 s).prev.toNat (offp _ p13 0 (by decide)) (offp _ p13 16 (by decide)) (offp _ p13 32 (by decide)) (offp _ p13 48 (by decide)) (offp _ p13 64 (by decide)) (offp _ p13 80 (by decide)) (offp _ p13 96 (by decide)) (offp _ p13 112 (by decide)) ?_
    refine resets ninf hv2 hv2 hv2 hv2 hv2 hv2 hv2 hv2 ?_
    refine setp ?_
    exact flush_ne hc rfl hK
  · exact flush_eq (not_not.1 fun hn => hc ((cond_ne (I ((16 * k0_t2.val) + 13)) (rowsS I B (16 * k0_t2.val) 13 s).prev).2 hn))
  refine lanes ((16 * k0_t2.val) + 13) (by omega) (k0_off129_eq ..) (k0_off130_eq ..) (k0_off131_eq ..) (k0_off132_eq ..) (k0_off133_eq ..) (k0_off134_eq ..) (k0_off135_eq ..) (k0_off136_eq ..) ?_
  have p14 : (rowsS I B (16 * k0_t2.val) 14 s).prev.toNat ≤ 256 := rowsS_prev hp 14 fun r hr => hI r (hr.trans_le (by decide))
  refine head ?_ ?_
  · exact fun _ _ _ r a => chkp _ p14 r a
  refine ifJp2 (P' := T3 d i arg7 arg8 arg9 (flushS (I ((16 * k0_t2.val) + 14)) (rowsS I B (16 * k0_t2.val) 14 s)) (Slot d i arg5 arg6 0 B I Fr)) (fun hc hK => ?_) (fun hc => ?_) ?_
  · replace hc := (cond_ne (I ((16 * k0_t2.val) + 14)) (rowsS I B (16 * k0_t2.val) 14 s).prev).1 hc
    refine flushes (rowsS I B (16 * k0_t2.val) 14 s).prev.toNat (offp _ p14 0 (by decide)) (offp _ p14 16 (by decide)) (offp _ p14 32 (by decide)) (offp _ p14 48 (by decide)) (offp _ p14 64 (by decide)) (offp _ p14 80 (by decide)) (offp _ p14 96 (by decide)) (offp _ p14 112 (by decide)) ?_
    refine resets ninf hv2 hv2 hv2 hv2 hv2 hv2 hv2 hv2 ?_
    refine setp ?_
    exact flush_ne hc rfl hK
  · exact flush_eq (not_not.1 fun hn => hc ((cond_ne (I ((16 * k0_t2.val) + 14)) (rowsS I B (16 * k0_t2.val) 14 s).prev).2 hn))
  refine lanes ((16 * k0_t2.val) + 14) (by omega) (k0_off138_eq ..) (k0_off139_eq ..) (k0_off140_eq ..) (k0_off141_eq ..) (k0_off142_eq ..) (k0_off143_eq ..) (k0_off144_eq ..) (k0_off145_eq ..) ?_
  have p15 : (rowsS I B (16 * k0_t2.val) 15 s).prev.toNat ≤ 256 := rowsS_prev hp 15 fun r hr => hI r (hr.trans_le (by decide))
  refine head ?_ ?_
  · exact fun _ _ _ r a => chkp _ p15 r a
  refine ifJp2 (P' := T3 d i arg7 arg8 arg9 (flushS (I ((16 * k0_t2.val) + 15)) (rowsS I B (16 * k0_t2.val) 15 s)) (Slot d i arg5 arg6 0 B I Fr)) (fun hc hK => ?_) (fun hc => ?_) ?_
  · replace hc := (cond_ne (I ((16 * k0_t2.val) + 15)) (rowsS I B (16 * k0_t2.val) 15 s).prev).1 hc
    refine flushes (rowsS I B (16 * k0_t2.val) 15 s).prev.toNat (offp _ p15 0 (by decide)) (offp _ p15 16 (by decide)) (offp _ p15 32 (by decide)) (offp _ p15 48 (by decide)) (offp _ p15 64 (by decide)) (offp _ p15 80 (by decide)) (offp _ p15 96 (by decide)) (offp _ p15 112 (by decide)) ?_
    refine resets ninf hv2 hv2 hv2 hv2 hv2 hv2 hv2 hv2 ?_
    refine setp ?_
    exact flush_ne hc rfl hK
  · exact flush_eq (not_not.1 fun hn => hc ((cond_ne (I ((16 * k0_t2.val) + 15)) (rowsS I B (16 * k0_t2.val) 15 s).prev).2 hn))
  have hG : ∀ n k : ℕ, n ≤ k → (rowsS I B (16 * k0_t2.val) 16 s).cur k = mx ((flushS (I ((16 * k0_t2.val) + 15)) (rowsS I B (16 * k0_t2.val) 15 s)).cur k) (B ((16 * k0_t2.val) + 15) k) := fun _ _ _ => rfl
  refine T3_congr' (s' := ⟨(flushS (I ((16 * k0_t2.val) + 15)) (rowsS I B (16 * k0_t2.val) 15 s)).acc, mix 0 (rowsS I B (16 * k0_t2.val) 16 s).cur (flushS (I ((16 * k0_t2.val) + 15)) (rowsS I B (16 * k0_t2.val) 15 s)).cur, (flushS (I ((16 * k0_t2.val) + 15)) (rowsS I B (16 * k0_t2.val) 15 s)).prev⟩) (fun _ _ => rfl)
    (fun k _ => by simp [mix]) rfl ?_
  refine lane_max (s := (flushS (I ((16 * k0_t2.val) + 15)) (rowsS I B (16 * k0_t2.val) 15 s))) (n := 0) (hG _) (R := (16 * k0_t2.val) + 15) (by omega) (k0_off147_eq ..) ?_
  refine lane_max (s := (flushS (I ((16 * k0_t2.val) + 15)) (rowsS I B (16 * k0_t2.val) 15 s))) (n := 16) (hG _) (R := (16 * k0_t2.val) + 15) (by omega) (k0_off148_eq ..) ?_
  refine lane_max (s := (flushS (I ((16 * k0_t2.val) + 15)) (rowsS I B (16 * k0_t2.val) 15 s))) (n := 32) (hG _) (R := (16 * k0_t2.val) + 15) (by omega) (k0_off149_eq ..) ?_
  refine lane_max (s := (flushS (I ((16 * k0_t2.val) + 15)) (rowsS I B (16 * k0_t2.val) 15 s))) (n := 48) (hG _) (R := (16 * k0_t2.val) + 15) (by omega) (k0_off150_eq ..) ?_
  refine lane_max (s := (flushS (I ((16 * k0_t2.val) + 15)) (rowsS I B (16 * k0_t2.val) 15 s))) (n := 64) (hG _) (R := (16 * k0_t2.val) + 15) (by omega) (k0_off151_eq ..) ?_
  refine lane_max (s := (flushS (I ((16 * k0_t2.val) + 15)) (rowsS I B (16 * k0_t2.val) 15 s))) (n := 80) (hG _) (R := (16 * k0_t2.val) + 15) (by omega) (k0_off152_eq ..) ?_
  exact h

end Cert.Proof.SegMax
end
-- ==== Proof.GroupTail.lean ====
/-
  One group of 16 rows of the last 256 rows.
-/
module

public import proofs.«01_k».proof.Proof.Tree
public import proofs.«01_k».proof.Proof.SlowTail

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 4000000 in
/-- The body of the loop over a chunk's groups (the last 256 rows), as the program has it. -/
def tailGroup (i : grid0.Coords) (arg2 : Memref sig .scVector .hbm S100000x128 .f32) (harg2 : arg2.IsWhole) (arg3 : Memref sig .scVector .hbm S100000 .i32) (harg3 : arg3.IsWhole) (arg4 : Memref sig .scVector .hbm S32x32768 .f32) (harg4 : arg4.IsWhole) (arg5 : Memref sig .scVector .vmem S512x128 .f32) (harg5 : arg5.IsWhole) (arg6 : Memref sig .scVector .vmem S512 .i32) (harg6 : arg6.IsWhole) (arg7 : Memref sig .scVector .vmem S32896 .f32) (harg7 : arg7.IsWhole) (arg8 : Memref sig .scVector .vmem S128 .f32) (harg8 : arg8.IsWhole) (arg9 : Memref sig .scVector .smem S1 .i32) (harg9 : arg9.IsWhole) (arg10 : DmaSems sig S_) (arg11 : DmaSems sig S_) (v313_r0 : DmaSems sig S_) (v313_r1 : DmaSems sig S_) (v171_r2 : DmaSems sig S_) (v2 : FVec F S16 .f32) (k0_h1 : k0_cond1 i = 1#1) (c0_i32_57 c1_i32_59 : BitVec 32) (k0_t2 : Fin k0_t2_loop.trips) :
    TProg F i (BitVec 32) := do
  let ⟨v314, v317, v321, v325, v329, v333, v337, v341, v345, v349⟩ : Σ' (v314 : BitVec 32) (v317 : IVec S16 32) (v321 : FVec F S16 .f32) (v325 : FVec F S16 .f32) (v329 : FVec F S16 .f32) (v333 : FVec F S16 .f32) (v337 : FVec F S16 .f32) (v341 : FVec F S16 .f32) (v345 : FVec F S16 .f32), FVec F S16 .f32 ← k0_part86 i arg2 harg2 arg3 harg3 arg4 harg4 arg5 harg5 arg6 harg6 arg7 harg7 arg8 harg8 arg9 harg9 arg10 arg11 v313_r0 v313_r1 v171_r2 k0_h1 c0_i32_57 c1_i32_59 k0_t2
  let ⟨v396, c0_i32_134⟩ : Σ' (v396 : FVec F S16 .f32), BitVec 32 ← k0_part87 i arg2 harg2 arg3 harg3 arg4 harg4 arg5 harg5 arg6 harg6 arg7 harg7 arg8 harg8 arg9 harg9 arg10 arg11 v313_r0 v313_r1 v171_r2 k0_h1 k0_t2 v314 v321 v325 v329 v333 v337 v341 v345 v349
  let ⟨v400, v404, v408, v412, v416, v420, v424, v428, v432, v436, c10_i32_154⟩ : Σ' (v400 : FVec F S16 .f32) (v404 : FVec F S16 .f32) (v408 : FVec F S16 .f32) (v412 : FVec F S16 .f32) (v416 : FVec F S16 .f32) (v420 : FVec F S16 .f32) (v424 : FVec F S16 .f32) (v428 : FVec F S16 .f32) (v432 : FVec F S16 .f32) (v436 : FVec F S16 .f32), BitVec 32 ← k0_part88 i arg2 harg2 arg3 harg3 arg4 harg4 arg5 harg5 arg6 harg6 arg7 harg7 arg8 harg8 arg9 harg9 arg10 arg11 v313_r0 v313_r1 v171_r2 k0_h1 k0_t2 v314 c0_i32_134
  let ⟨v475, v479⟩ : Σ' (v475 : FVec F S16 .f32), FVec F S16 .f32 ← k0_part89 i arg2 harg2 arg3 harg3 arg4 harg4 arg5 harg5 arg6 harg6 arg7 harg7 arg8 harg8 arg9 harg9 arg10 arg11 v313_r0 v313_r1 v171_r2 k0_h1 k0_t2 v314 v400 v404 v408 v412 v416 v420 v424 v428 v432 v436 c10_i32_154
  let ⟨v483, v487, v491, v495, v499, v503, v507, v511, v515, v519⟩ : Σ' (v483 : FVec F S16 .f32) (v487 : FVec F S16 .f32) (v491 : FVec F S16 .f32) (v495 : FVec F S16 .f32) (v499 : FVec F S16 .f32) (v503 : FVec F S16 .f32) (v507 : FVec F S16 .f32) (v511 : FVec F S16 .f32) (v515 : FVec F S16 .f32), FVec F S16 .f32 ← k0_part90 i arg2 harg2 arg3 harg3 arg4 harg4 arg5 harg5 arg6 harg6 arg7 harg7 arg8 harg8 arg9 harg9 arg10 arg11 v313_r0 v313_r1 v171_r2 k0_h1 k0_t2 v314
  let ⟨v554, v558, v562, v566, c3_i32_204⟩ : Σ' (v554 : FVec F S16 .f32) (v558 : FVec F S16 .f32) (v562 : FVec F S16 .f32) (v566 : FVec F S16 .f32), BitVec 32 ← k0_part91 i arg2 harg2 arg3 harg3 arg4 harg4 arg5 harg5 arg6 harg6 arg7 harg7 arg8 harg8 arg9 harg9 arg10 arg11 v313_r0 v313_r1 v171_r2 k0_h1 k0_t2 v314 v479 v483 v487 v491 v495 v499 v503 v507 v511 v515 v519
  let ⟨v570, v574, v578, v582, v586, v590, v594, v598, v602, v606, c13_i32_224⟩ : Σ' (v570 : FVec F S16 .f32) (v574 : FVec F S16 .f32) (v578 : FVec F S16 .f32) (v582 : FVec F S16 .f32) (v586 : FVec F S16 .f32) (v590 : FVec F S16 .f32) (v594 : FVec F S16 .f32) (v598 : FVec F S16 .f32) (v602 : FVec F S16 .f32) (v606 : FVec F S16 .f32), BitVec 32 ← k0_part92 i arg2 harg2 arg3 harg3 arg4 harg4 arg5 harg5 arg6 harg6 arg7 harg7 arg8 harg8 arg9 harg9 arg10 arg11 v313_r0 v313_r1 v171_r2 k0_h1 k0_t2 v314 c3_i32_204
  let ⟨v633, v637, v641, v645, v649⟩ : Σ' (v633 : FVec F S16 .f32) (v637 : FVec F S16 .f32) (v641 : FVec F S16 .f32) (v645 : FVec F S16 .f32), FVec F S16 .f32 ← k0_part93 i arg2 harg2 arg3 harg3 arg4 harg4 arg5 harg5 arg6 harg6 arg7 harg7 arg8 harg8 arg9 harg9 arg10 arg11 v313_r0 v313_r1 v171_r2 k0_h1 k0_t2 v314 v558 v562 v566 v570 v574 v578 v582 v586 v590 v594 v598 v602 v606 c13_i32_224
  let ⟨v653, v657, v661, v665, v669, v673, v677, v681, v685, v689⟩ : Σ' (v653 : FVec F S16 .f32) (v657 : FVec F S16 .f32) (v661 : FVec F S16 .f32) (v665 : FVec F S16 .f32) (v669 : FVec F S16 .f32) (v673 : FVec F S16 .f32) (v677 : FVec F S16 .f32) (v681 : FVec F S16 .f32) (v685 : FVec F S16 .f32), FVec F S16 .f32 ← k0_part94 i arg2 harg2 arg3 harg3 arg4 harg4 arg5 harg5 arg6 harg6 arg7 harg7 arg8 harg8 arg9 harg9 arg10 arg11 v313_r0 v313_r1 v171_r2 k0_h1 k0_t2 v314
  let ⟨v712, v716, v720, v724, v728, v732, v736, c6_i32_274⟩ : Σ' (v712 : FVec F S16 .f32) (v716 : FVec F S16 .f32) (v720 : FVec F S16 .f32) (v724 : FVec F S16 .f32) (v728 : FVec F S16 .f32) (v732 : FVec F S16 .f32) (v736 : FVec F S16 .f32), BitVec 32 ← k0_part95 i arg2 harg2 arg3 harg3 arg4 harg4 arg5 harg5 arg6 harg6 arg7 harg7 arg8 harg8 arg9 harg9 arg10 arg11 v313_r0 v313_r1 v171_r2 k0_h1 k0_t2 v314 v637 v641 v645 v649 v653 v657 v661 v665 v669 v673 v677 v681 v685 v689
  let ⟨v740, v744, v748, v752, v756, v760, v764, v768, v772, v776, v777⟩ : Σ' (v740 : FVec F S16 .f32) (v744 : FVec F S16 .f32) (v748 : FVec F S16 .f32) (v752 : FVec F S16 .f32) (v756 : FVec F S16 .f32) (v760 : FVec F S16 .f32) (v764 : FVec F S16 .f32) (v768 : FVec F S16 .f32) (v772 : FVec F S16 .f32) (v776 : FVec F S16 .f32), FVec F S16 .f32 ← k0_part96 i arg2 harg2 arg3 harg3 arg4 harg4 arg5 harg5 arg6 harg6 arg7 harg7 arg8 harg8 arg9 harg9 arg10 arg11 v313_r0 v313_r1 v171_r2 k0_h1 k0_t2 v314 v716 v720 c6_i32_274
  let ⟨v791, v795, v799, v803, v807, v811, v815, v819⟩ : Σ' (v791 : FVec F S16 .f32) (v795 : FVec F S16 .f32) (v799 : FVec F S16 .f32) (v803 : FVec F S16 .f32) (v807 : FVec F S16 .f32) (v811 : FVec F S16 .f32) (v815 : FVec F S16 .f32), FVec F S16 .f32 ← k0_part97 i arg2 harg2 arg3 harg3 arg4 harg4 arg5 harg5 arg6 harg6 arg7 harg7 arg8 harg8 arg9 harg9 arg10 arg11 v313_r0 v313_r1 v171_r2 k0_h1 k0_t2 v314 v724 v728 v732 v736 v740 v744 v748 v752 v756 v760 v764 v768 v772 v776 v777
  let ⟨v860, v861, v862, v863, v864, v865⟩ : Σ' (v860 : FVec F S16 .f32) (v861 : FVec F S16 .f32) (v862 : FVec F S16 .f32) (v863 : FVec F S16 .f32) (v864 : FVec F S16 .f32), FVec F S16 .f32 ← k0_part98 i arg2 harg2 arg3 harg3 arg4 harg4 arg5 harg5 arg6 harg6 arg7 harg7 arg8 harg8 arg9 harg9 arg10 arg11 v313_r0 v313_r1 v171_r2 k0_h1 k0_t2 v314 v795 v799 v803 v807 v811 v815 v819
  let ⟨v870, v874, v878, v882, v886, v890, v894, v898, v902, v906, c9_i32_344⟩ : Σ' (v870 : FVec F S16 .f32) (v874 : FVec F S16 .f32) (v878 : FVec F S16 .f32) (v882 : FVec F S16 .f32) (v886 : FVec F S16 .f32) (v890 : FVec F S16 .f32) (v894 : FVec F S16 .f32) (v898 : FVec F S16 .f32) (v902 : FVec F S16 .f32) (v906 : FVec F S16 .f32), BitVec 32 ← k0_part99 i arg2 harg2 arg3 harg3 arg4 harg4 arg5 harg5 arg6 harg6 arg7 harg7 arg8 harg8 arg9 harg9 arg10 arg11 v313_r0 v313_r1 v171_r2 k0_h1 k0_t2 v314 v860 v861 v862 v863 v864 v865
  let ⟨v949, v951, v952⟩ : Σ' (v949 : FVec F S16 .f32) (v951 : Elt F .i32), IVec S1 32 ← k0_part100 i arg2 harg2 arg3 harg3 arg4 harg4 arg5 harg5 arg6 harg6 arg7 harg7 arg8 harg8 arg9 harg9 arg10 arg11 v313_r0 v313_r1 v171_r2 k0_h1 k0_t2 v314 v317 v874 v878 v882 v886 v890 v894 v898 v902 v906 c9_i32_344
  let v953 : BitVec 32 := extractAt ![0] v952 inpos_S1_p0
  let v954 : BitVec 1 := Scalar.cmpi .eq v953 v951
  have v955 : IVec S1 32 := extractStridedSlice S1 ![15] v317 slices_S16_o15_S1
  let v956 : BitVec 32 := extractAt ![0] v955 inpos_S1_p0
  let v957 : BitVec 1 := Scalar.cmpi .eq v956 v951
  let v958 : BitVec 1 := Scalar.andi v954 v957
  let v959 : BitVec 32 := Scalar.extui v958
  let c0_i32_359 : BitVec 32 := 0#32
  let v960 : BitVec 1 := Scalar.cmpi .ne v959 c0_i32_359
  if v960 = 1#1 then do
    let ⟨v1002, v1003⟩ : Σ' (v1002 : FVec F S16 .f32), Vec F S16 .f32 ← k0_part2 i arg2 harg2 arg3 harg3 arg4 harg4 arg5 harg5 arg6 harg6 arg7 harg7 arg8 harg8 arg9 harg9 arg10 arg11 v313_r0 v313_r1 v171_r2 v396 v475 v554 v633 v712 v791 v870
    have v1004 : FVec F S16 .f32 := shapeCast S16 v1003 shapeCasts_S16_S16
    have v1005 : FVec F S16 .f32 := shapeCast S16 v1002 shapeCasts_S16_S16
    Prog.lift (.store arg8 (Rect.unit (s := S128) ![96] S16.size inb_S128_S16_96) v1005 Finset.univ (View.stores_vmem_bits_univ h_S16 rfl) (.inl rfl))
    let c112_376 : Index := 112#32
    let v1006 : Vec F S16 .f32 ← Prog.lift (.load arg8 (Rect.unit (s := S128) ![112] S16.size inb_S128_S16_112).toLoadRect (View.loadsAt_vmem h_S16))
    have v1007 : FVec F S16 .f32 := shapeCast S16 v1006 shapeCasts_S16_S16
    have v1008 : FVec F S16 .f32 := maximumf v1007 v949
    let c112_377 : Index := 112#32
    let v1009 : Vec F S16 .f32 ← Prog.lift (.load arg8 (Rect.unit (s := S128) ![112] S16.size inb_S128_S16_112).toLoadRect (View.loadsAt_vmem h_S16))
    have v1010 : FVec F S16 .f32 := shapeCast S16 v1009 shapeCasts_S16_S16
    have v1011 : FVec F S16 .f32 := shapeCast S16 v1008 shapeCasts_S16_S16
    Prog.lift (.store arg8 (Rect.unit (s := S128) ![112] S16.size inb_S128_S16_112) v1011 Finset.univ (View.stores_vmem_bits_univ h_S16 rfl) (.inl rfl))
    pure ⟨⟩
  else do
    pure ⟨⟩
  let v_true : BitVec 1 := 1#1
  let v961 : BitVec 1 := Scalar.xori v958 v_true
  let v962 : BitVec 32 := Scalar.extui v961
  let c0_i32_360 : BitVec 32 := 0#32
  let v963 : BitVec 1 := Scalar.cmpi .ne v962 c0_i32_360
  if k0_h3 : k0_cond3 v951 v953 v956 = 1#1 then do
    k0_part85 i arg2 harg2 arg3 harg3 arg4 harg4 arg5 harg5 arg6 harg6 arg7 harg7 arg8 harg8 arg9 harg9 arg10 arg11 v313_r0 v313_r1 v171_r2 v2 k0_h1 k0_t2 v314 v317 v951 v953 v956 k0_h3
    let c96_898 : Index := 96#32
    let v2336 : Vec F S16 .f32 ← Prog.lift (.load arg8 (Rect.unit (s := S128) ![96] S16.size inb_S128_S16_96).toLoadRect (View.loadsAt_vmem h_S16))
    have v2337 : FVec F S16 .f32 := shapeCast S16 v2336 shapeCasts_S16_S16
    let c15_i32_899 : BitVec 32 := 15#32
    let v2338 : BitVec 32 := Scalar.addi v314 c15_i32_899
    let v2339 : Index := Scalar.indexCast v2338
    let c96_900 : Index := 96#32
    let v2340 : Vec F S1x16 .f32 ← Prog.lift (.load arg5 (Rect.unit (s := S512x128) (k0_off153 k0_t2) S1x16.size (k0_off153_inb i k0_t2 k0_h1)).toLoadRect (View.loadsAt_vmem h_S1x16))
    have v2341 : FVec F S16 .f32 := shapeCast S16 v2340 shapeCasts_S1x16_S16
    have v2342 : FVec F S16 .f32 := maximumf v2337 v2341
    let c96_901 : Index := 96#32
    let v2343 : Vec F S16 .f32 ← Prog.lift (.load arg8 (Rect.unit (s := S128) ![96] S16.size inb_S128_S16_96).toLoadRect (View.loadsAt_vmem h_S16))
    have v2344 : FVec F S16 .f32 := shapeCast S16 v2343 shapeCasts_S16_S16
    have v2345 : FVec F S16 .f32 := shapeCast S16 v2342 shapeCasts_S16_S16
    Prog.lift (.store arg8 (Rect.unit (s := S128) ![96] S16.size inb_S128_S16_96) v2345 Finset.univ (View.stores_vmem_bits_univ h_S16 rfl) (.inl rfl))
    let c112_902 : Index := 112#32
    let v2346 : Vec F S16 .f32 ← Prog.lift (.load arg8 (Rect.unit (s := S128) ![112] S16.size inb_S128_S16_112).toLoadRect (View.loadsAt_vmem h_S16))
    have v2347 : FVec F S16 .f32 := shapeCast S16 v2346 shapeCasts_S16_S16
    let c15_i32_903 : BitVec 32 := 15#32
    let v2348 : BitVec 32 := Scalar.addi v314 c15_i32_903
    let v2349 : Index := Scalar.indexCast v2348
    let c112_904 : Index := 112#32
    let v2350 : Vec F S1x16 .f32 ← Prog.lift (.load arg5 (Rect.unit (s := S512x128) (k0_off154 k0_t2) S1x16.size (k0_off154_inb i k0_t2 k0_h1)).toLoadRect (View.loadsAt_vmem h_S1x16))
    have v2351 : FVec F S16 .f32 := shapeCast S16 v2350 shapeCasts_S1x16_S16
    have v2352 : FVec F S16 .f32 := maximumf v2347 v2351
    let c112_905 : Index := 112#32
    let v2353 : Vec F S16 .f32 ← Prog.lift (.load arg8 (Rect.unit (s := S128) ![112] S16.size inb_S128_S16_112).toLoadRect (View.loadsAt_vmem h_S16))
    have v2354 : FVec F S16 .f32 := shapeCast S16 v2353 shapeCasts_S16_S16
    have v2355 : FVec F S16 .f32 := shapeCast S16 v2352 shapeCasts_S16_S16
    Prog.lift (.store arg8 (Rect.unit (s := S128) ![112] S16.size inb_S128_S16_112) v2355 Finset.univ (View.stores_vmem_bits_univ h_S16 rfl) (.inl rfl))
    pure ⟨⟩
  else do
    pure ⟨⟩
  let c0_i32_361 : BitVec 32 := 0#32
  pure c0_i32_361

set_option maxHeartbeats 4000000 in
/-- One group of 16 rows of the last 256 rows takes the tile's state by `groupS`. -/
theorem group_tail {d : Dev nD} {i : grid0.Coords} {arg2 : Memref sig .scVector .hbm S100000x128 .f32} {harg2 : arg2.IsWhole} {arg3 : Memref sig .scVector .hbm S100000 .i32} {harg3 : arg3.IsWhole} {arg4 : Memref sig .scVector .hbm S32x32768 .f32} {harg4 : arg4.IsWhole} {arg5 : Memref sig .scVector .vmem S512x128 .f32} {harg5 : arg5.IsWhole} {arg6 : Memref sig .scVector .vmem S512 .i32} {harg6 : arg6.IsWhole} {arg7 : Memref sig .scVector .vmem S32896 .f32} {harg7 : arg7.IsWhole} {arg8 : Memref sig .scVector .vmem S128 .f32} {harg8 : arg8.IsWhole} {arg9 : Memref sig .scVector .smem S1 .i32} {harg9 : arg9.IsWhole} {arg10 : DmaSems sig S_} {arg11 : DmaSems sig S_} {v313_r0 : DmaSems sig S_} {v313_r1 : DmaSems sig S_} {v171_r2 : DmaSems sig S_} {v2 : FVec F S16 .f32} {k0_h1 : k0_cond1 i = 1#1} {c0_i32_57 c1_i32_59 : BitVec 32} {k0_t2 : Fin k0_t2_loop.trips}
    (hv2 : v2 = fun _ => ninf) {s : SS F} {B : ℕ → ℕ → F .f32} {I : ℕ → BitVec 32} {Fr : sProp (MM F)} (hp : s.prev.toNat ≤ 256)
    (hI : ∀ r, r < 16 → (I ((16 * k0_t2.val) + r)).toNat ≤ 256) {Q : BitVec 32 → sProp (MM F)}
    (h : T3 d i arg7 arg8 arg9 (groupS I B (16 * k0_t2.val) s) (Slot d i arg5 arg6 0 B I Fr) ⊢ WP d i (.ret 0#32) Q) :
    T3 d i arg7 arg8 arg9 s (Slot d i arg5 arg6 0 B I Fr) ⊢ WP d i (tailGroup i arg2 harg2 arg3 harg3 arg4 harg4 arg5 harg5 arg6 harg6 arg7 harg7 arg8 harg8 arg9 harg9 arg10 arg11 v313_r0 v313_r1 v171_r2 v2 k0_h1 c0_i32_57 c1_i32_59 k0_t2) Q := by
  have ht : k0_t2.val < 16 := k0_t2.isLt
  refine idload (16 * k0_t2.val) (by omega) (k0_off2_eq k0_t2) ?_
  refine rloads (16 * k0_t2.val) 0 (by omega) (k0_off3_eq k0_t2 0) (k0_off3_eq k0_t2 1) (k0_off3_eq k0_t2 2) (k0_off3_eq k0_t2 3) (k0_off3_eq k0_t2 4) (k0_off3_eq k0_t2 5) (k0_off3_eq k0_t2 6) (k0_off3_eq k0_t2 7) (k0_off3_eq k0_t2 8) (k0_off3_eq k0_t2 9) (k0_off3_eq k0_t2 10) (k0_off3_eq k0_t2 11) (k0_off3_eq k0_t2 12) (k0_off3_eq k0_t2 13) (k0_off3_eq k0_t2 14) (k0_off3_eq k0_t2 15) ?_
  refine rloads (16 * k0_t2.val) 16 (by omega) (k0_off4_eq k0_t2 0) (k0_off4_eq k0_t2 1) (k0_off4_eq k0_t2 2) (k0_off4_eq k0_t2 3) (k0_off4_eq k0_t2 4) (k0_off4_eq k0_t2 5) (k0_off4_eq k0_t2 6) (k0_off4_eq k0_t2 7) (k0_off4_eq k0_t2 8) (k0_off4_eq k0_t2 9) (k0_off4_eq k0_t2 10) (k0_off4_eq k0_t2 11) (k0_off4_eq k0_t2 12) (k0_off4_eq k0_t2 13) (k0_off4_eq k0_t2 14) (k0_off4_eq k0_t2 15) ?_
  refine rloads (16 * k0_t2.val) 32 (by omega) (k0_off5_eq k0_t2 0) (k0_off5_eq k0_t2 1) (k0_off5_eq k0_t2 2) (k0_off5_eq k0_t2 3) (k0_off5_eq k0_t2 4) (k0_off5_eq k0_t2 5) (k0_off5_eq k0_t2 6) (k0_off5_eq k0_t2 7) (k0_off5_eq k0_t2 8) (k0_off5_eq k0_t2 9) (k0_off5_eq k0_t2 10) (k0_off5_eq k0_t2 11) (k0_off5_eq k0_t2 12) (k0_off5_eq k0_t2 13) (k0_off5_eq k0_t2 14) (k0_off5_eq k0_t2 15) ?_
  refine rloads (16 * k0_t2.val) 48 (by omega) (k0_off6_eq k0_t2 0) (k0_off6_eq k0_t2 1) (k0_off6_eq k0_t2 2) (k0_off6_eq k0_t2 3) (k0_off6_eq k0_t2 4) (k0_off6_eq k0_t2 5) (k0_off6_eq k0_t2 6) (k0_off6_eq k0_t2 7) (k0_off6_eq k0_t2 8) (k0_off6_eq k0_t2 9) (k0_off6_eq k0_t2 10) (k0_off6_eq k0_t2 11) (k0_off6_eq k0_t2 12) (k0_off6_eq k0_t2 13) (k0_off6_eq k0_t2 14) (k0_off6_eq k0_t2 15) ?_
  refine rloads (16 * k0_t2.val) 64 (by omega) (k0_off7_eq k0_t2 0) (k0_off7_eq k0_t2 1) (k0_off7_eq k0_t2 2) (k0_off7_eq k0_t2 3) (k0_off7_eq k0_t2 4) (k0_off7_eq k0_t2 5) (k0_off7_eq k0_t2 6) (k0_off7_eq k0_t2 7) (k0_off7_eq k0_t2 8) (k0_off7_eq k0_t2 9) (k0_off7_eq k0_t2 10) (k0_off7_eq k0_t2 11) (k0_off7_eq k0_t2 12) (k0_off7_eq k0_t2 13) (k0_off7_eq k0_t2 14) (k0_off7_eq k0_t2 15) ?_
  refine rloads (16 * k0_t2.val) 80 (by omega) (k0_off8_eq k0_t2 0) (k0_off8_eq k0_t2 1) (k0_off8_eq k0_t2 2) (k0_off8_eq k0_t2 3) (k0_off8_eq k0_t2 4) (k0_off8_eq k0_t2 5) (k0_off8_eq k0_t2 6) (k0_off8_eq k0_t2 7) (k0_off8_eq k0_t2 8) (k0_off8_eq k0_t2 9) (k0_off8_eq k0_t2 10) (k0_off8_eq k0_t2 11) (k0_off8_eq k0_t2 12) (k0_off8_eq k0_t2 13) (k0_off8_eq k0_t2 14) (k0_off8_eq k0_t2 15) ?_
  refine rloads (16 * k0_t2.val) 96 (by omega) (k0_off9_eq k0_t2 0) (k0_off9_eq k0_t2 1) (k0_off9_eq k0_t2 2) (k0_off9_eq k0_t2 3) (k0_off9_eq k0_t2 4) (k0_off9_eq k0_t2 5) (k0_off9_eq k0_t2 6) (k0_off9_eq k0_t2 7) (k0_off9_eq k0_t2 8) (k0_off9_eq k0_t2 9) (k0_off9_eq k0_t2 10) (k0_off9_eq k0_t2 11) (k0_off9_eq k0_t2 12) (k0_off9_eq k0_t2 13) (k0_off9_eq k0_t2 14) (k0_off9_eq k0_t2 15) ?_
  refine rloads (16 * k0_t2.val) 112 (by omega) (k0_off10_eq k0_t2 0) (k0_off10_eq k0_t2 1) (k0_off10_eq k0_t2 2) (k0_off10_eq k0_t2 3) (k0_off10_eq k0_t2 4) (k0_off10_eq k0_t2 5) (k0_off10_eq k0_t2 6) (k0_off10_eq k0_t2 7) (k0_off10_eq k0_t2 8) (k0_off10_eq k0_t2 9) (k0_off10_eq k0_t2 10) (k0_off10_eq k0_t2 11) (k0_off10_eq k0_t2 12) (k0_off10_eq k0_t2 13) (k0_off10_eq k0_t2 14) (k0_off10_eq k0_t2 15) ?_
  refine sload ?_
  by_cases hU : I ((16 * k0_t2.val) + 0) = s.prev ∧ I ((16 * k0_t2.val) + 15) = s.prev
  · refine ifJpI0 (P' := T3 d i arg7 arg8 arg9 (groupS I B (16 * k0_t2.val) s) (Slot d i arg5 arg6 0 B I Fr)) (fun hc hK => ?_) (fun hc => absurd ((cond_uni (I ((16 * k0_t2.val) + 0)) (I ((16 * k0_t2.val) + 15)) s.prev).2 hU) hc) ?_
    · refine fasts (gmx B (16 * k0_t2.val)) (tree16 B (16 * k0_t2.val) 0 _) (tree16 B (16 * k0_t2.val) 16 _) (tree16 B (16 * k0_t2.val) 32 _) (tree16 B (16 * k0_t2.val) 48 _) (tree16 B (16 * k0_t2.val) 64 _) (tree16 B (16 * k0_t2.val) 80 _) (tree16 B (16 * k0_t2.val) 96 _) (tree16 B (16 * k0_t2.val) 112 _) ?_
      refine BIBase.Entails.trans ?_ hK
      rw [groupS, if_pos hU]
    refine ifJp0 (P' := T3 d i arg7 arg8 arg9 (groupS I B (16 * k0_t2.val) s) (Slot d i arg5 arg6 0 B I Fr)) (fun hc => absurd hU ((cond_mixed (I ((16 * k0_t2.val) + 0)) (I ((16 * k0_t2.val) + 15)) s.prev).1 hc)) (fun _ => .rfl) ?_
    exact h
  · refine ifJpI0 (P' := T3 d i arg7 arg8 arg9 s (Slot d i arg5 arg6 0 B I Fr)) (fun hc => absurd ((cond_uni (I ((16 * k0_t2.val) + 0)) (I ((16 * k0_t2.val) + 15)) s.prev).1 hc) hU) (fun _ => .rfl) ?_
    refine ifJp0 (P' := T3 d i arg7 arg8 arg9 (groupS I B (16 * k0_t2.val) s) (Slot d i arg5 arg6 0 B I Fr)) (fun hc hK => ?_) (fun hc => absurd ((cond_mixed (I ((16 * k0_t2.val) + 0)) (I ((16 * k0_t2.val) + 15)) s.prev).2 hU) hc) ?_
    · refine slow_tail hv2 hp hI ?_
      have hG : ∀ n k : ℕ, n ≤ k → (rowsS I B (16 * k0_t2.val) 16 s).cur k = mx ((flushS (I ((16 * k0_t2.val) + 15)) (rowsS I B (16 * k0_t2.val) 15 s)).cur k) (B ((16 * k0_t2.val) + 15) k) := fun _ _ _ => rfl
      refine lane_max (s := flushS (I ((16 * k0_t2.val) + 15)) (rowsS I B (16 * k0_t2.val) 15 s)) (n := 96) (hG _) (R := (16 * k0_t2.val) + 15) (by omega) (k0_off153_eq ..) ?_
      refine lane_max (s := flushS (I ((16 * k0_t2.val) + 15)) (rowsS I B (16 * k0_t2.val) 15 s)) (n := 112) (hG _) (R := (16 * k0_t2.val) + 15) (by omega) (k0_off154_eq ..) ?_
      refine BIBase.Entails.trans ?_ hK
      rw [groupS, if_neg hU]
      exact T3_congr (fun _ _ => rfl) (fun k (hk : k < 112 + 16) => if_pos hk) rfl
    exact h

end Cert.Proof.SegMax
end
-- ==== Proof.SlowMain.lean ====
/-
  The row-by-row path of a group of 16 rows: each row flushes the running segment when its id
  differs from it and takes its maximum into the running segment's buffer.
-/
module

public import proofs.«01_k».proof.Proof.Arith

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 4000000 in
/-- A group of 16 rows of several segments, row by row: all but the last row's last two lane groups. -/
theorem slow_main {d : Dev nD} {i : grid0.Coords} {arg2 : Memref sig .scVector .hbm S100000x128 .f32} {harg2 : arg2.IsWhole} {arg3 : Memref sig .scVector .hbm S100000 .i32} {harg3 : arg3.IsWhole} {arg4 : Memref sig .scVector .hbm S32x32768 .f32} {harg4 : arg4.IsWhole} {arg5 : Memref sig .scVector .vmem S512x128 .f32} {harg5 : arg5.IsWhole} {arg6 : Memref sig .scVector .vmem S512 .i32} {harg6 : arg6.IsWhole} {arg7 : Memref sig .scVector .vmem S32896 .f32} {harg7 : arg7.IsWhole} {arg8 : Memref sig .scVector .vmem S128 .f32} {harg8 : arg8.IsWhole} {arg9 : Memref sig .scVector .smem S1 .i32} {harg9 : arg9.IsWhole} {arg10 : DmaSems sig S_} {arg11 : DmaSems sig S_} {v313_r0 : DmaSems sig S_} {v313_r1 : DmaSems sig S_} {v171_r2 : DmaSems sig S_} {v2 : FVec F S16 .f32} {k0_t3 : Fin (k0_t3_loop i).trips} {k0_t4 : Fin k0_t4_loop.trips} {v193 : BitVec 32} {v830 : Elt F .i32} {v832 : BitVec 32} {v835 : BitVec 32} {k0_h22 : k0_cond22 v830 v832 v835 = 1#1}
    (hv2 : v2 = fun _ => ninf) {s : SS F} {B : ℕ → ℕ → F .f32} {I : ℕ → BitVec 32} {Fr : sProp (MM F)} (hp : s.prev.toNat ≤ 256)
    (hI : ∀ r, r < 16 → (I ((256 * (k0_t3.val % 2) + 16 * k0_t4.val) + r)).toNat ≤ 256) {α : Type} {K : PUnit → TProg F i α} {Q : α → sProp (MM F)}
    (h : T3 d i arg7 arg8 arg9 ⟨(flushS (I ((256 * (k0_t3.val % 2) + 16 * k0_t4.val) + 15)) (rowsS I B (256 * (k0_t3.val % 2) + 16 * k0_t4.val) 15 s)).acc,
        mix 96 (rowsS I B (256 * (k0_t3.val % 2) + 16 * k0_t4.val) 16 s).cur (flushS (I ((256 * (k0_t3.val % 2) + 16 * k0_t4.val) + 15)) (rowsS I B (256 * (k0_t3.val % 2) + 16 * k0_t4.val) 15 s)).cur,
        (flushS (I ((256 * (k0_t3.val % 2) + 16 * k0_t4.val) + 15)) (rowsS I B (256 * (k0_t3.val % 2) + 16 * k0_t4.val) 15 s)).prev⟩ (Slot d i arg5 arg6 (256 * (k0_t3.val % 2)) B I Fr) ⊢ WP d i (K ⟨⟩) Q) :
    T3 d i arg7 arg8 arg9 s (Slot d i arg5 arg6 (256 * (k0_t3.val % 2)) B I Fr)
      ⊢ WP d i (Prog.bind (k0_part188 (F := F) i arg2 harg2 arg3 harg3 arg4 harg4 arg5 harg5 arg6 harg6 arg7 harg7 arg8 harg8 arg9 harg9 arg10 arg11 v313_r0 v313_r1 v171_r2 v2 k0_t3 k0_t4 v193 (fun x => I ((256 * (k0_t3.val % 2) + 16 * k0_t4.val) + (x 0).val)) v830 v832 v835 k0_h22) K) Q := by
  have ht : k0_t4.val < 16 := k0_t4.isLt
  have h3 : k0_t3.val ≤ 13 := (k0_t3.isLt.le).trans (k0_t3_abs i).2.1
  have p0 : (rowsS I B (256 * (k0_t3.val % 2) + 16 * k0_t4.val) 0 s).prev.toNat ≤ 256 := rowsS_prev hp 0 fun r hr => hI r (hr.trans_le (by decide))
  refine head ?_ ?_
  · exact fun _ _ r a => chkp _ p0 r a
  refine ifJp2 (P' := T3 d i arg7 arg8 arg9 (flushS (I ((256 * (k0_t3.val % 2) + 16 * k0_t4.val) + 0)) (rowsS I B (256 * (k0_t3.val % 2) + 16 * k0_t4.val) 0 s)) (Slot d i arg5 arg6 (256 * (k0_t3.val % 2)) B I Fr)) (fun hc hK => ?_) (fun hc => ?_) ?_
  · replace hc := (cond_ne (I ((256 * (k0_t3.val % 2) + 16 * k0_t4.val) + 0)) (rowsS I B (256 * (k0_t3.val % 2) + 16 * k0_t4.val) 0 s).prev).1 hc
    refine flushes (rowsS I B (256 * (k0_t3.val % 2) + 16 * k0_t4.val) 0 s).prev.toNat (offp _ p0 0 (by decide)) (offp _ p0 16 (by decide)) (offp _ p0 32 (by decide)) (offp _ p0 48 (by decide)) (offp _ p0 64 (by decide)) (offp _ p0 80 (by decide)) (offp _ p0 96 (by decide)) (offp _ p0 112 (by decide)) ?_
    refine resets ninf hv2 hv2 hv2 hv2 hv2 hv2 hv2 hv2 ?_
    refine setp ?_
    exact flush_ne hc rfl hK
  · exact flush_eq (not_not.1 fun hn => hc ((cond_ne (I ((256 * (k0_t3.val % 2) + 16 * k0_t4.val) + 0)) (rowsS I B (256 * (k0_t3.val % 2) + 16 * k0_t4.val) 0 s).prev).2 hn))
  refine lanes ((256 * (k0_t3.val % 2) + 16 * k0_t4.val) + 0) (by omega) (congrArg (fun n => (![n, 0] : Fin 2 → ℕ)) (mainRow _ _ _ h3 ht 0 (by decide))) (congrArg (fun n => (![n, 16] : Fin 2 → ℕ)) (mainRow _ _ _ h3 ht 0 (by decide))) (congrArg (fun n => (![n, 32] : Fin 2 → ℕ)) (mainRow _ _ _ h3 ht 0 (by decide))) (congrArg (fun n => (![n, 48] : Fin 2 → ℕ)) (mainRow _ _ _ h3 ht 0 (by decide))) (congrArg (fun n => (![n, 64] : Fin 2 → ℕ)) (mainRow _ _ _ h3 ht 0 (by decide))) (congrArg (fun n => (![n, 80] : Fin 2 → ℕ)) (mainRow _ _ _ h3 ht 0 (by decide))) (congrArg (fun n => (![n, 96] : Fin 2 → ℕ)) (mainRow _ _ _ h3 ht 0 (by decide))) (congrArg (fun n => (![n, 112] : Fin 2 → ℕ)) (mainRow _ _ _ h3 ht 0 (by decide))) ?_
  have p1 : (rowsS I B (256 * (k0_t3.val % 2) + 16 * k0_t4.val) 1 s).prev.toNat ≤ 256 := rowsS_prev hp 1 fun r hr => hI r (hr.trans_le (by decide))
  refine head ?_ ?_
  · exact fun _ _ r a => chkp _ p1 r a
  refine ifJp2 (P' := T3 d i arg7 arg8 arg9 (flushS (I ((256 * (k0_t3.val % 2) + 16 * k0_t4.val) + 1)) (rowsS I B (256 * (k0_t3.val % 2) + 16 * k0_t4.val) 1 s)) (Slot d i arg5 arg6 (256 * (k0_t3.val % 2)) B I Fr)) (fun hc hK => ?_) (fun hc => ?_) ?_
  · replace hc := (cond_ne (I ((256 * (k0_t3.val % 2) + 16 * k0_t4.val) + 1)) (rowsS I B (256 * (k0_t3.val % 2) + 16 * k0_t4.val) 1 s).prev).1 hc
    refine flushes (rowsS I B (256 * (k0_t3.val % 2) + 16 * k0_t4.val) 1 s).prev.toNat (offp _ p1 0 (by decide)) (offp _ p1 16 (by decide)) (offp _ p1 32 (by decide)) (offp _ p1 48 (by decide)) (offp _ p1 64 (by decide)) (offp _ p1 80 (by decide)) (offp _ p1 96 (by decide)) (offp _ p1 112 (by decide)) ?_
    refine resets ninf hv2 hv2 hv2 hv2 hv2 hv2 hv2 hv2 ?_
    refine setp ?_
    exact flush_ne hc rfl hK
  · exact flush_eq (not_not.1 fun hn => hc ((cond_ne (I ((256 * (k0_t3.val % 2) + 16 * k0_t4.val) + 1)) (rowsS I B (256 * (k0_t3.val % 2) + 16 * k0_t4.val) 1 s).prev).2 hn))
  refine lanes ((256 * (k0_t3.val % 2) + 16 * k0_t4.val) + 1) (by omega) (congrArg (fun n => (![n, 0] : Fin 2 → ℕ)) (mainRow _ _ _ h3 ht 1 (by decide))) (congrArg (fun n => (![n, 16] : Fin 2 → ℕ)) (mainRow _ _ _ h3 ht 1 (by decide))) (congrArg (fun n => (![n, 32] : Fin 2 → ℕ)) (mainRow _ _ _ h3 ht 1 (by decide))) (congrArg (fun n => (![n, 48] : Fin 2 → ℕ)) (mainRow _ _ _ h3 ht 1 (by decide))) (congrArg (fun n => (![n, 64] : Fin 2 → ℕ)) (mainRow _ _ _ h3 ht 1 (by decide))) (congrArg (fun n => (![n, 80] : Fin 2 → ℕ)) (mainRow _ _ _ h3 ht 1 (by decide))) (congrArg (fun n => (![n, 96] : Fin 2 → ℕ)) (mainRow _ _ _ h3 ht 1 (by decide))) (congrArg (fun n => (![n, 112] : Fin 2 → ℕ)) (mainRow _ _ _ h3 ht 1 (by decide))) ?_
  have p2 : (rowsS I B (256 * (k0_t3.val % 2) + 16 * k0_t4.val) 2 s).prev.toNat ≤ 256 := rowsS_prev hp 2 fun r hr => hI r (hr.trans_le (by decide))
  refine head ?_ ?_
  · exact fun _ _ r a => chkp _ p2 r a
  refine ifJp2 (P' := T3 d i arg7 arg8 arg9 (flushS (I ((256 * (k0_t3.val % 2) + 16 * k0_t4.val) + 2)) (rowsS I B (256 * (k0_t3.val % 2) + 16 * k0_t4.val) 2 s)) (Slot d i arg5 arg6 (256 * (k0_t3.val % 2)) B I Fr)) (fun hc hK => ?_) (fun hc => ?_) ?_
  · replace hc := (cond_ne (I ((256 * (k0_t3.val % 2) + 16 * k0_t4.val) + 2)) (rowsS I B (256 * (k0_t3.val % 2) + 16 * k0_t4.val) 2 s).prev).1 hc
    refine flushes (rowsS I B (256 * (k0_t3.val % 2) + 16 * k0_t4.val) 2 s).prev.toNat (offp _ p2 0 (by decide)) (offp _ p2 16 (by decide)) (offp _ p2 32 (by decide)) (offp _ p2 48 (by decide)) (offp _ p2 64 (by decide)) (offp _ p2 80 (by decide)) (offp _ p2 96 (by decide)) (offp _ p2 112 (by decide)) ?_
    refine resets ninf hv2 hv2 hv2 hv2 hv2 hv2 hv2 hv2 ?_
    refine setp ?_
    exact flush_ne hc rfl hK
  · exact flush_eq (not_not.1 fun hn => hc ((cond_ne (I ((256 * (k0_t3.val % 2) + 16 * k0_t4.val) + 2)) (rowsS I B (256 * (k0_t3.val % 2) + 16 * k0_t4.val) 2 s).prev).2 hn))
  refine lanes ((256 * (k0_t3.val % 2) + 16 * k0_t4.val) + 2) (by omega) (congrArg (fun n => (![n, 0] : Fin 2 → ℕ)) (mainRow _ _ _ h3 ht 2 (by decide))) (congrArg (fun n => (![n, 16] : Fin 2 → ℕ)) (mainRow _ _ _ h3 ht 2 (by decide))) (congrArg (fun n => (![n, 32] : Fin 2 → ℕ)) (mainRow _ _ _ h3 ht 2 (by decide))) (congrArg (fun n => (![n, 48] : Fin 2 → ℕ)) (mainRow _ _ _ h3 ht 2 (by decide))) (congrArg (fun n => (![n, 64] : Fin 2 → ℕ)) (mainRow _ _ _ h3 ht 2 (by decide))) (congrArg (fun n => (![n, 80] : Fin 2 → ℕ)) (mainRow _ _ _ h3 ht 2 (by decide))) (congrArg (fun n => (![n, 96] : Fin 2 → ℕ)) (mainRow _ _ _ h3 ht 2 (by decide))) (congrArg (fun n => (![n, 112] : Fin 2 → ℕ)) (mainRow _ _ _ h3 ht 2 (by decide))) ?_
  have p3 : (rowsS I B (256 * (k0_t3.val % 2) + 16 * k0_t4.val) 3 s).prev.toNat ≤ 256 := rowsS_prev hp 3 fun r hr => hI r (hr.trans_le (by decide))
  refine head ?_ ?_
  · exact fun _ _ r a => chkp _ p3 r a
  refine ifJp2 (P' := T3 d i arg7 arg8 arg9 (flushS (I ((256 * (k0_t3.val % 2) + 16 * k0_t4.val) + 3)) (rowsS I B (256 * (k0_t3.val % 2) + 16 * k0_t4.val) 3 s)) (Slot d i arg5 arg6 (256 * (k0_t3.val % 2)) B I Fr)) (fun hc hK => ?_) (fun hc => ?_) ?_
  · replace hc := (cond_ne (I ((256 * (k0_t3.val % 2) + 16 * k0_t4.val) + 3)) (rowsS I B (256 * (k0_t3.val % 2) + 16 * k0_t4.val) 3 s).prev).1 hc
    refine flushes (rowsS I B (256 * (k0_t3.val % 2) + 16 * k0_t4.val) 3 s).prev.toNat (offp _ p3 0 (by decide)) (offp _ p3 16 (by decide)) (offp _ p3 32 (by decide)) (offp _ p3 48 (by decide)) (offp _ p3 64 (by decide)) (offp _ p3 80 (by decide)) (offp _ p3 96 (by decide)) (offp _ p3 112 (by decide)) ?_
    refine resets ninf hv2 hv2 hv2 hv2 hv2 hv2 hv2 hv2 ?_
    refine setp ?_
    exact flush_ne hc rfl hK
  · exact flush_eq (not_not.1 fun hn => hc ((cond_ne (I ((256 * (k0_t3.val % 2) + 16 * k0_t4.val) + 3)) (rowsS I B (256 * (k0_t3.val % 2) + 16 * k0_t4.val) 3 s).prev).2 hn))
  refine lanes ((256 * (k0_t3.val % 2) + 16 * k0_t4.val) + 3) (by omega) (congrArg (fun n => (![n, 0] : Fin 2 → ℕ)) (mainRow _ _ _ h3 ht 3 (by decide))) (congrArg (fun n => (![n, 16] : Fin 2 → ℕ)) (mainRow _ _ _ h3 ht 3 (by decide))) (congrArg (fun n => (![n, 32] : Fin 2 → ℕ)) (mainRow _ _ _ h3 ht 3 (by decide))) (congrArg (fun n => (![n, 48] : Fin 2 → ℕ)) (mainRow _ _ _ h3 ht 3 (by decide))) (congrArg (fun n => (![n, 64] : Fin 2 → ℕ)) (mainRow _ _ _ h3 ht 3 (by decide))) (congrArg (fun n => (![n, 80] : Fin 2 → ℕ)) (mainRow _ _ _ h3 ht 3 (by decide))) (congrArg (fun n => (![n, 96] : Fin 2 → ℕ)) (mainRow _ _ _ h3 ht 3 (by decide))) (congrArg (fun n => (![n, 112] : Fin 2 → ℕ)) (mainRow _ _ _ h3 ht 3 (by decide))) ?_
  have p4 : (rowsS I B (256 * (k0_t3.val % 2) + 16 * k0_t4.val) 4 s).prev.toNat ≤ 256 := rowsS_prev hp 4 fun r hr => hI r (hr.trans_le (by decide))
  refine head ?_ ?_
  · exact fun _ _ r a => chkp _ p4 r a
  refine ifJp2 (P' := T3 d i arg7 arg8 arg9 (flushS (I ((256 * (k0_t3.val % 2) + 16 * k0_t4.val) + 4)) (rowsS I B (256 * (k0_t3.val % 2) + 16 * k0_t4.val) 4 s)) (Slot d i arg5 arg6 (256 * (k0_t3.val % 2)) B I Fr)) (fun hc hK => ?_) (fun hc => ?_) ?_
  · replace hc := (cond_ne (I ((256 * (k0_t3.val % 2) + 16 * k0_t4.val) + 4)) (rowsS I B (256 * (k0_t3.val % 2) + 16 * k0_t4.val) 4 s).prev).1 hc
    refine flushes (rowsS I B (256 * (k0_t3.val % 2) + 16 * k0_t4.val) 4 s).prev.toNat (offp _ p4 0 (by decide)) (offp _ p4 16 (by decide)) (offp _ p4 32 (by decide)) (offp _ p4 48 (by decide)) (offp _ p4 64 (by decide)) (offp _ p4 80 (by decide)) (offp _ p4 96 (by decide)) (offp _ p4 112 (by decide)) ?_
    refine resets ninf hv2 hv2 hv2 hv2 hv2 hv2 hv2 hv2 ?_
    refine setp ?_
    exact flush_ne hc rfl hK
  · exact flush_eq (not_not.1 fun hn => hc ((cond_ne (I ((256 * (k0_t3.val % 2) + 16 * k0_t4.val) + 4)) (rowsS I B (256 * (k0_t3.val % 2) + 16 * k0_t4.val) 4 s).prev).2 hn))
  refine lanes ((256 * (k0_t3.val % 2) + 16 * k0_t4.val) + 4) (by omega) (congrArg (fun n => (![n, 0] : Fin 2 → ℕ)) (mainRow _ _ _ h3 ht 4 (by decide))) (congrArg (fun n => (![n, 16] : Fin 2 → ℕ)) (mainRow _ _ _ h3 ht 4 (by decide))) (congrArg (fun n => (![n, 32] : Fin 2 → ℕ)) (mainRow _ _ _ h3 ht 4 (by decide))) (congrArg (fun n => (![n, 48] : Fin 2 → ℕ)) (mainRow _ _ _ h3 ht 4 (by decide))) (congrArg (fun n => (![n, 64] : Fin 2 → ℕ)) (mainRow _ _ _ h3 ht 4 (by decide))) (congrArg (fun n => (![n, 80] : Fin 2 → ℕ)) (mainRow _ _ _ h3 ht 4 (by decide))) (congrArg (fun n => (![n, 96] : Fin 2 → ℕ)) (mainRow _ _ _ h3 ht 4 (by decide))) (congrArg (fun n => (![n, 112] : Fin 2 → ℕ)) (mainRow _ _ _ h3 ht 4 (by decide))) ?_
  have p5 : (rowsS I B (256 * (k0_t3.val % 2) + 16 * k0_t4.val) 5 s).prev.toNat ≤ 256 := rowsS_prev hp 5 fun r hr => hI r (hr.trans_le (by decide))
  refine head ?_ ?_
  · exact fun _ _ r a => chkp _ p5 r a
  refine ifJp2 (P' := T3 d i arg7 arg8 arg9 (flushS (I ((256 * (k0_t3.val % 2) + 16 * k0_t4.val) + 5)) (rowsS I B (256 * (k0_t3.val % 2) + 16 * k0_t4.val) 5 s)) (Slot d i arg5 arg6 (256 * (k0_t3.val % 2)) B I Fr)) (fun hc hK => ?_) (fun hc => ?_) ?_
  · replace hc := (cond_ne (I ((256 * (k0_t3.val % 2) + 16 * k0_t4.val) + 5)) (rowsS I B (256 * (k0_t3.val % 2) + 16 * k0_t4.val) 5 s).prev).1 hc
    refine flushes (rowsS I B (256 * (k0_t3.val % 2) + 16 * k0_t4.val) 5 s).prev.toNat (offp _ p5 0 (by decide)) (offp _ p5 16 (by decide)) (offp _ p5 32 (by decide)) (offp _ p5 48 (by decide)) (offp _ p5 64 (by decide)) (offp _ p5 80 (by decide)) (offp _ p5 96 (by decide)) (offp _ p5 112 (by decide)) ?_
    refine resets ninf hv2 hv2 hv2 hv2 hv2 hv2 hv2 hv2 ?_
    refine setp ?_
    exact flush_ne hc rfl hK
  · exact flush_eq (not_not.1 fun hn => hc ((cond_ne (I ((256 * (k0_t3.val % 2) + 16 * k0_t4.val) + 5)) (rowsS I B (256 * (k0_t3.val % 2) + 16 * k0_t4.val) 5 s).prev).2 hn))
  refine lanes ((256 * (k0_t3.val % 2) + 16 * k0_t4.val) + 5) (by omega) (congrArg (fun n => (![n, 0] : Fin 2 → ℕ)) (mainRow _ _ _ h3 ht 5 (by decide))) (congrArg (fun n => (![n, 16] : Fin 2 → ℕ)) (mainRow _ _ _ h3 ht 5 (by decide))) (congrArg (fun n => (![n, 32] : Fin 2 → ℕ)) (mainRow _ _ _ h3 ht 5 (by decide))) (congrArg (fun n => (![n, 48] : Fin 2 → ℕ)) (mainRow _ _ _ h3 ht 5 (by decide))) (congrArg (fun n => (![n, 64] : Fin 2 → ℕ)) (mainRow _ _ _ h3 ht 5 (by decide))) (congrArg (fun n => (![n, 80] : Fin 2 → ℕ)) (mainRow _ _ _ h3 ht 5 (by decide))) (congrArg (fun n => (![n, 96] : Fin 2 → ℕ)) (mainRow _ _ _ h3 ht 5 (by decide))) (congrArg (fun n => (![n, 112] : Fin 2 → ℕ)) (mainRow _ _ _ h3 ht 5 (by decide))) ?_
  have p6 : (rowsS I B (256 * (k0_t3.val % 2) + 16 * k0_t4.val) 6 s).prev.toNat ≤ 256 := rowsS_prev hp 6 fun r hr => hI r (hr.trans_le (by decide))
  refine head ?_ ?_
  · exact fun _ _ r a => chkp _ p6 r a
  refine ifJp2 (P' := T3 d i arg7 arg8 arg9 (flushS (I ((256 * (k0_t3.val % 2) + 16 * k0_t4.val) + 6)) (rowsS I B (256 * (k0_t3.val % 2) + 16 * k0_t4.val) 6 s)) (Slot d i arg5 arg6 (256 * (k0_t3.val % 2)) B I Fr)) (fun hc hK => ?_) (fun hc => ?_) ?_
  · replace hc := (cond_ne (I ((256 * (k0_t3.val % 2) + 16 * k0_t4.val) + 6)) (rowsS I B (256 * (k0_t3.val % 2) + 16 * k0_t4.val) 6 s).prev).1 hc
    refine flushes (rowsS I B (256 * (k0_t3.val % 2) + 16 * k0_t4.val) 6 s).prev.toNat (offp _ p6 0 (by decide)) (offp _ p6 16 (by decide)) (offp _ p6 32 (by decide)) (offp _ p6 48 (by decide)) (offp _ p6 64 (by decide)) (offp _ p6 80 (by decide)) (offp _ p6 96 (by decide)) (offp _ p6 112 (by decide)) ?_
    refine resets ninf hv2 hv2 hv2 hv2 hv2 hv2 hv2 hv2 ?_
    refine setp ?_
    exact flush_ne hc rfl hK
  · exact flush_eq (not_not.1 fun hn => hc ((cond_ne (I ((256 * (k0_t3.val % 2) + 16 * k0_t4.val) + 6)) (rowsS I B (256 * (k0_t3.val % 2) + 16 * k0_t4.val) 6 s).prev).2 hn))
  refine lanes ((256 * (k0_t3.val % 2) + 16 * k0_t4.val) + 6) (by omega) (congrArg (fun n => (![n, 0] : Fin 2 → ℕ)) (mainRow _ _ _ h3 ht 6 (by decide))) (congrArg (fun n => (![n, 16] : Fin 2 → ℕ)) (mainRow _ _ _ h3 ht 6 (by decide))) (congrArg (fun n => (![n, 32] : Fin 2 → ℕ)) (mainRow _ _ _ h3 ht 6 (by decide))) (congrArg (fun n => (![n, 48] : Fin 2 → ℕ)) (mainRow _ _ _ h3 ht 6 (by decide))) (congrArg (fun n => (![n, 64] : Fin 2 → ℕ)) (mainRow _ _ _ h3 ht 6 (by decide))) (congrArg (fun n => (![n, 80] : Fin 2 → ℕ)) (mainRow _ _ _ h3 ht 6 (by decide))) (congrArg (fun n => (![n, 96] : Fin 2 → ℕ)) (mainRow _ _ _ h3 ht 6 (by decide))) (congrArg (fun n => (![n, 112] : Fin 2 → ℕ)) (mainRow _ _ _ h3 ht 6 (by decide))) ?_
  have p7 : (rowsS I B (256 * (k0_t3.val % 2) + 16 * k0_t4.val) 7 s).prev.toNat ≤ 256 := rowsS_prev hp 7 fun r hr => hI r (hr.trans_le (by decide))
  refine head ?_ ?_
  · exact fun _ _ r a => chkp _ p7 r a
  refine ifJp2 (P' := T3 d i arg7 arg8 arg9 (flushS (I ((256 * (k0_t3.val % 2) + 16 * k0_t4.val) + 7)) (rowsS I B (256 * (k0_t3.val % 2) + 16 * k0_t4.val) 7 s)) (Slot d i arg5 arg6 (256 * (k0_t3.val % 2)) B I Fr)) (fun hc hK => ?_) (fun hc => ?_) ?_
  · replace hc := (cond_ne (I ((256 * (k0_t3.val % 2) + 16 * k0_t4.val) + 7)) (rowsS I B (256 * (k0_t3.val % 2) + 16 * k0_t4.val) 7 s).prev).1 hc
    refine flushes (rowsS I B (256 * (k0_t3.val % 2) + 16 * k0_t4.val) 7 s).prev.toNat (offp _ p7 0 (by decide)) (offp _ p7 16 (by decide)) (offp _ p7 32 (by decide)) (offp _ p7 48 (by decide)) (offp _ p7 64 (by decide)) (offp _ p7 80 (by decide)) (offp _ p7 96 (by decide)) (offp _ p7 112 (by decide)) ?_
    refine resets ninf hv2 hv2 hv2 hv2 hv2 hv2 hv2 hv2 ?_
    refine setp ?_
    exact flush_ne hc rfl hK
  · exact flush_eq (not_not.1 fun hn => hc ((cond_ne (I ((256 * (k0_t3.val % 2) + 16 * k0_t4.val) + 7)) (rowsS I B (256 * (k0_t3.val % 2) + 16 * k0_t4.val) 7 s).prev).2 hn))
  refine lanes ((256 * (k0_t3.val % 2) + 16 * k0_t4.val) + 7) (by omega) (congrArg (fun n => (![n, 0] : Fin 2 → ℕ)) (mainRow _ _ _ h3 ht 7 (by decide))) (congrArg (fun n => (![n, 16] : Fin 2 → ℕ)) (mainRow _ _ _ h3 ht 7 (by decide))) (congrArg (fun n => (![n, 32] : Fin 2 → ℕ)) (mainRow _ _ _ h3 ht 7 (by decide))) (congrArg (fun n => (![n, 48] : Fin 2 → ℕ)) (mainRow _ _ _ h3 ht 7 (by decide))) (congrArg (fun n => (![n, 64] : Fin 2 → ℕ)) (mainRow _ _ _ h3 ht 7 (by decide))) (congrArg (fun n => (![n, 80] : Fin 2 → ℕ)) (mainRow _ _ _ h3 ht 7 (by decide))) (congrArg (fun n => (![n, 96] : Fin 2 → ℕ)) (mainRow _ _ _ h3 ht 7 (by decide))) (congrArg (fun n => (![n, 112] : Fin 2 → ℕ)) (mainRow _ _ _ h3 ht 7 (by decide))) ?_
  have p8 : (rowsS I B (256 * (k0_t3.val % 2) + 16 * k0_t4.val) 8 s).prev.toNat ≤ 256 := rowsS_prev hp 8 fun r hr => hI r (hr.trans_le (by decide))
  refine head ?_ ?_
  · exact fun _ _ r a => chkp _ p8 r a
  refine ifJp2 (P' := T3 d i arg7 arg8 arg9 (flushS (I ((256 * (k0_t3.val % 2) + 16 * k0_t4.val) + 8)) (rowsS I B (256 * (k0_t3.val % 2) + 16 * k0_t4.val) 8 s)) (Slot d i arg5 arg6 (256 * (k0_t3.val % 2)) B I Fr)) (fun hc hK => ?_) (fun hc => ?_) ?_
  · replace hc := (cond_ne (I ((256 * (k0_t3.val % 2) + 16 * k0_t4.val) + 8)) (rowsS I B (256 * (k0_t3.val % 2) + 16 * k0_t4.val) 8 s).prev).1 hc
    refine flushes (rowsS I B (256 * (k0_t3.val % 2) + 16 * k0_t4.val) 8 s).prev.toNat (offp _ p8 0 (by decide)) (offp _ p8 16 (by decide)) (offp _ p8 32 (by decide)) (offp _ p8 48 (by decide)) (offp _ p8 64 (by decide)) (offp _ p8 80 (by decide)) (offp _ p8 96 (by decide)) (offp _ p8 112 (by decide)) ?_
    refine resets ninf hv2 hv2 hv2 hv2 hv2 hv2 hv2 hv2 ?_
    refine setp ?_
    exact flush_ne hc rfl hK
  · exact flush_eq (not_not.1 fun hn => hc ((cond_ne (I ((256 * (k0_t3.val % 2) + 16 * k0_t4.val) + 8)) (rowsS I B (256 * (k0_t3.val % 2) + 16 * k0_t4.val) 8 s).prev).2 hn))
  refine lanes ((256 * (k0_t3.val % 2) + 16 * k0_t4.val) + 8) (by omega) (congrArg (fun n => (![n, 0] : Fin 2 → ℕ)) (mainRow _ _ _ h3 ht 8 (by decide))) (congrArg (fun n => (![n, 16] : Fin 2 → ℕ)) (mainRow _ _ _ h3 ht 8 (by decide))) (congrArg (fun n => (![n, 32] : Fin 2 → ℕ)) (mainRow _ _ _ h3 ht 8 (by decide))) (congrArg (fun n => (![n, 48] : Fin 2 → ℕ)) (mainRow _ _ _ h3 ht 8 (by decide))) (congrArg (fun n => (![n, 64] : Fin 2 → ℕ)) (mainRow _ _ _ h3 ht 8 (by decide))) (congrArg (fun n => (![n, 80] : Fin 2 → ℕ)) (mainRow _ _ _ h3 ht 8 (by decide))) (congrArg (fun n => (![n, 96] : Fin 2 → ℕ)) (mainRow _ _ _ h3 ht 8 (by decide))) (congrArg (fun n => (![n, 112] : Fin 2 → ℕ)) (mainRow _ _ _ h3 ht 8 (by decide))) ?_
  have p9 : (rowsS I B (256 * (k0_t3.val % 2) + 16 * k0_t4.val) 9 s).prev.toNat ≤ 256 := rowsS_prev hp 9 fun r hr => hI r (hr.trans_le (by decide))
  refine head ?_ ?_
  · exact fun _ _ r a => chkp _ p9 r a
  refine ifJp2 (P' := T3 d i arg7 arg8 arg9 (flushS (I ((256 * (k0_t3.val % 2) + 16 * k0_t4.val) + 9)) (rowsS I B (256 * (k0_t3.val % 2) + 16 * k0_t4.val) 9 s)) (Slot d i arg5 arg6 (256 * (k0_t3.val % 2)) B I Fr)) (fun hc hK => ?_) (fun hc => ?_) ?_
  · replace hc := (cond_ne (I ((256 * (k0_t3.val % 2) + 16 * k0_t4.val) + 9)) (rowsS I B (256 * (k0_t3.val % 2) + 16 * k0_t4.val) 9 s).prev).1 hc
    refine flushes (rowsS I B (256 * (k0_t3.val % 2) + 16 * k0_t4.val) 9 s).prev.toNat (offp _ p9 0 (by decide)) (offp _ p9 16 (by decide)) (offp _ p9 32 (by decide)) (offp _ p9 48 (by decide)) (offp _ p9 64 (by decide)) (offp _ p9 80 (by decide)) (offp _ p9 96 (by decide)) (offp _ p9 112 (by decide)) ?_
    refine resets ninf hv2 hv2 hv2 hv2 hv2 hv2 hv2 hv2 ?_
    refine setp ?_
    exact flush_ne hc rfl hK
  · exact flush_eq (not_not.1 fun hn => hc ((cond_ne (I ((256 * (k0_t3.val % 2) + 16 * k0_t4.val) + 9)) (rowsS I B (256 * (k0_t3.val % 2) + 16 * k0_t4.val) 9 s).prev).2 hn))
  refine lanes ((256 * (k0_t3.val % 2) + 16 * k0_t4.val) + 9) (by omega) (congrArg (fun n => (![n, 0] : Fin 2 → ℕ)) (mainRow _ _ _ h3 ht 9 (by decide))) (congrArg (fun n => (![n, 16] : Fin 2 → ℕ)) (mainRow _ _ _ h3 ht 9 (by decide))) (congrArg (fun n => (![n, 32] : Fin 2 → ℕ)) (mainRow _ _ _ h3 ht 9 (by decide))) (congrArg (fun n => (![n, 48] : Fin 2 → ℕ)) (mainRow _ _ _ h3 ht 9 (by decide))) (congrArg (fun n => (![n, 64] : Fin 2 → ℕ)) (mainRow _ _ _ h3 ht 9 (by decide))) (congrArg (fun n => (![n, 80] : Fin 2 → ℕ)) (mainRow _ _ _ h3 ht 9 (by decide))) (congrArg (fun n => (![n, 96] : Fin 2 → ℕ)) (mainRow _ _ _ h3 ht 9 (by decide))) (congrArg (fun n => (![n, 112] : Fin 2 → ℕ)) (mainRow _ _ _ h3 ht 9 (by decide))) ?_
  have p10 : (rowsS I B (256 * (k0_t3.val % 2) + 16 * k0_t4.val) 10 s).prev.toNat ≤ 256 := rowsS_prev hp 10 fun r hr => hI r (hr.trans_le (by decide))
  refine head ?_ ?_
  · exact fun _ _ r a => chkp _ p10 r a
  refine ifJp2 (P' := T3 d i arg7 arg8 arg9 (flushS (I ((256 * (k0_t3.val % 2) + 16 * k0_t4.val) + 10)) (rowsS I B (256 * (k0_t3.val % 2) + 16 * k0_t4.val) 10 s)) (Slot d i arg5 arg6 (256 * (k0_t3.val % 2)) B I Fr)) (fun hc hK => ?_) (fun hc => ?_) ?_
  · replace hc := (cond_ne (I ((256 * (k0_t3.val % 2) + 16 * k0_t4.val) + 10)) (rowsS I B (256 * (k0_t3.val % 2) + 16 * k0_t4.val) 10 s).prev).1 hc
    refine flushes (rowsS I B (256 * (k0_t3.val % 2) + 16 * k0_t4.val) 10 s).prev.toNat (offp _ p10 0 (by decide)) (offp _ p10 16 (by decide)) (offp _ p10 32 (by decide)) (offp _ p10 48 (by decide)) (offp _ p10 64 (by decide)) (offp _ p10 80 (by decide)) (offp _ p10 96 (by decide)) (offp _ p10 112 (by decide)) ?_
    refine resets ninf hv2 hv2 hv2 hv2 hv2 hv2 hv2 hv2 ?_
    refine setp ?_
    exact flush_ne hc rfl hK
  · exact flush_eq (not_not.1 fun hn => hc ((cond_ne (I ((256 * (k0_t3.val % 2) + 16 * k0_t4.val) + 10)) (rowsS I B (256 * (k0_t3.val % 2) + 16 * k0_t4.val) 10 s).prev).2 hn))
  refine lanes ((256 * (k0_t3.val % 2) + 16 * k0_t4.val) + 10) (by omega) (congrArg (fun n => (![n, 0] : Fin 2 → ℕ)) (mainRow _ _ _ h3 ht 10 (by decide))) (congrArg (fun n => (![n, 16] : Fin 2 → ℕ)) (mainRow _ _ _ h3 ht 10 (by decide))) (congrArg (fun n => (![n, 32] : Fin 2 → ℕ)) (mainRow _ _ _ h3 ht 10 (by decide))) (congrArg (fun n => (![n, 48] : Fin 2 → ℕ)) (mainRow _ _ _ h3 ht 10 (by decide))) (congrArg (fun n => (![n, 64] : Fin 2 → ℕ)) (mainRow _ _ _ h3 ht 10 (by decide))) (congrArg (fun n => (![n, 80] : Fin 2 → ℕ)) (mainRow _ _ _ h3 ht 10 (by decide))) (congrArg (fun n => (![n, 96] : Fin 2 → ℕ)) (mainRow _ _ _ h3 ht 10 (by decide))) (congrArg (fun n => (![n, 112] : Fin 2 → ℕ)) (mainRow _ _ _ h3 ht 10 (by decide))) ?_
  have p11 : (rowsS I B (256 * (k0_t3.val % 2) + 16 * k0_t4.val) 11 s).prev.toNat ≤ 256 := rowsS_prev hp 11 fun r hr => hI r (hr.trans_le (by decide))
  refine head ?_ ?_
  · exact fun _ _ r a => chkp _ p11 r a
  refine ifJp2 (P' := T3 d i arg7 arg8 arg9 (flushS (I ((256 * (k0_t3.val % 2) + 16 * k0_t4.val) + 11)) (rowsS I B (256 * (k0_t3.val % 2) + 16 * k0_t4.val) 11 s)) (Slot d i arg5 arg6 (256 * (k0_t3.val % 2)) B I Fr)) (fun hc hK => ?_) (fun hc => ?_) ?_
  · replace hc := (cond_ne (I ((256 * (k0_t3.val % 2) + 16 * k0_t4.val) + 11)) (rowsS I B (256 * (k0_t3.val % 2) + 16 * k0_t4.val) 11 s).prev).1 hc
    refine flushes (rowsS I B (256 * (k0_t3.val % 2) + 16 * k0_t4.val) 11 s).prev.toNat (offp _ p11 0 (by decide)) (offp _ p11 16 (by decide)) (offp _ p11 32 (by decide)) (offp _ p11 48 (by decide)) (offp _ p11 64 (by decide)) (offp _ p11 80 (by decide)) (offp _ p11 96 (by decide)) (offp _ p11 112 (by decide)) ?_
    refine resets ninf hv2 hv2 hv2 hv2 hv2 hv2 hv2 hv2 ?_
    refine setp ?_
    exact flush_ne hc rfl hK
  · exact flush_eq (not_not.1 fun hn => hc ((cond_ne (I ((256 * (k0_t3.val % 2) + 16 * k0_t4.val) + 11)) (rowsS I B (256 * (k0_t3.val % 2) + 16 * k0_t4.val) 11 s).prev).2 hn))
  refine lanes ((256 * (k0_t3.val % 2) + 16 * k0_t4.val) + 11) (by omega) (congrArg (fun n => (![n, 0] : Fin 2 → ℕ)) (mainRow _ _ _ h3 ht 11 (by decide))) (congrArg (fun n => (![n, 16] : Fin 2 → ℕ)) (mainRow _ _ _ h3 ht 11 (by decide))) (congrArg (fun n => (![n, 32] : Fin 2 → ℕ)) (mainRow _ _ _ h3 ht 11 (by decide))) (congrArg (fun n => (![n, 48] : Fin 2 → ℕ)) (mainRow _ _ _ h3 ht 11 (by decide))) (congrArg (fun n => (![n, 64] : Fin 2 → ℕ)) (mainRow _ _ _ h3 ht 11 (by decide))) (congrArg (fun n => (![n, 80] : Fin 2 → ℕ)) (mainRow _ _ _ h3 ht 11 (by decide))) (congrArg (fun n => (![n, 96] : Fin 2 → ℕ)) (mainRow _ _ _ h3 ht 11 (by decide))) (congrArg (fun n => (![n, 112] : Fin 2 → ℕ)) (mainRow _ _ _ h3 ht 11 (by decide))) ?_
  have p12 : (rowsS I B (256 * (k0_t3.val % 2) + 16 * k0_t4.val) 12 s).prev.toNat ≤ 256 := rowsS_prev hp 12 fun r hr => hI r (hr.trans_le (by decide))
  refine head ?_ ?_
  · exact fun _ _ r a => chkp _ p12 r a
  refine ifJp2 (P' := T3 d i arg7 arg8 arg9 (flushS (I ((256 * (k0_t3.val % 2) + 16 * k0_t4.val) + 12)) (rowsS I B (256 * (k0_t3.val % 2) + 16 * k0_t4.val) 12 s)) (Slot d i arg5 arg6 (256 * (k0_t3.val % 2)) B I Fr)) (fun hc hK => ?_) (fun hc => ?_) ?_
  · replace hc := (cond_ne (I ((256 * (k0_t3.val % 2) + 16 * k0_t4.val) + 12)) (rowsS I B (256 * (k0_t3.val % 2) + 16 * k0_t4.val) 12 s).prev).1 hc
    refine flushes (rowsS I B (256 * (k0_t3.val % 2) + 16 * k0_t4.val) 12 s).prev.toNat (offp _ p12 0 (by decide)) (offp _ p12 16 (by decide)) (offp _ p12 32 (by decide)) (offp _ p12 48 (by decide)) (offp _ p12 64 (by decide)) (offp _ p12 80 (by decide)) (offp _ p12 96 (by decide)) (offp _ p12 112 (by decide)) ?_
    refine resets ninf hv2 hv2 hv2 hv2 hv2 hv2 hv2 hv2 ?_
    refine setp ?_
    exact flush_ne hc rfl hK
  · exact flush_eq (not_not.1 fun hn => hc ((cond_ne (I ((256 * (k0_t3.val % 2) + 16 * k0_t4.val) + 12)) (rowsS I B (256 * (k0_t3.val % 2) + 16 * k0_t4.val) 12 s).prev).2 hn))
  refine lanes ((256 * (k0_t3.val % 2) + 16 * k0_t4.val) + 12) (by omega) (congrArg (fun n => (![n, 0] : Fin 2 → ℕ)) (mainRow _ _ _ h3 ht 12 (by decide))) (congrArg (fun n => (![n, 16] : Fin 2 → ℕ)) (mainRow _ _ _ h3 ht 12 (by decide))) (congrArg (fun n => (![n, 32] : Fin 2 → ℕ)) (mainRow _ _ _ h3 ht 12 (by decide))) (congrArg (fun n => (![n, 48] : Fin 2 → ℕ)) (mainRow _ _ _ h3 ht 12 (by decide))) (congrArg (fun n => (![n, 64] : Fin 2 → ℕ)) (mainRow _ _ _ h3 ht 12 (by decide))) (congrArg (fun n => (![n, 80] : Fin 2 → ℕ)) (mainRow _ _ _ h3 ht 12 (by decide))) (congrArg (fun n => (![n, 96] : Fin 2 → ℕ)) (mainRow _ _ _ h3 ht 12 (by decide))) (congrArg (fun n => (![n, 112] : Fin 2 → ℕ)) (mainRow _ _ _ h3 ht 12 (by decide))) ?_
  have p13 : (rowsS I B (256 * (k0_t3.val % 2) + 16 * k0_t4.val) 13 s).prev.toNat ≤ 256 := rowsS_prev hp 13 fun r hr => hI r (hr.trans_le (by decide))
  refine head ?_ ?_
  · exact fun _ _ r a => chkp _ p13 r a
  refine ifJp2 (P' := T3 d i arg7 arg8 arg9 (flushS (I ((256 * (k0_t3.val % 2) + 16 * k0_t4.val) + 13)) (rowsS I B (256 * (k0_t3.val % 2) + 16 * k0_t4.val) 13 s)) (Slot d i arg5 arg6 (256 * (k0_t3.val % 2)) B I Fr)) (fun hc hK => ?_) (fun hc => ?_) ?_
  · replace hc := (cond_ne (I ((256 * (k0_t3.val % 2) + 16 * k0_t4.val) + 13)) (rowsS I B (256 * (k0_t3.val % 2) + 16 * k0_t4.val) 13 s).prev).1 hc
    refine flushes (rowsS I B (256 * (k0_t3.val % 2) + 16 * k0_t4.val) 13 s).prev.toNat (offp _ p13 0 (by decide)) (offp _ p13 16 (by decide)) (offp _ p13 32 (by decide)) (offp _ p13 48 (by decide)) (offp _ p13 64 (by decide)) (offp _ p13 80 (by decide)) (offp _ p13 96 (by decide)) (offp _ p13 112 (by decide)) ?_
    refine resets ninf hv2 hv2 hv2 hv2 hv2 hv2 hv2 hv2 ?_
    refine setp ?_
    exact flush_ne hc rfl hK
  · exact flush_eq (not_not.1 fun hn => hc ((cond_ne (I ((256 * (k0_t3.val % 2) + 16 * k0_t4.val) + 13)) (rowsS I B (256 * (k0_t3.val % 2) + 16 * k0_t4.val) 13 s).prev).2 hn))
  refine lanes ((256 * (k0_t3.val % 2) + 16 * k0_t4.val) + 13) (by omega) (congrArg (fun n => (![n, 0] : Fin 2 → ℕ)) (mainRow _ _ _ h3 ht 13 (by decide))) (congrArg (fun n => (![n, 16] : Fin 2 → ℕ)) (mainRow _ _ _ h3 ht 13 (by decide))) (congrArg (fun n => (![n, 32] : Fin 2 → ℕ)) (mainRow _ _ _ h3 ht 13 (by decide))) (congrArg (fun n => (![n, 48] : Fin 2 → ℕ)) (mainRow _ _ _ h3 ht 13 (by decide))) (congrArg (fun n => (![n, 64] : Fin 2 → ℕ)) (mainRow _ _ _ h3 ht 13 (by decide))) (congrArg (fun n => (![n, 80] : Fin 2 → ℕ)) (mainRow _ _ _ h3 ht 13 (by decide))) (congrArg (fun n => (![n, 96] : Fin 2 → ℕ)) (mainRow _ _ _ h3 ht 13 (by decide))) (congrArg (fun n => (![n, 112] : Fin 2 → ℕ)) (mainRow _ _ _ h3 ht 13 (by decide))) ?_
  have p14 : (rowsS I B (256 * (k0_t3.val % 2) + 16 * k0_t4.val) 14 s).prev.toNat ≤ 256 := rowsS_prev hp 14 fun r hr => hI r (hr.trans_le (by decide))
  refine head ?_ ?_
  · exact fun _ _ r a => chkp _ p14 r a
  refine ifJp2 (P' := T3 d i arg7 arg8 arg9 (flushS (I ((256 * (k0_t3.val % 2) + 16 * k0_t4.val) + 14)) (rowsS I B (256 * (k0_t3.val % 2) + 16 * k0_t4.val) 14 s)) (Slot d i arg5 arg6 (256 * (k0_t3.val % 2)) B I Fr)) (fun hc hK => ?_) (fun hc => ?_) ?_
  · replace hc := (cond_ne (I ((256 * (k0_t3.val % 2) + 16 * k0_t4.val) + 14)) (rowsS I B (256 * (k0_t3.val % 2) + 16 * k0_t4.val) 14 s).prev).1 hc
    refine flushes (rowsS I B (256 * (k0_t3.val % 2) + 16 * k0_t4.val) 14 s).prev.toNat (offp _ p14 0 (by decide)) (offp _ p14 16 (by decide)) (offp _ p14 32 (by decide)) (offp _ p14 48 (by decide)) (offp _ p14 64 (by decide)) (offp _ p14 80 (by decide)) (offp _ p14 96 (by decide)) (offp _ p14 112 (by decide)) ?_
    refine resets ninf hv2 hv2 hv2 hv2 hv2 hv2 hv2 hv2 ?_
    refine setp ?_
    exact flush_ne hc rfl hK
  · exact flush_eq (not_not.1 fun hn => hc ((cond_ne (I ((256 * (k0_t3.val % 2) + 16 * k0_t4.val) + 14)) (rowsS I B (256 * (k0_t3.val % 2) + 16 * k0_t4.val) 14 s).prev).2 hn))
  refine lanes ((256 * (k0_t3.val % 2) + 16 * k0_t4.val) + 14) (by omega) (congrArg (fun n => (![n, 0] : Fin 2 → ℕ)) (mainRow _ _ _ h3 ht 14 (by decide))) (congrArg (fun n => (![n, 16] : Fin 2 → ℕ)) (mainRow _ _ _ h3 ht 14 (by decide))) (congrArg (fun n => (![n, 32] : Fin 2 → ℕ)) (mainRow _ _ _ h3 ht 14 (by decide))) (congrArg (fun n => (![n, 48] : Fin 2 → ℕ)) (mainRow _ _ _ h3 ht 14 (by decide))) (congrArg (fun n => (![n, 64] : Fin 2 → ℕ)) (mainRow _ _ _ h3 ht 14 (by decide))) (congrArg (fun n => (![n, 80] : Fin 2 → ℕ)) (mainRow _ _ _ h3 ht 14 (by decide))) (congrArg (fun n => (![n, 96] : Fin 2 → ℕ)) (mainRow _ _ _ h3 ht 14 (by decide))) (congrArg (fun n => (![n, 112] : Fin 2 → ℕ)) (mainRow _ _ _ h3 ht 14 (by decide))) ?_
  have p15 : (rowsS I B (256 * (k0_t3.val % 2) + 16 * k0_t4.val) 15 s).prev.toNat ≤ 256 := rowsS_prev hp 15 fun r hr => hI r (hr.trans_le (by decide))
  refine head ?_ ?_
  · exact fun _ _ r a => chkp _ p15 r a
  refine ifJp2 (P' := T3 d i arg7 arg8 arg9 (flushS (I ((256 * (k0_t3.val % 2) + 16 * k0_t4.val) + 15)) (rowsS I B (256 * (k0_t3.val % 2) + 16 * k0_t4.val) 15 s)) (Slot d i arg5 arg6 (256 * (k0_t3.val % 2)) B I Fr)) (fun hc hK => ?_) (fun hc => ?_) ?_
  · replace hc := (cond_ne (I ((256 * (k0_t3.val % 2) + 16 * k0_t4.val) + 15)) (rowsS I B (256 * (k0_t3.val % 2) + 16 * k0_t4.val) 15 s).prev).1 hc
    refine flushes (rowsS I B (256 * (k0_t3.val % 2) + 16 * k0_t4.val) 15 s).prev.toNat (offp _ p15 0 (by decide)) (offp _ p15 16 (by decide)) (offp _ p15 32 (by decide)) (offp _ p15 48 (by decide)) (offp _ p15 64 (by decide)) (offp _ p15 80 (by decide)) (offp _ p15 96 (by decide)) (offp _ p15 112 (by decide)) ?_
    refine resets ninf hv2 hv2 hv2 hv2 hv2 hv2 hv2 hv2 ?_
    refine setp ?_
    exact flush_ne hc rfl hK
  · exact flush_eq (not_not.1 fun hn => hc ((cond_ne (I ((256 * (k0_t3.val % 2) + 16 * k0_t4.val) + 15)) (rowsS I B (256 * (k0_t3.val % 2) + 16 * k0_t4.val) 15 s).prev).2 hn))
  have hG : ∀ n k : ℕ, n ≤ k → (rowsS I B (256 * (k0_t3.val % 2) + 16 * k0_t4.val) 16 s).cur k = mx ((flushS (I ((256 * (k0_t3.val % 2) + 16 * k0_t4.val) + 15)) (rowsS I B (256 * (k0_t3.val % 2) + 16 * k0_t4.val) 15 s)).cur k) (B ((256 * (k0_t3.val % 2) + 16 * k0_t4.val) + 15) k) := fun _ _ _ => rfl
  refine T3_congr' (s' := ⟨(flushS (I ((256 * (k0_t3.val % 2) + 16 * k0_t4.val) + 15)) (rowsS I B (256 * (k0_t3.val % 2) + 16 * k0_t4.val) 15 s)).acc, mix 0 (rowsS I B (256 * (k0_t3.val % 2) + 16 * k0_t4.val) 16 s).cur (flushS (I ((256 * (k0_t3.val % 2) + 16 * k0_t4.val) + 15)) (rowsS I B (256 * (k0_t3.val % 2) + 16 * k0_t4.val) 15 s)).cur, (flushS (I ((256 * (k0_t3.val % 2) + 16 * k0_t4.val) + 15)) (rowsS I B (256 * (k0_t3.val % 2) + 16 * k0_t4.val) 15 s)).prev⟩) (fun _ _ => rfl)
    (fun k _ => by simp [mix]) rfl ?_
  refine lane_max (s := (flushS (I ((256 * (k0_t3.val % 2) + 16 * k0_t4.val) + 15)) (rowsS I B (256 * (k0_t3.val % 2) + 16 * k0_t4.val) 15 s))) (n := 0) (hG _) (R := (256 * (k0_t3.val % 2) + 16 * k0_t4.val) + 15) (by omega) (congrArg (fun n => (![n, 0] : Fin 2 → ℕ)) (mainRow _ _ _ h3 ht 15 (by decide))) ?_
  refine lane_max (s := (flushS (I ((256 * (k0_t3.val % 2) + 16 * k0_t4.val) + 15)) (rowsS I B (256 * (k0_t3.val % 2) + 16 * k0_t4.val) 15 s))) (n := 16) (hG _) (R := (256 * (k0_t3.val % 2) + 16 * k0_t4.val) + 15) (by omega) (congrArg (fun n => (![n, 16] : Fin 2 → ℕ)) (mainRow _ _ _ h3 ht 15 (by decide))) ?_
  refine lane_max (s := (flushS (I ((256 * (k0_t3.val % 2) + 16 * k0_t4.val) + 15)) (rowsS I B (256 * (k0_t3.val % 2) + 16 * k0_t4.val) 15 s))) (n := 32) (hG _) (R := (256 * (k0_t3.val % 2) + 16 * k0_t4.val) + 15) (by omega) (congrArg (fun n => (![n, 32] : Fin 2 → ℕ)) (mainRow _ _ _ h3 ht 15 (by decide))) ?_
  refine lane_max (s := (flushS (I ((256 * (k0_t3.val % 2) + 16 * k0_t4.val) + 15)) (rowsS I B (256 * (k0_t3.val % 2) + 16 * k0_t4.val) 15 s))) (n := 48) (hG _) (R := (256 * (k0_t3.val % 2) + 16 * k0_t4.val) + 15) (by omega) (congrArg (fun n => (![n, 48] : Fin 2 → ℕ)) (mainRow _ _ _ h3 ht 15 (by decide))) ?_
  refine lane_max (s := (flushS (I ((256 * (k0_t3.val % 2) + 16 * k0_t4.val) + 15)) (rowsS I B (256 * (k0_t3.val % 2) + 16 * k0_t4.val) 15 s))) (n := 64) (hG _) (R := (256 * (k0_t3.val % 2) + 16 * k0_t4.val) + 15) (by omega) (congrArg (fun n => (![n, 64] : Fin 2 → ℕ)) (mainRow _ _ _ h3 ht 15 (by decide))) ?_
  refine lane_max (s := (flushS (I ((256 * (k0_t3.val % 2) + 16 * k0_t4.val) + 15)) (rowsS I B (256 * (k0_t3.val % 2) + 16 * k0_t4.val) 15 s))) (n := 80) (hG _) (R := (256 * (k0_t3.val % 2) + 16 * k0_t4.val) + 15) (by omega) (congrArg (fun n => (![n, 80] : Fin 2 → ℕ)) (mainRow _ _ _ h3 ht 15 (by decide))) ?_
  exact h

end Cert.Proof.SegMax
end
-- ==== Proof.GroupMain.lean ====
/-
  One group of 16 rows of a chunk.
-/
module

public import proofs.«01_k».proof.Proof.Tree
public import proofs.«01_k».proof.Proof.SlowMain

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 4000000 in
/-- The body of the loop over a chunk's groups, as the program has it. -/
def mainGroup (i : grid0.Coords) (arg2 : Memref sig .scVector .hbm S100000x128 .f32) (harg2 : arg2.IsWhole) (arg3 : Memref sig .scVector .hbm S100000 .i32) (harg3 : arg3.IsWhole) (arg4 : Memref sig .scVector .hbm S32x32768 .f32) (harg4 : arg4.IsWhole) (arg5 : Memref sig .scVector .vmem S512x128 .f32) (harg5 : arg5.IsWhole) (arg6 : Memref sig .scVector .vmem S512 .i32) (harg6 : arg6.IsWhole) (arg7 : Memref sig .scVector .vmem S32896 .f32) (harg7 : arg7.IsWhole) (arg8 : Memref sig .scVector .vmem S128 .f32) (harg8 : arg8.IsWhole) (arg9 : Memref sig .scVector .smem S1 .i32) (harg9 : arg9.IsWhole) (arg10 : DmaSems sig S_) (arg11 : DmaSems sig S_) (v313_r0 : DmaSems sig S_) (v313_r1 : DmaSems sig S_) (v171_r2 : DmaSems sig S_) (v2 : FVec F S16 .f32) (k0_t3 : Fin (k0_t3_loop i).trips) (v172 c0_i32_66 c1_i32_68 : BitVec 32) (k0_t4 : Fin k0_t4_loop.trips) :
    TProg F i (BitVec 32) := do
  let ⟨v193, v196, v200, v204, v208, v212, v216, v220, v224, v228⟩ : Σ' (v193 : BitVec 32) (v196 : IVec S16 32) (v200 : FVec F S16 .f32) (v204 : FVec F S16 .f32) (v208 : FVec F S16 .f32) (v212 : FVec F S16 .f32) (v216 : FVec F S16 .f32) (v220 : FVec F S16 .f32) (v224 : FVec F S16 .f32), FVec F S16 .f32 ← k0_part189 i arg2 harg2 arg3 harg3 arg4 harg4 arg5 harg5 arg6 harg6 arg7 harg7 arg8 harg8 arg9 harg9 arg10 arg11 v313_r0 v313_r1 v171_r2 k0_t3 v172 c0_i32_66 c1_i32_68 k0_t4
  let v275 : FVec F S16 .f32 ← k0_part190 i arg2 harg2 arg3 harg3 arg4 harg4 arg5 harg5 arg6 harg6 arg7 harg7 arg8 harg8 arg9 harg9 arg10 arg11 v313_r0 v313_r1 v171_r2 k0_t3 k0_t4 v193 v200 v204 v208 v212 v216 v220 v224 v228
  let ⟨v279, v283, v287, v291, v295, v299, v303, v307, v311, v315⟩ : Σ' (v279 : FVec F S16 .f32) (v283 : FVec F S16 .f32) (v287 : FVec F S16 .f32) (v291 : FVec F S16 .f32) (v295 : FVec F S16 .f32) (v299 : FVec F S16 .f32) (v303 : FVec F S16 .f32) (v307 : FVec F S16 .f32) (v311 : FVec F S16 .f32), FVec F S16 .f32 ← k0_part191 i arg2 harg2 arg3 harg3 arg4 harg4 arg5 harg5 arg6 harg6 arg7 harg7 arg8 harg8 arg9 harg9 arg10 arg11 v313_r0 v313_r1 v171_r2 k0_t3 k0_t4 v193
  let ⟨v354, v358⟩ : Σ' (v354 : FVec F S16 .f32), FVec F S16 .f32 ← k0_part192 i arg2 harg2 arg3 harg3 arg4 harg4 arg5 harg5 arg6 harg6 arg7 harg7 arg8 harg8 arg9 harg9 arg10 arg11 v313_r0 v313_r1 v171_r2 k0_t3 k0_t4 v193 v279 v283 v287 v291 v295 v299 v303 v307 v311 v315
  let ⟨v362, v366, v370, v374, v378, v382, v386, v390, v394, v398⟩ : Σ' (v362 : FVec F S16 .f32) (v366 : FVec F S16 .f32) (v370 : FVec F S16 .f32) (v374 : FVec F S16 .f32) (v378 : FVec F S16 .f32) (v382 : FVec F S16 .f32) (v386 : FVec F S16 .f32) (v390 : FVec F S16 .f32) (v394 : FVec F S16 .f32), FVec F S16 .f32 ← k0_part193 i arg2 harg2 arg3 harg3 arg4 harg4 arg5 harg5 arg6 harg6 arg7 harg7 arg8 harg8 arg9 harg9 arg10 arg11 v313_r0 v313_r1 v171_r2 k0_t3 k0_t4 v193
  let ⟨v433, v437, v441, v445⟩ : Σ' (v433 : FVec F S16 .f32) (v437 : FVec F S16 .f32) (v441 : FVec F S16 .f32), FVec F S16 .f32 ← k0_part194 i arg2 harg2 arg3 harg3 arg4 harg4 arg5 harg5 arg6 harg6 arg7 harg7 arg8 harg8 arg9 harg9 arg10 arg11 v313_r0 v313_r1 v171_r2 k0_t3 k0_t4 v193 v358 v362 v366 v370 v374 v378 v382 v386 v390 v394 v398
  let ⟨v449, v453, v457, v461, v465, v469, v473, v477, v481, v485⟩ : Σ' (v449 : FVec F S16 .f32) (v453 : FVec F S16 .f32) (v457 : FVec F S16 .f32) (v461 : FVec F S16 .f32) (v465 : FVec F S16 .f32) (v469 : FVec F S16 .f32) (v473 : FVec F S16 .f32) (v477 : FVec F S16 .f32) (v481 : FVec F S16 .f32), FVec F S16 .f32 ← k0_part195 i arg2 harg2 arg3 harg3 arg4 harg4 arg5 harg5 arg6 harg6 arg7 harg7 arg8 harg8 arg9 harg9 arg10 arg11 v313_r0 v313_r1 v171_r2 k0_t3 k0_t4 v193
  let ⟨v512, v516, v520, v524, v528⟩ : Σ' (v512 : FVec F S16 .f32) (v516 : FVec F S16 .f32) (v520 : FVec F S16 .f32) (v524 : FVec F S16 .f32), FVec F S16 .f32 ← k0_part196 i arg2 harg2 arg3 harg3 arg4 harg4 arg5 harg5 arg6 harg6 arg7 harg7 arg8 harg8 arg9 harg9 arg10 arg11 v313_r0 v313_r1 v171_r2 k0_t3 k0_t4 v193 v437 v441 v445 v449 v453 v457 v461 v465 v469 v473 v477 v481 v485
  let ⟨v532, v536, v540, v544, v548, v552, v556, v560, v564, v568⟩ : Σ' (v532 : FVec F S16 .f32) (v536 : FVec F S16 .f32) (v540 : FVec F S16 .f32) (v544 : FVec F S16 .f32) (v548 : FVec F S16 .f32) (v552 : FVec F S16 .f32) (v556 : FVec F S16 .f32) (v560 : FVec F S16 .f32) (v564 : FVec F S16 .f32), FVec F S16 .f32 ← k0_part197 i arg2 harg2 arg3 harg3 arg4 harg4 arg5 harg5 arg6 harg6 arg7 harg7 arg8 harg8 arg9 harg9 arg10 arg11 v313_r0 v313_r1 v171_r2 k0_t3 k0_t4 v193
  let ⟨v591, v595, v599, v603, v607, v611, v615⟩ : Σ' (v591 : FVec F S16 .f32) (v595 : FVec F S16 .f32) (v599 : FVec F S16 .f32) (v603 : FVec F S16 .f32) (v607 : FVec F S16 .f32) (v611 : FVec F S16 .f32), FVec F S16 .f32 ← k0_part198 i arg2 harg2 arg3 harg3 arg4 harg4 arg5 harg5 arg6 harg6 arg7 harg7 arg8 harg8 arg9 harg9 arg10 arg11 v313_r0 v313_r1 v171_r2 k0_t3 k0_t4 v193 v516 v520 v524 v528 v532 v536 v540 v544 v548 v552 v556 v560 v564 v568
  let ⟨v619, v623, v627, v631, v635, v639, v643, v647, v651, v655⟩ : Σ' (v619 : FVec F S16 .f32) (v623 : FVec F S16 .f32) (v627 : FVec F S16 .f32) (v631 : FVec F S16 .f32) (v635 : FVec F S16 .f32) (v639 : FVec F S16 .f32) (v643 : FVec F S16 .f32) (v647 : FVec F S16 .f32) (v651 : FVec F S16 .f32), FVec F S16 .f32 ← k0_part199 i arg2 harg2 arg3 harg3 arg4 harg4 arg5 harg5 arg6 harg6 arg7 harg7 arg8 harg8 arg9 harg9 arg10 arg11 v313_r0 v313_r1 v171_r2 k0_t3 k0_t4 v193
  let ⟨v670, v674, v678, v682, v686, v690, v694, v698⟩ : Σ' (v670 : FVec F S16 .f32) (v674 : FVec F S16 .f32) (v678 : FVec F S16 .f32) (v682 : FVec F S16 .f32) (v686 : FVec F S16 .f32) (v690 : FVec F S16 .f32) (v694 : FVec F S16 .f32), FVec F S16 .f32 ← k0_part200 i arg2 harg2 arg3 harg3 arg4 harg4 arg5 harg5 arg6 harg6 arg7 harg7 arg8 harg8 arg9 harg9 arg10 arg11 v313_r0 v313_r1 v171_r2 k0_t3 k0_t4 v193 v595 v599 v603 v607 v611 v615 v619 v623 v627 v631 v635 v639 v643 v647 v651 v655
  let ⟨v737, v738, v739, v740, v741, v742, v743⟩ : Σ' (v737 : FVec F S16 .f32) (v738 : FVec F S16 .f32) (v739 : FVec F S16 .f32) (v740 : FVec F S16 .f32) (v741 : FVec F S16 .f32) (v742 : FVec F S16 .f32), FVec F S16 .f32 ← k0_part201 i arg2 harg2 arg3 harg3 arg4 harg4 arg5 harg5 arg6 harg6 arg7 harg7 arg8 harg8 arg9 harg9 arg10 arg11 v313_r0 v313_r1 v171_r2 k0_t3 k0_t4 v193 v674 v678 v682 v686 v690 v694 v698
  let ⟨v749, v753, v757, v761, v765, v769, v773, v777, v781, v785⟩ : Σ' (v749 : FVec F S16 .f32) (v753 : FVec F S16 .f32) (v757 : FVec F S16 .f32) (v761 : FVec F S16 .f32) (v765 : FVec F S16 .f32) (v769 : FVec F S16 .f32) (v773 : FVec F S16 .f32) (v777 : FVec F S16 .f32) (v781 : FVec F S16 .f32), FVec F S16 .f32 ← k0_part202 i arg2 harg2 arg3 harg3 arg4 harg4 arg5 harg5 arg6 harg6 arg7 harg7 arg8 harg8 arg9 harg9 arg10 arg11 v313_r0 v313_r1 v171_r2 k0_t3 k0_t4 v193 v737 v738 v739 v740 v741 v742 v743
  let ⟨v828, v830⟩ : Σ' (v828 : FVec F S16 .f32), Elt F .i32 ← k0_part203 i arg2 harg2 arg3 harg3 arg4 harg4 arg5 harg5 arg6 harg6 arg7 harg7 arg8 harg8 arg9 harg9 arg10 arg11 v313_r0 v313_r1 v171_r2 k0_t3 k0_t4 v193 v753 v757 v761 v765 v769 v773 v777 v781 v785
  have v831 : IVec S1 32 := extractStridedSlice S1 ![0] v196 slices_S16_o0_S1
  let v832 : BitVec 32 := extractAt ![0] v831 inpos_S1_p0
  let v833 : BitVec 1 := Scalar.cmpi .eq v832 v830
  have v834 : IVec S1 32 := extractStridedSlice S1 ![15] v196 slices_S16_o15_S1
  let v835 : BitVec 32 := extractAt ![0] v834 inpos_S1_p0
  let v836 : BitVec 1 := Scalar.cmpi .eq v835 v830
  let v837 : BitVec 1 := Scalar.andi v833 v836
  let v838 : BitVec 32 := Scalar.extui v837
  let c0_i32_318 : BitVec 32 := 0#32
  let v839 : BitVec 1 := Scalar.cmpi .ne v838 c0_i32_318
  if v839 = 1#1 then do
    let ⟨v881, v882⟩ : Σ' (v881 : FVec F S16 .f32), Vec F S16 .f32 ← k0_part105 i arg2 harg2 arg3 harg3 arg4 harg4 arg5 harg5 arg6 harg6 arg7 harg7 arg8 harg8 arg9 harg9 arg10 arg11 v313_r0 v313_r1 v171_r2 v275 v354 v433 v512 v591 v670 v749
    have v883 : FVec F S16 .f32 := shapeCast S16 v882 shapeCasts_S16_S16
    have v884 : FVec F S16 .f32 := shapeCast S16 v881 shapeCasts_S16_S16
    Prog.lift (.store arg8 (Rect.unit (s := S128) ![96] S16.size inb_S128_S16_96) v884 Finset.univ (View.stores_vmem_bits_univ h_S16 rfl) (.inl rfl))
    let c112_335 : Index := 112#32
    let v885 : Vec F S16 .f32 ← Prog.lift (.load arg8 (Rect.unit (s := S128) ![112] S16.size inb_S128_S16_112).toLoadRect (View.loadsAt_vmem h_S16))
    have v886 : FVec F S16 .f32 := shapeCast S16 v885 shapeCasts_S16_S16
    have v887 : FVec F S16 .f32 := maximumf v886 v828
    let c112_336 : Index := 112#32
    let v888 : Vec F S16 .f32 ← Prog.lift (.load arg8 (Rect.unit (s := S128) ![112] S16.size inb_S128_S16_112).toLoadRect (View.loadsAt_vmem h_S16))
    have v889 : FVec F S16 .f32 := shapeCast S16 v888 shapeCasts_S16_S16
    have v890 : FVec F S16 .f32 := shapeCast S16 v887 shapeCasts_S16_S16
    Prog.lift (.store arg8 (Rect.unit (s := S128) ![112] S16.size inb_S128_S16_112) v890 Finset.univ (View.stores_vmem_bits_univ h_S16 rfl) (.inl rfl))
    pure ⟨⟩
  else do
    pure ⟨⟩
  let v_true : BitVec 1 := 1#1
  let v840 : BitVec 1 := Scalar.xori v837 v_true
  let v841 : BitVec 32 := Scalar.extui v840
  let c0_i32_319 : BitVec 32 := 0#32
  let v842 : BitVec 1 := Scalar.cmpi .ne v841 c0_i32_319
  if k0_h22 : k0_cond22 v830 v832 v835 = 1#1 then do
    k0_part188 i arg2 harg2 arg3 harg3 arg4 harg4 arg5 harg5 arg6 harg6 arg7 harg7 arg8 harg8 arg9 harg9 arg10 arg11 v313_r0 v313_r1 v171_r2 v2 k0_t3 k0_t4 v193 v196 v830 v832 v835 k0_h22
    let c96_857 : Index := 96#32
    let v2215 : Vec F S16 .f32 ← Prog.lift (.load arg8 (Rect.unit (s := S128) ![96] S16.size inb_S128_S16_96).toLoadRect (View.loadsAt_vmem h_S16))
    have v2216 : FVec F S16 .f32 := shapeCast S16 v2215 shapeCasts_S16_S16
    let c15_i32_858 : BitVec 32 := 15#32
    let v2217 : BitVec 32 := Scalar.addi v193 c15_i32_858
    let v2218 : Index := Scalar.indexCast v2217
    let c96_859 : Index := 96#32
    let v2219 : Vec F S1x16 .f32 ← Prog.lift (.load arg5 (Rect.unit (s := S512x128) (k0_off317 i k0_t3 k0_t4) S1x16.size (k0_off317_inb i k0_t3 k0_t4)).toLoadRect (View.loadsAt_vmem h_S1x16))
    have v2220 : FVec F S16 .f32 := shapeCast S16 v2219 shapeCasts_S1x16_S16
    have v2221 : FVec F S16 .f32 := maximumf v2216 v2220
    let c96_860 : Index := 96#32
    let v2222 : Vec F S16 .f32 ← Prog.lift (.load arg8 (Rect.unit (s := S128) ![96] S16.size inb_S128_S16_96).toLoadRect (View.loadsAt_vmem h_S16))
    have v2223 : FVec F S16 .f32 := shapeCast S16 v2222 shapeCasts_S16_S16
    have v2224 : FVec F S16 .f32 := shapeCast S16 v2221 shapeCasts_S16_S16
    Prog.lift (.store arg8 (Rect.unit (s := S128) ![96] S16.size inb_S128_S16_96) v2224 Finset.univ (View.stores_vmem_bits_univ h_S16 rfl) (.inl rfl))
    let c112_861 : Index := 112#32
    let v2225 : Vec F S16 .f32 ← Prog.lift (.load arg8 (Rect.unit (s := S128) ![112] S16.size inb_S128_S16_112).toLoadRect (View.loadsAt_vmem h_S16))
    have v2226 : FVec F S16 .f32 := shapeCast S16 v2225 shapeCasts_S16_S16
    let c15_i32_862 : BitVec 32 := 15#32
    let v2227 : BitVec 32 := Scalar.addi v193 c15_i32_862
    let v2228 : Index := Scalar.indexCast v2227
    let c112_863 : Index := 112#32
    let v2229 : Vec F S1x16 .f32 ← Prog.lift (.load arg5 (Rect.unit (s := S512x128) (k0_off318 i k0_t3 k0_t4) S1x16.size (k0_off318_inb i k0_t3 k0_t4)).toLoadRect (View.loadsAt_vmem h_S1x16))
    have v2230 : FVec F S16 .f32 := shapeCast S16 v2229 shapeCasts_S1x16_S16
    have v2231 : FVec F S16 .f32 := maximumf v2226 v2230
    let c112_864 : Index := 112#32
    let v2232 : Vec F S16 .f32 ← Prog.lift (.load arg8 (Rect.unit (s := S128) ![112] S16.size inb_S128_S16_112).toLoadRect (View.loadsAt_vmem h_S16))
    have v2233 : FVec F S16 .f32 := shapeCast S16 v2232 shapeCasts_S16_S16
    have v2234 : FVec F S16 .f32 := shapeCast S16 v2231 shapeCasts_S16_S16
    Prog.lift (.store arg8 (Rect.unit (s := S128) ![112] S16.size inb_S128_S16_112) v2234 Finset.univ (View.stores_vmem_bits_univ h_S16 rfl) (.inl rfl))
    pure ⟨⟩
  else do
    pure ⟨⟩
  let c0_i32_320 : BitVec 32 := 0#32
  pure c0_i32_320

set_option maxHeartbeats 4000000 in
/-- One group of 16 rows takes the tile's state by `groupS`. -/
theorem group_main {d : Dev nD} {i : grid0.Coords} {arg2 : Memref sig .scVector .hbm S100000x128 .f32} {harg2 : arg2.IsWhole} {arg3 : Memref sig .scVector .hbm S100000 .i32} {harg3 : arg3.IsWhole} {arg4 : Memref sig .scVector .hbm S32x32768 .f32} {harg4 : arg4.IsWhole} {arg5 : Memref sig .scVector .vmem S512x128 .f32} {harg5 : arg5.IsWhole} {arg6 : Memref sig .scVector .vmem S512 .i32} {harg6 : arg6.IsWhole} {arg7 : Memref sig .scVector .vmem S32896 .f32} {harg7 : arg7.IsWhole} {arg8 : Memref sig .scVector .vmem S128 .f32} {harg8 : arg8.IsWhole} {arg9 : Memref sig .scVector .smem S1 .i32} {harg9 : arg9.IsWhole} {arg10 : DmaSems sig S_} {arg11 : DmaSems sig S_} {v313_r0 : DmaSems sig S_} {v313_r1 : DmaSems sig S_} {v171_r2 : DmaSems sig S_} {v2 : FVec F S16 .f32} {k0_t3 : Fin (k0_t3_loop i).trips} {v172 c0_i32_66 c1_i32_68 : BitVec 32} {k0_t4 : Fin k0_t4_loop.trips}
    (hv2 : v2 = fun _ => ninf) {s : SS F} {B : ℕ → ℕ → F .f32} {I : ℕ → BitVec 32} {Fr : sProp (MM F)} (hp : s.prev.toNat ≤ 256)
    (hI : ∀ r, r < 16 → (I ((256 * (k0_t3.val % 2) + 16 * k0_t4.val) + r)).toNat ≤ 256) {Q : BitVec 32 → sProp (MM F)}
    (h : T3 d i arg7 arg8 arg9 (groupS I B (256 * (k0_t3.val % 2) + 16 * k0_t4.val) s) (Slot d i arg5 arg6 (256 * (k0_t3.val % 2)) B I Fr) ⊢ WP d i (.ret 0#32) Q) :
    T3 d i arg7 arg8 arg9 s (Slot d i arg5 arg6 (256 * (k0_t3.val % 2)) B I Fr) ⊢ WP d i (mainGroup i arg2 harg2 arg3 harg3 arg4 harg4 arg5 harg5 arg6 harg6 arg7 harg7 arg8 harg8 arg9 harg9 arg10 arg11 v313_r0 v313_r1 v171_r2 v2 k0_t3 v172 c0_i32_66 c1_i32_68 k0_t4) Q := by
  have ht : k0_t4.val < 16 := k0_t4.isLt
  have h3 : k0_t3.val ≤ 13 := (k0_t3.isLt.le).trans (k0_t3_abs i).2.1
  refine idload (256 * (k0_t3.val % 2) + 16 * k0_t4.val) (by omega) (congrArg (fun n => (![n] : Fin 1 → ℕ)) (mainRow0 _ _ _ h3 ht)) ?_
  refine rloads (256 * (k0_t3.val % 2) + 16 * k0_t4.val) 0 (by omega) (congrArg (fun n => (![n, 0] : Fin 2 → ℕ)) (mainRow _ _ _ h3 ht 0 (by decide))) (congrArg (fun n => (![n, 0] : Fin 2 → ℕ)) (mainRow _ _ _ h3 ht 1 (by decide))) (congrArg (fun n => (![n, 0] : Fin 2 → ℕ)) (mainRow _ _ _ h3 ht 2 (by decide))) (congrArg (fun n => (![n, 0] : Fin 2 → ℕ)) (mainRow _ _ _ h3 ht 3 (by decide))) (congrArg (fun n => (![n, 0] : Fin 2 → ℕ)) (mainRow _ _ _ h3 ht 4 (by decide))) (congrArg (fun n => (![n, 0] : Fin 2 → ℕ)) (mainRow _ _ _ h3 ht 5 (by decide))) (congrArg (fun n => (![n, 0] : Fin 2 → ℕ)) (mainRow _ _ _ h3 ht 6 (by decide))) (congrArg (fun n => (![n, 0] : Fin 2 → ℕ)) (mainRow _ _ _ h3 ht 7 (by decide))) (congrArg (fun n => (![n, 0] : Fin 2 → ℕ)) (mainRow _ _ _ h3 ht 8 (by decide))) (congrArg (fun n => (![n, 0] : Fin 2 → ℕ)) (mainRow _ _ _ h3 ht 9 (by decide))) (congrArg (fun n => (![n, 0] : Fin 2 → ℕ)) (mainRow _ _ _ h3 ht 10 (by decide))) (congrArg (fun n => (![n, 0] : Fin 2 → ℕ)) (mainRow _ _ _ h3 ht 11 (by decide))) (congrArg (fun n => (![n, 0] : Fin 2 → ℕ)) (mainRow _ _ _ h3 ht 12 (by decide))) (congrArg (fun n => (![n, 0] : Fin 2 → ℕ)) (mainRow _ _ _ h3 ht 13 (by decide))) (congrArg (fun n => (![n, 0] : Fin 2 → ℕ)) (mainRow _ _ _ h3 ht 14 (by decide))) (congrArg (fun n => (![n, 0] : Fin 2 → ℕ)) (mainRow _ _ _ h3 ht 15 (by decide))) ?_
  refine rloads (256 * (k0_t3.val % 2) + 16 * k0_t4.val) 16 (by omega) (congrArg (fun n => (![n, 16] : Fin 2 → ℕ)) (mainRow _ _ _ h3 ht 0 (by decide))) (congrArg (fun n => (![n, 16] : Fin 2 → ℕ)) (mainRow _ _ _ h3 ht 1 (by decide))) (congrArg (fun n => (![n, 16] : Fin 2 → ℕ)) (mainRow _ _ _ h3 ht 2 (by decide))) (congrArg (fun n => (![n, 16] : Fin 2 → ℕ)) (mainRow _ _ _ h3 ht 3 (by decide))) (congrArg (fun n => (![n, 16] : Fin 2 → ℕ)) (mainRow _ _ _ h3 ht 4 (by decide))) (congrArg (fun n => (![n, 16] : Fin 2 → ℕ)) (mainRow _ _ _ h3 ht 5 (by decide))) (congrArg (fun n => (![n, 16] : Fin 2 → ℕ)) (mainRow _ _ _ h3 ht 6 (by decide))) (congrArg (fun n => (![n, 16] : Fin 2 → ℕ)) (mainRow _ _ _ h3 ht 7 (by decide))) (congrArg (fun n => (![n, 16] : Fin 2 → ℕ)) (mainRow _ _ _ h3 ht 8 (by decide))) (congrArg (fun n => (![n, 16] : Fin 2 → ℕ)) (mainRow _ _ _ h3 ht 9 (by decide))) (congrArg (fun n => (![n, 16] : Fin 2 → ℕ)) (mainRow _ _ _ h3 ht 10 (by decide))) (congrArg (fun n => (![n, 16] : Fin 2 → ℕ)) (mainRow _ _ _ h3 ht 11 (by decide))) (congrArg (fun n => (![n, 16] : Fin 2 → ℕ)) (mainRow _ _ _ h3 ht 12 (by decide))) (congrArg (fun n => (![n, 16] : Fin 2 → ℕ)) (mainRow _ _ _ h3 ht 13 (by decide))) (congrArg (fun n => (![n, 16] : Fin 2 → ℕ)) (mainRow _ _ _ h3 ht 14 (by decide))) (congrArg (fun n => (![n, 16] : Fin 2 → ℕ)) (mainRow _ _ _ h3 ht 15 (by decide))) ?_
  refine rloads (256 * (k0_t3.val % 2) + 16 * k0_t4.val) 32 (by omega) (congrArg (fun n => (![n, 32] : Fin 2 → ℕ)) (mainRow _ _ _ h3 ht 0 (by decide))) (congrArg (fun n => (![n, 32] : Fin 2 → ℕ)) (mainRow _ _ _ h3 ht 1 (by decide))) (congrArg (fun n => (![n, 32] : Fin 2 → ℕ)) (mainRow _ _ _ h3 ht 2 (by decide))) (congrArg (fun n => (![n, 32] : Fin 2 → ℕ)) (mainRow _ _ _ h3 ht 3 (by decide))) (congrArg (fun n => (![n, 32] : Fin 2 → ℕ)) (mainRow _ _ _ h3 ht 4 (by decide))) (congrArg (fun n => (![n, 32] : Fin 2 → ℕ)) (mainRow _ _ _ h3 ht 5 (by decide))) (congrArg (fun n => (![n, 32] : Fin 2 → ℕ)) (mainRow _ _ _ h3 ht 6 (by decide))) (congrArg (fun n => (![n, 32] : Fin 2 → ℕ)) (mainRow _ _ _ h3 ht 7 (by decide))) (congrArg (fun n => (![n, 32] : Fin 2 → ℕ)) (mainRow _ _ _ h3 ht 8 (by decide))) (congrArg (fun n => (![n, 32] : Fin 2 → ℕ)) (mainRow _ _ _ h3 ht 9 (by decide))) (congrArg (fun n => (![n, 32] : Fin 2 → ℕ)) (mainRow _ _ _ h3 ht 10 (by decide))) (congrArg (fun n => (![n, 32] : Fin 2 → ℕ)) (mainRow _ _ _ h3 ht 11 (by decide))) (congrArg (fun n => (![n, 32] : Fin 2 → ℕ)) (mainRow _ _ _ h3 ht 12 (by decide))) (congrArg (fun n => (![n, 32] : Fin 2 → ℕ)) (mainRow _ _ _ h3 ht 13 (by decide))) (congrArg (fun n => (![n, 32] : Fin 2 → ℕ)) (mainRow _ _ _ h3 ht 14 (by decide))) (congrArg (fun n => (![n, 32] : Fin 2 → ℕ)) (mainRow _ _ _ h3 ht 15 (by decide))) ?_
  refine rloads (256 * (k0_t3.val % 2) + 16 * k0_t4.val) 48 (by omega) (congrArg (fun n => (![n, 48] : Fin 2 → ℕ)) (mainRow _ _ _ h3 ht 0 (by decide))) (congrArg (fun n => (![n, 48] : Fin 2 → ℕ)) (mainRow _ _ _ h3 ht 1 (by decide))) (congrArg (fun n => (![n, 48] : Fin 2 → ℕ)) (mainRow _ _ _ h3 ht 2 (by decide))) (congrArg (fun n => (![n, 48] : Fin 2 → ℕ)) (mainRow _ _ _ h3 ht 3 (by decide))) (congrArg (fun n => (![n, 48] : Fin 2 → ℕ)) (mainRow _ _ _ h3 ht 4 (by decide))) (congrArg (fun n => (![n, 48] : Fin 2 → ℕ)) (mainRow _ _ _ h3 ht 5 (by decide))) (congrArg (fun n => (![n, 48] : Fin 2 → ℕ)) (mainRow _ _ _ h3 ht 6 (by decide))) (congrArg (fun n => (![n, 48] : Fin 2 → ℕ)) (mainRow _ _ _ h3 ht 7 (by decide))) (congrArg (fun n => (![n, 48] : Fin 2 → ℕ)) (mainRow _ _ _ h3 ht 8 (by decide))) (congrArg (fun n => (![n, 48] : Fin 2 → ℕ)) (mainRow _ _ _ h3 ht 9 (by decide))) (congrArg (fun n => (![n, 48] : Fin 2 → ℕ)) (mainRow _ _ _ h3 ht 10 (by decide))) (congrArg (fun n => (![n, 48] : Fin 2 → ℕ)) (mainRow _ _ _ h3 ht 11 (by decide))) (congrArg (fun n => (![n, 48] : Fin 2 → ℕ)) (mainRow _ _ _ h3 ht 12 (by decide))) (congrArg (fun n => (![n, 48] : Fin 2 → ℕ)) (mainRow _ _ _ h3 ht 13 (by decide))) (congrArg (fun n => (![n, 48] : Fin 2 → ℕ)) (mainRow _ _ _ h3 ht 14 (by decide))) (congrArg (fun n => (![n, 48] : Fin 2 → ℕ)) (mainRow _ _ _ h3 ht 15 (by decide))) ?_
  refine rloads (256 * (k0_t3.val % 2) + 16 * k0_t4.val) 64 (by omega) (congrArg (fun n => (![n, 64] : Fin 2 → ℕ)) (mainRow _ _ _ h3 ht 0 (by decide))) (congrArg (fun n => (![n, 64] : Fin 2 → ℕ)) (mainRow _ _ _ h3 ht 1 (by decide))) (congrArg (fun n => (![n, 64] : Fin 2 → ℕ)) (mainRow _ _ _ h3 ht 2 (by decide))) (congrArg (fun n => (![n, 64] : Fin 2 → ℕ)) (mainRow _ _ _ h3 ht 3 (by decide))) (congrArg (fun n => (![n, 64] : Fin 2 → ℕ)) (mainRow _ _ _ h3 ht 4 (by decide))) (congrArg (fun n => (![n, 64] : Fin 2 → ℕ)) (mainRow _ _ _ h3 ht 5 (by decide))) (congrArg (fun n => (![n, 64] : Fin 2 → ℕ)) (mainRow _ _ _ h3 ht 6 (by decide))) (congrArg (fun n => (![n, 64] : Fin 2 → ℕ)) (mainRow _ _ _ h3 ht 7 (by decide))) (congrArg (fun n => (![n, 64] : Fin 2 → ℕ)) (mainRow _ _ _ h3 ht 8 (by decide))) (congrArg (fun n => (![n, 64] : Fin 2 → ℕ)) (mainRow _ _ _ h3 ht 9 (by decide))) (congrArg (fun n => (![n, 64] : Fin 2 → ℕ)) (mainRow _ _ _ h3 ht 10 (by decide))) (congrArg (fun n => (![n, 64] : Fin 2 → ℕ)) (mainRow _ _ _ h3 ht 11 (by decide))) (congrArg (fun n => (![n, 64] : Fin 2 → ℕ)) (mainRow _ _ _ h3 ht 12 (by decide))) (congrArg (fun n => (![n, 64] : Fin 2 → ℕ)) (mainRow _ _ _ h3 ht 13 (by decide))) (congrArg (fun n => (![n, 64] : Fin 2 → ℕ)) (mainRow _ _ _ h3 ht 14 (by decide))) (congrArg (fun n => (![n, 64] : Fin 2 → ℕ)) (mainRow _ _ _ h3 ht 15 (by decide))) ?_
  refine rloads (256 * (k0_t3.val % 2) + 16 * k0_t4.val) 80 (by omega) (congrArg (fun n => (![n, 80] : Fin 2 → ℕ)) (mainRow _ _ _ h3 ht 0 (by decide))) (congrArg (fun n => (![n, 80] : Fin 2 → ℕ)) (mainRow _ _ _ h3 ht 1 (by decide))) (congrArg (fun n => (![n, 80] : Fin 2 → ℕ)) (mainRow _ _ _ h3 ht 2 (by decide))) (congrArg (fun n => (![n, 80] : Fin 2 → ℕ)) (mainRow _ _ _ h3 ht 3 (by decide))) (congrArg (fun n => (![n, 80] : Fin 2 → ℕ)) (mainRow _ _ _ h3 ht 4 (by decide))) (congrArg (fun n => (![n, 80] : Fin 2 → ℕ)) (mainRow _ _ _ h3 ht 5 (by decide))) (congrArg (fun n => (![n, 80] : Fin 2 → ℕ)) (mainRow _ _ _ h3 ht 6 (by decide))) (congrArg (fun n => (![n, 80] : Fin 2 → ℕ)) (mainRow _ _ _ h3 ht 7 (by decide))) (congrArg (fun n => (![n, 80] : Fin 2 → ℕ)) (mainRow _ _ _ h3 ht 8 (by decide))) (congrArg (fun n => (![n, 80] : Fin 2 → ℕ)) (mainRow _ _ _ h3 ht 9 (by decide))) (congrArg (fun n => (![n, 80] : Fin 2 → ℕ)) (mainRow _ _ _ h3 ht 10 (by decide))) (congrArg (fun n => (![n, 80] : Fin 2 → ℕ)) (mainRow _ _ _ h3 ht 11 (by decide))) (congrArg (fun n => (![n, 80] : Fin 2 → ℕ)) (mainRow _ _ _ h3 ht 12 (by decide))) (congrArg (fun n => (![n, 80] : Fin 2 → ℕ)) (mainRow _ _ _ h3 ht 13 (by decide))) (congrArg (fun n => (![n, 80] : Fin 2 → ℕ)) (mainRow _ _ _ h3 ht 14 (by decide))) (congrArg (fun n => (![n, 80] : Fin 2 → ℕ)) (mainRow _ _ _ h3 ht 15 (by decide))) ?_
  refine rloads (256 * (k0_t3.val % 2) + 16 * k0_t4.val) 96 (by omega) (congrArg (fun n => (![n, 96] : Fin 2 → ℕ)) (mainRow _ _ _ h3 ht 0 (by decide))) (congrArg (fun n => (![n, 96] : Fin 2 → ℕ)) (mainRow _ _ _ h3 ht 1 (by decide))) (congrArg (fun n => (![n, 96] : Fin 2 → ℕ)) (mainRow _ _ _ h3 ht 2 (by decide))) (congrArg (fun n => (![n, 96] : Fin 2 → ℕ)) (mainRow _ _ _ h3 ht 3 (by decide))) (congrArg (fun n => (![n, 96] : Fin 2 → ℕ)) (mainRow _ _ _ h3 ht 4 (by decide))) (congrArg (fun n => (![n, 96] : Fin 2 → ℕ)) (mainRow _ _ _ h3 ht 5 (by decide))) (congrArg (fun n => (![n, 96] : Fin 2 → ℕ)) (mainRow _ _ _ h3 ht 6 (by decide))) (congrArg (fun n => (![n, 96] : Fin 2 → ℕ)) (mainRow _ _ _ h3 ht 7 (by decide))) (congrArg (fun n => (![n, 96] : Fin 2 → ℕ)) (mainRow _ _ _ h3 ht 8 (by decide))) (congrArg (fun n => (![n, 96] : Fin 2 → ℕ)) (mainRow _ _ _ h3 ht 9 (by decide))) (congrArg (fun n => (![n, 96] : Fin 2 → ℕ)) (mainRow _ _ _ h3 ht 10 (by decide))) (congrArg (fun n => (![n, 96] : Fin 2 → ℕ)) (mainRow _ _ _ h3 ht 11 (by decide))) (congrArg (fun n => (![n, 96] : Fin 2 → ℕ)) (mainRow _ _ _ h3 ht 12 (by decide))) (congrArg (fun n => (![n, 96] : Fin 2 → ℕ)) (mainRow _ _ _ h3 ht 13 (by decide))) (congrArg (fun n => (![n, 96] : Fin 2 → ℕ)) (mainRow _ _ _ h3 ht 14 (by decide))) (congrArg (fun n => (![n, 96] : Fin 2 → ℕ)) (mainRow _ _ _ h3 ht 15 (by decide))) ?_
  refine rloads (256 * (k0_t3.val % 2) + 16 * k0_t4.val) 112 (by omega) (congrArg (fun n => (![n, 112] : Fin 2 → ℕ)) (mainRow _ _ _ h3 ht 0 (by decide))) (congrArg (fun n => (![n, 112] : Fin 2 → ℕ)) (mainRow _ _ _ h3 ht 1 (by decide))) (congrArg (fun n => (![n, 112] : Fin 2 → ℕ)) (mainRow _ _ _ h3 ht 2 (by decide))) (congrArg (fun n => (![n, 112] : Fin 2 → ℕ)) (mainRow _ _ _ h3 ht 3 (by decide))) (congrArg (fun n => (![n, 112] : Fin 2 → ℕ)) (mainRow _ _ _ h3 ht 4 (by decide))) (congrArg (fun n => (![n, 112] : Fin 2 → ℕ)) (mainRow _ _ _ h3 ht 5 (by decide))) (congrArg (fun n => (![n, 112] : Fin 2 → ℕ)) (mainRow _ _ _ h3 ht 6 (by decide))) (congrArg (fun n => (![n, 112] : Fin 2 → ℕ)) (mainRow _ _ _ h3 ht 7 (by decide))) (congrArg (fun n => (![n, 112] : Fin 2 → ℕ)) (mainRow _ _ _ h3 ht 8 (by decide))) (congrArg (fun n => (![n, 112] : Fin 2 → ℕ)) (mainRow _ _ _ h3 ht 9 (by decide))) (congrArg (fun n => (![n, 112] : Fin 2 → ℕ)) (mainRow _ _ _ h3 ht 10 (by decide))) (congrArg (fun n => (![n, 112] : Fin 2 → ℕ)) (mainRow _ _ _ h3 ht 11 (by decide))) (congrArg (fun n => (![n, 112] : Fin 2 → ℕ)) (mainRow _ _ _ h3 ht 12 (by decide))) (congrArg (fun n => (![n, 112] : Fin 2 → ℕ)) (mainRow _ _ _ h3 ht 13 (by decide))) (congrArg (fun n => (![n, 112] : Fin 2 → ℕ)) (mainRow _ _ _ h3 ht 14 (by decide))) (congrArg (fun n => (![n, 112] : Fin 2 → ℕ)) (mainRow _ _ _ h3 ht 15 (by decide))) ?_
  refine sload ?_
  by_cases hU : I ((256 * (k0_t3.val % 2) + 16 * k0_t4.val) + 0) = s.prev ∧ I ((256 * (k0_t3.val % 2) + 16 * k0_t4.val) + 15) = s.prev
  · refine ifJpI0 (P' := T3 d i arg7 arg8 arg9 (groupS I B (256 * (k0_t3.val % 2) + 16 * k0_t4.val) s) (Slot d i arg5 arg6 (256 * (k0_t3.val % 2)) B I Fr)) (fun hc hK => ?_) (fun hc => absurd ((cond_uni (I ((256 * (k0_t3.val % 2) + 16 * k0_t4.val) + 0)) (I ((256 * (k0_t3.val % 2) + 16 * k0_t4.val) + 15)) s.prev).2 hU) hc) ?_
    · refine fasts (gmx B (256 * (k0_t3.val % 2) + 16 * k0_t4.val)) (tree16 B (256 * (k0_t3.val % 2) + 16 * k0_t4.val) 0 _) (tree16 B (256 * (k0_t3.val % 2) + 16 * k0_t4.val) 16 _) (tree16 B (256 * (k0_t3.val % 2) + 16 * k0_t4.val) 32 _) (tree16 B (256 * (k0_t3.val % 2) + 16 * k0_t4.val) 48 _) (tree16 B (256 * (k0_t3.val % 2) + 16 * k0_t4.val) 64 _) (tree16 B (256 * (k0_t3.val % 2) + 16 * k0_t4.val) 80 _) (tree16 B (256 * (k0_t3.val % 2) + 16 * k0_t4.val) 96 _) (tree16 B (256 * (k0_t3.val % 2) + 16 * k0_t4.val) 112 _) ?_
      refine BIBase.Entails.trans ?_ hK
      rw [groupS, if_pos hU]
    refine ifJp0 (P' := T3 d i arg7 arg8 arg9 (groupS I B (256 * (k0_t3.val % 2) + 16 * k0_t4.val) s) (Slot d i arg5 arg6 (256 * (k0_t3.val % 2)) B I Fr)) (fun hc => absurd hU ((cond_mixed (I ((256 * (k0_t3.val % 2) + 16 * k0_t4.val) + 0)) (I ((256 * (k0_t3.val % 2) + 16 * k0_t4.val) + 15)) s.prev).1 hc)) (fun _ => .rfl) ?_
    exact h
  · refine ifJpI0 (P' := T3 d i arg7 arg8 arg9 s (Slot d i arg5 arg6 (256 * (k0_t3.val % 2)) B I Fr)) (fun hc => absurd ((cond_uni (I ((256 * (k0_t3.val % 2) + 16 * k0_t4.val) + 0)) (I ((256 * (k0_t3.val % 2) + 16 * k0_t4.val) + 15)) s.prev).1 hc) hU) (fun _ => .rfl) ?_
    refine ifJp0 (P' := T3 d i arg7 arg8 arg9 (groupS I B (256 * (k0_t3.val % 2) + 16 * k0_t4.val) s) (Slot d i arg5 arg6 (256 * (k0_t3.val % 2)) B I Fr)) (fun hc hK => ?_) (fun hc => absurd ((cond_mixed (I ((256 * (k0_t3.val % 2) + 16 * k0_t4.val) + 0)) (I ((256 * (k0_t3.val % 2) + 16 * k0_t4.val) + 15)) s.prev).2 hU) hc) ?_
    · refine slow_main hv2 hp hI ?_
      have hG : ∀ n k : ℕ, n ≤ k → (rowsS I B (256 * (k0_t3.val % 2) + 16 * k0_t4.val) 16 s).cur k = mx ((flushS (I ((256 * (k0_t3.val % 2) + 16 * k0_t4.val) + 15)) (rowsS I B (256 * (k0_t3.val % 2) + 16 * k0_t4.val) 15 s)).cur k) (B ((256 * (k0_t3.val % 2) + 16 * k0_t4.val) + 15) k) := fun _ _ _ => rfl
      refine lane_max (s := flushS (I ((256 * (k0_t3.val % 2) + 16 * k0_t4.val) + 15)) (rowsS I B (256 * (k0_t3.val % 2) + 16 * k0_t4.val) 15 s)) (n := 96) (hG _) (R := (256 * (k0_t3.val % 2) + 16 * k0_t4.val) + 15) (by omega) (congrArg (fun n => (![n, 96] : Fin 2 → ℕ)) (mainRow _ _ _ h3 ht 15 (by decide))) ?_
      refine lane_max (s := flushS (I ((256 * (k0_t3.val % 2) + 16 * k0_t4.val) + 15)) (rowsS I B (256 * (k0_t3.val % 2) + 16 * k0_t4.val) 15 s)) (n := 112) (hG _) (R := (256 * (k0_t3.val % 2) + 16 * k0_t4.val) + 15) (by omega) (congrArg (fun n => (![n, 112] : Fin 2 → ℕ)) (mainRow _ _ _ h3 ht 15 (by decide))) ?_
      refine BIBase.Entails.trans ?_ hK
      rw [groupS, if_neg hU]
      exact T3_congr (fun _ _ => rfl) (fun k (hk : k < 112 + 16) => if_pos hk) rfl
    exact h

end Cert.Proof.SegMax
end
-- ==== Proof.Loops.lean ====
/-
  The tile's loops over scratch memory alone: the one that fills the accumulator, and the ones over the sixteen groups of
  256 fetched rows.
-/
module

public import proofs.«01_k».proof.Proof.Chunks
public import proofs.«01_k».proof.Proof.GroupTail
public import proofs.«01_k».proof.Proof.GroupMain

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

section Stage

variable {d : Dev nD} {i : grid0.Coords}

/-- A program at the head of another: its postcondition is what the rest starts from. -/
theorem stage {α β : Type} {p : TProg F i α} {f : α → TProg F i β} {P : sProp (MM F)} {R : α → sProp (MM F)} {Q : β → sProp (MM F)}
    (hp : P ⊢ WP d i p R) (hf : ∀ a, R a ⊢ WP d i (f a) Q) : P ⊢ WP d i (Prog.bind p f) Q := by
  refine BIBase.Entails.trans ?_ (BIBase.Entails.of_eq (wp_bind frame (wpE (defs₀ (F := F)) 𝒱₀ (thr d i) none) Set.univ p f Q).symm)
  exact hp.trans (Idealize.SL.Sem.wp_mono frame _ _ hf)

/-- A counted loop by its invariant. -/
theorem loopR {β : Type} {l : Scf.Loop 32} {ok : l.OK} {init : β} {body : Fin l.trips → β → TProg F i β} (Inv : ℕ → sProp (MM F)) {N : ℕ} (hN : l.trips = N)
    (hb : ∀ (k : Fin l.trips) (acc : β), Inv k.val ⊢ WP d i (body k acc) (fun _ => Inv (k.val + 1))) :
    Inv 0 ⊢ WP d i (Scf.Loop.for l ok init body) (fun _ => Inv N) := by
  subst hN
  refine BIBase.Entails.trans ?_ (Scf.wp_for frame (wpE (defs₀ (F := F)) 𝒱₀ (thr d i) none) Set.univ l.lb l.ub l.st ok init body (fun k _ => Inv k) hb)
  iintro H
  isplitl [H]; · iexact H
  iintro %acc H
  iexact H

theorem wret {α : Type} {a : α} {P : sProp (MM F)} {Q : α → sProp (MM F)} (h : P ⊢ Q a) : P ⊢ WP d i (.ret a) Q := by
  refine h.trans ?_
  rw [WP, wp_ret]
  exact fupd_intro

end Stage

/-- The state after `n` groups from row `o`. -/
def groupsS (I : ℕ → BitVec 32) (B : ℕ → ℕ → F .f32) (o : ℕ) : ℕ → SS F → SS F
  | 0, s => s
  | n + 1, s => groupS I B (o + 16 * n) (groupsS I B o n s)

theorem groupS_prev {I : ℕ → BitVec 32} {B : ℕ → ℕ → F .f32} {R : ℕ} {s : SS F} (hp : s.prev.toNat ≤ 256)
    (hI : ∀ r, r < 16 → (I (R + r)).toNat ≤ 256) : (groupS I B R s).prev.toNat ≤ 256 := by
  unfold groupS
  split
  · exact hp
  · exact rowsS_prev hp 16 hI

theorem groupsS_prev {I : ℕ → BitVec 32} {B : ℕ → ℕ → F .f32} {o : ℕ} {s : SS F} (hp : s.prev.toNat ≤ 256) (n : ℕ)
    (hI : ∀ r, r < 16 * n → (I (o + r)).toNat ≤ 256) : (groupsS I B o n s).prev.toNat ≤ 256 := by
  induction n with
  | zero => exact hp
  | succ n ih =>
    exact groupS_prev (ih fun r hr => hI r (by omega)) fun r hr => by
      rw [Nat.add_assoc]; exact hI _ (by omega)

set_option maxHeartbeats 4000000 in
/-- The sixteen groups of the last 256 rows. -/
theorem tail_loop {d : Dev nD} {i : grid0.Coords} {arg2 : Memref sig .scVector .hbm S100000x128 .f32} {harg2 : arg2.IsWhole} {arg3 : Memref sig .scVector .hbm S100000 .i32} {harg3 : arg3.IsWhole} {arg4 : Memref sig .scVector .hbm S32x32768 .f32} {harg4 : arg4.IsWhole} {arg5 : Memref sig .scVector .vmem S512x128 .f32} {harg5 : arg5.IsWhole} {arg6 : Memref sig .scVector .vmem S512 .i32} {harg6 : arg6.IsWhole} {arg7 : Memref sig .scVector .vmem S32896 .f32} {harg7 : arg7.IsWhole} {arg8 : Memref sig .scVector .vmem S128 .f32} {harg8 : arg8.IsWhole} {arg9 : Memref sig .scVector .smem S1 .i32} {harg9 : arg9.IsWhole} {arg10 arg11 v313_r0 v313_r1 v171_r2 : DmaSems sig S_} {v2 : FVec F S16 .f32} {k0_h1 : k0_cond1 i = 1#1} {c0_i32_57 c1_i32_59 init : BitVec 32}
    (hv2 : v2 = fun _ => ninf) {s : SS F} {B : ℕ → ℕ → F .f32} {I : ℕ → BitVec 32} {Fr : sProp (MM F)} (hp : s.prev.toNat ≤ 256)
    (hI : ∀ r, r < 256 → (I (0 + r)).toNat ≤ 256) :
    T3 d i arg7 arg8 arg9 s (Slot d i arg5 arg6 0 B I Fr)
      ⊢ WP d i (Scf.Loop.for k0_t2_loop (k0_t2_ok i k0_h1) init fun k0_t2 _ =>
          tailGroup i arg2 harg2 arg3 harg3 arg4 harg4 arg5 harg5 arg6 harg6 arg7 harg7 arg8 harg8 arg9 harg9 arg10 arg11 v313_r0 v313_r1 v171_r2 v2 k0_h1 c0_i32_57 c1_i32_59 k0_t2)
        (fun _ => T3 d i arg7 arg8 arg9 (groupsS I B 0 16 s) (Slot d i arg5 arg6 0 B I Fr)) := by
  exact loopR (d := d) (i := i) (l := k0_t2_loop) (ok := k0_t2_ok i k0_h1) (init := init)
    (body := fun k0_t2 _ => tailGroup i arg2 harg2 arg3 harg3 arg4 harg4 arg5 harg5 arg6 harg6 arg7 harg7 arg8 harg8 arg9 harg9 arg10 arg11 v313_r0 v313_r1 v171_r2 v2 k0_h1 c0_i32_57 c1_i32_59 k0_t2)
    (fun k => T3 d i arg7 arg8 arg9 (groupsS I B 0 k s) (Slot d i arg5 arg6 0 B I Fr)) trips2 (fun k acc => by
      have hk : k.val < 16 := trips2 ▸ k.isLt
      refine group_tail hv2 (groupsS_prev hp _ fun r hr => hI r (by omega)) (fun r hr => ?_) (wret ?_)
      · have := hI (16 * k.val + r) (by omega); rwa [Nat.zero_add] at this
      · rw [show groupsS I B 0 (k.val + 1) s = groupS I B (16 * k.val) (groupsS I B 0 k.val s) from by rw [groupsS, Nat.zero_add]])

set_option maxHeartbeats 4000000 in
/-- The sixteen groups of a chunk. -/
theorem main_loop {d : Dev nD} {i : grid0.Coords} {arg2 : Memref sig .scVector .hbm S100000x128 .f32} {harg2 : arg2.IsWhole} {arg3 : Memref sig .scVector .hbm S100000 .i32} {harg3 : arg3.IsWhole} {arg4 : Memref sig .scVector .hbm S32x32768 .f32} {harg4 : arg4.IsWhole} {arg5 : Memref sig .scVector .vmem S512x128 .f32} {harg5 : arg5.IsWhole} {arg6 : Memref sig .scVector .vmem S512 .i32} {harg6 : arg6.IsWhole} {arg7 : Memref sig .scVector .vmem S32896 .f32} {harg7 : arg7.IsWhole} {arg8 : Memref sig .scVector .vmem S128 .f32} {harg8 : arg8.IsWhole} {arg9 : Memref sig .scVector .smem S1 .i32} {harg9 : arg9.IsWhole} {arg10 arg11 v313_r0 v313_r1 v171_r2 : DmaSems sig S_} {v2 : FVec F S16 .f32} {k0_t3 : Fin (k0_t3_loop i).trips} {v172 c0_i32_66 c1_i32_68 init : BitVec 32}
    (hv2 : v2 = fun _ => ninf) {s : SS F} {B : ℕ → ℕ → F .f32} {I : ℕ → BitVec 32} {Fr : sProp (MM F)} (hp : s.prev.toNat ≤ 256)
    (hI : ∀ r, r < 256 → (I (256 * (k0_t3.val % 2) + r)).toNat ≤ 256) :
    T3 d i arg7 arg8 arg9 s (Slot d i arg5 arg6 (256 * (k0_t3.val % 2)) B I Fr)
      ⊢ WP d i (Scf.Loop.for k0_t4_loop k0_t4_ok init fun k0_t4 _ =>
          mainGroup i arg2 harg2 arg3 harg3 arg4 harg4 arg5 harg5 arg6 harg6 arg7 harg7 arg8 harg8 arg9 harg9 arg10 arg11 v313_r0 v313_r1 v171_r2 v2 k0_t3 v172 c0_i32_66 c1_i32_68 k0_t4)
        (fun _ => T3 d i arg7 arg8 arg9 (groupsS I B (256 * (k0_t3.val % 2)) 16 s) (Slot d i arg5 arg6 (256 * (k0_t3.val % 2)) B I Fr)) := by
  exact loopR (d := d) (i := i) (l := k0_t4_loop) (ok := k0_t4_ok) (init := init)
    (body := fun k0_t4 _ => mainGroup i arg2 harg2 arg3 harg3 arg4 harg4 arg5 harg5 arg6 harg6 arg7 harg7 arg8 harg8 arg9 harg9 arg10 arg11 v313_r0 v313_r1 v171_r2 v2 k0_t3 v172 c0_i32_66 c1_i32_68 k0_t4)
    (fun k => T3 d i arg7 arg8 arg9 (groupsS I B (256 * (k0_t3.val % 2)) k s) (Slot d i arg5 arg6 (256 * (k0_t3.val % 2)) B I Fr)) trips4 (fun k acc => by
      have hk : k.val < 16 := trips4 ▸ k.isLt
      refine group_main hv2 (groupsS_prev hp _ fun r hr => hI r (by omega)) (fun r hr => ?_) (wret .rfl)
      rw [Nat.add_assoc]; exact hI _ (by omega))

set_option maxHeartbeats 4000000 in
/-- The tile's first part: the accumulator and the running maximum at −∞, the running segment past the last. -/
theorem first_part {d : Dev nD} {i : grid0.Coords} {arg2 : Memref sig .scVector .hbm S100000x128 .f32} {harg2 : arg2.IsWhole} {arg3 : Memref sig .scVector .hbm S100000 .i32} {harg3 : arg3.IsWhole} {arg4 : Memref sig .scVector .hbm S32x32768 .f32} {harg4 : arg4.IsWhole} {arg5 : Memref sig .scVector .vmem S512x128 .f32} {harg5 : arg5.IsWhole} {arg6 : Memref sig .scVector .vmem S512 .i32} {harg6 : arg6.IsWhole} {arg7 : Memref sig .scVector .vmem S32896 .f32} {harg7 : arg7.IsWhole} {arg8 : Memref sig .scVector .vmem S128 .f32} {harg8 : arg8.IsWhole} {arg9 : Memref sig .scVector .smem S1 .i32} {harg9 : arg9.IsWhole} {arg10 arg11 v313_r0 v313_r1 v171_r2 : DmaSems sig S_} {s : SS F} {Fr : sProp (MM F)} :
    T3 d i arg7 arg8 arg9 s Fr ⊢ WP d i (k0_part303 (F := F) i arg2 harg2 arg3 harg3 arg4 harg4 arg5 harg5 arg6 harg6 arg7 harg7 arg8 harg8 arg9 harg9 arg10 arg11 v313_r0 v313_r1 v171_r2)
      (fun r => iprop(⌜r = ⟨w1 (i 0).val (i 1).val, (fun _ => ninf), 31#32⟩⌝ ∗ T3 d i arg7 arg8 arg9 ⟨fun _ => ninf, fun _ => ninf, 256#32⟩ Fr)) := by
  have hv2 : (broadcast S16 (Scalar.ofBits .f32 0xFF800000#32 : F .f32) : FVec F S16 .f32) = fun _ => ninf := rfl
  refine T3_congr' (s' := ⟨mixA 0 (128 * 0) (fun _ => ninf) s.acc, s.cur, s.prev⟩) (fun w _ => by simp [mixA]) (fun _ _ => rfl) rfl ?_
  refine stage (loopR (fun k => T3 d i arg7 arg8 arg9 ⟨mixA 0 (128 * k) (fun _ => ninf) s.acc, s.cur, s.prev⟩ Fr) trips1 (fun k _ => ?_)) (fun _ => ?_)
  · refine inits k.val ninf (k0_off1_eq k 0) (k0_off1_eq k 1) (k0_off1_eq k 2) (k0_off1_eq k 3) (k0_off1_eq k 4) (k0_off1_eq k 5) (k0_off1_eq k 6) (k0_off1_eq k 7) hv2 hv2 hv2 hv2 hv2 hv2 hv2 hv2 ?_
    refine wret ?_
    refine T3_congr (fun w _ => ?_) (fun _ _ => rfl) rfl
    simp only [mixA]
    split_ifs <;> first | rfl | omega
  · refine resets ninf hv2 hv2 hv2 hv2 hv2 hv2 hv2 hv2 ?_
    refine setp ?_
    refine T3_congr' (s' := ⟨fun _ => ninf, fun _ => ninf, 256#32⟩) (fun w hw => ?_) (fun _ _ => rfl) rfl (wret ?_)
    · show mixA 0 (128 * 257) (fun _ => ninf) s.acc w = ninf
      exact if_pos ⟨Nat.zero_le _, hw⟩
    · iintro H
      isplitr; · ipureintro; rfl
      iexact H

end Cert.Proof.SegMax
end
-- ==== Proof.Copies.lean ====
/-
  The tile's copies of a chunk of 256 rows, and of their ids, into one half of its fetch buffers: what a copy in flight is
  held as, how it is started and how it is waited for.
-/
module

public import proofs.«01_k».proof.Proof.Loops

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Transfers

/-- An index of an array of rows lies in the rectangle of 256 rows from `b` when its row does. -/
theorem rows_2 {n : ℕ} (j : (⟨2, ![n, 128]⟩ : Shape).Idx) (b : ℕ) (p : ∀ a : Fin 2, (![b, 0] : Fin 2 → ℕ) a + S256x128.size a ≤ (⟨2, ![n, 128]⟩ : Shape).size a) :
    (∀ a : Fin 2, (![b, 0] : Fin 2 → ℕ) a ≤ (j a).val ∧ (j a).val < (![b, 0] : Fin 2 → ℕ) a + S256x128.size a) ↔ (b ≤ (j 0).val ∧ (j 0).val < b + 256) := by
  constructor
  · exact fun h => h 0
  · intro h a
    refine Fin.cases ?_ (fun a => Fin.cases ?_ (fun a => a.elim0) a) a
    · exact h
    · exact ⟨Nat.zero_le _, (Nat.zero_add 128).symm ▸ (j 1).isLt⟩

/-- The same of the ids. -/
theorem rows_1 {n : ℕ} (j : (⟨1, ![n]⟩ : Shape).Idx) (b : ℕ) (p : ∀ a : Fin 1, (![b] : Fin 1 → ℕ) a + S256.size a ≤ (⟨1, ![n]⟩ : Shape).size a) :
    (∀ a : Fin 1, (![b] : Fin 1 → ℕ) a ≤ (j a).val ∧ (j a).val < (![b] : Fin 1 → ℕ) a + S256.size a) ↔ (b ≤ (j 0).val ∧ (j 0).val < b + 256) := by
  constructor
  · exact fun h => h 0
  · intro h a
    refine Fin.cases ?_ (fun a => a.elim0) a
    exact h

section Copies

variable (d : Dev nD) (i : grid0.Coords)
variable (arg2 : Memref sig .scVector .hbm S100000x128 .f32) (arg3 : Memref sig .scVector .hbm S100000 .i32)
variable (arg5 : Memref sig .scVector .vmem S512x128 .f32) (arg6 : Memref sig .scVector .vmem S512 .i32)
variable (arg7 : Memref sig .scVector .vmem S32896 .f32) (arg8 : Memref sig .scVector .vmem S128 .f32) (arg9 : Memref sig .scVector .smem S1 .i32)

/-- What the tile owes and has waited for since `W`: nothing but local copies. -/
def Ow (O : CellTallies nD τ sig (HIx 1)) (W : Waits sig (HIx 1)) : sProp (MM F) :=
  iprop(∃ W' : Waits sig (HIx 1), ⌜∀ p ∈ W', p ∈ W ∨ p.2 = none⌝ ∗ owes (thr d i) O W' ∗ MayWaits (thr d i) none O)

/-! ## Copies of rows -/

/-- The rows of the chunk at row `b`, as the half of the fetch buffer at `o` holds them. -/
def sh2 (D : ℕ → ℕ → F .f32) (b o : ℕ) : ℕ → ℕ → F .f32 := fun j n => D (b + (j - o)) n

/-- The elements of the source at rows `[b, b + 256)`. -/
def src5 (b : ℕ) : Finset (Idx (arg2.view.loc (thr d i))) :=
  arg2.view.setOn (Finset.univ.filter fun j : S100000x128.Idx => b ≤ (j 0).val ∧ (j 0).val < b + 256)

/-- The half of the fetch buffer at `o`, whatever it holds. -/
def Free5 (o : ℕ) : sProp (MM F) :=
  iprop(∃ f : Buf (Elt F) (arg5.view.loc (thr d i)), arg5.view.loc (thr d i) ↦[slot5 d i arg5 o]{fullShare} f)

/-- A read share of the whole source. -/
def All2 (q : PosShare TreeShare) (fd : Buf (Elt F) (arg2.view.loc (thr d i))) : sProp (MM F) :=
  iprop(arg2.view.loc (thr d i) ↦[Finset.univ]{q} fd)

/-- The half of the fetch buffer at `o` with the chunk at row `b` in it. -/
def Got5 (o b : ℕ) (D : ℕ → ℕ → F .f32) : sProp (MM F) :=
  HeldOn (F := F) d i arg5 (slot5 d i arg5 o) (fun j => o ≤ (j 0).val ∧ (j 0).val < o + 256) (c2 (sh2 D b o))

/-- A copy's credit. -/
def N5 : ℕ := (arg5.slice (Rect.unit (s := S512x128) ![0, 0] S256x128.size inb_S512x128_S256x128_0_0) (fun _ => rfl)).view.dmaCredit

/-- The copy of the chunk at row `b` into the half at `o` in flight, and the rest of the source's share. -/
def Fly5 (sm : DmaSem sig) (o b : ℕ) (q : PosShare TreeShare) (fd : Buf (Elt F) (arg2.view.loc (thr d i))) (D : ℕ → ℕ → F .f32) : sProp (MM F) :=
  iprop(Flight (countersEmb (U := UU)) (thr d i) (.dma sm) none (N5 arg5)
      iprop(Got5 d i arg5 o b D ∗ (arg2.view.loc (thr d i) ↦[src5 d i arg2 b]{q} fd))
    ∗ (arg2.view.loc (thr d i) ↦[Finset.univ \ src5 d i arg2 b]{q} fd))

/-! ## Copies of ids -/

/-- The ids of the chunk at row `b`, as the half of the fetch buffer at `o` holds them. -/
def sh1 (D : ℕ → BitVec 32) (b o : ℕ) : ℕ → BitVec 32 := fun j => D (b + (j - o))

/-- The elements of the source at rows `[b, b + 256)`. -/
def src6 (b : ℕ) : Finset (Idx (arg3.view.loc (thr d i))) :=
  arg3.view.setOn (Finset.univ.filter fun j : S100000.Idx => b ≤ (j 0).val ∧ (j 0).val < b + 256)

/-- The half of the fetch buffer at `o`, whatever it holds. -/
def Free6 (o : ℕ) : sProp (MM F) :=
  iprop(∃ f : Buf (Elt F) (arg6.view.loc (thr d i)), arg6.view.loc (thr d i) ↦[slot6 d i arg6 o]{fullShare} f)

/-- A read share of the whole source. -/
def All3 (q : PosShare TreeShare) (fd : Buf (Elt F) (arg3.view.loc (thr d i))) : sProp (MM F) :=
  iprop(arg3.view.loc (thr d i) ↦[Finset.univ]{q} fd)

/-- The half of the fetch buffer at `o` with the chunk at row `b` in it. -/
def Got6 (o b : ℕ) (D : ℕ → BitVec 32) : sProp (MM F) :=
  HeldOn (F := F) d i arg6 (slot6 d i arg6 o) (fun j => o ≤ (j 0).val ∧ (j 0).val < o + 256) (c1 (sh1 D b o))

/-- A copy's credit. -/
def N6 : ℕ := (arg6.slice (Rect.unit (s := S512) ![0] S256.size inb_S512_S256_0) (fun _ => rfl)).view.dmaCredit

/-- The copy of the chunk at row `b` into the half at `o` in flight, and the rest of the source's share. -/
def Fly6 (sm : DmaSem sig) (o b : ℕ) (q : PosShare TreeShare) (fd : Buf (Elt F) (arg3.view.loc (thr d i))) (D : ℕ → BitVec 32) : sProp (MM F) :=
  iprop(Flight (countersEmb (U := UU)) (thr d i) (.dma sm) none (N6 arg6)
      iprop(Got6 d i arg6 o b D ∗ (arg3.view.loc (thr d i) ↦[src6 d i arg3 b]{q} fd))
    ∗ (arg3.view.loc (thr d i) ↦[Finset.univ \ src6 d i arg3 b]{q} fd))

variable {d i arg2 arg3 arg5 arg6 arg7 arg8 arg9}
variable {α : Type} {Q : α → sProp (MM F)}
theorem set_src5 {off : Fin 2 → ℕ} {p : ∀ a, off a + S256x128.size a ≤ S100000x128.size a} {h} (b : ℕ) (hb : off = ![b, 0]) :
    (arg2.slice (Rect.unit (s := S100000x128) off S256x128.size p) h).view.set = src5 d i arg2 b := by
  subst hb
  refine (View.set_slice ..).trans ?_
  unfold src5 View.setOn
  refine congrArg (Finset.map _) (Finset.ext fun j => ?_)
  rw [Rect.mem_set_unit]
  simp only [Finset.mem_filter, Finset.mem_univ, true_and]
  exact rows_2 j b (fun a => p a)

theorem set_slot5 {off : Fin 2 → ℕ} {p : ∀ a, off a + S256x128.size a ≤ S512x128.size a} {h} (b : ℕ) (hb : off = ![b, 0]) :
    (arg5.slice (Rect.unit (s := S512x128) off S256x128.size p) h).view.set = slot5 d i arg5 b := by
  subst hb
  refine (View.set_slice ..).trans ?_
  unfold slot5 View.setOn
  refine congrArg (Finset.map _) (Finset.ext fun j => ?_)
  rw [Rect.mem_set_unit]
  simp only [Finset.mem_filter, Finset.mem_univ, true_and]
  exact rows_2 j b (fun a => p a)

/-- What a copy leaves in the half it writes. -/
theorem landed5 {off5 off2 : Fin 2 → ℕ} {p5 : ∀ a, off5 a + S256x128.size a ≤ S512x128.size a} {p2 : ∀ a, off2 a + S256x128.size a ≤ S100000x128.size a}
    {h5 h2} {o b : ℕ} {fd : Buf (Elt F) (arg2.view.loc (thr d i))} {f : Buf (Elt F) (arg5.view.loc (thr d i))} {D : ℕ → ℕ → F .f32}
    (ho : off5 = ![o, 0]) (hb : off2 = ![b, 0]) (hD : ∀ j, arg2.view.read (Elt F) fd j = c2 D j)
    (j : S512x128.Idx) (hj : o ≤ (j 0).val ∧ (j 0).val < o + 256) :
    arg5.view.read (Elt F) ((arg5.slice (Rect.unit (s := S512x128) off5 S256x128.size p5) h5).view.write (Elt F) f
      ((arg2.slice (Rect.unit (s := S100000x128) off2 S256x128.size p2) h2).view.read (Elt F) fd) Finset.univ) j = c2 (sh2 D b o) j := by
  subst ho hb
  have hj' : ∀ a, (![o, 0] : Fin 2 → ℕ) a ≤ (j a).val ∧ (j a).val < (![o, 0] : Fin 2 → ℕ) a + S256x128.size a := (rows_2 (n := 512) j o (fun a => p5 a)).2 hj
  have he : (Rect.unit (s := S512x128) ![o, 0] S256x128.size p5).emb (Rect.unitLocal (s := S512x128) (off := ![o, 0]) (size := S256x128.size) j hj') = j :=
    funext fun a => Fin.ext (by
      show (![o, 0] : Fin 2 → ℕ) a + 1 * ((j a).val - (![o, 0] : Fin 2 → ℕ) a) = (j a).val
      have := (hj' a).1
      omega)
  refine (congrArg _ he.symm).trans ((View.read_slice_write_emb _ _ _ (Finset.mem_univ _)).trans ?_)
  refine (hD _).trans ?_
  show D (b + 1 * ((j 0).val - o)) (0 + 1 * ((j 1).val - 0)) = D (b + ((j 0).val - o)) (j 1).val
  rw [Nat.one_mul, Nat.one_mul, Nat.zero_add, Nat.sub_zero]

/-- Starting the copy of the chunk at row `b` into the half at `o`. -/
theorem start5 {s : SS F} {sm : DmaSem sig} {off5 off2 : Fin 2 → ℕ} {p5 : ∀ a, off5 a + S256x128.size a ≤ S512x128.size a} {p2 : ∀ a, off2 a + S256x128.size a ≤ S100000x128.size a}
    {hsrc hdst} {hsem : DmaTarget.Typed (nD := nD) (τ := τ) (p := (thr d i).2) .hbm (.dma sm) (.here (arg5.slice (Rect.unit (s := S512x128) off5 S256x128.size p5) (fun _ => rfl)))}
    {o b : ℕ} {q : PosShare TreeShare} {fd : Buf (Elt F) (arg2.view.loc (thr d i))} {D : ℕ → ℕ → F .f32} {Fr : sProp (MM F)}
    {k : PUnit → TProg F i α} (ho : off5 = ![o, 0]) (hb : off2 = ![b, 0]) (hD : ∀ j, arg2.view.read (Elt F) fd j = c2 D j)
    (h : T3 d i arg7 arg8 arg9 s iprop(Fly5 d i arg2 arg5 sm o b q fd D ∗ Fr) ⊢ WP d i (k ⟨⟩) Q) :
    T3 d i arg7 arg8 arg9 s iprop(Free5 d i arg5 o ∗ All2 d i arg2 q fd ∗ semVal (thr d i, .dma sm) 0 ∗ Fr)
      ⊢ WP d i (.op (.enqueueDmaAs (arg2.slice (Rect.unit (s := S100000x128) off2 S256x128.size p2) (fun _ => rfl))
          (.here (arg5.slice (Rect.unit (s := S512x128) off5 S256x128.size p5) (fun _ => rfl))) .same (.dma sm) hsrc hdst hsem) k) Q := by
  unfold T3 Free5 All2 at *
  iintro ⟨H7, H8, H9, ⟨%f, Hf⟩, Ha, Hv, HF⟩
  ihave Ha' := (pointsTo_split_subset (Finset.subset_univ (src5 d i arg2 b))).1 $$ Ha
  icases Ha' with ⟨Ha, Hr⟩
  iapply (wp_dmaLocal (countersEmb (U := UU)) 𝒱₀ (thr d i) none
    (src := arg2.slice (Rect.unit (s := S100000x128) off2 S256x128.size p2) (fun _ => rfl)) (via := .same)
    (dst := arg5.slice (Rect.unit (s := S512x128) off5 S256x128.size p5) (fun _ => rfl)) (sm := .dma sm)
    (q := q) (fs := fd) (fd := f) (Sd := slot5 d i arg5 o) none (N5 arg5) rfl (View.dmaCredit_pos _ (by decide))
    (set_slot5 o ho).le) $$ [Ha Hf Hv]
  · isplitl [Ha]
    · rw [set_src5 (d := d) (i := i) b hb]
      iexact Ha
    isplitl [Hf] <;> iassumption
  iintro Hfl
  iapply h
  isplitl [H7]; · iexact H7
  isplitl [H8]; · iexact H8
  isplitl [H9]; · iexact H9
  isplitl [Hfl Hr]
  · unfold Fly5
    isplitl [Hfl]
    · iapply (Flight_mono (countersEmb (U := UU)) (thr d i) ?_) $$ Hfl
      iintro ⟨Hd, Hs⟩
      isplitl [Hd]
      · unfold Got5 HeldOn
        iexists _
        isplitl [Hd]; · iexact Hd
        ipureintro
        exact fun j hj => landed5 ho hb hD j hj
      · rw [set_src5 (d := d) (i := i) b hb]
        iexact Hs
    · iexact Hr
  · iexact HF

/-- Waiting for it. -/
theorem wait5 {s : SS F} {sm : DmaSem sig} {off5 off2 : Fin 2 → ℕ} {p5 : ∀ a, off5 a + S256x128.size a ≤ S512x128.size a} {p2 : ∀ a, off2 a + S256x128.size a ≤ S100000x128.size a}
    {hsrc hdst}
    {o b : ℕ} {q : PosShare TreeShare} {fd : Buf (Elt F) (arg2.view.loc (thr d i))} {D : ℕ → ℕ → F .f32} {O : CellTallies nD τ sig (HIx 1)} {W : Waits sig (HIx 1)} {Fr : sProp (MM F)}
    {k : PUnit → TProg F i α}
    (h : T3 d i arg7 arg8 arg9 s iprop(Got5 d i arg5 o b D ∗ All2 d i arg2 q fd ∗ semVal (thr d i, .dma sm) 0 ∗ Ow d i O W ∗ Fr) ⊢ WP d i (k ⟨⟩) Q) :
    T3 d i arg7 arg8 arg9 s iprop(Fly5 d i arg2 arg5 sm o b q fd D ∗ Ow d i O W ∗ Fr)
      ⊢ WP d i (.op (.waitDma2 sm (arg2.slice (Rect.unit (s := S100000x128) off2 S256x128.size p2) (fun _ => rfl))
          (arg5.slice (Rect.unit (s := S512x128) off5 S256x128.size p5) (fun _ => rfl)) hsrc hdst) k) Q := by
  unfold T3 Fly5 Ow All2 at *
  iintro ⟨H7, H8, H9, ⟨Hfl, Hr⟩, ⟨%W', %hW', HO, #HM⟩, HF⟩
  ihave HM' := (MayWaits.elim (SemLoc.dma sm)) $$ HM
  iapply (wp_waitLocalO (countersEmb (U := UU)) 𝒱₀ (thr d i) none
    (srcw := arg2.slice (Rect.unit (s := S100000x128) off2 S256x128.size p2) (fun _ => rfl))
    (dstw := arg5.slice (Rect.unit (s := S512x128) off5 S256x128.size p5) (fun _ => rfl)) none (N := N5 arg5) rfl) $$ [Hfl HO HM']
  · isplitl [Hfl]; · iexact Hfl
    isplitl [HO] <;> iassumption
  iintro ⟨⟨Hg, Hs⟩, Hv, HO⟩
  iapply h
  isplitl [H7]; · iexact H7
  isplitl [H8]; · iexact H8
  isplitl [H9]; · iexact H9
  isplitl [Hg]; · iexact Hg
  isplitl [Hs Hr]
  · iapply (pointsTo_split_subset (Finset.subset_univ (src5 d i arg2 b))).2
    isplitl [Hs] <;> iassumption
  isplitl [Hv]; · iexact Hv
  isplitl [HO]
  · iexists _
    isplitr
    rotate_left
    · isplitl [HO]
      · iexact HO
      · iexact HM
    · ipureintro
      intro p hp
      rcases Finset.mem_insert.mp hp with rfl | hp
      · exact Or.inr rfl
      · exact hW' p hp
  · iexact HF
theorem set_src6 {off : Fin 1 → ℕ} {p : ∀ a, off a + S256.size a ≤ S100000.size a} {h} (b : ℕ) (hb : off = ![b]) :
    (arg3.slice (Rect.unit (s := S100000) off S256.size p) h).view.set = src6 d i arg3 b := by
  subst hb
  refine (View.set_slice ..).trans ?_
  unfold src6 View.setOn
  refine congrArg (Finset.map _) (Finset.ext fun j => ?_)
  rw [Rect.mem_set_unit]
  simp only [Finset.mem_filter, Finset.mem_univ, true_and]
  exact rows_1 j b (fun a => p a)

theorem set_slot6 {off : Fin 1 → ℕ} {p : ∀ a, off a + S256.size a ≤ S512.size a} {h} (b : ℕ) (hb : off = ![b]) :
    (arg6.slice (Rect.unit (s := S512) off S256.size p) h).view.set = slot6 d i arg6 b := by
  subst hb
  refine (View.set_slice ..).trans ?_
  unfold slot6 View.setOn
  refine congrArg (Finset.map _) (Finset.ext fun j => ?_)
  rw [Rect.mem_set_unit]
  simp only [Finset.mem_filter, Finset.mem_univ, true_and]
  exact rows_1 j b (fun a => p a)

/-- What a copy leaves in the half it writes. -/
theorem landed6 {off6 off3 : Fin 1 → ℕ} {p6 : ∀ a, off6 a + S256.size a ≤ S512.size a} {p3 : ∀ a, off3 a + S256.size a ≤ S100000.size a}
    {h6 h3} {o b : ℕ} {fd : Buf (Elt F) (arg3.view.loc (thr d i))} {f : Buf (Elt F) (arg6.view.loc (thr d i))} {D : ℕ → BitVec 32}
    (ho : off6 = ![o]) (hb : off3 = ![b]) (hD : ∀ j, arg3.view.read (Elt F) fd j = c1 D j)
    (j : S512.Idx) (hj : o ≤ (j 0).val ∧ (j 0).val < o + 256) :
    arg6.view.read (Elt F) ((arg6.slice (Rect.unit (s := S512) off6 S256.size p6) h6).view.write (Elt F) f
      ((arg3.slice (Rect.unit (s := S100000) off3 S256.size p3) h3).view.read (Elt F) fd) Finset.univ) j = c1 (sh1 D b o) j := by
  subst ho hb
  have hj' : ∀ a, (![o] : Fin 1 → ℕ) a ≤ (j a).val ∧ (j a).val < (![o] : Fin 1 → ℕ) a + S256.size a := (rows_1 (n := 512) j o (fun a => p6 a)).2 hj
  have he : (Rect.unit (s := S512) ![o] S256.size p6).emb (Rect.unitLocal (s := S512) (off := ![o]) (size := S256.size) j hj') = j :=
    funext fun a => Fin.ext (by
      show (![o] : Fin 1 → ℕ) a + 1 * ((j a).val - (![o] : Fin 1 → ℕ) a) = (j a).val
      have := (hj' a).1
      omega)
  refine (congrArg _ he.symm).trans ((View.read_slice_write_emb _ _ _ (Finset.mem_univ _)).trans ?_)
  refine (hD _).trans ?_
  show D (b + 1 * ((j 0).val - o)) = D (b + ((j 0).val - o))
  rw [Nat.one_mul]

/-- Starting the copy of the chunk at row `b` into the half at `o`. -/
theorem start6 {s : SS F} {sm : DmaSem sig} {off6 off3 : Fin 1 → ℕ} {p6 : ∀ a, off6 a + S256.size a ≤ S512.size a} {p3 : ∀ a, off3 a + S256.size a ≤ S100000.size a}
    {hsrc hdst} {hsem : DmaTarget.Typed (nD := nD) (τ := τ) (p := (thr d i).2) .hbm (.dma sm) (.here (arg6.slice (Rect.unit (s := S512) off6 S256.size p6) (fun _ => rfl)))}
    {o b : ℕ} {q : PosShare TreeShare} {fd : Buf (Elt F) (arg3.view.loc (thr d i))} {D : ℕ → BitVec 32} {Fr : sProp (MM F)}
    {k : PUnit → TProg F i α} (ho : off6 = ![o]) (hb : off3 = ![b]) (hD : ∀ j, arg3.view.read (Elt F) fd j = c1 D j)
    (h : T3 d i arg7 arg8 arg9 s iprop(Fly6 d i arg3 arg6 sm o b q fd D ∗ Fr) ⊢ WP d i (k ⟨⟩) Q) :
    T3 d i arg7 arg8 arg9 s iprop(Free6 d i arg6 o ∗ All3 d i arg3 q fd ∗ semVal (thr d i, .dma sm) 0 ∗ Fr)
      ⊢ WP d i (.op (.enqueueDmaAs (arg3.slice (Rect.unit (s := S100000) off3 S256.size p3) (fun _ => rfl))
          (.here (arg6.slice (Rect.unit (s := S512) off6 S256.size p6) (fun _ => rfl))) .same (.dma sm) hsrc hdst hsem) k) Q := by
  unfold T3 Free6 All3 at *
  iintro ⟨H7, H8, H9, ⟨%f, Hf⟩, Ha, Hv, HF⟩
  ihave Ha' := (pointsTo_split_subset (Finset.subset_univ (src6 d i arg3 b))).1 $$ Ha
  icases Ha' with ⟨Ha, Hr⟩
  iapply (wp_dmaLocal (countersEmb (U := UU)) 𝒱₀ (thr d i) none
    (src := arg3.slice (Rect.unit (s := S100000) off3 S256.size p3) (fun _ => rfl)) (via := .same)
    (dst := arg6.slice (Rect.unit (s := S512) off6 S256.size p6) (fun _ => rfl)) (sm := .dma sm)
    (q := q) (fs := fd) (fd := f) (Sd := slot6 d i arg6 o) none (N6 arg6) rfl (View.dmaCredit_pos _ (by decide))
    (set_slot6 o ho).le) $$ [Ha Hf Hv]
  · isplitl [Ha]
    · rw [set_src6 (d := d) (i := i) b hb]
      iexact Ha
    isplitl [Hf] <;> iassumption
  iintro Hfl
  iapply h
  isplitl [H7]; · iexact H7
  isplitl [H8]; · iexact H8
  isplitl [H9]; · iexact H9
  isplitl [Hfl Hr]
  · unfold Fly6
    isplitl [Hfl]
    · iapply (Flight_mono (countersEmb (U := UU)) (thr d i) ?_) $$ Hfl
      iintro ⟨Hd, Hs⟩
      isplitl [Hd]
      · unfold Got6 HeldOn
        iexists _
        isplitl [Hd]; · iexact Hd
        ipureintro
        exact fun j hj => landed6 ho hb hD j hj
      · rw [set_src6 (d := d) (i := i) b hb]
        iexact Hs
    · iexact Hr
  · iexact HF

/-- Waiting for it. -/
theorem wait6 {s : SS F} {sm : DmaSem sig} {off6 off3 : Fin 1 → ℕ} {p6 : ∀ a, off6 a + S256.size a ≤ S512.size a} {p3 : ∀ a, off3 a + S256.size a ≤ S100000.size a}
    {hsrc hdst}
    {o b : ℕ} {q : PosShare TreeShare} {fd : Buf (Elt F) (arg3.view.loc (thr d i))} {D : ℕ → BitVec 32} {O : CellTallies nD τ sig (HIx 1)} {W : Waits sig (HIx 1)} {Fr : sProp (MM F)}
    {k : PUnit → TProg F i α}
    (h : T3 d i arg7 arg8 arg9 s iprop(Got6 d i arg6 o b D ∗ All3 d i arg3 q fd ∗ semVal (thr d i, .dma sm) 0 ∗ Ow d i O W ∗ Fr) ⊢ WP d i (k ⟨⟩) Q) :
    T3 d i arg7 arg8 arg9 s iprop(Fly6 d i arg3 arg6 sm o b q fd D ∗ Ow d i O W ∗ Fr)
      ⊢ WP d i (.op (.waitDma2 sm (arg3.slice (Rect.unit (s := S100000) off3 S256.size p3) (fun _ => rfl))
          (arg6.slice (Rect.unit (s := S512) off6 S256.size p6) (fun _ => rfl)) hsrc hdst) k) Q := by
  unfold T3 Fly6 Ow All3 at *
  iintro ⟨H7, H8, H9, ⟨Hfl, Hr⟩, ⟨%W', %hW', HO, #HM⟩, HF⟩
  ihave HM' := (MayWaits.elim (SemLoc.dma sm)) $$ HM
  iapply (wp_waitLocalO (countersEmb (U := UU)) 𝒱₀ (thr d i) none
    (srcw := arg3.slice (Rect.unit (s := S100000) off3 S256.size p3) (fun _ => rfl))
    (dstw := arg6.slice (Rect.unit (s := S512) off6 S256.size p6) (fun _ => rfl)) none (N := N6 arg6) rfl) $$ [Hfl HO HM']
  · isplitl [Hfl]; · iexact Hfl
    isplitl [HO] <;> iassumption
  iintro ⟨⟨Hg, Hs⟩, Hv, HO⟩
  iapply h
  isplitl [H7]; · iexact H7
  isplitl [H8]; · iexact H8
  isplitl [H9]; · iexact H9
  isplitl [Hg]; · iexact Hg
  isplitl [Hs Hr]
  · iapply (pointsTo_split_subset (Finset.subset_univ (src6 d i arg3 b))).2
    isplitl [Hs] <;> iassumption
  isplitl [Hv]; · iexact Hv
  isplitl [HO]
  · iexists _
    isplitr
    rotate_left
    · isplitl [HO]
      · iexact HO
      · iexact HM
    · ipureintro
      intro p hp
      rcases Finset.mem_insert.mp hp with rfl | hp
      · exact Or.inr rfl
      · exact hW' p hp
  · iexact HF

end Copies

end Cert.Proof.SegMax
end
-- ==== Proof.TailPart.lean ====
/-
  The last 256 rows, which the last tile takes before its chunks: their copy, their sixteen groups, and the flush.
-/
module

public import proofs.«01_k».proof.Proof.Copies

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

section Helpers

variable {d : Dev nD} {i : grid0.Coords}
variable {arg5 : Memref sig .scVector .vmem S512x128 .f32} {arg6 : Memref sig .scVector .vmem S512 .i32}
variable {arg7 : Memref sig .scVector .vmem S32896 .f32} {arg8 : Memref sig .scVector .vmem S128 .f32} {arg9 : Memref sig .scVector .smem S1 .i32}

theorem T3_fr {s : SS F} {Fr Fr' X : sProp (MM F)} (h : Fr ⊢ Fr') (hK : T3 d i arg7 arg8 arg9 s Fr' ⊢ X) : T3 d i arg7 arg8 arg9 s Fr ⊢ X := by
  refine BIBase.Entails.trans ?_ hK
  unfold T3
  exact BIClass.sep_mono .rfl (BIClass.sep_mono .rfl (BIClass.sep_mono .rfl h))

theorem pureR {φ : Prop} {P X : sProp (MM F)} (h : φ → P ⊢ X) : iprop(⌜φ⌝ ∗ P) ⊢ X := by
  iintro ⟨%hφ, H⟩
  iapply (h hφ) $$ H

/-- A program at the head of the head of another. -/
theorem stage2 {α β γ : Type} {p : TProg F i α} {f : α → TProg F i β} {g : β → TProg F i γ} {P : sProp (MM F)} {R : α → sProp (MM F)} {Q : γ → sProp (MM F)}
    (hp : P ⊢ WP d i p R) (hf : ∀ a, R a ⊢ WP d i (Prog.bind (f a) g) Q) : P ⊢ WP d i (Prog.bind (Prog.bind p f) g) Q := by
  have e := Prog.bind_assoc p f g
  exact BIBase.Entails.trans (stage hp hf) (BIBase.Entails.of_eq (congrArg (fun x => WP d i x Q) e.symm))

theorem retB {α β : Type} {a : α} {f : α → TProg F i β} {P : sProp (MM F)} {Q : β → sProp (MM F)} (h : P ⊢ WP d i (f a) Q) : P ⊢ WP d i (Prog.bind (.ret a) f) Q := h

/-- The postcondition of the head may be weakened. -/
theorem wpost {α : Type} {p : TProg F i α} {P : sProp (MM F)} {R R' : α → sProp (MM F)} (hp : P ⊢ WP d i p R) (h : ∀ a, R a ⊢ R' a) : P ⊢ WP d i p R' :=
  hp.trans (Idealize.SL.Sem.wp_mono frame _ _ h)

theorem got5_free {o b : ℕ} {D : ℕ → ℕ → F .f32} : Got5 d i arg5 o b D ⊢ Free5 d i arg5 o := by
  unfold Got5 HeldOn Free5
  iintro ⟨%f, Hf, -⟩
  iexists f
  iexact Hf

theorem got6_free {o b : ℕ} {J : ℕ → BitVec 32} : Got6 (F := F) d i arg6 o b J ⊢ Free6 d i arg6 o := by
  unfold Got6 HeldOn Free6
  iintro ⟨%f, Hf, -⟩
  iexists f
  iexact Hf

end Helpers

/-! ## The state after some groups, by the rows they hold -/

theorem rowsS_congr {I I' : ℕ → BitVec 32} {B B' : ℕ → ℕ → F .f32} {R R' : ℕ} (n : ℕ) {s : SS F} (hI : ∀ r, r < n → I (R + r) = I' (R' + r))
    (hB : ∀ r, r < n → B (R + r) = B' (R' + r)) : rowsS I B R n s = rowsS I' B' R' n s := by
  induction n with
  | zero => rfl
  | succ n ih =>
    unfold rowsS
    rw [ih (fun r hr => hI r (by omega)) (fun r hr => hB r (by omega)), hI n (by omega), hB n (by omega)]

theorem groupS_congr {I I' : ℕ → BitVec 32} {B B' : ℕ → ℕ → F .f32} {R R' : ℕ} {s : SS F} (hI : ∀ r, r < 16 → I (R + r) = I' (R' + r))
    (hB : ∀ r, r < 16 → B (R + r) = B' (R' + r)) : groupS I B R s = groupS I' B' R' s := by
  have hg : ∀ k, gmx B R k = gmx B' R' k := fun k => by
    unfold gmx
    rw [hB 0 (by decide), hB 1 (by decide), hB 2 (by decide), hB 3 (by decide), hB 4 (by decide), hB 5 (by decide), hB 6 (by decide), hB 7 (by decide), hB 8 (by decide), hB 9 (by decide), hB 10 (by decide), hB 11 (by decide), hB 12 (by decide), hB 13 (by decide), hB 14 (by decide), hB 15 (by decide)]
  unfold groupS
  rw [hI 0 (by decide), hI 15 (by decide), rowsS_congr 16 hI hB, funext hg]

/-- The groups of a fetched chunk are those of the rows it was fetched from. -/
theorem groupsS_sh {J : ℕ → BitVec 32} {D : ℕ → ℕ → F .f32} (b o n : ℕ) {s : SS F} :
    groupsS (sh1 J b o) (sh2 D b o) o n s = groupsS J D b n s := by
  induction n with
  | zero => rfl
  | succ n ih =>
    unfold groupsS
    rw [ih]
    refine groupS_congr (fun r _ => ?_) (fun r _ => ?_)
    · show J (b + (o + 16 * n + r - o)) = J (b + 16 * n + r)
      congr 1; omega
    · funext k
      show D (b + (o + 16 * n + r - o)) k = D (b + 16 * n + r) k
      congr 1; omega

theorem groupsS_add {J : ℕ → BitVec 32} {D : ℕ → ℕ → F .f32} (b n m : ℕ) {s : SS F} :
    groupsS J D (b + 16 * n) m (groupsS J D b n s) = groupsS J D b (n + m) s := by
  induction m with
  | zero => rfl
  | succ m ih =>
    show groupS J D (b + 16 * n + 16 * m) _ = groupS J D (b + 16 * (n + m)) _
    rw [ih, show b + 16 * n + 16 * m = b + 16 * (n + m) by omega]
    rfl

/-- The running segment folded into the accumulator, and no segment running. -/
def closeS (s : SS F) : SS F := ⟨flushA s.acc s.cur s.prev.toNat, fun _ => ninf, 256#32⟩

set_option maxHeartbeats 4000000 in
/-- The copy of the last 256 rows and their sixteen groups. -/
theorem tail_part {d : Dev nD} {i : grid0.Coords} {arg2 : Memref sig .scVector .hbm S100000x128 .f32} {harg2 : arg2.IsWhole} {arg3 : Memref sig .scVector .hbm S100000 .i32} {harg3 : arg3.IsWhole} {arg4 : Memref sig .scVector .hbm S32x32768 .f32} {harg4 : arg4.IsWhole} {arg5 : Memref sig .scVector .vmem S512x128 .f32} {harg5 : arg5.IsWhole} {arg6 : Memref sig .scVector .vmem S512 .i32} {harg6 : arg6.IsWhole} {arg7 : Memref sig .scVector .vmem S32896 .f32} {harg7 : arg7.IsWhole} {arg8 : Memref sig .scVector .vmem S128 .f32} {harg8 : arg8.IsWhole} {arg9 : Memref sig .scVector .smem S1 .i32} {harg9 : arg9.IsWhole} {arg10 arg11 v313_r0 v313_r1 v171_r2 : DmaSems sig S_} {v2 : FVec F S16 .f32} {k0_h1 : k0_cond1 i = 1#1} (hv2 : v2 = fun _ => ninf)
    {s : SS F} {q : PosShare TreeShare} {fd : Buf (Elt F) (arg2.view.loc (thr d i))} {fi : Buf (Elt F) (arg3.view.loc (thr d i))} {D : ℕ → ℕ → F .f32} {J : ℕ → BitVec 32} {O : CellTallies nD τ sig (HIx 1)} {W : Waits sig (HIx 1)} {Fr : sProp (MM F)}
    (hD : ∀ j, arg2.view.read (Elt F) fd j = c2 D j) (hJ : ∀ j, arg3.view.read (Elt F) fi j = c1 J j) (hJb : ∀ n, (J n).toNat ≤ 256) (hp : s.prev.toNat ≤ 256) :
    T3 d i arg7 arg8 arg9 s iprop(Free5 d i arg5 0 ∗ All2 d i arg2 q fd ∗ semVal (thr d i, SemLoc.dma v313_r0.sem) 0 ∗ Ow d i O W ∗ Free6 d i arg6 0 ∗ All3 d i arg3 q fi ∗ semVal (thr d i, SemLoc.dma v313_r1.sem) 0 ∗ Fr)
      ⊢ WP d i (k0_part101 (F := F) i arg2 harg2 arg3 harg3 arg4 harg4 arg5 harg5 arg6 harg6 arg7 harg7 arg8 harg8 arg9 harg9 arg10 arg11 v313_r0 v313_r1 v171_r2 v2 k0_h1)
        (fun r => iprop(⌜r.1 = (groupsS J D 99744 16 s).prev⌝ ∗ T3 d i arg7 arg8 arg9 (groupsS J D 99744 16 s) iprop(Free5 d i arg5 0 ∗ All2 d i arg2 q fd ∗ semVal (thr d i, SemLoc.dma v313_r0.sem) 0 ∗ Ow d i O W ∗ Free6 d i arg6 0 ∗ All3 d i arg3 q fi ∗ semVal (thr d i, SemLoc.dma v313_r1.sem) 0 ∗ Fr))) := by
  have hp2 : (groupsS J D 99744 16 s).prev.toNat ≤ 256 := groupsS_prev hp 16 fun r _ => hJb _
  refine start5 rfl rfl hD ?_
  refine T3_fr (Fr' := iprop(Fly5 d i arg2 arg5 v313_r0.sem 0 99744 q fd D ∗ Ow d i O W ∗ Free6 d i arg6 0 ∗ All3 d i arg3 q fi ∗ semVal (thr d i, SemLoc.dma v313_r1.sem) 0 ∗ Fr)) ?_ ?_
  · exact (BIClass.sep_mono .rfl .rfl)
  refine wait5 ?_
  refine T3_fr (Fr' := iprop(Free6 d i arg6 0 ∗ All3 d i arg3 q fi ∗ semVal (thr d i, SemLoc.dma v313_r1.sem) 0 ∗ Ow d i O W ∗ Got5 d i arg5 0 99744 D ∗ All2 d i arg2 q fd ∗ semVal (thr d i, SemLoc.dma v313_r0.sem) 0 ∗ Fr)) ?_ ?_
  · iintro ⟨HG5, HL2, HS0, HO, HA6, HL3, HS1, HX⟩
    isplitl [HA6]; · iexact HA6
    isplitl [HL3]; · iexact HL3
    isplitl [HS1]; · iexact HS1
    isplitl [HO]; · iexact HO
    isplitl [HG5]; · iexact HG5
    isplitl [HL2]; · iexact HL2
    isplitl [HS0]; · iexact HS0
    iexact HX
  refine start6 rfl rfl hJ ?_
  refine wait6 ?_
  refine T3_fr (Fr' := Slot d i arg5 arg6 0 (sh2 D 99744 0) (sh1 J 99744 0) iprop(All2 d i arg2 q fd ∗ semVal (thr d i, SemLoc.dma v313_r0.sem) 0 ∗ All3 d i arg3 q fi ∗ semVal (thr d i, SemLoc.dma v313_r1.sem) 0 ∗ Ow d i O W ∗ Fr)) ?_ ?_
  · unfold Slot Got5 Got6
    iintro ⟨HG6, HL3, HS1, HO, HG5, HL2, HS0, HX⟩
    isplitl [HG5]; · iexact HG5
    isplitl [HG6]; · iexact HG6
    isplitl [HL2]; · iexact HL2
    isplitl [HS0]; · iexact HS0
    isplitl [HL3]; · iexact HL3
    isplitl [HS1]; · iexact HS1
    isplitl [HO]; · iexact HO
    iexact HX

  refine retB ?_
  refine stage (R := fun _ => T3 d i arg7 arg8 arg9 (groupsS J D 99744 16 s) iprop(Free5 d i arg5 0 ∗ All2 d i arg2 q fd ∗ semVal (thr d i, SemLoc.dma v313_r0.sem) 0 ∗ Ow d i O W ∗ Free6 d i arg6 0 ∗ All3 d i arg3 q fi ∗ semVal (thr d i, SemLoc.dma v313_r1.sem) 0 ∗ Fr)) ?_ fun _ => ?_
  · refine wpost (tail_loop hv2 hp fun r hr => hJb _) fun _ => ?_
    rw [groupsS_sh]
    refine T3_fr ?_ .rfl
    unfold Slot
    iintro ⟨HG5, HG6, HL2, HS0, HL3, HS1, HO, HX⟩
    isplitl [HG5]; · iapply (got5_free (b := 99744) (D := D)); unfold Got5; iexact HG5
    isplitl [HL2]; · iexact HL2
    isplitl [HS0]; · iexact HS0
    isplitl [HO]; · iexact HO
    isplitl [HG6]; · iapply (got6_free (b := 99744) (J := J)); unfold Got6; iexact HG6
    isplitl [HL3]; · iexact HL3
    isplitl [HS1]; · iexact HS1
    iexact HX

  refine head ?_ ?_
  · exact fun _ r a => chkp _ hp2 r a
  refine wret ?_
  iintro H
  isplitr; · ipureintro; rfl
  iexact H

set_option maxHeartbeats 4000000 in
/-- The flush after them. -/
theorem tail_flush {d : Dev nD} {i : grid0.Coords} {arg2 : Memref sig .scVector .hbm S100000x128 .f32} {harg2 : arg2.IsWhole} {arg3 : Memref sig .scVector .hbm S100000 .i32} {harg3 : arg3.IsWhole} {arg4 : Memref sig .scVector .hbm S32x32768 .f32} {harg4 : arg4.IsWhole} {arg5 : Memref sig .scVector .vmem S512x128 .f32} {harg5 : arg5.IsWhole} {arg6 : Memref sig .scVector .vmem S512 .i32} {harg6 : arg6.IsWhole} {arg7 : Memref sig .scVector .vmem S32896 .f32} {harg7 : arg7.IsWhole} {arg8 : Memref sig .scVector .vmem S128 .f32} {harg8 : arg8.IsWhole} {arg9 : Memref sig .scVector .smem S1 .i32} {harg9 : arg9.IsWhole} {arg10 arg11 v313_r0 v313_r1 v171_r2 : DmaSems sig S_} {v2 : FVec F S16 .f32} {k0_h1 : k0_cond1 i = 1#1} (hv2 : v2 = fun _ => ninf)
    {s : SS F} {Fr : sProp (MM F)} (hp2 : s.prev.toNat ≤ 256) {hw : k0_chk17 i s.prev} {γ : Type} {rest : TProg F i γ} {Q : γ → sProp (MM F)}
    (hK : T3 d i arg7 arg8 arg9 (closeS s) Fr ⊢ WP d i rest Q) :
    T3 d i arg7 arg8 arg9 s Fr ⊢ WP d i (do
        k0_part102 (F := F) i arg2 harg2 arg3 harg3 arg4 harg4 arg5 harg5 arg6 harg6 arg7 harg7 arg8 harg8 arg9 harg9 arg10 arg11 v313_r0 v313_r1 v171_r2 k0_h1 s.prev hw
        k0_part103 (F := F) i arg2 harg2 arg3 harg3 arg4 harg4 arg5 harg5 arg6 harg6 arg7 harg7 arg8 harg8 arg9 harg9 arg10 arg11 v313_r0 v313_r1 v171_r2 k0_h1 s.prev hw
        k0_part104 (F := F) i arg2 harg2 arg3 harg3 arg4 harg4 arg5 harg5 arg6 harg6 arg7 harg7 arg8 harg8 arg9 harg9 arg10 arg11 v313_r0 v313_r1 v171_r2 v2 k0_h1 s.prev hw
        let v302 : Vec F S16 .f32 ← Prog.lift (.load arg8 (Rect.unit (s := S128) ![80] S16.size inb_S128_S16_80).toLoadRect (View.loadsAt_vmem h_S16))
        have v303 : FVec F S16 .f32 := shapeCast S16 v302 shapeCasts_S16_S16
        have v304 : FVec F S16 .f32 := shapeCast S16 v2 shapeCasts_S16_S16
        Prog.lift (.store arg8 (Rect.unit (s := S128) ![80] S16.size inb_S128_S16_80) v304 Finset.univ (View.stores_vmem_bits_univ h_S16 rfl) (.inl rfl))
        let c96_108 : Index := 96#32
        let v305 : Vec F S16 .f32 ← Prog.lift (.load arg8 (Rect.unit (s := S128) ![96] S16.size inb_S128_S16_96).toLoadRect (View.loadsAt_vmem h_S16))
        have v306 : FVec F S16 .f32 := shapeCast S16 v305 shapeCasts_S16_S16
        have v307 : FVec F S16 .f32 := shapeCast S16 v2 shapeCasts_S16_S16
        Prog.lift (.store arg8 (Rect.unit (s := S128) ![96] S16.size inb_S128_S16_96) v307 Finset.univ (View.stores_vmem_bits_univ h_S16 rfl) (.inl rfl))
        let c112_109 : Index := 112#32
        let v308 : Vec F S16 .f32 ← Prog.lift (.load arg8 (Rect.unit (s := S128) ![112] S16.size inb_S128_S16_112).toLoadRect (View.loadsAt_vmem h_S16))
        have v309 : FVec F S16 .f32 := shapeCast S16 v308 shapeCasts_S16_S16
        have v310 : FVec F S16 .f32 := shapeCast S16 v2 shapeCasts_S16_S16
        Prog.lift (.store arg8 (Rect.unit (s := S128) ![112] S16.size inb_S128_S16_112) v310 Finset.univ (View.stores_vmem_bits_univ h_S16 rfl) (.inl rfl))
        let c256_i32_110 : BitVec 32 := 256#32
        let v312 : Elt F .i32 ← smemLoad arg9 (Rect.unit (s := S1) ![0] S1.size inb_S1_S1_0) numel1_S1 rfl
        Prog.lift (.store arg9 (Rect.unit (s := S1) ![0] S1.size inb_S1_S1_0) (fun _ => c256_i32_110) Finset.univ (View.stores_smem_one rfl numel1_S1) (.inl rfl))
        rest) Q := by
  refine flushes s.prev.toNat (offp _ hp2 0 (by decide)) (offp _ hp2 16 (by decide)) (offp _ hp2 32 (by decide)) (offp _ hp2 48 (by decide)) (offp _ hp2 64 (by decide)) (offp _ hp2 80 (by decide)) (offp _ hp2 96 (by decide)) (offp _ hp2 112 (by decide)) ?_
  refine resets ninf hv2 hv2 hv2 hv2 hv2 hv2 hv2 hv2 ?_
  refine setp ?_
  exact hK

end Cert.Proof.SegMax
end
-- ==== Proof.ChunkPart.lean ====
/-
  The tile's chunks of 256 rows: while one is reduced the next is fetched into the other half of the fetch buffers.
-/
module

public import proofs.«01_k».proof.Proof.TailPart

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

section

variable (d : Dev nD) (i : grid0.Coords)
variable (arg2 : Memref sig .scVector .hbm S100000x128 .f32) (arg3 : Memref sig .scVector .hbm S100000 .i32)
variable (arg5 : Memref sig .scVector .vmem S512x128 .f32) (arg6 : Memref sig .scVector .vmem S512 .i32)

/-- The rows of chunk `k`: in flight if there is such a chunk, and otherwise their half of the buffer free. -/
def In5 (sm : DmaSem sig) (q : PosShare TreeShare) (fd : Buf (Elt F) (arg2.view.loc (thr d i))) (D : ℕ → ℕ → F .f32) (k : ℕ) : sProp (MM F) :=
  if k < nch (wid i) then Fly5 d i arg2 arg5 sm (256 * (k % 2)) (256 * (c0w (wid i) + k)) q fd D
  else iprop(Free5 d i arg5 (256 * (k % 2)) ∗ All2 d i arg2 q fd ∗ semVal (thr d i, SemLoc.dma sm) 0)

/-- The ids of chunk `k`, likewise. -/
def In6 (sm : DmaSem sig) (q : PosShare TreeShare) (fi : Buf (Elt F) (arg3.view.loc (thr d i))) (J : ℕ → BitVec 32) (k : ℕ) : sProp (MM F) :=
  if k < nch (wid i) then Fly6 d i arg3 arg6 sm (256 * (k % 2)) (256 * (c0w (wid i) + k)) q fi J
  else iprop(Free6 d i arg6 (256 * (k % 2)) ∗ All3 d i arg3 q fi ∗ semVal (thr d i, SemLoc.dma sm) 0)

end

/-- The tile's state after the last 256 rows, which only the last tile takes here. -/
def tailS (w : ℕ) (J : ℕ → BitVec 32) (D : ℕ → ℕ → F .f32) (s : SS F) : SS F :=
  if w = 31 then closeS (groupsS J D 99744 16 s) else s

theorem tailS_prev {w : ℕ} {J : ℕ → BitVec 32} {D : ℕ → ℕ → F .f32} {s : SS F} (hp : s.prev.toNat ≤ 256) : (tailS w J D s).prev.toNat ≤ 256 := by
  unfold tailS
  split
  · exact Nat.le_refl _
  · exact hp

/-- The tile's state after `k` of its chunks. -/
def chunkS (w : ℕ) (J : ℕ → BitVec 32) (D : ℕ → ℕ → F .f32) (s : SS F) (k : ℕ) : SS F := groupsS J D (256 * c0w w) (16 * k) s

theorem chunkS_prev {w : ℕ} {J : ℕ → BitVec 32} {D : ℕ → ℕ → F .f32} {s : SS F} (hp : s.prev.toNat ≤ 256) (hJb : ∀ n, (J n).toNat ≤ 256) (k : ℕ) :
    (chunkS w J D s k).prev.toNat ≤ 256 := groupsS_prev hp _ fun r _ => hJb _

theorem chunkS_succ {w : ℕ} {J : ℕ → BitVec 32} {D : ℕ → ℕ → F .f32} {s : SS F} (k o : ℕ) :
    groupsS (sh1 J (256 * (c0w w + k)) o) (sh2 D (256 * (c0w w + k)) o) o 16 (chunkS w J D s k) = chunkS w J D s (k + 1) := by
  rw [groupsS_sh]
  unfold chunkS
  rw [show 256 * (c0w w + k) = 256 * c0w w + 16 * (16 * k) by omega, groupsS_add, show 16 * k + 16 = 16 * (k + 1) by omega]

set_option maxHeartbeats 8000000 in
/-- The part of the tile's body up to the final flush. -/
theorem chunks_part {d : Dev nD} {i : grid0.Coords} {arg2 : Memref sig .scVector .hbm S100000x128 .f32} {harg2 : arg2.IsWhole} {arg3 : Memref sig .scVector .hbm S100000 .i32} {harg3 : arg3.IsWhole} {arg4 : Memref sig .scVector .hbm S32x32768 .f32} {harg4 : arg4.IsWhole} {arg5 : Memref sig .scVector .vmem S512x128 .f32} {harg5 : arg5.IsWhole} {arg6 : Memref sig .scVector .vmem S512 .i32} {harg6 : arg6.IsWhole} {arg7 : Memref sig .scVector .vmem S32896 .f32} {harg7 : arg7.IsWhole} {arg8 : Memref sig .scVector .vmem S128 .f32} {harg8 : arg8.IsWhole} {arg9 : Memref sig .scVector .smem S1 .i32} {harg9 : arg9.IsWhole} {arg10 arg11 v313_r0 v313_r1 v171_r2 : DmaSems sig S_} {v1 : BitVec 32} {v2 : FVec F S16 .f32} {c31 : BitVec 32} (hv2 : v2 = fun _ => ninf)
    {s : SS F} {q : PosShare TreeShare} {fd : Buf (Elt F) (arg2.view.loc (thr d i))} {fi : Buf (Elt F) (arg3.view.loc (thr d i))} {D : ℕ → ℕ → F .f32} {J : ℕ → BitVec 32} {O : CellTallies nD τ sig (HIx 1)} {W : Waits sig (HIx 1)} {Fr : sProp (MM F)}
    (hD : ∀ j, arg2.view.read (Elt F) fd j = c2 D j) (hJ : ∀ j, arg3.view.read (Elt F) fi j = c1 J j) (hJb : ∀ n, (J n).toNat ≤ 256) (hp : s.prev.toNat ≤ 256) :
    T3 d i arg7 arg8 arg9 s iprop(Free5 d i arg5 0 ∗ All2 d i arg2 q fd ∗ semVal (thr d i, SemLoc.dma v313_r0.sem) 0 ∗ Ow d i O W ∗ Free6 d i arg6 0 ∗ All3 d i arg3 q fi ∗ semVal (thr d i, SemLoc.dma v313_r1.sem) 0 ∗ semVal (thr d i, SemLoc.dma arg10.sem) 0 ∗ semVal (thr d i, SemLoc.dma arg11.sem) 0 ∗ Free5 d i arg5 256 ∗ Free6 d i arg6 256 ∗ Fr)
      ⊢ WP d i (k0_part304 (F := F) i arg2 harg2 arg3 harg3 arg4 harg4 arg5 harg5 arg6 harg6 arg7 harg7 arg8 harg8 arg9 harg9 arg10 arg11 v313_r0 v313_r1 v171_r2 v1 v2 c31)
        (fun r => iprop(⌜r.1 = (chunkS (wid i) J D (tailS (wid i) J D s) (nch (wid i))).prev⌝
          ∗ T3 d i arg7 arg8 arg9 (chunkS (wid i) J D (tailS (wid i) J D s) (nch (wid i))) iprop(Free5 d i arg5 0 ∗ All2 d i arg2 q fd ∗ semVal (thr d i, SemLoc.dma arg10.sem) 0 ∗ Free6 d i arg6 0 ∗ All3 d i arg3 q fi ∗ semVal (thr d i, SemLoc.dma arg11.sem) 0 ∗ Ow d i O W ∗ Free5 d i arg5 256 ∗ Free6 d i arg6 256 ∗ semVal (thr d i, SemLoc.dma v313_r0.sem) 0 ∗ semVal (thr d i, SemLoc.dma v313_r1.sem) 0 ∗ Fr))) := by
  have hpt : (tailS (wid i) J D s).prev.toNat ≤ 256 := tailS_prev hp
  have hpk : ∀ k, (chunkS (wid i) J D (tailS (wid i) J D s) k).prev.toNat ≤ 256 := chunkS_prev hpt hJb
  refine ifJp0 (P' := T3 d i arg7 arg8 arg9 (tailS (wid i) J D s) iprop(Free5 d i arg5 0 ∗ All2 d i arg2 q fd ∗ semVal (thr d i, SemLoc.dma v313_r0.sem) 0 ∗ Ow d i O W ∗ Free6 d i arg6 0 ∗ All3 d i arg3 q fi ∗ semVal (thr d i, SemLoc.dma v313_r1.sem) 0 ∗ semVal (thr d i, SemLoc.dma arg10.sem) 0 ∗ semVal (thr d i, SemLoc.dma arg11.sem) 0 ∗ Free5 d i arg5 256 ∗ Free6 d i arg6 256 ∗ Fr)) (fun h1 hK => ?_) (fun h1 => ?_) ?_
  · refine stage (tail_part hv2 hD hJ hJb hp) (fun r => ?_)
    obtain ⟨v, hw⟩ := r
    refine pureR fun hv => ?_
    have hv' : v = (groupsS J D 99744 16 s).prev := hv
    subst hv'
    refine tail_flush (k0_h1 := h1) (hw := hw) hv2 (groupsS_prev hp 16 fun r _ => hJb _) ?_
    have e : closeS (groupsS J D 99744 16 s) = tailS (wid i) J D s := by
      unfold tailS
      rw [if_pos ((last_iff i).1 h1)]
    rw [e]
    exact hK
  · rw [tailS, if_neg fun h => h1 ((last_iff i).2 h)]
  refine T3_fr (Fr' := iprop(Free5 d i arg5 0 ∗ All2 d i arg2 q fd ∗ semVal (thr d i, SemLoc.dma arg10.sem) 0 ∗ Free6 d i arg6 0 ∗ All3 d i arg3 q fi ∗ semVal (thr d i, SemLoc.dma arg11.sem) 0 ∗ Ow d i O W ∗ Free5 d i arg5 256 ∗ Free6 d i arg6 256 ∗ semVal (thr d i, SemLoc.dma v313_r0.sem) 0 ∗ semVal (thr d i, SemLoc.dma v313_r1.sem) 0 ∗ Fr)) ?_ ?_
  · iintro ⟨HA5, HL2, HR0, HO, HA6, HL3, HR1, HS0, HS1, HB5, HB6, HX⟩
    isplitl [HA5]; · iexact HA5
    isplitl [HL2]; · iexact HL2
    isplitl [HS0]; · iexact HS0
    isplitl [HA6]; · iexact HA6
    isplitl [HL3]; · iexact HL3
    isplitl [HS1]; · iexact HS1
    isplitl [HO]; · iexact HO
    isplitl [HB5]; · iexact HB5
    isplitl [HB6]; · iexact HB6
    isplitl [HR0]; · iexact HR0
    isplitl [HR1]; · iexact HR1
    iexact HX
  refine start5 rfl (off156 i) hD ?_
  refine T3_fr (Fr' := iprop(Free6 d i arg6 0 ∗ All3 d i arg3 q fi ∗ semVal (thr d i, SemLoc.dma arg11.sem) 0 ∗ Fly5 d i arg2 arg5 arg10.sem 0 (256 * (c0w (wid i) + 0)) q fd D ∗ Ow d i O W ∗ Free5 d i arg5 256 ∗ Free6 d i arg6 256 ∗ semVal (thr d i, SemLoc.dma v313_r0.sem) 0 ∗ semVal (thr d i, SemLoc.dma v313_r1.sem) 0 ∗ Fr)) ?_ ?_
  · iintro ⟨HF50, HA6, HL3, HS1, HO, HB5, HB6, HR0, HR1, HX⟩
    isplitl [HA6]; · iexact HA6
    isplitl [HL3]; · iexact HL3
    isplitl [HS1]; · iexact HS1
    isplitl [HF50]; · iexact HF50
    isplitl [HO]; · iexact HO
    isplitl [HB5]; · iexact HB5
    isplitl [HB6]; · iexact HB6
    isplitl [HR0]; · iexact HR0
    isplitl [HR1]; · iexact HR1
    iexact HX
  refine start6 rfl (off157 i) hJ ?_
  refine T3_fr (Fr' := iprop(In5 d i arg2 arg5 arg10.sem q fd D 0 ∗ In6 d i arg3 arg6 arg11.sem q fi J 0 ∗ Free5 d i arg5 256 ∗ Free6 d i arg6 256 ∗ Ow d i O W ∗ semVal (thr d i, SemLoc.dma v313_r0.sem) 0 ∗ semVal (thr d i, SemLoc.dma v313_r1.sem) 0 ∗ Fr)) ?_ ?_
  · iintro ⟨HF60, HF50, HO, HB5, HB6, HR0, HR1, HX⟩
    isplitl [HF50]; · unfold In5; rw [if_pos (nch_pos _)]; iexact HF50
    isplitl [HF60]; · unfold In6; rw [if_pos (nch_pos _)]; iexact HF60
    isplitl [HB5]; · iexact HB5
    isplitl [HB6]; · iexact HB6
    isplitl [HO]; · iexact HO
    isplitl [HR0]; · iexact HR0
    isplitl [HR1]; · iexact HR1
    iexact HX
  refine retB ?_
  refine stage (R := fun _ => T3 d i arg7 arg8 arg9 (chunkS (wid i) J D (tailS (wid i) J D s) (nch (wid i))) iprop(In5 d i arg2 arg5 arg10.sem q fd D (nch (wid i)) ∗ In6 d i arg3 arg6 arg11.sem q fi J (nch (wid i)) ∗ Free5 d i arg5 (256 * ((nch (wid i) + 1) % 2)) ∗ Free6 d i arg6 (256 * ((nch (wid i) + 1) % 2)) ∗ Ow d i O W ∗ semVal (thr d i, SemLoc.dma v313_r0.sem) 0 ∗ semVal (thr d i, SemLoc.dma v313_r1.sem) 0 ∗ Fr))
    (loopR (fun k => T3 d i arg7 arg8 arg9 (chunkS (wid i) J D (tailS (wid i) J D s) k)
      iprop(In5 d i arg2 arg5 arg10.sem q fd D k ∗ In6 d i arg3 arg6 arg11.sem q fi J k ∗ Free5 d i arg5 (256 * ((k + 1) % 2)) ∗ Free6 d i arg6 (256 * ((k + 1) % 2)) ∗ Ow d i O W ∗ semVal (thr d i, SemLoc.dma v313_r0.sem) 0 ∗ semVal (thr d i, SemLoc.dma v313_r1.sem) 0 ∗ Fr)) (trips3 i) (fun k acc => ?_)) (fun _ => ?_)
  · have hk : k.val < nch (wid i) := trips3 i ▸ k.isLt
    refine T3_fr (Fr' := iprop(Fly5 d i arg2 arg5 arg10.sem (256 * (k.val % 2)) (256 * (c0w (wid i) + k.val)) q fd D ∗ Ow d i O W ∗ Fly6 d i arg3 arg6 arg11.sem (256 * (k.val % 2)) (256 * (c0w (wid i) + k.val)) q fi J ∗ Free5 d i arg5 (256 * ((k.val + 1) % 2)) ∗ Free6 d i arg6 (256 * ((k.val + 1) % 2)) ∗ semVal (thr d i, SemLoc.dma v313_r0.sem) 0 ∗ semVal (thr d i, SemLoc.dma v313_r1.sem) 0 ∗ Fr)) ?_ ?_
    · unfold In5 In6; rw [if_pos hk, if_pos hk]
      iintro ⟨HF5, HF6, HE5, HE6, HO, HR0, HR1, HX⟩
      isplitl [HF5]; · iexact HF5
      isplitl [HO]; · iexact HO
      isplitl [HF6]; · iexact HF6
      isplitl [HE5]; · iexact HE5
      isplitl [HE6]; · iexact HE6
      isplitl [HR0]; · iexact HR0
      isplitl [HR1]; · iexact HR1
      iexact HX
    refine wait5 ?_
    refine T3_fr (Fr' := iprop(Fly6 d i arg3 arg6 arg11.sem (256 * (k.val % 2)) (256 * (c0w (wid i) + k.val)) q fi J ∗ Ow d i O W ∗ Got5 d i arg5 (256 * (k.val % 2)) (256 * (c0w (wid i) + k.val)) D ∗ All2 d i arg2 q fd ∗ semVal (thr d i, SemLoc.dma arg10.sem) 0 ∗ Free5 d i arg5 (256 * ((k.val + 1) % 2)) ∗ Free6 d i arg6 (256 * ((k.val + 1) % 2)) ∗ semVal (thr d i, SemLoc.dma v313_r0.sem) 0 ∗ semVal (thr d i, SemLoc.dma v313_r1.sem) 0 ∗ Fr)) ?_ ?_
    · iintro ⟨HG5, HL2, HS0, HO, HF6, HE5, HE6, HR0, HR1, HX⟩
      isplitl [HF6]; · iexact HF6
      isplitl [HO]; · iexact HO
      isplitl [HG5]; · iexact HG5
      isplitl [HL2]; · iexact HL2
      isplitl [HS0]; · iexact HS0
      isplitl [HE5]; · iexact HE5
      isplitl [HE6]; · iexact HE6
      isplitl [HR0]; · iexact HR0
      isplitl [HR1]; · iexact HR1
      iexact HX
    refine wait6 ?_
    refine retB ?_
    refine ifJp0 (P' := T3 d i arg7 arg8 arg9 (chunkS (wid i) J D (tailS (wid i) J D s) k.val) iprop(Got5 d i arg5 (256 * (k.val % 2)) (256 * (c0w (wid i) + k.val)) D ∗ Got6 d i arg6 (256 * (k.val % 2)) (256 * (c0w (wid i) + k.val)) J ∗ In5 d i arg2 arg5 arg10.sem q fd D (k.val + 1) ∗ In6 d i arg3 arg6 arg11.sem q fi J (k.val + 1) ∗ Ow d i O W ∗ semVal (thr d i, SemLoc.dma v313_r0.sem) 0 ∗ semVal (thr d i, SemLoc.dma v313_r1.sem) 0 ∗ Fr)) (fun h1 hK => ?_) (fun h1 => ?_) ?_
    · have hk' := (more_iff i k).1 h1
      refine T3_fr (Fr' := iprop(Free5 d i arg5 (256 * ((k.val + 1) % 2)) ∗ All2 d i arg2 q fd ∗ semVal (thr d i, SemLoc.dma arg10.sem) 0 ∗ Free6 d i arg6 (256 * ((k.val + 1) % 2)) ∗ All3 d i arg3 q fi ∗ semVal (thr d i, SemLoc.dma arg11.sem) 0 ∗ Got5 d i arg5 (256 * (k.val % 2)) (256 * (c0w (wid i) + k.val)) D ∗ Got6 d i arg6 (256 * (k.val % 2)) (256 * (c0w (wid i) + k.val)) J ∗ Ow d i O W ∗ semVal (thr d i, SemLoc.dma v313_r0.sem) 0 ∗ semVal (thr d i, SemLoc.dma v313_r1.sem) 0 ∗ Fr)) ?_ ?_
      · iintro ⟨HG6, HL3, HS1, HO, HG5, HL2, HS0, HE5, HE6, HR0, HR1, HX⟩
        isplitl [HE5]; · iexact HE5
        isplitl [HL2]; · iexact HL2
        isplitl [HS0]; · iexact HS0
        isplitl [HE6]; · iexact HE6
        isplitl [HL3]; · iexact HL3
        isplitl [HS1]; · iexact HS1
        isplitl [HG5]; · iexact HG5
        isplitl [HG6]; · iexact HG6
        isplitl [HO]; · iexact HO
        isplitl [HR0]; · iexact HR0
        isplitl [HR1]; · iexact HR1
        iexact HX
      refine start5 (off162 i k) (off163 i k) hD ?_
      refine T3_fr (Fr' := iprop(Free6 d i arg6 (256 * ((k.val + 1) % 2)) ∗ All3 d i arg3 q fi ∗ semVal (thr d i, SemLoc.dma arg11.sem) 0 ∗ Fly5 d i arg2 arg5 arg10.sem (256 * ((k.val + 1) % 2)) (256 * (c0w (wid i) + (k.val + 1))) q fd D ∗ Got5 d i arg5 (256 * (k.val % 2)) (256 * (c0w (wid i) + k.val)) D ∗ Got6 d i arg6 (256 * (k.val % 2)) (256 * (c0w (wid i) + k.val)) J ∗ Ow d i O W ∗ semVal (thr d i, SemLoc.dma v313_r0.sem) 0 ∗ semVal (thr d i, SemLoc.dma v313_r1.sem) 0 ∗ Fr)) ?_ ?_
      · iintro ⟨HM5, HE6, HL3, HS1, HG5, HG6, HO, HR0, HR1, HX⟩
        isplitl [HE6]; · iexact HE6
        isplitl [HL3]; · iexact HL3
        isplitl [HS1]; · iexact HS1
        isplitl [HM5]; · iexact HM5
        isplitl [HG5]; · iexact HG5
        isplitl [HG6]; · iexact HG6
        isplitl [HO]; · iexact HO
        isplitl [HR0]; · iexact HR0
        isplitl [HR1]; · iexact HR1
        iexact HX
      refine start6 (off164 i k) (off165 i k) hJ ?_
      refine T3_fr ?_ hK
      unfold In5 In6
      rw [if_pos hk', if_pos hk']
      iintro ⟨HM6, HM5, HG5, HG6, HO, HR0, HR1, HX⟩
      isplitl [HG5]; · iexact HG5
      isplitl [HG6]; · iexact HG6
      isplitl [HM5]; · iexact HM5
      isplitl [HM6]; · iexact HM6
      isplitl [HO]; · iexact HO
      isplitl [HR0]; · iexact HR0
      isplitl [HR1]; · iexact HR1
      iexact HX
    · have hk' : ¬ k.val + 1 < nch (wid i) := fun h => h1 ((more_iff i k).2 h)
      refine T3_fr ?_ .rfl
      unfold In5 In6
      rw [if_neg hk', if_neg hk']
      iintro ⟨HG6, HL3, HS1, HO, HG5, HL2, HS0, HE5, HE6, HR0, HR1, HX⟩
      isplitl [HG5]; · iexact HG5
      isplitl [HG6]; · iexact HG6
      isplitl [HE5 HL2 HS0]
      · isplitl [HE5]; · iexact HE5
        isplitl [HL2]; · iexact HL2
        iexact HS0
      isplitl [HE6 HL3 HS1]
      · isplitl [HE6]; · iexact HE6
        isplitl [HL3]; · iexact HL3
        iexact HS1
      isplitl [HO]; · iexact HO
      isplitl [HR0]; · iexact HR0
      isplitl [HR1]; · iexact HR1
      iexact HX
    refine T3_fr (Fr' := Slot d i arg5 arg6 (256 * (k.val % 2)) (sh2 D (256 * (c0w (wid i) + k.val)) (256 * (k.val % 2))) (sh1 J (256 * (c0w (wid i) + k.val)) (256 * (k.val % 2))) iprop(In5 d i arg2 arg5 arg10.sem q fd D (k.val + 1) ∗ In6 d i arg3 arg6 arg11.sem q fi J (k.val + 1) ∗ Ow d i O W ∗ semVal (thr d i, SemLoc.dma v313_r0.sem) 0 ∗ semVal (thr d i, SemLoc.dma v313_r1.sem) 0 ∗ Fr)) ?_ ?_
    · unfold Slot Got5 Got6
      exact .rfl
    refine stage (R := fun _ => T3 d i arg7 arg8 arg9 (chunkS (wid i) J D (tailS (wid i) J D s) (k.val + 1)) iprop(In5 d i arg2 arg5 arg10.sem q fd D (k.val + 1) ∗ In6 d i arg3 arg6 arg11.sem q fi J (k.val + 1) ∗ Free5 d i arg5 (256 * ((k.val + 1 + 1) % 2)) ∗ Free6 d i arg6 (256 * ((k.val + 1 + 1) % 2)) ∗ Ow d i O W ∗ semVal (thr d i, SemLoc.dma v313_r0.sem) 0 ∗ semVal (thr d i, SemLoc.dma v313_r1.sem) 0 ∗ Fr)) ?_ (fun _ => wret .rfl)
    refine wpost (main_loop hv2 (hpk k.val) fun r hr => hJb _) fun _ => ?_
    rw [chunkS_succ]
    refine T3_fr ?_ .rfl
    unfold Slot
    rw [show (k.val + 1 + 1) % 2 = k.val % 2 by omega]
    iintro ⟨HG5, HG6, HN5, HN6, HO, HR0, HR1, HX⟩
    isplitl [HN5]; · iexact HN5
    isplitl [HN6]; · iexact HN6
    isplitl [HG5]; · iapply (got5_free (F := F) (b := 256 * (c0w (wid i) + k.val)) (D := D)); unfold Got5; iexact HG5
    isplitl [HG6]; · iapply (got6_free (F := F) (b := 256 * (c0w (wid i) + k.val)) (J := J)); unfold Got6; iexact HG6
    isplitl [HO]; · iexact HO
    isplitl [HR0]; · iexact HR0
    isplitl [HR1]; · iexact HR1
    iexact HX

  refine T3_fr (Fr' := iprop(Free5 d i arg5 0 ∗ All2 d i arg2 q fd ∗ semVal (thr d i, SemLoc.dma arg10.sem) 0 ∗ Free6 d i arg6 0 ∗ All3 d i arg3 q fi ∗ semVal (thr d i, SemLoc.dma arg11.sem) 0 ∗ Ow d i O W ∗ Free5 d i arg5 256 ∗ Free6 d i arg6 256 ∗ semVal (thr d i, SemLoc.dma v313_r0.sem) 0 ∗ semVal (thr d i, SemLoc.dma v313_r1.sem) 0 ∗ Fr)) ?_ ?_
  · unfold In5 In6
    rw [if_neg (Nat.lt_irrefl _), if_neg (Nat.lt_irrefl _)]
    rcases Nat.mod_two_eq_zero_or_one (nch (wid i)) with h2 | h2
    · rw [h2, show (nch (wid i) + 1) % 2 = 1 by omega]
      iintro ⟨⟨HA5, HL2, HS0⟩, ⟨HA6, HL3, HS1⟩, HB5, HB6, HO, HR0, HR1, HX⟩
      isplitl [HA5]; · iexact HA5
      isplitl [HL2]; · iexact HL2
      isplitl [HS0]; · iexact HS0
      isplitl [HA6]; · iexact HA6
      isplitl [HL3]; · iexact HL3
      isplitl [HS1]; · iexact HS1
      isplitl [HO]; · iexact HO
      isplitl [HB5]; · iexact HB5
      isplitl [HB6]; · iexact HB6
      isplitl [HR0]; · iexact HR0
      isplitl [HR1]; · iexact HR1
      iexact HX
    · rw [h2, show (nch (wid i) + 1) % 2 = 0 by omega]
      iintro ⟨⟨HB5, HL2, HS0⟩, ⟨HB6, HL3, HS1⟩, HA5, HA6, HO, HR0, HR1, HX⟩
      isplitl [HA5]; · iexact HA5
      isplitl [HL2]; · iexact HL2
      isplitl [HS0]; · iexact HS0
      isplitl [HA6]; · iexact HA6
      isplitl [HL3]; · iexact HL3
      isplitl [HS1]; · iexact HS1
      isplitl [HO]; · iexact HO
      isplitl [HB5]; · iexact HB5
      isplitl [HB6]; · iexact HB6
      isplitl [HR0]; · iexact HR0
      isplitl [HR1]; · iexact HR1
      iexact HX
  refine stage (loopR (fun _ => T3 d i arg7 arg8 arg9 (chunkS (wid i) J D (tailS (wid i) J D s) (nch (wid i))) iprop(Free5 d i arg5 0 ∗ All2 d i arg2 q fd ∗ semVal (thr d i, SemLoc.dma arg10.sem) 0 ∗ Free6 d i arg6 0 ∗ All3 d i arg3 q fi ∗ semVal (thr d i, SemLoc.dma arg11.sem) 0 ∗ Ow d i O W ∗ Free5 d i arg5 256 ∗ Free6 d i arg6 256 ∗ semVal (thr d i, SemLoc.dma v313_r0.sem) 0 ∗ semVal (thr d i, SemLoc.dma v313_r1.sem) 0 ∗ Fr)) (trips5 i) (fun k _ => absurd (lt_of_lt_of_eq k.isLt (trips5 i)) (Nat.not_lt_zero _))) (fun _ => ?_)
  refine head ?_ ?_
  · exact fun r a => chkp _ (hpk _) r a
  refine wret ?_
  iintro H
  isplitr; · ipureintro; rfl
  iexact H

end Cert.Proof.SegMax
end
-- ==== Proof.CopyOut.lean ====
/-
  The tile's copy of its accumulator's first 256 rows to its row of the partial results.
-/
module

public import proofs.«01_k».proof.Proof.Copies

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Transfers

section

variable (d : Dev nD) (i : grid0.Coords) (arg4 : Memref sig .scVector .hbm S32x32768 .f32)

/-- The elements of row `w` of the partial results. -/
def row4 (w : ℕ) : Finset (Idx (arg4.view.loc (thr d i))) :=
  arg4.view.setOn (Finset.univ.filter fun j : S32x32768.Idx => (j 0).val = w)

/-- Row `w` of the partial results, whatever it holds. -/
def Row (w : ℕ) : sProp (MM F) :=
  iprop(∃ f : Buf (Elt F) (arg4.view.loc (thr d i)), arg4.view.loc (thr d i) ↦[row4 d i arg4 w]{fullShare} f)

/-- Row `w` of the partial results holding the words `a`. -/
def RowAt (w : ℕ) (a : ℕ → F .f32) : sProp (MM F) :=
  iprop(∃ f : Buf (Elt F) (arg4.view.loc (thr d i)), (arg4.view.loc (thr d i) ↦[row4 d i arg4 w]{fullShare} f)
    ∗ ⌜∀ j : S32x32768.Idx, (j 0).val = w → arg4.view.read (Elt F) f j = a (j 1).val⌝)

end

section

variable {d : Dev nD} {i : grid0.Coords} {arg4 : Memref sig .scVector .hbm S32x32768 .f32}
variable {arg7 : Memref sig .scVector .vmem S32896 .f32} {arg8 : Memref sig .scVector .vmem S128 .f32} {arg9 : Memref sig .scVector .smem S1 .i32}
variable {α : Type} {Q : α → sProp (MM F)}

theorem mem_row4 (w : ℕ) (j : S32x32768.Idx) :
    (∀ a : Fin 2, (![w, 0] : Fin 2 → ℕ) a ≤ (j a).val ∧ (j a).val < (![w, 0] : Fin 2 → ℕ) a + S1x32768.size a) ↔ (j 0).val = w := by
  constructor
  · intro h
    have h0 : w ≤ (j 0).val ∧ (j 0).val < w + 1 := h 0
    omega
  · intro h a
    refine Fin.cases ?_ (fun a => Fin.cases ?_ (fun a => a.elim0) a) a
    · show w ≤ (j 0).val ∧ (j 0).val < w + 1
      omega
    · exact ⟨Nat.zero_le _, (Nat.zero_add 32768).symm ▸ (j 1).isLt⟩

theorem set_row4 {off : Fin 2 → ℕ} {p4 : ∀ a, off a + S1x32768.size a ≤ S32x32768.size a} (w : ℕ) (hw : off = ![w, 0]) :
    ((arg4.slice (Rect.unit (s := S32x32768) off S1x32768.size p4) (fun _ => rfl)).squeeze S32768 squeezes_S1x32768_S32768).view.set = row4 d i arg4 w := by
  subst hw
  refine (View.set_reshape ..).trans ((View.set_slice ..).trans ?_)
  unfold row4 View.setOn
  refine congrArg (Finset.map _) (Finset.ext fun j => ?_)
  rw [Rect.mem_set_unit]
  simp only [Finset.mem_filter, Finset.mem_univ, true_and]
  exact mem_row4 w j

/-- What the copy leaves in the row. -/
theorem landed4 {off : Fin 2 → ℕ} {p4 : ∀ a, off a + S1x32768.size a ≤ S32x32768.size a} {p7 : ∀ a, (![0] : Fin 1 → ℕ) a + S32768.size a ≤ S32896.size a} {w : ℕ}
    {f7 : Buf (Elt F) (arg7.view.loc (thr d i))} {f : Buf (Elt F) (arg4.view.loc (thr d i))} {a : ℕ → F .f32}
    (hw : off = ![w, 0]) (h7 : ∀ j, arg7.view.read (Elt F) f7 j = c1 a j) (j : S32x32768.Idx) (hj : (j 0).val = w) :
    arg4.view.read (Elt F) (((arg4.slice (Rect.unit (s := S32x32768) off S1x32768.size p4) (fun _ => rfl)).squeeze S32768 squeezes_S1x32768_S32768).view.write (Elt F) f ((arg7.slice (Rect.unit (s := S32896) ![0] S32768.size p7) (fun _ => rfl)).view.read (Elt F) f7) Finset.univ) j = a (j 1).val := by
  subst hw
  have hj1 : (j 1).val < 32768 := (j 1).isLt
  let x : S32768.Idx := fun a => ⟨(j 1).val, lt_of_lt_of_eq hj1 (by rw [Subsingleton.elim a 0]; rfl)⟩
  have hx : (Shape.reshapeEquiv (s := S1x32768) (s' := S32768) squeezes_S1x32768_S32768.numel_eq x) = (Fin.cons (⟨0, Nat.one_pos⟩ : Fin 1) x : S1x32768.Idx) :=
    shapeCast_dropUnit_apply (α := S1x32768.Idx) ![32768] (fun y => y) squeezes_S1x32768_S32768.numel_eq x
  have he : ((arg4.slice (Rect.unit (s := S32x32768) ![w, 0] S1x32768.size p4) (fun _ => rfl)).squeeze S32768 squeezes_S1x32768_S32768).view.emb x = arg4.view.emb j := by
    show arg4.view.emb ((Rect.unit (s := S32x32768) ![w, 0] S1x32768.size p4).emb (Shape.reshapeEquiv _ x)) = _
    rw [hx]
    congr 1
    funext k
    refine Fin.cases ?_ (fun k => Fin.cases ?_ (fun k => k.elim0) k) k
    · refine Fin.ext ?_
      show w + 1 * 0 = (j 0).val
      omega
    · refine Fin.ext ?_
      show 0 + 1 * (j 1).val = (j 1).val
      omega
  rw [View.read_apply, ← he, View.write_emb_of_mem _ _ (Finset.mem_univ _), cast_cast, cast_eq]
  refine (h7 _).trans ?_
  show a (0 + 1 * (j 1).val) = _
  rw [Nat.one_mul, Nat.zero_add]

/-- A copy's credit. -/
def N4 (arg4 : Memref sig .scVector .hbm S32x32768 .f32) : ℕ :=
  ((arg4.slice (Rect.unit (s := S32x32768) ![0, 0] S1x32768.size (by decide)) (fun _ => rfl)).squeeze S32768 squeezes_S1x32768_S32768).view.dmaCredit

/-- The words of the accumulator that are copied out. -/
def src7 (d : Dev nD) (i : grid0.Coords) (arg7 : Memref sig .scVector .vmem S32896 .f32) : Finset (Idx (arg7.view.loc (thr d i))) :=
  (arg7.slice (Rect.unit (s := S32896) ![0] S32768.size inb_S32896_S32768_0) (fun _ => rfl)).view.set

/-- The copy of the accumulator to row `w` in flight, and the rest of the accumulator. -/
def Fly4 (d : Dev nD) (i : grid0.Coords) (arg4 : Memref sig .scVector .hbm S32x32768 .f32) (arg7 : Memref sig .scVector .vmem S32896 .f32) (sm : DmaSem sig) (w : ℕ) (a : ℕ → F .f32) : sProp (MM F) :=
  iprop(∃ f7 : Buf (Elt F) (arg7.view.loc (thr d i)), Flight (countersEmb (U := UU)) (thr d i) (.dma sm) none (N4 arg4)
      iprop(RowAt d i arg4 w a ∗ (arg7.view.loc (thr d i) ↦[src7 d i arg7]{fullShare} f7))
    ∗ (arg7.view.loc (thr d i) ↦[Finset.univ \ src7 d i arg7]{fullShare} f7) ∗ ⌜∀ j, arg7.view.read (Elt F) f7 j = c1 a j⌝)

/-- The running segment's buffers, besides the accumulator. -/
def T2 (d : Dev nD) (i : grid0.Coords) (arg8 : Memref sig .scVector .vmem S128 .f32) (arg9 : Memref sig .scVector .smem S1 .i32) (s : SS F) (Fr : sProp (MM F)) : sProp (MM F) :=
  iprop(Held (F := F) d i arg8 (c1 s.cur) ∗ Held (F := F) d i arg9 (fun _ => s.prev) ∗ Fr)

/-- The accumulator's copy started. -/
theorem out_start {s : SS F} {sm : DmaSem sig} {off : Fin 2 → ℕ} {p4 : ∀ a, off a + S1x32768.size a ≤ S32x32768.size a} {p7 : ∀ a, (![0] : Fin 1 → ℕ) a + S32768.size a ≤ S32896.size a} {w : ℕ}
    {hsrc hdst} {hsem : DmaTarget.Typed (nD := nD) (τ := τ) (p := (thr d i).2) (.core .vmem) (.dma sm) (.here ((arg4.slice (Rect.unit (s := S32x32768) off S1x32768.size p4) (fun _ => rfl)).squeeze S32768 squeezes_S1x32768_S32768))}
    {Fr : sProp (MM F)} {k : PUnit → TProg F i α} (hw : off = ![w, 0])
    (h : T2 d i arg8 arg9 s iprop(Fly4 d i arg4 arg7 sm w s.acc ∗ Fr) ⊢ WP d i (k ⟨⟩) Q) :
    T3 d i arg7 arg8 arg9 s iprop(Row d i arg4 w ∗ semVal (thr d i, .dma sm) 0 ∗ Fr)
      ⊢ WP d i (.op (.enqueueDmaAs (arg7.slice (Rect.unit (s := S32896) ![0] S32768.size p7) (fun _ => rfl)) (.here ((arg4.slice (Rect.unit (s := S32x32768) off S1x32768.size p4) (fun _ => rfl)).squeeze S32768 squeezes_S1x32768_S32768)) .same (.dma sm) hsrc hdst hsem) k) Q := by
  refine BIBase.Entails.trans ?_ (BIBase.Entails.trans (?_ : iprop((∃ f7 : Buf (Elt F) (arg7.view.loc (thr d i)), (arg7.view.loc (thr d i) ↦[Finset.univ]{fullShare} f7) ∗ ⌜∀ j, arg7.view.read (Elt F) f7 j = c1 s.acc j⌝) ∗ T2 d i arg8 arg9 s iprop((∃ f : Buf (Elt F) (arg4.view.loc (thr d i)), arg4.view.loc (thr d i) ↦[row4 d i arg4 w]{fullShare} f) ∗ semVal (thr d i, .dma sm) 0 ∗ Fr)) ⊢ _) .rfl)
  · unfold T3 Held HeldOn T2 Row
    iintro ⟨⟨%f7, H7, %h7⟩, HR⟩
    isplitl [H7]
    · iexists f7
      isplitl [H7]; · iexact H7
      ipureintro; exact fun j => h7 j trivial
    · iexact HR
  unfold T2 at *
  iintro ⟨⟨%f7, H7, %h7⟩, H8, H9, ⟨%f, Hf⟩, Hv, HF⟩
  ihave H7' := (pointsTo_split_subset (Finset.subset_univ (src7 d i arg7))).1 $$ H7
  icases H7' with ⟨H7, Hr⟩
  iapply (wp_dmaLocal (countersEmb (U := UU)) 𝒱₀ (thr d i) none
    (src := (arg7.slice (Rect.unit (s := S32896) ![0] S32768.size p7) (fun _ => rfl))) (via := .same)
    (dst := ((arg4.slice (Rect.unit (s := S32x32768) off S1x32768.size p4) (fun _ => rfl)).squeeze S32768 squeezes_S1x32768_S32768)) (sm := .dma sm)
    (q := fullShare) (fs := f7) (fd := f) (Sd := row4 d i arg4 w) none (N4 arg4) rfl (View.dmaCredit_pos _ (by decide))
    (set_row4 w hw).le) $$ [H7 Hf Hv]
  · isplitl [H7]; · iexact H7
    isplitl [Hf] <;> iassumption
  iintro Hfl
  iapply h
  isplitl [H8]; · iexact H8
  isplitl [H9]; · iexact H9
  isplitl [Hfl Hr]
  · unfold Fly4
    iexists f7
    isplitl [Hfl]
    · iapply (Flight_mono (countersEmb (U := UU)) (thr d i) ?_) $$ Hfl
      iintro ⟨Hd, Hs⟩
      isplitl [Hd]
      · unfold RowAt
        iexists _
        isplitl [Hd]; · iexact Hd
        ipureintro
        exact fun j hj => landed4 hw h7 j hj
      · iexact Hs
    isplitl [Hr]; · iexact Hr
    ipureintro; exact h7
  · iexact HF

/-- Waiting for it. -/
theorem out_wait {s : SS F} {sm : DmaSem sig} {off : Fin 2 → ℕ} {p4 : ∀ a, off a + S1x32768.size a ≤ S32x32768.size a} {p7 : ∀ a, (![0] : Fin 1 → ℕ) a + S32768.size a ≤ S32896.size a} {w : ℕ}
    {hsrc hdst} {O : CellTallies nD τ sig (HIx 1)} {W : Waits sig (HIx 1)}
    {Fr : sProp (MM F)} {k : PUnit → TProg F i α}
    (h : T3 d i arg7 arg8 arg9 s iprop(RowAt d i arg4 w s.acc ∗ semVal (thr d i, .dma sm) 0 ∗ Ow d i O W ∗ Fr) ⊢ WP d i (k ⟨⟩) Q) :
    T2 d i arg8 arg9 s iprop(Fly4 d i arg4 arg7 sm w s.acc ∗ Ow d i O W ∗ Fr)
      ⊢ WP d i (.op (.waitDma2 sm (arg7.slice (Rect.unit (s := S32896) ![0] S32768.size p7) (fun _ => rfl)) ((arg4.slice (Rect.unit (s := S32x32768) off S1x32768.size p4) (fun _ => rfl)).squeeze S32768 squeezes_S1x32768_S32768) hsrc hdst) k) Q := by
  unfold T2 Fly4 Ow at *
  iintro ⟨H8, H9, ⟨%f7, Hfl, Hr, %h7⟩, ⟨%W', %hW', HO, #HM⟩, HF⟩
  ihave HM' := (MayWaits.elim (SemLoc.dma sm)) $$ HM
  iapply (wp_waitLocalO (countersEmb (U := UU)) 𝒱₀ (thr d i) none
    (srcw := (arg7.slice (Rect.unit (s := S32896) ![0] S32768.size p7) (fun _ => rfl))) (dstw := ((arg4.slice (Rect.unit (s := S32x32768) off S1x32768.size p4) (fun _ => rfl)).squeeze S32768 squeezes_S1x32768_S32768)) none (N := N4 arg4) rfl) $$ [Hfl HO HM']
  · isplitl [Hfl]; · iexact Hfl
    isplitl [HO] <;> iassumption
  iintro ⟨⟨Hg, Hs⟩, Hv, HO⟩
  iapply h
  unfold T3 Held HeldOn
  isplitl [Hs Hr]
  · iexists f7
    isplitl [Hs Hr]
    · iapply (pointsTo_split_subset (Finset.subset_univ (src7 d i arg7))).2
      isplitl [Hs] <;> iassumption
    ipureintro; exact fun j _ => h7 j
  isplitl [H8]; · iexact H8
  isplitl [H9]; · iexact H9
  isplitl [Hg]; · iexact Hg
  isplitl [Hv]; · iexact Hv
  isplitl [HO]
  · iexists _
    isplitr
    rotate_left
    · isplitl [HO]
      · iexact HO
      · iexact HM
    · ipureintro
      intro p hp
      rcases Finset.mem_insert.mp hp with rfl | hp
      · exact Or.inr rfl
      · exact hW' p hp
  · iexact HF
end

end Cert.Proof.SegMax
end
-- ==== Proof.Body.lean ====
/-
  The tile's whole body: from its buffers and its shares of the rows and ids to its row of the partial results.
-/
module

public import proofs.«01_k».proof.Proof.ChunkPart
public import proofs.«01_k».proof.Proof.CopyOut

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The tile's state when its chunks are done. -/
def endS (w : ℕ) (J : ℕ → BitVec 32) (D : ℕ → ℕ → F .f32) : SS F :=
  chunkS w J D (tailS w J D ⟨fun _ => ninf, fun _ => ninf, 256#32⟩) (nch w)

/-- The words tile `w` copies out. -/
def outA (w : ℕ) (J : ℕ → BitVec 32) (D : ℕ → ℕ → F .f32) : ℕ → F .f32 :=
  flushA (endS w J D).acc (endS w J D).cur (endS w J D).prev.toNat

theorem endS_prev {w : ℕ} {J : ℕ → BitVec 32} {D : ℕ → ℕ → F .f32} (hJb : ∀ n, (J n).toNat ≤ 256) : (endS w J D).prev.toNat ≤ 256 :=
  chunkS_prev (tailS_prev (s := ⟨fun _ => ninf, fun _ => ninf, 256#32⟩) (show (256#32).toNat ≤ 256 by decide)) hJb _

set_option maxHeartbeats 4000000 in
/-- The tile's body. -/
theorem body {d : Dev nD} {i : grid0.Coords} {arg2 : Memref sig .scVector .hbm S100000x128 .f32} {harg2 : arg2.IsWhole} {arg3 : Memref sig .scVector .hbm S100000 .i32} {harg3 : arg3.IsWhole} {arg4 : Memref sig .scVector .hbm S32x32768 .f32} {harg4 : arg4.IsWhole} {arg5 : Memref sig .scVector .vmem S512x128 .f32} {harg5 : arg5.IsWhole} {arg6 : Memref sig .scVector .vmem S512 .i32} {harg6 : arg6.IsWhole} {arg7 : Memref sig .scVector .vmem S32896 .f32} {harg7 : arg7.IsWhole} {arg8 : Memref sig .scVector .vmem S128 .f32} {harg8 : arg8.IsWhole} {arg9 : Memref sig .scVector .smem S1 .i32} {harg9 : arg9.IsWhole} {arg10 arg11 v313_r0 v313_r1 v171_r2 : DmaSems sig S_}
    {s : SS F} {q : PosShare TreeShare} {fd : Buf (Elt F) (arg2.view.loc (thr d i))} {fi : Buf (Elt F) (arg3.view.loc (thr d i))} {D : ℕ → ℕ → F .f32} {J : ℕ → BitVec 32} {O : CellTallies nD τ sig (HIx 1)} {W : Waits sig (HIx 1)} {Fr : sProp (MM F)}
    (hD : ∀ j, arg2.view.read (Elt F) fd j = c2 D j) (hJ : ∀ j, arg3.view.read (Elt F) fi j = c1 J j) (hJb : ∀ n, (J n).toNat ≤ 256) :
    T3 d i arg7 arg8 arg9 s iprop(Free5 d i arg5 0 ∗ All2 d i arg2 q fd ∗ semVal (thr d i, SemLoc.dma v313_r0.sem) 0 ∗ Ow d i O W ∗ Free6 d i arg6 0 ∗ All3 d i arg3 q fi ∗ semVal (thr d i, SemLoc.dma v313_r1.sem) 0 ∗ semVal (thr d i, SemLoc.dma arg10.sem) 0 ∗ semVal (thr d i, SemLoc.dma arg11.sem) 0 ∗ Free5 d i arg5 256 ∗ Free6 d i arg6 256 ∗ Row d i arg4 (wid i) ∗ semVal (thr d i, SemLoc.dma v171_r2.sem) 0 ∗ Fr)
      ⊢ WP d i (cc0__phase1_body (F := F) i arg2 harg2 arg3 harg3 arg4 harg4 arg5 harg5 arg6 harg6 arg7 harg7 arg8 harg8 arg9 harg9 arg10 arg11 v313_r0 v313_r1 v171_r2)
        (fun _ => T3 d i arg7 arg8 arg9 ⟨outA (wid i) J D, (endS (wid i) J D).cur, (endS (wid i) J D).prev⟩ iprop(RowAt d i arg4 (wid i) (outA (wid i) J D) ∗ semVal (thr d i, SemLoc.dma v171_r2.sem) 0 ∗ Ow d i O W ∗ Free5 d i arg5 0 ∗ All2 d i arg2 q fd ∗ semVal (thr d i, SemLoc.dma arg10.sem) 0 ∗ Free6 d i arg6 0 ∗ All3 d i arg3 q fi ∗ semVal (thr d i, SemLoc.dma arg11.sem) 0 ∗ Free5 d i arg5 256 ∗ Free6 d i arg6 256 ∗ semVal (thr d i, SemLoc.dma v313_r0.sem) 0 ∗ semVal (thr d i, SemLoc.dma v313_r1.sem) 0 ∗ Fr)) := by
  have hpe : (endS (wid i) J D).prev.toNat ≤ 256 := endS_prev hJb
  refine stage (R := fun _ => T2 d i arg8 arg9 ⟨outA (wid i) J D, (endS (wid i) J D).cur, (endS (wid i) J D).prev⟩ iprop(Fly4 d i arg4 arg7 v171_r2.sem (wid i) (outA (wid i) J D) ∗ Free5 d i arg5 0 ∗ All2 d i arg2 q fd ∗ semVal (thr d i, SemLoc.dma arg10.sem) 0 ∗ Free6 d i arg6 0 ∗ All3 d i arg3 q fi ∗ semVal (thr d i, SemLoc.dma arg11.sem) 0 ∗ Ow d i O W ∗ Free5 d i arg5 256 ∗ Free6 d i arg6 256 ∗ semVal (thr d i, SemLoc.dma v313_r0.sem) 0 ∗ semVal (thr d i, SemLoc.dma v313_r1.sem) 0 ∗ Fr)) ?_ (fun _ => ?_)
  · refine stage first_part (fun r => ?_)
    refine pureR (fun hr => ?_)
    subst hr
    refine stage (chunks_part rfl hD hJ hJb (Nat.le_refl 256)) (fun r => ?_)
    obtain ⟨v58, hw50⟩ := r
    refine pureR (fun hr => ?_)
    have hr' : v58 = (endS (wid i) J D).prev := hr
    subst hr'
    refine flushes (endS (wid i) J D).prev.toNat (offp _ hpe 0 (by decide)) (offp _ hpe 16 (by decide)) (offp _ hpe 32 (by decide)) (offp _ hpe 48 (by decide)) (offp _ hpe 64 (by decide)) (offp _ hpe 80 (by decide)) (offp _ hpe 96 (by decide)) (offp _ hpe 112 (by decide)) ?_
    refine T3_fr (Fr' := iprop(Row d i arg4 (wid i) ∗ semVal (thr d i, SemLoc.dma v171_r2.sem) 0 ∗ Free5 d i arg5 0 ∗ All2 d i arg2 q fd ∗ semVal (thr d i, SemLoc.dma arg10.sem) 0 ∗ Free6 d i arg6 0 ∗ All3 d i arg3 q fi ∗ semVal (thr d i, SemLoc.dma arg11.sem) 0 ∗ Ow d i O W ∗ Free5 d i arg5 256 ∗ Free6 d i arg6 256 ∗ semVal (thr d i, SemLoc.dma v313_r0.sem) 0 ∗ semVal (thr d i, SemLoc.dma v313_r1.sem) 0 ∗ Fr)) ?_ ?_
    · iintro ⟨HA5, HL2, HS0, HA6, HL3, HS1, HO, HB5, HB6, HR0, HR1, HRW, HR2, HX⟩
      isplitl [HRW]; · iexact HRW
      isplitl [HR2]; · iexact HR2
      isplitl [HA5]; · iexact HA5
      isplitl [HL2]; · iexact HL2
      isplitl [HS0]; · iexact HS0
      isplitl [HA6]; · iexact HA6
      isplitl [HL3]; · iexact HL3
      isplitl [HS1]; · iexact HS1
      isplitl [HO]; · iexact HO
      isplitl [HB5]; · iexact HB5
      isplitl [HB6]; · iexact HB6
      isplitl [HR0]; · iexact HR0
      isplitl [HR1]; · iexact HR1
      iexact HX
    refine out_start (off481 i) ?_
    refine wret ?_
    exact .rfl
  · refine BIBase.Entails.trans (?_ : _ ⊢ T2 d i arg8 arg9 ⟨outA (wid i) J D, (endS (wid i) J D).cur, (endS (wid i) J D).prev⟩ iprop(Fly4 d i arg4 arg7 v171_r2.sem (wid i) (outA (wid i) J D) ∗ Ow d i O W ∗ Free5 d i arg5 0 ∗ All2 d i arg2 q fd ∗ semVal (thr d i, SemLoc.dma arg10.sem) 0 ∗ Free6 d i arg6 0 ∗ All3 d i arg3 q fi ∗ semVal (thr d i, SemLoc.dma arg11.sem) 0 ∗ Free5 d i arg5 256 ∗ Free6 d i arg6 256 ∗ semVal (thr d i, SemLoc.dma v313_r0.sem) 0 ∗ semVal (thr d i, SemLoc.dma v313_r1.sem) 0 ∗ Fr)) ?_
    · unfold T2
      refine BIClass.sep_mono .rfl (BIClass.sep_mono .rfl ?_)
      iintro ⟨HFL, HA5, HL2, HS0, HA6, HL3, HS1, HO, HB5, HB6, HR0, HR1, HX⟩
      isplitl [HFL]; · iexact HFL
      isplitl [HO]; · iexact HO
      isplitl [HA5]; · iexact HA5
      isplitl [HL2]; · iexact HL2
      isplitl [HS0]; · iexact HS0
      isplitl [HA6]; · iexact HA6
      isplitl [HL3]; · iexact HL3
      isplitl [HS1]; · iexact HS1
      isplitl [HB5]; · iexact HB5
      isplitl [HB6]; · iexact HB6
      isplitl [HR0]; · iexact HR0
      isplitl [HR1]; · iexact HR1
      iexact HX
    refine out_wait (s := ⟨outA (wid i) J D, (endS (wid i) J D).cur, (endS (wid i) J D).prev⟩) ?_
    refine wret ?_
    exact .rfl

end Cert.Proof.SegMax
end
-- ==== Proof.Tile.lean ====
/-
  One tile's task as the launch hands it over: what the call carries to a tile and back, the tile's scratch buffers and
  semaphores taken out of what it owns, and the task run from them (`tile_body`) by the body's run (Body.lean).
-/
module

public import proofs.«01_k».proof.Proof.Body

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)

local notation "𝕄" => MM F

/-! ## The launch memory -/

variable (m : (ℓ : Loc nD τ sig) → Buf (Elt F) ℓ)

/-- The data, the ids and the partial results, as locations of device `d`. -/
abbrev xLoc (d : Dev nD) : Loc nD τ sig := (SparseCore.T d).loc main_arg0
abbrev iLoc (d : Dev nD) : Loc nD τ sig := (SparseCore.T d).loc main_arg1
abbrev vLoc (d : Dev nD) : Loc nD τ sig := (SparseCore.T d).loc main_v0

/-- The ids are segment numbers. -/
def PreOK : Prop := ∀ (d : Dev nD) (n : S100000.Idx), (m (iLoc d) n : BitVec 32).toNat < 256

/-- The ids and the rows by number (zero and minus infinity past the end). -/
def Jm (d : Dev nD) : ℕ → BitVec 32 := fun n => if h : n < 100000 then m (iLoc d) (fun (a : Fin 1) => match a with | 0 => ⟨n, h⟩) else 0

variable [FloatOps F]

def Dm (d : Dev nD) : ℕ → ℕ → F .f32 := fun n k =>
  if h : n < 100000 ∧ k < 128 then m (xLoc d) (fun (a : Fin 2) => match a with | 0 => ⟨n, h.1⟩ | 1 => ⟨k, h.2⟩) else ninf

/-- The partial results the tiles leave: tile `w`'s accumulator in row `w`. -/
def PART (d : Dev nD) : Buf (Elt F) (vLoc d) := fun (j : S32x32768.Idx) => outA (j 0).val (Jm m d) (Dm m d) (j 1).val

omit [FloatOps F] in
theorem Jm_le (h : PreOK m) (d : Dev nD) (n : ℕ) : (Jm m d n).toNat ≤ 256 := by
  unfold Jm; split
  · exact (h d _).le
  · decide

/-! ## Shares and rows -/

/-- A core's read share of an array, and a tile's. -/
def shC (c : Fin 2) : PosShare TreeShare := dealOf fullShare Finset.univ c
def shT (c : Fin 2) (i : Fin 16) : PosShare TreeShare := dealOf (shC c) Finset.univ i

/-- Row `w` of the partial results. -/
def rowSet (w : ℕ) : Finset S32x32768.Idx := Finset.univ.filter fun j => (j 0).val = w

abbrev xSh (d : Dev nD) (q : PosShare TreeShare) : sProp 𝕄 := xLoc d ↦{q} m (xLoc d)
abbrev iSh (d : Dev nD) (q : PosShare TreeShare) : sProp 𝕄 := iLoc d ↦{q} m (iLoc d)
abbrev vRow (d : Dev nD) (w : ℕ) (f : Buf (Elt F) (vLoc d)) : sProp 𝕄 := vLoc d ↦[rowSet w]{fullShare} f

/-- What the call carries to tile `(c, i)`, and back. -/
abbrev goP (d : Dev nD) (c : Fin 2) (i : Fin 16) : sProp 𝕄 :=
  iprop(xSh m d (shT c i) ∗ iSh m d (shT c i) ∗ vRow d (16 * c.val + i.val) (m (vLoc d)))
abbrev tdP (d : Dev nD) (c : Fin 2) (i : Fin 16) : sProp 𝕄 :=
  iprop(xSh m d (shT c i) ∗ iSh m d (shT c i) ∗ vRow d (16 * c.val + i.val) (PART m d))

section Tile

variable (d : Dev nD) (L : grid0.Coords)

abbrev xV : Memref sig .scVector .hbm S100000x128 .f32 := Memref.whole main_arg0_scv
abbrev iV : Memref sig .scVector .hbm S100000 .i32 := Memref.whole main_arg1_scv
abbrev vV : Memref sig .scVector .hbm S32x32768 .f32 := Memref.whole main_v0_scv
/-- A tile's scratch: the fetched rows and ids, the accumulator, the running maximum, the running segment. -/
abbrev sR : Memref sig .scVector .vmem S512x128 .f32 := Memref.whole cc0_scratch0
abbrev sI : Memref sig .scVector .vmem S512 .i32 := Memref.whole cc0_scratch1
abbrev sA : Memref sig .scVector .vmem S32896 .f32 := Memref.whole cc0_scratch2
abbrev sC : Memref sig .scVector .vmem S128 .f32 := Memref.whole cc0_scratch3
abbrev sP : Memref sig .scVector .smem S1 .i32 := Memref.whole cc0_scratch4

abbrev cL (L : grid0.Coords) : Fin 2 := Fin.cast (show grid0.bound 0 = 2 from rfl) (L 0)
abbrev jL (L : grid0.Coords) : Fin 16 := Fin.cast (show grid0.bound 1 = 16 from rfl) (L 1)

/-! ## The arrays as the tile's memrefs address them -/

theorem read_x (j : S100000x128.Idx) : (xV : Memref sig .scVector .hbm S100000x128 .f32).view.read (Elt F) (m (xLoc d)) j = c2 (Dm m d) j := by
  show m (xLoc d) j = Dm m d (j 0).val (j 1).val
  unfold Dm
  rw [dif_pos ⟨(j 0).isLt, (j 1).isLt⟩]
  congr 1; funext a; match a with | 0 => rfl | 1 => rfl
omit [FloatOps F] in
theorem read_i (j : S100000.Idx) : (iV : Memref sig .scVector .hbm S100000 .i32).view.read (Elt F) (m (iLoc d)) j = c1 (Jm m d) j := by
  show m (iLoc d) j = Jm m d (j 0).val
  have h0 : (j 0).val < 100000 := (j 0).isLt
  unfold Jm
  rw [dif_pos h0]
  congr 1; funext a; match a with | 0 => rfl

omit [FloatOps F] in
theorem row4_eq (w : ℕ) : row4 d L vV w = rowSet w := by
  show ((View.whole main_v0_scv).setOn _ : Finset _) = _
  unfold View.setOn; exact Finset.map_refl

/-- The row the tile's body leaves is the row of `PART`. -/
theorem vRow_of_rowAt : RowAt d L vV (wid L) (outA (wid L) (Jm m d) (Dm m d)) ⊢ (vRow d (16 * (cL L).val + (jL L).val) (PART m d) : sProp 𝕄) := by
  unfold RowAt
  iintro ⟨%f, Hf, %hf⟩
  rw [row4_eq]
  refine Entails.of_eq (pointsTo_congr fun j hj => ?_)
  have hw : (j 0).val = wid L := (Finset.mem_filter.mp hj).2
  show _ = outA (j 0).val (Jm m d) (Dm m d) (j 1).val
  rw [hw]; exact hf j hw

theorem row_of_vRow (f : Buf (Elt F) (vLoc d)) : (vRow d (16 * (cL L).val + (jL L).val) f : sProp 𝕄) ⊢ Row d L vV (wid L) := by
  unfold Row
  rw [row4_eq]
  iintro H
  iexists f; iexact H

theorem all2_eq (q : PosShare TreeShare) : (All2 d L xV q (m (xLoc d)) : sProp 𝕄) = xSh m d q := rfl
theorem all3_eq (q : PosShare TreeShare) : (All3 d L iV q (m (iLoc d)) : sProp 𝕄) = iSh m d q := rfl

/-! ## The fetch buffers' halves -/

omit [FloatOps F] in
theorem slot5_cover : slot5 d L sR 0 ∪ slot5 d L sR 256 = Finset.univ := by
  unfold slot5 View.setOn
  rw [← Finset.map_union, ← Finset.filter_or, Finset.filter_true_of_mem fun j _ => by have : (j 0).val < 512 := (j 0).isLt; omega]
  exact View.set_whole _
omit [FloatOps F] in
theorem slot6_cover : slot6 d L sI 0 ∪ slot6 d L sI 256 = Finset.univ := by
  unfold slot6 View.setOn
  rw [← Finset.map_union, ← Finset.filter_or, Finset.filter_true_of_mem fun j _ => by have : (j 0).val < 512 := (j 0).isLt; omega]
  exact View.set_whole _
omit [FloatOps F] in
theorem slot5_disj : Disjoint (slot5 d L sR 0) (slot5 d L sR 256) :=
  (Finset.disjoint_map _).mpr (Finset.disjoint_filter.mpr fun j _ h => by omega)
omit [FloatOps F] in
theorem slot6_disj : Disjoint (slot6 d L sI 0) (slot6 d L sI 256) :=
  (Finset.disjoint_map _).mpr (Finset.disjoint_filter.mpr fun j _ h => by omega)

theorem free5_split : iprop(∃ f, (thr d L).loc cc0_scratch0 ↦{fullShare} f) ⊢ (iprop(Free5 d L sR 0 ∗ Free5 d L sR 256) : sProp 𝕄) := by
  iintro ⟨%f, H⟩
  ihave H' := ((Entails.of_eq (by rw [slot5_cover])).trans (pointsTo_union (ℓ := (thr d L).loc cc0_scratch0) (f := f) (q := fullShare) (slot5_disj d L)).1) $$ H
  icases H' with ⟨H0, H1⟩
  unfold Free5
  isplitl [H0]; · iexists f; iexact H0
  iexists f; iexact H1
theorem free6_split : iprop(∃ f, (thr d L).loc cc0_scratch1 ↦{fullShare} f) ⊢ (iprop(Free6 d L sI 0 ∗ Free6 d L sI 256) : sProp 𝕄) := by
  iintro ⟨%f, H⟩
  ihave H' := ((Entails.of_eq (by rw [slot6_cover])).trans (pointsTo_union (ℓ := (thr d L).loc cc0_scratch1) (f := f) (q := fullShare) (slot6_disj d L)).1) $$ H
  icases H' with ⟨H0, H1⟩
  unfold Free6
  isplitl [H0]; · iexists f; iexact H0
  iexists f; iexact H1
theorem free5_join : iprop(Free5 d L sR 0 ∗ Free5 d L sR 256) ⊢ (iprop(∃ f, (thr d L).loc cc0_scratch0 ↦{fullShare} f) : sProp 𝕄) := by
  unfold Free5
  iintro ⟨⟨%f, H0⟩, ⟨%g, H1⟩⟩
  iexists ((slot5 d L sR 256).piecewise g f)
  ihave H := ((pointsTo_join (ℓ := (thr d L).loc cc0_scratch0) (f := f) (g := g) (q := fullShare) (slot5_disj d L)).trans (Entails.of_eq (by rw [slot5_cover]))) $$ [H0 H1]
  · isplitl [H0]; · iexact H0
    iexact H1
  iexact H
theorem free6_join : iprop(Free6 d L sI 0 ∗ Free6 d L sI 256) ⊢ (iprop(∃ f, (thr d L).loc cc0_scratch1 ↦{fullShare} f) : sProp 𝕄) := by
  unfold Free6
  iintro ⟨⟨%f, H0⟩, ⟨%g, H1⟩⟩
  iexists ((slot6 d L sI 256).piecewise g f)
  ihave H := ((pointsTo_join (ℓ := (thr d L).loc cc0_scratch1) (f := f) (g := g) (q := fullShare) (slot6_disj d L)).trans (Entails.of_eq (by rw [slot6_cover]))) $$ [H0 H1]
  · isplitl [H0]; · iexact H0
    iexact H1
  iexact H

/-! ## The other scratch, at whatever it holds -/

theorem held7 : iprop(∃ f, (thr d L).loc cc0_scratch2 ↦{fullShare} f) ⊢ (iprop(∃ a : ℕ → F .f32, Held (F := F) d L sA (c1 a)) : sProp 𝕄) := by
  iintro ⟨%f, H⟩
  iexists (fun n => if h : n < 32896 then (sA : Memref sig .scVector .vmem S32896 .f32).view.read (Elt F) f (fun (a : Fin 1) => match a with | 0 => ⟨n, h⟩) else ninf)
  unfold Held HeldOn
  iexists f
  isplitl [H]; · iexact H
  ipureintro
  intro j _
  have h0 : (j 0).val < 32896 := (j 0).isLt
  show _ = dite _ _ _
  rw [dif_pos h0]
  congr 1; funext a; match a with | 0 => rfl
theorem held8 : iprop(∃ f, (thr d L).loc cc0_scratch3 ↦{fullShare} f) ⊢ (iprop(∃ a : ℕ → F .f32, Held (F := F) d L sC (c1 a)) : sProp 𝕄) := by
  iintro ⟨%f, H⟩
  iexists (fun n => if h : n < 128 then (sC : Memref sig .scVector .vmem S128 .f32).view.read (Elt F) f (fun (a : Fin 1) => match a with | 0 => ⟨n, h⟩) else ninf)
  unfold Held HeldOn
  iexists f
  isplitl [H]; · iexact H
  ipureintro
  intro j _
  have h0 : (j 0).val < 128 := (j 0).isLt
  show _ = dite _ _ _
  rw [dif_pos h0]
  congr 1; funext a; match a with | 0 => rfl
theorem held9 : iprop(∃ f, (thr d L).loc cc0_scratch4 ↦{fullShare} f) ⊢ (iprop(∃ p : BitVec 32, Held (F := F) d L sP (fun _ => p)) : sProp 𝕄) := by
  iintro ⟨%f, H⟩
  iexists ((sP : Memref sig .scVector .smem S1 .i32).view.read (Elt F) f (fun (a : Fin 1) => match a with | 0 => ⟨0, by decide⟩))
  unfold Held HeldOn
  iexists f
  isplitl [H]; · iexact H
  ipureintro
  intro j _
  congr 1; funext a; match a with | 0 => exact Fin.ext (by have : (j 0).val < 1 := (j 0).isLt; show (j 0).val = 0; omega)

theorem of_held {cs : CoreSpace} {s : Shape} {e : EltTy} {mm : Memref sig .scVector cs s e} {X : s.Idx → Elt F e} :
    Held (F := F) d L mm X ⊢ (iprop(∃ f, mm.view.loc (thr d L) ↦{fullShare} f) : sProp 𝕄) := by
  unfold Held HeldOn
  iintro ⟨%f, H, -⟩
  iexists f; iexact H

/-! ## The tile's own semaphores and buffers -/

abbrev gD (d : Dev nD) (L : grid0.Coords) : GSem nD τ sig := (thr d L, .dma cc0_scratch5.sem)
abbrev gI (d : Dev nD) (L : grid0.Coords) : GSem nD τ sig := (thr d L, .dma cc0_scratch6.sem)
abbrev g0 (d : Dev nD) (L : grid0.Coords) : GSem nD τ sig := (thr d L, .dma cc0_scoped0.sem)
abbrev g1 (d : Dev nD) (L : grid0.Coords) : GSem nD τ sig := (thr d L, .dma cc0_scoped1.sem)
abbrev g2 (d : Dev nD) (L : grid0.Coords) : GSem nD τ sig := (thr d L, .dma cc0_scoped2.sem)

omit [FloatOps F] in
/-- The five copy semaphores are among the tile's own. -/
theorem ownSems0_V :
    (ownSems0 (thr d L) : sProp 𝕄)
      = iprop(semVal (gD d L) 0 ∗ semVal (gI d L) 0 ∗ semVal (g0 d L) 0 ∗ semVal (g1 d L) 0 ∗ semVal (g2 d L) 0 ∗ bigSep ((((((((((ownCells (thr d L)).erase (gD d L))).erase (gI d L))).erase (g0 d L))).erase (g1 d L))).erase (g2 d L)) fun g => semVal g 0) := by
  unfold SparseCore.Cfg.ownSems0
  rw [SparseCore.bigSep_erase' ((mem_ownCells (g := gD d L)).mpr ⟨rfl, by show (SemLoc.dma cc0_scratch5.sem : SemLoc sig).isScoped .scVector = true; decide⟩),
    SparseCore.bigSep_erase' (Finset.mem_erase.mpr ⟨fun e => absurd (Prod.mk.inj e).2 (show (SemLoc.dma cc0_scratch6.sem : SemLoc sig) ≠ .dma cc0_scratch5.sem by decide), (mem_ownCells (g := gI d L)).mpr ⟨rfl, by show (SemLoc.dma cc0_scratch6.sem : SemLoc sig).isScoped .scVector = true; decide⟩⟩),
    SparseCore.bigSep_erase' (Finset.mem_erase.mpr ⟨fun e => absurd (Prod.mk.inj e).2 (show (SemLoc.dma cc0_scoped0.sem : SemLoc sig) ≠ .dma cc0_scratch6.sem by decide), Finset.mem_erase.mpr ⟨fun e => absurd (Prod.mk.inj e).2 (show (SemLoc.dma cc0_scoped0.sem : SemLoc sig) ≠ .dma cc0_scratch5.sem by decide), (mem_ownCells (g := g0 d L)).mpr ⟨rfl, by show (SemLoc.dma cc0_scoped0.sem : SemLoc sig).isScoped .scVector = true; decide⟩⟩⟩),
    SparseCore.bigSep_erase' (Finset.mem_erase.mpr ⟨fun e => absurd (Prod.mk.inj e).2 (show (SemLoc.dma cc0_scoped1.sem : SemLoc sig) ≠ .dma cc0_scoped0.sem by decide), Finset.mem_erase.mpr ⟨fun e => absurd (Prod.mk.inj e).2 (show (SemLoc.dma cc0_scoped1.sem : SemLoc sig) ≠ .dma cc0_scratch6.sem by decide), Finset.mem_erase.mpr ⟨fun e => absurd (Prod.mk.inj e).2 (show (SemLoc.dma cc0_scoped1.sem : SemLoc sig) ≠ .dma cc0_scratch5.sem by decide), (mem_ownCells (g := g1 d L)).mpr ⟨rfl, by show (SemLoc.dma cc0_scoped1.sem : SemLoc sig).isScoped .scVector = true; decide⟩⟩⟩⟩),
    SparseCore.bigSep_erase' (Finset.mem_erase.mpr ⟨fun e => absurd (Prod.mk.inj e).2 (show (SemLoc.dma cc0_scoped2.sem : SemLoc sig) ≠ .dma cc0_scoped1.sem by decide), Finset.mem_erase.mpr ⟨fun e => absurd (Prod.mk.inj e).2 (show (SemLoc.dma cc0_scoped2.sem : SemLoc sig) ≠ .dma cc0_scoped0.sem by decide), Finset.mem_erase.mpr ⟨fun e => absurd (Prod.mk.inj e).2 (show (SemLoc.dma cc0_scoped2.sem : SemLoc sig) ≠ .dma cc0_scratch6.sem by decide), Finset.mem_erase.mpr ⟨fun e => absurd (Prod.mk.inj e).2 (show (SemLoc.dma cc0_scoped2.sem : SemLoc sig) ≠ .dma cc0_scratch5.sem by decide), (mem_ownCells (g := g2 d L)).mpr ⟨rfl, by show (SemLoc.dma cc0_scoped2.sem : SemLoc sig).isScoped .scVector = true; decide⟩⟩⟩⟩⟩)]

omit [FloatOps F] in
/-- The five scratch buffers are among the tile's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f)
        ∗ bigSep ((((((((((ownRefs (τ := τ) (Proc.scVector ((L 0).castLE hcore0) ((L 1).castLE hsub0))).erase ((Proc.scVector ((L 0).castLE hcore0) ((L 1).castLE hsub0)).devRef cc0_scratch0))).erase ((Proc.scVector ((L 0).castLE hcore0) ((L 1).castLE hsub0)).devRef cc0_scratch1))).erase ((Proc.scVector ((L 0).castLE hcore0) ((L 1).castLE hsub0)).devRef cc0_scratch2))).erase ((Proc.scVector ((L 0).castLE hcore0) ((L 1).castLE hsub0)).devRef cc0_scratch3))).erase ((Proc.scVector ((L 0).castLE hcore0) ((L 1).castLE hsub0)).devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := (Proc.scVector ((L 0).castLE hcore0) ((L 1).castLE hsub0))) (b := (Proc.scVector ((L 0).castLE hcore0) ((L 1).castLE hsub0)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector ((L 0).castLE hcore0) ((L 1).castLE hsub0))) (b := (Proc.scVector ((L 0).castLE hcore0) ((L 1).castLE hsub0)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector ((L 0).castLE hcore0) ((L 1).castLE hsub0))) (b := (Proc.scVector ((L 0).castLE hcore0) ((L 1).castLE hsub0)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector ((L 0).castLE hcore0) ((L 1).castLE hsub0))) (b := (Proc.scVector ((L 0).castLE hcore0) ((L 1).castLE hsub0)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector ((L 0).castLE hcore0) ((L 1).castLE hsub0))) (b := (Proc.scVector ((L 0).castLE hcore0) ((L 1).castLE hsub0)).devRef cc0_scratch4) rfl⟩⟩⟩⟩)]

/-! ## The task -/

/-- The task on the tile at `L` of device `d`, from what the call carries to it, its scratch and its semaphores. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goP m d (cL L) (jL L)
        ∗ scopedBufs (thr d L) ∗ scopedSems0 (thr d L) ∗ owes (thr d L) O W)
      ⊢ wp frame (wpE (defs₀ (F := F)) 𝒱₀ (thr d L) none) Set.univ
          (cc0__phase1_body L xV (Memref.isWhole_whole _) iV (Memref.isWhole_whole _) vV (Memref.isWhole_whole _)
            sR (Memref.isWhole_whole _) sI (Memref.isWhole_whole _) sA (Memref.isWhole_whole _) sC (Memref.isWhole_whole _) sP (Memref.isWhole_whole _)
            cc0_scratch5 cc0_scratch6 cc0_scoped0 cc0_scoped1 cc0_scoped2)
          fun _ => iprop(tdP m d (cL L) (jL L) ∗ scopedBufs (thr d L) ∗ scopedSems0 (thr d L)
            ∗ ∃ W', ⌜∀ p ∈ W', p ∈ W ∨ p.2 = none⌝ ∗ owes (thr d L) O W') := by
  rw [(K (F := F)).scopedBufs_V hF d ((L 0).castLE hcore0) ((L 1).castLE hsub0),
    SparseCore.Cfg.scopedSems0_V (Val := Elt F) d ((L 0).castLE hcore0) ((L 1).castLE hsub0), ownSems0_V, ownBufs_V]
  iintro ⟨#Hlv, -, ⟨Hx, Hi, Hv⟩, ⟨Hb0, Hb1, Hb2, Hb3, Hb4, Hbufs⟩, ⟨HsD, HsI, Hs0, Hs1, Hs2, Hsems⟩, HO⟩
  ihave Hmw := ((K (F := F)).mayWaits_none (thr := thr d L) hO) $$ Hlv
  ihave H5 := (free5_split d L) $$ Hb0
  icases H5 with ⟨HA5, HB5⟩
  ihave H6 := (free6_split d L) $$ Hb1
  icases H6 with ⟨HA6, HB6⟩
  ihave H7 := (held7 d L) $$ Hb2
  icases H7 with ⟨%a0, H7⟩
  ihave H8 := (held8 d L) $$ Hb3
  icases H8 with ⟨%b0, H8⟩
  ihave H9 := (held9 d L) $$ Hb4
  icases H9 with ⟨%p0, H9⟩
  ihave HR := (row_of_vRow d L (m (vLoc d))) $$ Hv
  iapply ((body (s := ⟨a0, b0, p0⟩) (q := shT (cL L) (jL L)) (fd := m (xLoc d)) (fi := m (iLoc d)) (O := O) (W := W)
    (Fr := iprop((bigSep ((((((((((ownRefs (τ := τ) (Proc.scVector ((L 0).castLE hcore0) ((L 1).castLE hsub0))).erase ((Proc.scVector ((L 0).castLE hcore0) ((L 1).castLE hsub0)).devRef cc0_scratch0))).erase ((Proc.scVector ((L 0).castLE hcore0) ((L 1).castLE hsub0)).devRef cc0_scratch1))).erase ((Proc.scVector ((L 0).castLE hcore0) ((L 1).castLE hsub0)).devRef cc0_scratch2))).erase ((Proc.scVector ((L 0).castLE hcore0) ((L 1).castLE hsub0)).devRef cc0_scratch3))).erase ((Proc.scVector ((L 0).castLE hcore0) ((L 1).castLE hsub0)).devRef cc0_scratch4)) fun b => iprop(∃ f, ((d, b) : Loc nD τ sig) ↦{fullShare} f)) ∗ bigSep ((((((((((ownCells (thr d L)).erase (gD d L))).erase (gI d L))).erase (g0 d L))).erase (g1 d L))).erase (g2 d L)) fun g => semVal g 0)) (read_x m d) (read_i m d) (Jm_le m hpre d)).trans (wp_mono frame _ _ fun _ => ?_)) $$ [-]
  swap
  · unfold T3
    isplitl [H7]; · iexact H7
    isplitl [H8]; · iexact H8
    isplitl [H9]; · iexact H9
    isplitl [HA5]; · iexact HA5
    isplitl [Hx]; · iapply (Entails.of_eq (all2_eq m d L _).symm) $$ Hx
    isplitl [Hs0]; · iexact Hs0
    isplitl [HO]
    · unfold Ow
      iexists W
      isplitr; · ipureintro; exact fun p hp => .inl hp
      isplitl [HO]; · iexact HO
      iexact Hmw
    isplitl [HA6]; · iexact HA6
    isplitl [Hi]; · iapply (Entails.of_eq (all3_eq m d L _).symm) $$ Hi
    isplitl [Hs1]; · iexact Hs1
    isplitl [HsD]; · iexact HsD
    isplitl [HsI]; · iexact HsI
    isplitl [HB5]; · iexact HB5
    isplitl [HB6]; · iexact HB6
    isplitl [HR]; · iexact HR
    isplitl [Hs2]; · iexact Hs2
    isplitl [Hbufs]; · iexact Hbufs
    iexact Hsems
  unfold T3 Ow
  iintro ⟨H7, H8, H9, HR, Hs2, ⟨%W', %hW', HO, -⟩, HA5, Hx, HsD, HA6, Hi, HsI, HB5, HB6, Hs0, Hs1, Hbufs, Hsems⟩
  isplitl [Hx Hi HR]
  · isplitl [Hx]; · iapply (Entails.of_eq (all2_eq m d L _)) $$ Hx
    isplitl [Hi]; · iapply (Entails.of_eq (all3_eq m d L _)) $$ Hi
    iapply (vRow_of_rowAt m d L) $$ HR
  isplitl [HA5 HB5 HA6 HB6 H7 H8 H9 Hbufs]
  · isplitl [HA5 HB5]
    · iapply (free5_join d L); isplitl [HA5] <;> iassumption
    isplitl [HA6 HB6]
    · iapply (free6_join d L); isplitl [HA6] <;> iassumption
    isplitl [H7]; · iapply (of_held d L) $$ H7
    isplitl [H8]; · iapply (of_held d L) $$ H8
    isplitl [H9]; · iapply (of_held d L) $$ H9
    iexact Hbufs
  isplitl [HsD HsI Hs0 Hs1 Hs2 Hsems]
  · isplitl [HsD]; · iexact HsD
    isplitl [HsI]; · iexact HsI
    isplitl [Hs0]; · iexact Hs0
    isplitl [Hs1]; · iexact Hs1
    isplitl [Hs2]; · iexact Hs2
    iexact Hsems
  iexists W'
  isplitr; · ipureintro; exact hW'
  iexact HO

end Tile

end Cert.Proof.SegMax

end
-- ==== Proof.Merge.lean ====
/-
  The TensorCore call: it takes the maximum over the thirty-two tiles' partial results. Its body run, and the region it is
  launched as, entered from any contents of the unscoped buffers.
-/
module

public import proofs.«01_k».proof.Proof.Base
public import proofs.«01_k».proof.Proof.Gen.KernelIdeal.Launch
public import Idealize.ShloMosaic.Lib.Pipeline.Regions
public import Idealize.ShloMosaic.Lib.Pipeline.Frame
public import Idealize.ShloMosaic.Lib.Pipeline.RegionArrays
public import Idealize.ShloMosaic.Lib.Pipeline.RegionsLoop
public import Idealize.ShloMosaic.Lib.VecWindow
public import Idealize.ShloMosaic.Lib.Pipeline.ValueKit.Geometry
public import Idealize.ShloMosaic.Lib.SparseCore.Quiescent
public import Idealize.ShloMosaic.Lib.Tactic

@[expose] public section

noncomputable section

namespace Cert.Proof.SegMax

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The maximum over the leading axis, as the body computes it of the block it loads. -/
def mergeV (x : Vec F S32x256x128 .f32) : FVec F S256x128 .f32 :=
  multiReduction .maximumf [0] S256x128 (shapeCast S32x256x128 x shapeCasts_S32x256x128_S32x256x128) 0xFF800000#32 reduces_S32x256x128_S256x128 (.inl rfl) rfl

/-- Memref `M`'s buffer on device `c`: its contents type, and it held whole at `f`. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp (MM F) :=
  M.view.loc (c : Thread nD τ) ↦{fullShare} f

/-- The body from both staging buffers held whole: the first is left as it was, the second at the witness. -/
def mergeRun (c : Dev nD) (M0 : Memref sig .tc .vmem S32x256x128 .f32) (h0 : M0.IsWhole) (M1 : Memref sig .tc .vmem S256x128 .f32) (h1 : M1.IsWhole)
    (f0 : Bf F c M0) :
    { W : Bf F c M1 // ∀ (f1 : Bf F c M1) (E : Set ℕ) (Q : PUnit → sProp (MM F)),
        iprop(pt c M0 f0 ∗ pt c M1 f1 ∗ (iprop(pt c M0 f0 ∗ pt c M1 W) -∗ Q ⟨⟩))
          ⊢ wp frame (wpE (defs₀ (F := F)) 𝒱₀ c none) E (cc1__merge_body M0 h0 M1 h1) Q } := by
  refine ⟨?_, fun f1 E Q => ?run⟩
  case run =>
    iintro ⟨H0, H1, Hk⟩
    sl_exec!
    sl_step
    iapply Hk
    isplitl [H0]; · iexact H0
    iexact H1

/-! ## The proof data, at contents of the unscoped buffers -/

section Region

variable (Vu : (c : Dev nD) → (b : Ref sig .tc) → Buf (Elt F) ((c : Thread nD τ).loc b))

/-- The partial results as the fetch stages them. -/
abbrev stg (c : Dev nD) : (cfg1.win 0).block.Idx → Elt F (cfg1.win 0).elt :=
  ((cfg1.win 0).blk t1_0).view.read (Elt F) (Vu c main_v1)

/-- The run at the staged block. -/
abbrev mrun (c : Dev nD) := mergeRun (F := F) c (stage1_0 0) (hstage1_0 0) (stage1_1 0) (hstage1_1 0) (stg Vu c)

/-- The scoped buffers the pipeline does not stage. -/
abbrev Φc (c : Dev nD) : sProp (MM F) := Pipeline.scopedRest (Ix := HIx 1) (Name := ℕ) (U := UU) (Lvl := ℕ) (Val := Elt F) spec1 c

/-- The call's proof data: the two arrays at the entry contents, the result's staging buffer at the run's witness. -/
def dat (c : Dev nD) : Dat τ (Elt F) (HIx 1) ℕ UU ℕ cfg1 c where
  A w := Vu c (Pipeline.arrRef spec1 w)
  after w _ := match w with
    | ⟨0, _⟩ => stg Vu c
    | ⟨1, _⟩ => (mrun Vu c).1
  Φ _ := Φc c
  q _ := fullShare
  owed _ := 0
  recorded _ := {p | (sc (F := F)).lev ((c : Thread nD τ), p.1) p.2 ≤ 8}

abbrev adm : (p : Fin 1) → (pcfgs (F := F) p).Adm := fun p => (cfgs p).toPCfg_adm
/-- The proof data of every pipeline: there is one. -/
def pdats : (p : Fin 1) → (c : Dev nD) → Dat τ (Elt F) (HIx 1) ℕ UU ℕ (Pipeline.pin (pcfgs (F := F)) adm p) c
  | ⟨0, _⟩ => fun c => dat Vu c

/-- The fetched window's buffer holds the partial results when the body runs. -/
theorem before_in (c : Dev nD) (d : (cfg1.win 0).block.Idx → Elt F (cfg1.win 0).elt) : (dat Vu c).before 0 t1_0 d = stg Vu c := by
  unfold Dat.before; rw [if_pos (by decide)]; rfl

/-- The body's obligation at its one point. -/
theorem body_obligation (c : Dev nD) : BodyObligation (dat Vu c) (defs₀ (F := F)) 𝒱₀ none Set.univ := fun t => by
  obtain rfl := fin_N1 t
  rw [bigSep_W1, bigSep_W1]
  simp only [owns_whole_eq]
  rw [show (dat Vu c).Φ t1_0.castSucc = Φc c from rfl, show (dat Vu c).Φ t1_0.succ = Φc c from rfl,
    show (dat Vu c).owesAt none t1_0.succ = (dat Vu c).owesAt none t1_0.castSucc from rfl]
  iintro ⟨HΦ, Howes, ⟨%d0, %f0, %hf0, H0⟩, ⟨%d1, %f1, -, H1⟩⟩
  rw [before_in] at hf0
  subst hf0
  iapply ((mrun Vu c).2 f1 Set.univ _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat]
  iexists _; isplitr; swap; (· iexact H1); ipureintro; dsimp only [dat]

/-! ## The result -/

/-- The staged block is the whole array. -/
theorem stg_eq (c : Dev nD) : stg Vu c = Vu c main_v1 := by
  funext j
  show Vu c main_v1 (((cfg1.win 0).blk t1_0).view.emb j) = _
  congr 1; funext a; apply Fin.ext
  exact Pipeline.Window.rect_emb_val_of_index_zero _ _ _ ((by decide +kernel : ∀ a, win1_0.index t1_0 a = 0) a) j

/-- The run's witness is the maximum over the partial results. -/
theorem mrun_eq (c : Dev nD) : (mrun Vu c).1 = mergeV (Vu c main_v1) := by
  rw [← stg_eq Vu c]
  unfold mrun mergeRun
  dsimp only
  sl_unfold_words
  have e := View.read_writes_full (Val := Elt F) (View.whole cc1_stg1_0) (View.whole cc1_stg1_0).junk inb_S256x128_S256x128_0_0
    (mergeV (View.readAt (Elt F) (Memref.whole cc1_stg0_0).view (Rect.unit ![0, 0, 0] S32x256x128.size inb_S32x256x128_S32x256x128_0_0_0).toLoadRect (stg Vu c))) []
  rw [View.read_whole] at e
  refine e.trans (congrArg mergeV ?_)
  exact (View.readAt_full (Val := Elt F) (Memref.whole cc1_stg0_0).view (stg Vu c) inb_S32x256x128_S32x256x128_0_0_0).trans (View.read_whole _ _)

/-- The result array after the call. -/
theorem merged_eq (c : Dev nD) : (dat Vu c).arrAt 1 cfg1.N = mergeV (Vu c main_v1) := by
  refine (dat Vu c).arrAt_eq_of_after_last 1 t1_0 (by decide +kernel) _ fun j => ?_
  show (mrun Vu c).1 _ = _
  rw [mrun_eq]; rfl

/-! ## The region -/

variable (Vp : (c : Dev nD) → (b : Ref sig .tc) → Buf (Elt F) ((c : Thread nD τ).loc b))

/-- The thread's debts around the call: none, its recorded waits no higher than the calls' own. -/
abbrev lowOwes (c : Dev nD) : sProp (MM F) :=
  iprop(∃ W, ⌜(sc (F := F)).WBelow (T c) W 8⌝ ∗ owes (c : Thread nD τ) (0 : CellTallies nD τ sig (HIx 1)) W)

set_option backward.isDefEq.respectTransparency.types false in
/-- The TensorCore call over the thread state "every unscoped buffer at `Vu c`, and the thread's debts, none": it is left
    with the result array at the maximum and every other buffer as it was. -/
def reg (hVp_out : ∀ c, Vp c main_v2 = mergeV (Vu c main_v1))
    (hVp_ne : ∀ c (b : Ref sig .tc), b ≠ main_v2 → Vp c b = Vu c b) :
    Pipeline.RegionSeg (pcfgs (F := F)) adm (pdats Vu) none defs₀ 𝒱₀ (sc (F := F)).L (sc (F := F)).lev 0 where
  win := (launch1).win.to₀
  block_pos := (launch1).block_pos
  stage_whole := (launch1).stage_whole
  K := PEmpty
  osem k := k.elim
  ho := Pipeline.OwnSemFacts.none _
  hbody c := (body_obligation Vu c).loose
  hwaits := Pipeline.hwaits_of_owed_zero _ _ _ _ _ _ 0 fun _ _ => rfl
  pre c := iprop(unscopedBufs c (Vu c) ∗ lowOwes c)
  post c := iprop(unscopedBufs c (Vp c) ∗ lowOwes c)
  X _ := BI.emp
  Y _ := BI.emp
  Z c := Pipeline.unscopedRest (Ix := HIx 1) (Name := ℕ) (U := UU) (Lvl := ℕ) spec1 c (Vu c)
  hentry c := by
    rw [Pipeline.ownSems0_none]
    have hsplit := Pipeline.arrays_of_unscopedBufs (p := 0) (pcfgs (F := F)) adm (pdats Vu) (launch1).win (launch1).arr_whole c
      ((pdats Vu 0 c).share_full fun _ => rfl) (Vu c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats Vu 0 c).Φ 0 = Φc c from rfl]
    iintro ⟨-, -, Hr⟩; iexact Hr
  hout c := by
    rw [Pipeline.ownSems0_none, show (pdats Vu 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats Vu) ((pdats Vu 0 c).share_full fun _ => rfl) (Vu c) (Vp c) ((pdats Vu 0 c).arrAt · cfg1.N)
      (fun w => by
        fin_cases w
        · exact ((pdats Vu 0 c).arrAt_in 0 rfl _).trans (hVp_ne c main_v1 (by decide)).symm
        · exact (merged_eq Vu c).trans (hVp_out c).symm)
      (fun b hb => hVp_ne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Region

end Cert.Proof.SegMax

end
-- ==== Proof.Launch.lean ====
/-
  The launch: the SparseCore call's payloads dealt to the tiles and joined back, the launch resources, @main on the
  TensorCore (the call, the reshape, the merge), and the whole program's run (`run_main`): every thread ends, the
  arguments are unchanged, the result is `OUT`, and every semaphore is back at zero.
-/
module

public import proofs.«01_k».proof.Proof.Tile
public import proofs.«01_k».proof.Proof.Merge
public import Idealize.ShloMosaic.Lib.SparseCore.Quiescent
public import Idealize.ShloMosaic.Lib.StableHlo.Run
public import Idealize.ShloMosaic.Lib.Tactic

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe

variable {F : FTy → Type}

local notation "𝕄" => MM F

/-! ## The launch set-up -/

theorem nSub_zero : (K (F := F)).nSub 0 = 16 := rfl
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch rounds' and the pipeline rounds' places in the machine's algebra. -/
def EH : Emb UH (MM F) := embL
def EP : Emb UP (MM F) := (Emb.inl : Emb UP (UP × Counters)).trans embR
instance EH_landsIn : (EH : Emb UH 𝕄).LandsIn (upEmb : UEmb _ 𝕄) := by unfold EH; infer_instance
instance EP_landsIn : (EP : Emb UP 𝕄).LandsIn (upEmb : UEmb _ 𝕄) := by unfold EP; infer_instance

variable [FloatOps F]
variable (m : (ℓ : Loc nD τ sig) → Buf (Elt F) ℓ) (ρ : Dev nD → PrngReg)

abbrev D : Defs nD τ sig (Elt F) (ΛP (F := F)) := Pipeline.defs pcfgs defs₀

/-! ## What the call carries -/

/-- The rows of the partial results that core `c`'s tiles write. -/
def coreSet (c : Fin 2) : Finset S32x32768.Idx := Finset.univ.filter fun j => (j 0).val / 16 = c.val

abbrev vCore (d : Dev nD) (c : Fin 2) (f : Buf (Elt F) (vLoc d)) : sProp 𝕄 := vLoc d ↦[coreSet c]{fullShare} f

/-- To core `c`'s sequencer: its shares of the arguments and its rows; back: the rows at the tiles' results. -/
abbrev stP (d : Dev nD) (c : Fin 2) : sProp 𝕄 := iprop(xSh m d (shC c) ∗ iSh m d (shC c) ∗ vCore d c (m (vLoc d)))
abbrev dnP (d : Dev nD) (c : Fin 2) : sProp 𝕄 := iprop(xSh m d (shC c) ∗ iSh m d (shC c) ∗ vCore d c (PART m d))

def P : (K (F := F)).Pay (nD := nD) (Val := Elt F) (Name := ℕ) (U := UU) where
  st := fun q d c => match q with | 0 => stP m d c
  dn := fun q d c => match q with | 0 => dnP m d c
  go := fun q d c i => match q with | 0 => goP m d c i
  td := fun q d c i => match q with | 0 => tdP m d c i
  x := fun _ _ => iprop(emp)

instance P_storable : (P (F := F) m).IsStorable where
  st q d c := match q with
    | 0 => (inferInstance : BI.Storable (upEmb : UEmb _ 𝕄) (stP m d c))
  dn q d c := match q with
    | 0 => (inferInstance : BI.Storable (upEmb : UEmb _ 𝕄) (dnP m d c))
  go q d c i := match q with
    | 0 => (inferInstance : BI.Storable (upEmb : UEmb _ 𝕄) (goP m d c i))
  td q d c i := match q with
    | 0 => (inferInstance : BI.Storable (upEmb : UEmb _ 𝕄) (tdP m d c i))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__phase1_body (coordsV c s)
          xV (Memref.isWhole_whole _) iV (Memref.isWhole_whole _) vV (Memref.isWhole_whole _)
          sR (Memref.isWhole_whole _) sI (Memref.isWhole_whole _) sA (Memref.isWhole_whole _) sC (Memref.isWhole_whole _) sP (Memref.isWhole_whole _)
          cc0_scratch5 cc0_scratch6 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'
  isplitr
  · ipureintro; exact fun p hp => (hW p hp).imp id Or.inl
  iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-! ## Dealing and joining -/

omit [FloatOps F] in
theorem coreSet_eq (c : Fin 2) : coreSet c = (Finset.univ : Finset (Fin 16)).biUnion fun i => rowSet (16 * c.val + i.val) := by
  ext j
  simp only [coreSet, rowSet, Finset.mem_filter, Finset.mem_univ, true_and, Finset.mem_biUnion]
  have h0 : (j 0).val < 32 := (j 0).isLt
  constructor
  · intro h; exact ⟨⟨(j 0).val % 16, by omega⟩, by show (j 0).val = 16 * c.val + (j 0).val % 16; omega⟩
  · rintro ⟨i, hi⟩; omega

omit [FloatOps F] in
theorem rows_disjoint (c : Fin 2) : ∀ i ∈ (Finset.univ : Finset (Fin 16)), ∀ j ∈ (Finset.univ : Finset (Fin 16)), i ≠ j →
    Disjoint (rowSet (16 * c.val + i.val)) (rowSet (16 * c.val + j.val)) := by
  intro i _ j _ hij
  rw [Finset.disjoint_left]
  intro x hx hy
  have h1 := (Finset.mem_filter.mp hx).2
  have h2 := (Finset.mem_filter.mp hy).2
  exact hij (Fin.ext (by omega))

omit [FloatOps F] in
theorem vCore_rows (d : Dev nD) (c : Fin 2) (f : Buf (Elt F) (vLoc d)) :
    (vCore d c f : sProp 𝕄) = bigSep Finset.univ fun i : Fin 16 => vRow d (16 * c.val + i.val) f := by
  show (vLoc d ↦[coreSet c]{fullShare} f : sProp 𝕄) = _
  rw [coreSet_eq]
  exact pointsTo_biUnion _ _ (rows_disjoint c)

omit [FloatOps F] in
theorem cores_cover : (Finset.univ : Finset S32x32768.Idx) = (Finset.univ : Finset (Fin 2)).biUnion coreSet := by
  ext j
  simp only [coreSet, Finset.mem_filter, Finset.mem_univ, true_and, Finset.mem_biUnion, true_iff]
  have h0 : (j 0).val < 32 := (j 0).isLt
  exact ⟨⟨(j 0).val / 16, by omega⟩, rfl⟩

omit [FloatOps F] in
theorem cores_disjoint : ∀ i ∈ (Finset.univ : Finset (Fin 2)), ∀ j ∈ (Finset.univ : Finset (Fin 2)), i ≠ j → Disjoint (coreSet i) (coreSet j) := by
  intro i _ j _ hij
  rw [Finset.disjoint_left]
  intro x hx hy
  have h1 := (Finset.mem_filter.mp hx).2
  have h2 := (Finset.mem_filter.mp hy).2
  exact hij (Fin.ext (h1.symm.trans h2))

abbrev xPts (d : Dev nD) : sProp 𝕄 := xLoc d ↦{fullShare} m (xLoc d)
abbrev iPts (d : Dev nD) : sProp 𝕄 := iLoc d ↦{fullShare} m (iLoc d)
abbrev vPts (d : Dev nD) (f : Buf (Elt F) (vLoc d)) : sProp 𝕄 := vLoc d ↦{fullShare} f

omit [FloatOps F] in
theorem vPts_cores (d : Dev nD) (f : Buf (Elt F) (vLoc d)) :
    (vPts d f : sProp 𝕄) = bigSep Finset.univ fun c : Fin 2 => vCore d c f := by
  show (vLoc d ↦[Finset.univ]{fullShare} f : sProp 𝕄) = _
  rw [show (Finset.univ : Finset (Idx (vLoc d))) = (Finset.univ : Finset (Fin 2)).biUnion coreSet from cores_cover]
  exact pointsTo_biUnion _ _ cores_disjoint

omit [FloatOps F] in
theorem xPts_cores (d : Dev nD) : (xPts m d : sProp 𝕄) = bigSep Finset.univ fun c : Fin 2 => xSh m d (shC c) :=
  pointsTo_deal _ Finset.univ_nonempty _
omit [FloatOps F] in
theorem iPts_cores (d : Dev nD) : (iPts m d : sProp 𝕄) = bigSep Finset.univ fun c : Fin 2 => iSh m d (shC c) :=
  pointsTo_deal _ Finset.univ_nonempty _
omit [FloatOps F] in
theorem xSh_tiles (d : Dev nD) (c : Fin 2) : (xSh m d (shC c) : sProp 𝕄) = bigSep Finset.univ fun i : Fin 16 => xSh m d (shT c i) :=
  pointsTo_deal _ Finset.univ_nonempty _
omit [FloatOps F] in
theorem iSh_tiles (d : Dev nD) (c : Fin 2) : (iSh m d (shC c) : sProp 𝕄) = bigSep Finset.univ fun i : Fin 16 => iSh m d (shT c i) :=
  pointsTo_deal _ Finset.univ_nonempty _

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's payload for the two cores, and what it hands back. -/
theorem st0_eq (d : Dev nD) : (bigSep Finset.univ fun c : Fin ((K (F := F)).nCore 0) => (P m).st 0 d c) = iprop(xPts m d ∗ iPts m d ∗ vPts d (m (vLoc d))) := by
  show (bigSep (Finset.univ : Finset (Fin 2)) fun c => stP m d c) = _
  rw [bigSep_sep', bigSep_sep', ← xPts_cores, ← iPts_cores, ← vPts_cores]
theorem dn0_eq (d : Dev nD) : (bigSep Finset.univ fun c : Fin ((K (F := F)).nCore 0) => (P m).dn 0 d c) = iprop(xPts m d ∗ iPts m d ∗ vPts d (PART m d)) := by
  show (bigSep (Finset.univ : Finset (Fin 2)) fun c => dnP m d c) = _
  rw [bigSep_sep', bigSep_sep', ← xPts_cores, ← iPts_cores, ← vPts_cores]

theorem go_eq (d : Dev nD) (c : Fin 2) : (bigSep Finset.univ fun i : Fin 16 => goP m d c i) = stP m d c := by
  rw [bigSep_sep', bigSep_sep', ← xSh_tiles, ← iSh_tiles, ← vCore_rows]
theorem td_eq (d : Dev nD) (c : Fin 2) : (bigSep Finset.univ fun i : Fin 16 => tdP m d c i) = dnP m d c := by
  rw [bigSep_sep', bigSep_sep', ← xSh_tiles, ← iSh_tiles, ← vCore_rows]

/-- A core's payload dealt to its sixteen tiles, and theirs joined back. -/
theorem vecSplit : (K (F := F)).VecSplit' (P m) 0 := by
  intro d c
  show stP m d c ⊢ |={Set.univ}=> iprop((bigSep Finset.univ fun i : Fin ((K (F := F)).nSub 0) => goP m d c (Fin.cast nSub_zero i))
      ∗ ((bigSep Finset.univ fun i : Fin ((K (F := F)).nSub 0) => tdP m d c (Fin.cast nSub_zero i)) -∗ dnP m d c))
  rw [bigSep_tasks (fun i => goP m d c i), bigSep_tasks (fun i => tdP m d c i), go_eq, td_eq]
  iintro H
  imodintro
  isplitl [H]; · iexact H
  iintro H; iexact H

/-! ## The launch element -/

abbrev pinned := Pipeline.pin (pcfgs (F := F)) adm
theorem pinned_inj : Function.Injective (Pipeline.cellOf (nD := nD) (τ := τ) (pinned (F := F))) := cellOf_inj

def u₀ : UU := (initOf (K (F := F)).hsCells (K (F := F)).hsToks,
  (initOf (Pipeline.cells (nD := nD) (τ := τ) (pinned (F := F)) pinned_inj) (Pipeline.launchToks (nD := nD) (τ := τ) (pinned (F := F)) pinned_inj), 1))

/-- The merge's pipeline, its cells' rounds and its tokens, on device `d`. -/
abbrev G (d : Dev nD) : sProp 𝕄 :=
  iprop(Pipeline.cellsGhost (Val := Elt F) (Ix := HIx 1) (Name := ℕ) (U := UU) (Lvl := ℕ) (pinned (F := F)) EP 0 d
    ∗ Pipeline.toksInit (Val := Elt F) (Ix := HIx 1) (Name := ℕ) (U := UU) (Lvl := ℕ) (pinned (F := F)) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb embR _ _) $$ HR
  icases H with ⟨HP, -⟩
  ihave HP := (Entails.of_eq (show BI.own (((Emb.inl : Emb UP (UP × Counters)).trans embR) (initOf (Pipeline.cells (nD := nD) (τ := τ) (pinned (F := F)) pinned_inj) (Pipeline.launchToks (nD := nD) (τ := τ) (pinned (F := F)) pinned_inj))) = (BI.own (EP (initOf (Pipeline.cells (nD := nD) (τ := τ) (pinned (F := F)) pinned_inj) (Pipeline.launchToks (nD := nD) (τ := τ) (pinned (F := F)) pinned_inj))) : sProp 𝕄) from rfl)) $$ HP
  imod (Pipeline.fund_ghost (nD := nD) (τ := τ) (pinned (F := F)) EP pinned_inj) $$ HP with ⟨Hc, Ht⟩
  imodintro
  isplitl [HH]; · iexact HH
  isplitl [Hc Ht]
  · rw [bigSep_sep']
    simp only [BI.bigSep_univ_of_subsingleton (0 : Fin 1)]
    isplitl [Hc] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev v' : DevRef τ sig := Proc.devRef .tc (main_v0 : Ref sig .tc)
abbrev w' : DevRef τ sig := Proc.devRef .tc (main_v1 : Ref sig .tc)
abbrev o' : DevRef τ sig := Proc.devRef .tc (main_v2 : Ref sig .tc)
abbrev opR : HloOp τ sig (Elt F) := StableHlo.reshape main_v0 main_v1 (rfl : (.f32 : EltTy) = .f32) shapeCasts_S32x32768_S32x256x128

abbrev wLoc (d : Dev nD) : Loc nD τ sig := (SparseCore.T d).loc main_v1
abbrev oLoc (d : Dev nD) : Loc nD τ sig := (SparseCore.T d).loc main_v2

/-- The partial results as the merge takes them, and the result. -/
def PARTS (d : Dev nD) : Vec F S32x256x128 .f32 := shapeCast S32x256x128 (PART m d) shapeCasts_S32x32768_S32x256x128
def OUT (d : Dev nD) : FVec F S256x128 .f32 := mergeV (PARTS m d)

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1)
      ∗ (vLoc d ↦{fullShare} W main_v0) ∗ (wLoc d ↦{fullShare} W main_v1) ∗ oLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The TensorCore's arrays after the call, after the reshape and after the merge. -/
def V0 (d : Dev nD) : Valuation τ sig (Elt F) := fun b => m (d, b)
def V1 (d : Dev nD) : Valuation τ sig (Elt F) := Function.update (V0 m d) v' (PART m d)
def V2 (d : Dev nD) : Valuation τ sig (Elt F) := (opR (F := F)).result (V1 m d)
def Vu (d : Dev nD) (b : Ref sig .tc) : Buf (Elt F) ((d : Thread nD τ).loc b) := V2 m d (Proc.devRef .tc b)
def V3 (d : Dev nD) : Valuation τ sig (Elt F) := Function.update (V2 m d) o' (OUT m d)
def Vp (d : Dev nD) (b : Ref sig .tc) : Buf (Elt F) ((d : Thread nD τ).loc b) := V3 m d (Proc.devRef .tc b)

theorem V1_x (d : Dev nD) : V1 m d (Proc.devRef .tc (main_arg0 : Ref sig .tc)) = m (xLoc d) := Function.update_of_ne (by decide) _ _
theorem V1_i (d : Dev nD) : V1 m d (Proc.devRef .tc (main_arg1 : Ref sig .tc)) = m (iLoc d) := Function.update_of_ne (by decide) _ _
theorem V1_v (d : Dev nD) : V1 m d v' = PART m d := Function.update_self _ _ _
theorem V1_w (d : Dev nD) : V1 m d w' = m (wLoc d) := Function.update_of_ne (by decide) _ _
theorem V1_o (d : Dev nD) : V1 m d o' = m (oLoc d) := Function.update_of_ne (by decide) _ _

theorem V2_ne (d : Dev nD) (b : DevRef τ sig) (h : b ≠ w') : V2 m d b = V1 m d b :=
  (opR (F := F)).result_of_not_mem (V1 m d) (b := b) (show b ∉ ({w'} : Finset (DevRef τ sig)) by simpa using h)
theorem V2_w (d : Dev nD) : V2 m d w' = PARTS m d := by
  refine (StableHlo.reshape_result main_v0 main_v1 _ _ _ _ (V1 m d)).trans ?_
  unfold PARTS
  rw [← V1_v m d]
  rfl

theorem Vp_o (d : Dev nD) : Vp m d main_v2 = OUT m d := by
  show Function.update (V2 m d) o' (OUT m d) o' = _
  exact Function.update_self o' (OUT m d) (V2 m d)
theorem Vp_out (d : Dev nD) : Vp m d main_v2 = mergeV (Vu m d main_v1) :=
  (Vp_o m d).trans (congrArg mergeV (V2_w m d).symm)
theorem Vp_ne (d : Dev nD) (b : Ref sig .tc) (h : b ≠ main_v2) : Vp m d b = Vu m d b :=
  Function.update_of_ne (fun e => h (Proc.devRef_injective _ e)) _ _

theorem Vp_x (d : Dev nD) : Vp m d main_arg0 = m (xLoc d) :=
  (Vp_ne m d _ (by decide)).trans ((V2_ne m d _ (by decide)).trans (V1_x m d))
theorem Vp_i (d : Dev nD) : Vp m d main_arg1 = m (iLoc d) :=
  (Vp_ne m d _ (by decide)).trans ((V2_ne m d _ (by decide)).trans (V1_i m d))

/-- The merge call's program is the pipeline's entry, lifted. -/
theorem merge_prog : (Prog.lift (.customCall (SparseCore.inner (Pipeline.entry 0)) ()) : Prog (TpuEff nD τ sig (Elt F) (SparseCore.Sig (ΛP (F := F)) 1) .tc) PUnit)
    = SparseCore.liftProg (Prog.op (.customCall (Pipeline.entry 0) ()) Prog.ret : Prog (TpuEff nD τ sig (Elt F) (ΛP (F := F)) .tc) PUnit) := rfl

/-- The merge call as @main makes it. -/
theorem merge_wp [∀ e, Nonempty (Elt F e)] (d : Dev nD) (Q : PUnit → sProp 𝕄) :
    iprop((iprop(boundary (SparseCore.T d) ∗ unscopedBufs d (Vp m d) ∗ lowOwes d) -∗ Q ⟨⟩)
        ∗ boundary (SparseCore.T d) ∗ (unscopedBufs d (Vu m d) ∗ lowOwes d) ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  rw [merge_prog]
  refine BI.Entails.trans ?_ ((K (F := F)).wp_liftProg (D (F := F)) 𝒱 (SparseCore.T d) Set.univ none _ _)
  refine BI.Entails.trans ?_ (Pipeline.RegionSeg.wp (pcfgs (F := F)) adm (pdats (Vu m)) none pinned_inj EP defs₀ 𝒱₀ (K (F := F)).L (K (F := F)).lev
    (reg (Vu m) (Vp m) (Vp_out m) (Vp_ne m)) d none (fun _ h => nomatch h) .ret Q)
  show iprop((iprop(boundary (SparseCore.T d) ∗ unscopedBufs d (Vp m d) ∗ lowOwes d) -∗ Q ⟨⟩)
        ∗ boundary (SparseCore.T d) ∗ (unscopedBufs d (Vu m d) ∗ lowOwes d) ∗ levAts (K (F := F)).L (K (F := F)).lev ∗ G d)
    ⊢ iprop((iprop(boundary (SparseCore.T d) ∗ unscopedBufs d (Vp m d) ∗ lowOwes d)
          -∗ wp frame (wpE (D (F := F)) 𝒱 (SparseCore.T d) none) Set.univ (Prog.ret PUnit.unit) Q)
        ∗ boundary (SparseCore.T d) ∗ (unscopedBufs d (Vu m d) ∗ lowOwes d) ∗ levAts (K (F := F)).L (K (F := F)).lev ∗ G d)
  iintro ⟨Hk, Hb, Hpre, Hl, Hc, Ht⟩
  isplitl [Hk]
  · iintro ⟨Hb, Hpost⟩
    rw [wp_ret]
    imodintro
    iapply Hk
    isplitl [Hb] <;> iassumption
  isplitl [Hb]; · iexact Hb
  isplitl [Hpre]; · iexact Hpre
  isplitl [Hl]; · iexact Hl
  isplitl [Hc] <;> iassumption

/-- What the launch keeps of the TensorCore's state besides its debts. -/
theorem tcSt_one (d : Dev nD) : ∃ R : sProp 𝕄, (K (F := F)).tcSt EH d 1 = iprop(lowOwes d ∗ R) := by
  unfold SparseCore.Cfg.tcSt
  rw [(K (F := F)).Otc_end d (le_refl 1)]
  exact ⟨_, rfl⟩

/-- What @main leaves: the arguments as they were and the result. -/
abbrev FIN (d : Dev nD) : sProp 𝕄 := iprop(xPts m d ∗ iPts m d ∗ oLoc d ↦{fullShare} OUT m d)

theorem hR : (opR (F := F)).bufs ⊆ Pipeline.ucRefs τ sig := show ({v', w'} : Finset (DevRef τ sig)) ⊆ Pipeline.ucRefs τ sig by decide

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR1⟩ := tcSt_one (F := F) d
  unfold SparseCore.Cfg.tcRes SparseCore.Cfg.tcEnd
  rw [unscopedBufs_eq]
  simp only [main, wp_bind, wp_pure]
  iintro ⟨#Hctx, Hst, ⟨Hb, ⟨Hx, Hi, Hv, Hw, Ho⟩, Hts, -⟩, HG⟩
  iapply ((K (F := F)).wp_run (D (F := F)) 𝒱 (EH := EH) (P := P m) κ d 0) $$ [Hst Hx Hi Hv Hw Ho Hb Hts HG]
  isplitr; · iexact Hctx
  isplitl [Hst]; · iexact Hst
  isplitl [Hx Hi Hv]
  · rw [st0_eq]
    isplitl [Hx]; · iexact Hx
    isplitl [Hi]; · iexact Hi
    iexact Hv
  iintro ⟨Hst, Hdn⟩
  ihave Hdn' := (Entails.of_eq (dn0_eq m d)) $$ Hdn
  icases Hdn' with ⟨Hx, Hi, Hv⟩
  iapply (wp_hlo_within 𝒱 (SparseCore.T d) none Set.univ (op := opR) (S := Pipeline.ucRefs τ sig) hR (V := V1 m d)) $$ [Hb Hx Hi Hv Hw Ho]
  · isplitl [Hb]; · iexact Hb
    iapply (Entails.of_eq (Pipeline.unscopedBufs_held (Ix := HIx 1) (Name := ℕ) (U := UU) (Lvl := ℕ) d (V1 m d)))
    rw [unscopedBufs_eq]
    isplitl [Hx]; · rw [V1_x]; iexact Hx
    isplitl [Hi]; · rw [V1_i]; iexact Hi
    isplitl [Hv]; · rw [V1_v]; iexact Hv
    isplitl [Hw]; · rw [V1_w]; iexact Hw
    rw [V1_o]; iexact Ho
  iintro ⟨Hb, Hheld⟩
  rw [wp_ret]; imodintro
  ihave Hheld := (Entails.of_eq (show held (SparseCore.T d) (Pipeline.ucRefs τ sig) ((opR (F := F)).result (V1 m d)) = (held (d.tc : Thread nD τ) (Pipeline.ucRefs τ sig) (V2 m d) : sProp 𝕄) from rfl)) $$ Hheld
  ihave Hub := (Entails.of_eq (Pipeline.unscopedBufs_held (Ix := HIx 1) (Name := ℕ) (U := UU) (Lvl := ℕ) d (V2 m d)).symm) $$ Hheld
  ihave Hst' := (Entails.of_eq (show (K (F := F)).tcSt EH d ((0 : Fin 1).val + 1) = iprop(lowOwes d ∗ R) from hR1)) $$ Hst
  icases Hst' with ⟨Hlo, HR⟩
  iapply (merge_wp m d) $$ [-]
  isplitl [Hts HR]
  · iintro ⟨Hb, Hub, Hlo⟩
    imodintro
    ihave Hub' := (Entails.of_eq (unscopedBufs_eq d _)) $$ Hub
    icases Hub' with ⟨Hx, Hi, -, -, Ho⟩
    isplitl [Hlo HR]
    · iapply (Entails.of_eq hR1.symm)
      isplitl [Hlo] <;> iassumption
    isplitl [Hx Hi Ho]
    · isplitl [Hx]; · rw [Vp_x m d]; iexact Hx
      isplitl [Hi]; · rw [Vp_i m d]; iexact Hi
      rw [← Vp_o m d]; iexact Ho
    isplitl [Hb] <;> iassumption
  isplitl [Hb]; · iexact Hb
  isplitl [Hub Hlo]
  · isplitl [Hub]; · iexact Hub
    iexact Hlo
  isplitr [HG]
  · iapply ((K (F := F)).ctx_levAts κ); iexact Hctx
  iexact HG

/-- What holds of the final memory. -/
def fq (d : Dev nD) (s' : Phys nD τ sig (Elt F)) : Prop :=
  s'.mem.mem (xLoc d) = m (xLoc d) ∧ s'.mem.mem (iLoc d) = m (iLoc d) ∧ s'.mem.mem (oLoc d) = OUT m d

theorem hfin (d : Dev nD) (s' : Phys nD τ sig (Elt F)) : iprop(FIN m d ∗ SI s') ⊢ (⌜fq m d s'⌝ : sProp 𝕄) := by
  iintro ⟨⟨Hx, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := OUT m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (xLoc c) = m (xLoc c) ∧ r.2.mem (iLoc c) = m (iLoc c) ∧ r.2.mem (oLoc c) = OUT m c) ∧ r.2.sem = fun _ => 0

/-- Every run of the program from ids that are segment numbers ends, the arguments unchanged, the result `OUT`, and
    every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

end Cert.Proof.SegMax

end
-- ==== Proof.Values.lean ====
/-
  What a tile computes, over the extended reals: the accumulator and the running maximum together hold, per segment and
  column, the maximum over the rows taken so far (`Cov`); a group of sixteen sorted rows whose first and last are of the
  running segment is of it whole, so both ways through a group take the same rows; the tiles together take every row.
-/
module

public import proofs.«01_k».proof.Proof.Body
public import Idealize.ShloMosaic.PureOps.Ideal
public import Idealize.ShloMosaic.PureOps.Ideal.Laws

@[expose] public section

noncomputable section

namespace Cert.Proof.SegMax

open Idealize.ShloMosaic

/-- The word the kernel starts its maxima from is the least extended real. -/
theorem ninf_eq : (ninf : Ideal .f32) = (⊥ : EReal) := by
  show Ideal.ofBits .f32 0xFF800000#32 = ⊥
  simp [Ideal.ofBits, Ideal.ieee]

/-- The segment maximum a tile's state holds for segment `q` and column `k`: the accumulator's, and the running one's
    when the running segment is `q`. -/
def tot (s : SS Ideal) (q k : ℕ) : EReal := max (s.acc (128 * q + k)) (if s.prev.toNat = q then s.cur k else ⊥)

theorem flushA_apply (acc cur : ℕ → Ideal .f32) (p q k : ℕ) (hk : k < 128) :
    flushA acc cur p (128 * q + k) = if p = q then (max (acc (128 * q + k)) (cur k) : EReal) else acc (128 * q + k) := by
  unfold flushA
  by_cases h : p = q
  · subst h
    rw [if_pos ⟨by omega, by omega⟩, if_pos rfl]
    show (max _ (cur (128 * p + k - 128 * p)) : EReal) = _
    rw [Nat.add_sub_cancel_left]
  · rw [if_neg (by omega), if_neg h]

/-- Folding the running maximum into the accumulator leaves the segment maxima as they were. -/
theorem tot_flushed (s : SS Ideal) (sid : BitVec 32) (q k : ℕ) (hk : k < 128) :
    tot ⟨flushA s.acc s.cur s.prev.toNat, fun _ => ninf, sid⟩ q k = tot s q k := by
  unfold tot
  dsimp only
  rw [flushA_apply _ _ _ _ _ hk, ninf_eq, ite_self, max_bot_right]
  split
  · rfl
  · rw [max_bot_right]

theorem tot_flushS (sid : BitVec 32) (s : SS Ideal) (q k : ℕ) (hk : k < 128) : tot (flushS sid s) q k = tot s q k := by
  unfold flushS
  split
  · rfl
  · exact tot_flushed s sid q k hk

/-- One row joins its own segment's maximum. -/
theorem tot_rowS (sid : BitVec 32) (row : ℕ → Ideal .f32) (s : SS Ideal) (q k : ℕ) (hk : k < 128) :
    tot (rowS sid row s) q k = max (tot s q k) (if sid.toNat = q then row k else ⊥) := by
  rw [← tot_flushS sid s q k hk]
  unfold rowS tot
  dsimp only
  rw [flushS_prev]
  split
  · exact (max_assoc _ _ _).symm
  · rw [max_bot_right, max_bot_right]

/-- The state holds the segment maxima of the rows `C` of `B`, whose segments are `I`. -/
def Cov (I : ℕ → BitVec 32) (B : ℕ → ℕ → Ideal .f32) (C : ℕ → Prop) (s : SS Ideal) : Prop :=
  ∀ (q k : ℕ), k < 128 → ∀ z : EReal, tot s q k ≤ z ↔ ∀ n, C n → (I n).toNat = q → (B n k : EReal) ≤ z

variable {I : ℕ → BitVec 32} {B : ℕ → ℕ → Ideal .f32} {C : ℕ → Prop} {s : SS Ideal}

theorem Cov.iff (h : Cov I B C s) {C' : ℕ → Prop} (e : ∀ n, C n ↔ C' n) : Cov I B C' s := by
  rwa [show C' = C from funext fun n => (propext (e n)).symm]

theorem cov_init : Cov I B (fun _ => False) ⟨fun _ => ninf, fun _ => ninf, 256#32⟩ := by
  intro q k hk z
  unfold tot
  dsimp only
  rw [ninf_eq, ite_self, max_self]
  exact ⟨fun _ _ h => h.elim, fun _ => bot_le⟩

theorem cov_close (h : Cov I B C s) : Cov I B C (closeS s) := by
  intro q k hk z
  rw [show tot (closeS s) q k = tot s q k from tot_flushed s _ q k hk]
  exact h q k hk z

theorem cov_rowS (h : Cov I B C s) (n : ℕ) : Cov I B (fun x => C x ∨ x = n) (rowS (I n) (B n) s) := by
  intro q k hk z
  rw [tot_rowS _ _ _ _ _ hk, max_le_iff, h q k hk z]
  constructor
  · rintro ⟨h1, h2⟩ x (hx | rfl) hq
    · exact h1 x hx hq
    · rwa [if_pos hq] at h2
  · intro h1
    refine ⟨fun x hx => h1 x (Or.inl hx), ?_⟩
    split
    · rename_i hq; exact h1 n (Or.inr rfl) hq
    · exact bot_le

theorem cov_rowsS (h : Cov I B C s) (R n : ℕ) : Cov I B (fun x => C x ∨ (R ≤ x ∧ x < R + n)) (rowsS I B R n s) := by
  induction n with
  | zero => exact h.iff fun x => by constructor <;> [exact Or.inl; (rintro (h | h); exacts [h, by omega])]
  | succ n ih =>
    refine (cov_rowS ih (R + n)).iff fun x => ?_
    constructor
    · rintro ((h | h) | h); exacts [Or.inl h, Or.inr (by omega), Or.inr (by omega)]
    · rintro (h | h)
      · exact Or.inl (Or.inl h)
      · by_cases e : x = R + n
        · exact Or.inr e
        · exact Or.inl (Or.inr (by omega))

/-- The tree of maxima is at most `z` exactly when each of the sixteen rows is. -/
theorem gmx_le (R k : ℕ) (z : EReal) : (gmx B R k : EReal) ≤ z ↔ ∀ j, j < 16 → (B (R + j) k : EReal) ≤ z := by
  have e : ∀ a b : Ideal .f32, ((mx a b : Ideal .f32) : EReal) ≤ z ↔ (a : EReal) ≤ z ∧ (b : EReal) ≤ z := fun a b => max_le_iff
  unfold gmx
  simp only [e]
  constructor
  · rintro ⟨⟨⟨⟨h0, h1⟩, h2, h3⟩, ⟨h4, h5⟩, h6, h7⟩, ⟨⟨h8, h9⟩, h10, h11⟩, ⟨h12, h13⟩, h14, h15⟩ j hj
    interval_cases j <;> assumption
  · intro h
    exact ⟨⟨⟨⟨h 0 (by decide), h 1 (by decide)⟩, h 2 (by decide), h 3 (by decide)⟩, ⟨h 4 (by decide), h 5 (by decide)⟩, h 6 (by decide), h 7 (by decide)⟩,
      ⟨⟨h 8 (by decide), h 9 (by decide)⟩, h 10 (by decide), h 11 (by decide)⟩, ⟨h 12 (by decide), h 13 (by decide)⟩, h 14 (by decide), h 15 (by decide)⟩

/-- The segment numbers of the first `N` rows do not decrease. -/
def Sorted (I : ℕ → BitVec 32) (N : ℕ) : Prop := ∀ a b, a ≤ b → b < N → (I a).toNat ≤ (I b).toNat

theorem cov_groupS {N : ℕ} (hs : Sorted I N) (h : Cov I B C s) (R : ℕ) (hR : R + 16 ≤ N) :
    Cov I B (fun x => C x ∨ (R ≤ x ∧ x < R + 16)) (groupS I B R s) := by
  unfold groupS
  split
  · rename_i hg
    obtain ⟨g0, g1⟩ := hg
    have hall : ∀ x, R ≤ x → x < R + 16 → (I x).toNat = s.prev.toNat := by
      intro x h1 h2
      have a1 := hs (R + 0) x h1 (by omega)
      have a2 := hs x (R + 15) (by omega) (by omega)
      rw [g0] at a1; rw [g1] at a2
      exact Nat.le_antisymm a2 a1
    intro q k hk z
    have ht : tot ⟨s.acc, fun k => mx (s.cur k) (gmx B R k), s.prev⟩ q k = max (tot s q k) (if s.prev.toNat = q then (gmx B R k : EReal) else ⊥) := by
      unfold tot
      dsimp only
      split
      · exact (max_assoc _ _ _).symm
      · rw [max_bot_right, max_bot_right]
    rw [ht, max_le_iff, h q k hk z]
    constructor
    · rintro ⟨h1, h2⟩ x (hx | ⟨hx1, hx2⟩) hq
      · exact h1 x hx hq
      · rw [hall x hx1 hx2] at hq
        rw [if_pos hq, gmx_le] at h2
        have := h2 (x - R) (by omega)
        rwa [Nat.add_sub_of_le hx1] at this
    · intro h1
      refine ⟨fun x hx => h1 x (Or.inl hx), ?_⟩
      split
      · rename_i hq
        rw [gmx_le]
        exact fun j hj => h1 (R + j) (Or.inr ⟨by omega, by omega⟩) ((hall _ (by omega) (by omega)).trans hq)
      · exact bot_le
  · exact cov_rowsS h R 16

theorem cov_groupsS {N : ℕ} (hs : Sorted I N) (h : Cov I B C s) (o n : ℕ) (hR : o + 16 * n ≤ N) :
    Cov I B (fun x => C x ∨ (o ≤ x ∧ x < o + 16 * n)) (groupsS I B o n s) := by
  induction n with
  | zero => exact h.iff fun x => by constructor <;> [exact Or.inl; (rintro (h | h); exacts [h, by omega])]
  | succ n ih =>
    refine (cov_groupS hs (ih (by omega)) (o + 16 * n) (by omega)).iff fun x => ?_
    constructor
    · rintro ((h | h) | h); exacts [Or.inl h, Or.inr (by omega), Or.inr (by omega)]
    · rintro (h | h)
      · exact Or.inl (Or.inl h)
      · by_cases e : x < o + 16 * n
        · exact Or.inl (Or.inr (by omega))
        · exact Or.inr (by omega)

/-- The rows tile `w` takes: its own chunks, and for the last tile the last 256 rows. -/
def Rows (w n : ℕ) : Prop := (w = 31 ∧ 99744 ≤ n ∧ n < 100000) ∨ (256 * c0w w ≤ n ∧ n < 256 * c0w w + 256 * nch w)

theorem chunks_le {w : ℕ} (hw : w < 32) : 256 * c0w w + 256 * nch w ≤ 100000 := by
  unfold c0w nch; split <;> omega

/-- What tile `w` copies out holds, for each segment and column, the maximum over the tile's rows. -/
theorem outA_le (hs : Sorted I 100000) {w : ℕ} (hw : w < 32) (q k : ℕ) (hk : k < 128) (z : EReal) :
    (outA w I B (128 * q + k) : EReal) ≤ z ↔ ∀ n, Rows w n → (I n).toNat = q → (B n k : EReal) ≤ z := by
  have h0 : Cov I B (fun n => w = 31 ∧ 99744 ≤ n ∧ n < 100000) (tailS w I B ⟨fun _ => ninf, fun _ => ninf, 256#32⟩) := by
    unfold tailS
    split
    · rename_i e
      exact (cov_close (cov_groupsS hs cov_init 99744 16 (by omega))).iff fun n => by simp [e]
    · rename_i e
      exact cov_init.iff fun n => by simp [e]
  have h1 : Cov I B (Rows w) (endS w I B) := by
    have := chunks_le hw
    refine (cov_groupsS hs h0 (256 * c0w w) (16 * nch w) (by omega)).iff fun n => ?_
    unfold Rows
    rw [show 16 * (16 * nch w) = 256 * nch w by omega]
  rw [← h1 q k hk z]
  rw [show (outA w I B (128 * q + k) : EReal) = tot (endS w I B) q k from ?_]
  unfold outA tot
  rw [flushA_apply _ _ _ _ _ hk]
  split
  · rfl
  · rw [max_bot_right]

/-- Every row is some tile's. -/
theorem rows_cover {n : ℕ} : (∃ w, w < 32 ∧ Rows w n) ↔ n < 100000 := by
  constructor
  · rintro ⟨w, hw, h | h⟩
    · exact h.2.2
    · have := chunks_le hw; omega
  · intro h
    by_cases h1 : 99744 ≤ n
    · exact ⟨31, by decide, Or.inl ⟨rfl, h1, h⟩⟩
    · by_cases h2 : n / 256 < 78
      · refine ⟨n / 256 / 13, by omega, Or.inr ?_⟩
        unfold c0w nch
        rw [if_pos (by omega)]; omega
      · refine ⟨(n / 256 - 6) / 12, by omega, Or.inr ?_⟩
        unfold c0w nch
        rw [if_neg (by omega)]; omega

end Cert.Proof.SegMax

end
-- ==== Proof.Precond.lean ====
/-
  What the two preconditions say of the ids: each is below 256 as a natural; and, of the second, they do not decrease.
-/
module

public import proofs.«01_k».proof.Proof.Gen.Pre_ids_ok
public import proofs.«01_k».proof.Proof.Gen.Pre_ids_in_range
public import Idealize.ShloMosaic.Lib.Affine
public import Idealize.ShloMosaic.Lib.ReduceAll
public import Idealize.ShloMosaic.Lib.Pipeline.Value

@[expose] public section

noncomputable section

namespace Cert.Proof.PreIds

open Idealize.ShloMosaic Cert.Pre_ids_ok Cert.Pre_ids_ok.Gen

/-- Row `n` of the ids, and of a slice one row shorter. -/
def at1 (n : Fin 100000) : S100000.Idx := fun (a : Fin 1) => match a with | 0 => n
def at1' (n : Fin 99999) : S99999.Idx := fun (a : Fin 1) => match a with | 0 => n

theorem eq_at1 (n : S100000.Idx) : n = at1 (n 0) := by
  funext (a : Fin 1); match a with | 0 => rfl

instance : Subsingleton S_.Idx := ⟨fun a b => funext fun (x : Fin 0) => x.elim0⟩

/-- A word at least zero and less than 256, both as signed words, is below 256. -/
theorem lt_of_cmp (v : BitVec 32) (h0 : IntOp.cmpi .sge v 0#32 = 1#1) (h1 : IntOp.cmpi .slt v 256#32 = 1#1) : v.toNat < 256 := by
  have ofBool_eq_one (p : Bool) : (BitVec.ofBool p = 1#1) ↔ p = true := by cases p <;> decide
  simp only [IntOp.cmpi, ofBool_eq_one, BitVec.sle_eq_decide, BitVec.slt_eq_decide, decide_eq_true_eq, BitVec.toInt_eq_toNat_cond, BitVec.toNat_ofNat] at h0 h1
  omega

/-- Two such words in signed order are in order. -/
theorem le_of_cmp (v w : BitVec 32) (hv : v.toNat < 256) (hw : w.toNat < 256) (h : IntOp.cmpi .sle v w = 1#1) : v.toNat ≤ w.toNat := by
  have ofBool_eq_one (p : Bool) : (BitVec.ofBool p = 1#1) ↔ p = true := by cases p <;> decide
  simp only [IntOp.cmpi, ofBool_eq_one, BitVec.sle_eq_decide, decide_eq_true_eq, BitVec.toInt_eq_toNat_cond] at h
  omega

section
variable {F : FTy → Type} [FloatOps F] (x : FVec F S100000x128 .f32) (ids : IVec S100000 32)

/-- The range alone: each id is below 256. -/
theorem lt_range (h : Cert.Pre_ids_in_range.fn x ids = fun _ => 1#1) (n : S100000.Idx) : (ids n).toNat < 256 := by
  have h0 := congrFun h (fun (a : Fin 0) => a.elim0)
  unfold Cert.Pre_ids_in_range.fn at h0
  obtain ⟨h1, h2⟩ := IntOp.andi_eq_one.1 h0
  haveI : Subsingleton Cert.Pre_ids_in_range.S_.Idx := inferInstanceAs (Subsingleton S_.Idx)
  exact lt_of_cmp _ (Host.reduce_andi_all _ _ _ _ _ h1 n) (Host.reduce_andi_all _ _ _ _ _ h2 n)

/-- The precondition's three conjuncts, each at every index. -/
theorem parts (h : Cert.Pre_ids_ok.fn x ids = fun _ => 1#1) :
    (∀ n, IntOp.cmpi .sge (ids n) 0#32 = 1#1) ∧ (∀ n, IntOp.cmpi .slt (ids n) 256#32 = 1#1)
      ∧ ∀ n : S99999.Idx, IntOp.cmpi .sle (extractStridedSlice S99999 ![0] ids slices_S100000_S99999_0 n) (extractStridedSlice S99999 ![1] ids slices_S100000_S99999_1 n) = 1#1 := by
  have h0 := congrFun h (fun (a : Fin 0) => a.elim0)
  unfold Cert.Pre_ids_ok.fn at h0
  obtain ⟨h1, h2⟩ := IntOp.andi_eq_one.1 h0
  obtain ⟨h3, h4⟩ := IntOp.andi_eq_one.1 h1
  exact ⟨fun n => Host.reduce_andi_all _ _ _ _ _ h3 n, fun n => Host.reduce_andi_all _ _ _ _ _ h4 n, fun n => Host.reduce_andi_all _ _ _ _ _ h2 n⟩

/-- Each id is below 256. -/
theorem lt (h : Cert.Pre_ids_ok.fn x ids = fun _ => 1#1) (n : S100000.Idx) : (ids n).toNat < 256 :=
  lt_of_cmp _ ((parts x ids h).1 n) ((parts x ids h).2.1 n)

/-- Each id is at most the next. -/
theorem step (h : Cert.Pre_ids_ok.fn x ids = fun _ => 1#1) (n : ℕ) (hn : n + 1 < 100000) :
    (ids (at1 ⟨n, by omega⟩)).toNat ≤ (ids (at1 ⟨n + 1, hn⟩)).toNat := by
  refine le_of_cmp _ _ (lt x ids h _) (lt x ids h _) ?_
  have e := (parts x ids h).2.2 (at1' ⟨n, by omega⟩)
  rw [extractStridedSlice_apply ![0] ids slices_S100000_S99999_0 (at1' ⟨n, by omega⟩) (at1 ⟨n, by omega⟩)
      (by intro (a : Fin 1); match a with | 0 => exact (Nat.zero_add n).symm),
    extractStridedSlice_apply ![1] ids slices_S100000_S99999_1 (at1' ⟨n, by omega⟩) (at1 ⟨n + 1, hn⟩)
      (by intro (a : Fin 1); match a with | 0 => exact Nat.add_comm n 1)] at e
  exact e

/-- The ids do not decrease. -/
theorem mono (h : Cert.Pre_ids_ok.fn x ids = fun _ => 1#1) (a b : ℕ) (hab : a ≤ b) (hb : b < 100000) :
    (ids (at1 ⟨a, by omega⟩)).toNat ≤ (ids (at1 ⟨b, hb⟩)).toNat := by
  induction b, hab using Nat.le_induction with
  | base => exact le_rfl
  | succ b hab ih => exact (ih (by omega)).trans (step x ids h b hb)

end

end Cert.Proof.PreIds

end
-- ==== Proof.RefValue.lean ====
/-
  The reference's value over the extended reals: an entry is the maximum over all rows of the row's element where the row's
  id is the entry's segment, and of −∞ elsewhere; it is at most `z` exactly when every row of the segment is.
-/
module

public import proofs.«01_k».proof.Proof.Gen.ReferenceIdeal.Run
public import Idealize.ShloMosaic.PureOps.Ideal
public import Idealize.ShloMosaic.PureOps.Ideal.Laws
public import Idealize.ShloMosaic.Lib.IdealHost
public import Idealize.ShloMosaic.Lib.Affine
public import Idealize.ShloMosaic.Lib.ReduceAll
public import Idealize.ShloMosaic.Lib.Pipeline.Value

@[expose] public section

noncomputable section

namespace Cert.Proof.RefMax

open Idealize.ShloMosaic Idealize.ShloMosaic.TcCoe Idealize.SL.Sem Cert.ReferenceIdeal Cert.ReferenceIdeal.Gen

/-- Row `n` of the ids, and element `(n, k)` of the data. -/
def at1 (n : Fin 100000) : S100000.Idx := fun (a : Fin 1) => match a with | 0 => n
def at2 (n : Fin 100000) (k : Fin 128) : S100000x128.Idx := fun (a : Fin 2) => match a with | 0 => n | 1 => k

/-- The indices the broadcasts read: of the ids along their own axis, of the segments along theirs, of the data. -/
def ixN (n : Fin 100000) : S1x100000x1.Idx := fun (a : Fin 3) => match a with | 0 => (⟨0, Nat.one_pos⟩ : Fin 1) | 1 => n | 2 => (⟨0, Nat.one_pos⟩ : Fin 1)
def ixQ (q : Fin 256) : S256x1x1.Idx := fun (a : Fin 3) => match a with | 0 => q | 1 => (⟨0, Nat.one_pos⟩ : Fin 1) | 2 => (⟨0, Nat.one_pos⟩ : Fin 1)
def ixQ1 (q : Fin 256) : S256.Idx := fun (a : Fin 1) => match a with | 0 => q
def ixQN (q : Fin 256) (n : Fin 100000) : S256x100000x1.Idx := fun (a : Fin 3) => match a with | 0 => q | 1 => n | 2 => (⟨0, Nat.one_pos⟩ : Fin 1)
def ixNK (n : Fin 100000) (k : Fin 128) : S1x100000x128.Idx := fun (a : Fin 3) => match a with | 0 => (⟨0, Nat.one_pos⟩ : Fin 1) | 1 => n | 2 => k
def ixQNK (q : Fin 256) (n : Fin 100000) (k : Fin 128) : S256x100000x128.Idx := fun (a : Fin 3) => match a with | 0 => q | 1 => n | 2 => k

/-- Which (segment, row, column) triples are of a row of the segment. -/
def isMem (ids : IVec S100000 32) : IVec S256x100000x128 1 :=
  broadcastInDim S256x100000x128 ![0, 1, 2] bcast_S256x100000x1_S256x100000x128_0_1_2 (cmpi .eq (broadcastInDim S256x100000x1 ![0, 1, 2] bcast_S1x100000x1_S256x100000x1_0_1_2 (broadcastInDim S1x100000x1 ![1] bcast_S100000_S1x100000x1_1 ids)) (broadcastInDim S256x100000x1 ![0, 1, 2] bcast_S256x1x1_S256x100000x1_0_1_2 (broadcastInDim S256x1x1 ![0] bcast_S256_S256x1x1_0 (iotaInDim S256 32 0))))

/-- The data repeated for every segment. -/
def spread (x : FVec Ideal S100000x128 .f32) : FVec Ideal S256x100000x128 .f32 :=
  broadcastInDim S256x100000x128 ![0, 1, 2] bcast_S1x100000x128_S256x100000x128_0_1_2 (broadcastInDim S1x100000x128 ![1, 2] bcast_S100000x128_S1x100000x128_1_2 x)

/-- −∞ everywhere. -/
def bottoms : FVec Ideal S256x100000x128 .f32 :=
  broadcastInDim S256x100000x128 ![] bcast_S_S256x100000x128 (id (constant S_ .f32 0xFF800000#32))

/-- The reference's result, of the data and the ids. -/
def refV (x : FVec Ideal S100000x128 .f32) (ids : IVec S100000 32) : FVec Ideal S256x128 .f32 :=
  Host.reduce FloatOps.maximumf (select (isMem ids) (spread x) bottoms) (constant S_ .f32 0xFF800000#32) reducesTo_S256x100000x128_S256x128_d1 h_S_

/-- The word the reference fills with is the least extended real. -/
theorem bot_eq : (FloatOps.ofBits .f32 0xFF800000#32 : Ideal .f32) = (⊥ : EReal) := by
  show Ideal.ofBits .f32 0xFF800000#32 = ⊥
  simp [Ideal.ofBits, Ideal.ieee]

theorem bottoms_apply (i : S256x100000x128.Idx) : bottoms i = (⊥ : EReal) := bot_eq

theorem spread_apply (x : FVec Ideal S100000x128 .f32) (i : S256x100000x128.Idx) : spread x i = x (at2 (i 1) (i 2)) := by
  unfold spread
  rw [broadcastInDim_apply _ bcast_S1x100000x128_S256x100000x128_0_1_2 _ i (ixNK (i 1) (i 2)) (by intro (a : Fin 3); match a with | 0 => rfl | 1 => rfl | 2 => rfl)]
  exact broadcastInDim_apply _ bcast_S100000x128_S1x100000x128_1_2 _ _ (at2 (i 1) (i 2)) (by intro (a : Fin 2); match a with | 0 => rfl | 1 => rfl)

theorem isMem_apply (ids : IVec S100000 32) (i : S256x100000x128.Idx) :
    isMem ids i = 1#1 ↔ (ids (at1 (i 1))).toNat = (i 0).val := by
  unfold isMem
  rw [broadcastInDim_apply _ bcast_S256x100000x1_S256x100000x128_0_1_2 _ i (ixQN (i 0) (i 1)) (by intro (a : Fin 3); match a with | 0 => rfl | 1 => rfl | 2 => rfl)]
  show IntOp.cmpi .eq (broadcastInDim S256x100000x1 ![0, 1, 2] bcast_S1x100000x1_S256x100000x1_0_1_2 (broadcastInDim S1x100000x1 ![1] bcast_S100000_S1x100000x1_1 ids) (ixQN (i 0) (i 1))) (broadcastInDim S256x100000x1 ![0, 1, 2] bcast_S256x1x1_S256x100000x1_0_1_2 (broadcastInDim S256x1x1 ![0] bcast_S256_S256x1x1_0 (iotaInDim S256 32 0)) (ixQN (i 0) (i 1))) = 1#1 ↔ _
  rw [IntOp.cmpi_eq, broadcastInDim_apply _ bcast_S1x100000x1_S256x100000x1_0_1_2 _ _ (ixN (i 1)) (by intro (a : Fin 3); match a with | 0 => rfl | 1 => rfl | 2 => rfl),
    broadcastInDim_apply _ bcast_S100000_S1x100000x1_1 _ _ (at1 (i 1)) (by intro (a : Fin 1); match a with | 0 => rfl),
    broadcastInDim_apply _ bcast_S256x1x1_S256x100000x1_0_1_2 _ _ (ixQ (i 0)) (by intro (a : Fin 3); match a with | 0 => rfl | 1 => rfl | 2 => rfl),
    broadcastInDim_apply _ bcast_S256_S256x1x1_0 _ _ (ixQ1 (i 0)) (by intro (a : Fin 1); match a with | 0 => rfl)]
  show ids (at1 (i 1)) = BitVec.ofNat 32 (i 0).val ↔ _
  have h : (i 0).val < 256 := (i 0).isLt
  rw [← BitVec.toNat_inj, BitVec.toNat_ofNat, Nat.mod_eq_of_lt (by omega)]

/-- An entry of the reference's result is at most `z` exactly when every row of its segment is, in its column. -/
theorem ref_le (x : FVec Ideal S100000x128 .f32) (ids : IVec S100000 32) (j : S256x128.Idx) (z : EReal) :
    (refV x ids j : EReal) ≤ z ↔ ∀ n : Fin 100000, (ids (at1 n)).toNat = (j 0).val → (x (at2 n (j 1)) : EReal) ≤ z := by
  have hd : ∀ i : S256x100000x128.Idx, reducesTo_S256x100000x128_S256x128_d1.drop i = j ↔ (i 0).val = (j 0).val ∧ (i 2).val = (j 1).val := by
    intro i
    rw [funext_iff]
    have e0 : (reducesTo_S256x100000x128_S256x128_d1.drop i 0 : Nat) = i 0 := Shape.ReducesTo.drop_apply_val_of_eq _ i 0 0
    have e1 : (reducesTo_S256x100000x128_S256x128_d1.drop i 1 : Nat) = i 2 := Shape.ReducesTo.drop_apply_val_of_eq _ i 1 2
    constructor
    · intro h
      exact ⟨e0.symm.trans (congrArg Fin.val (h 0)), e1.symm.trans (congrArg Fin.val (h 1))⟩
    · rintro ⟨h0, h1⟩ (a : Fin 2)
      match a with
      | 0 => exact Fin.ext (e0.trans h0)
      | 1 => exact Fin.ext (e1.trans h1)
  unfold refV
  rw [Host.reduce_eq_fold]
  show (Finset.univ.filter fun i => reducesTo_S256x100000x128_S256x128_d1.drop i = j).fold (max : EReal → EReal → EReal) (FloatOps.ofBits .f32 0xFF800000#32 : Ideal .f32) (select (isMem ids) (spread x) bottoms) ≤ z ↔ _
  rw [Finset.fold_max_le, bot_eq]
  constructor
  · rintro ⟨-, h⟩ n hn
    have := h (ixQNK (j 0) n (j 1)) (Finset.mem_filter.2 ⟨Finset.mem_univ _, (hd _).2 ⟨rfl, rfl⟩⟩)
    rw [show select (isMem ids) (spread x) bottoms (ixQNK (j 0) n (j 1)) = Scalar.select (isMem ids (ixQNK (j 0) n (j 1))) (spread x (ixQNK (j 0) n (j 1))) (bottoms (ixQNK (j 0) n (j 1))) from rfl,
      (isMem_apply ids (ixQNK (j 0) n (j 1))).2 hn, spread_apply] at this
    exact this
  · intro h
    refine ⟨bot_le, fun i hi => ?_⟩
    obtain ⟨h0, h2⟩ := (hd i).1 (Finset.mem_filter.1 hi).2
    rw [show select (isMem ids) (spread x) bottoms i = Scalar.select (isMem ids i) (spread x i) (bottoms i) from rfl]
    by_cases hm : isMem ids i = 1#1
    · rw [hm, spread_apply]
      have := h (i 1) (((isMem_apply ids i).1 hm).trans h0)
      rwa [show j 1 = i 2 from (Fin.ext h2).symm] at this
    · rw [show isMem ids i = 0#1 by generalize isMem ids i = b at hm; revert hm; revert b; decide]
      show (bottoms i : EReal) ≤ z
      rw [bottoms_apply]; exact bot_le

/-- The reference run: its result is `refV` of its arguments, which are left unchanged; every counter ends at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem (c.tc.loc main_v8) = refV (m (c.tc.loc main_arg0)) (m (c.tc.loc main_arg1))
        ∧ r.2.mem (c.tc.loc main_arg0) = m (c.tc.loc main_arg0) ∧ r.2.mem (c.tc.loc main_arg1) = m (c.tc.loc main_arg1))
      ∧ r.2.sem = fun _ => 0 :=
  (θ_run (defs (F := Ideal)) _ _).mono (fun r h => ⟨h, Idealize.ShloMosaic.sem_eq_zero_of_no_sems (by decide) r.2⟩)
    (Cert.ReferenceIdeal.Value.run (F := Ideal) m ρ)

end Cert.Proof.RefMax

end
-- ==== Proof.Result.lean ====
/-
  The kernel's result over the extended reals: an entry is at most `z` exactly when every row of its segment is, in its
  column. It is the merge of the tiles' partial results, and the tiles together take every row.
-/
module

public import proofs.«01_k».proof.Proof.Launch
public import proofs.«01_k».proof.Proof.Values
public import proofs.«01_k».proof.Proof.Precond
public import proofs.«01_k».proof.Proof.RefValue

@[expose] public section

noncomputable section

namespace Cert.Proof.SegMax

open Cert.KernelIdeal Cert.KernelIdeal.Gen
open Idealize.ShloMosaic Idealize.ShloMosaic.TcCoe Idealize.SL.Sem

/-- The flat partial index an entry `(w, q, k)` of the regrouped partials reads. -/
def flatIx (i : S32x256x128.Idx) : S32x32768.Idx := fun (a : Fin 2) => match a with
  | 0 => i 0
  | 1 => (⟨128 * (i 1).val + (i 2).val, by have h1 : (i 1).val < 256 := (i 1).isLt; have h2 : (i 2).val < 128 := (i 2).isLt; show _ < 32768; omega⟩ : Fin 32768)

/-- The regrouped partials at an entry: tile `w`'s result for segment `q` and column `k`. -/
theorem PARTS_apply (m : (ℓ : Loc nD τ sig) → Buf (Elt Ideal) ℓ) (d : Dev nD) (i : S32x256x128.Idx) :
    PARTS m d i = outA (i 0).val (Jm m d) (Dm m d) (128 * (i 1).val + (i 2).val) := by
  unfold PARTS
  refine shapeCast_apply _ _ i (flatIx i) ?_
  rw [Shape.rowMajor_val_two, Shape.rowMajor_val_three]
  show (i 0).val * 32768 + (128 * (i 1).val + (i 2).val) = ((i 0).val * 256 + (i 1).val) * 128 + (i 2).val
  omega

/-- An index of the regrouped partials from its coordinates. -/
def ix3' (w : Fin 32) (q : Fin 256) (k : Fin 128) : S32x256x128.Idx := fun (a : Fin 3) => match a with | 0 => w | 1 => q | 2 => k

/-- The merge at an entry is at most `z` exactly when every tile's is. -/
theorem mergeV_le (x : FVec Ideal S32x256x128 .f32) (j : S256x128.Idx) (z : EReal) :
    (mergeV (F := Ideal) x j : EReal) ≤ z ↔ ∀ w : Fin 32, (x (ix3' w (j 0) (j 1)) : EReal) ≤ z := by
  have hd : ∀ i : S32x256x128.Idx, reduces_S32x256x128_S256x128.drop i = j ↔ (i 1).val = (j 0).val ∧ (i 2).val = (j 1).val := by
    intro i
    rw [funext_iff]
    have e0 : (reduces_S32x256x128_S256x128.drop i 0 : Nat) = i 1 := Shape.Reduces.drop_apply_val_of_eq _ i 0 1
    have e1 : (reduces_S32x256x128_S256x128.drop i 1 : Nat) = i 2 := Shape.Reduces.drop_apply_val_of_eq _ i 1 2
    constructor
    · intro h
      exact ⟨e0.symm.trans (congrArg Fin.val (h 0)), e1.symm.trans (congrArg Fin.val (h 1))⟩
    · rintro ⟨h0, h1⟩ (a : Fin 2)
      match a with
      | 0 => exact Fin.ext (e0.trans h0)
      | 1 => exact Fin.ext (e1.trans h1)
  have hc : shapeCast S32x256x128 x shapeCasts_S32x256x128_S32x256x128 = x := funext fun i => shapeCast_apply _ _ i i rfl
  have e : mergeV (F := Ideal) x j = (Finset.univ.filter fun i => reduces_S32x256x128_S256x128.drop i = j).fold (FloatOps.maximumf (F := Ideal) (φ := .f32)) (ninf : Ideal .f32)
      (shapeCast S32x256x128 x shapeCasts_S32x256x128_S32x256x128) :=
    multiReduction_maximumf_eq_fold (F := Ideal) (φ := .f32) (shapeCast S32x256x128 x shapeCasts_S32x256x128_S32x256x128) 0xFF800000#32 reduces_S32x256x128_S256x128 (.inl rfl) rfl j
  rw [e, hc]
  show (Finset.univ.filter fun i => reduces_S32x256x128_S256x128.drop i = j).fold (max : EReal → EReal → EReal) (ninf : Ideal .f32) x ≤ z ↔ _
  rw [Finset.fold_max_le, ninf_eq]
  constructor
  · rintro ⟨-, h⟩ w
    exact h _ (Finset.mem_filter.2 ⟨Finset.mem_univ _, (hd _).2 ⟨rfl, rfl⟩⟩)
  · intro h
    refine ⟨bot_le, fun i hi => ?_⟩
    obtain ⟨h1, h2⟩ := (hd i).1 (Finset.mem_filter.1 hi).2
    have e : i = ix3' (i 0) (j 0) (j 1) := by
      funext (a : Fin 3)
      match a with
      | 0 => rfl
      | 1 => exact Fin.ext h1
      | 2 => exact Fin.ext h2
    rw [e]; exact h _

/-- The kernel's result at an entry, from sorted ids, is at most `z` exactly when every row of its segment is. -/
theorem OUT_le (m : (ℓ : Loc nD τ sig) → Buf (Elt Ideal) ℓ) (d : Dev nD) (hs : Sorted (Jm m d) 100000) (j : S256x128.Idx) (z : EReal) :
    (OUT m d j : EReal) ≤ z ↔ ∀ n, n < 100000 → (Jm m d n).toNat = (j 0).val → (Dm m d n (j 1).val : EReal) ≤ z := by
  unfold OUT
  rw [mergeV_le]
  have key : ∀ w : Fin 32, ((PARTS m d (ix3' w (j 0) (j 1)) : EReal) ≤ z ↔ ∀ n, Rows w.val n → (Jm m d n).toNat = (j 0).val → (Dm m d n (j 1).val : EReal) ≤ z) := by
    intro w
    rw [PARTS_apply]
    exact outA_le hs w.isLt (j 0).val (j 1).val (j 1).isLt z
  constructor
  · intro h n hn
    obtain ⟨w, hw, hr⟩ := rows_cover.2 hn
    exact (key ⟨w, hw⟩).1 (h ⟨w, hw⟩) n hr
  · intro h w
    exact (key w).2 fun n hr => h n (rows_cover.1 ⟨w.val, w.isLt, hr⟩)

section
variable {F : FTy → Type} [FloatOps F] (m : (ℓ : Loc nD τ sig) → Buf (Elt F) ℓ)

/-- The ids in range, at every device: what a frame asks. -/
def InRange : Prop := ∀ c : Dev nD, Cert.Pre_ids_in_range.fn (F := F) (m (c.tc.loc main_arg0)) (m (c.tc.loc main_arg1)) = fun _ => 1#1

/-- It gives the range of the ids. -/
theorem ok_of_range (h : InRange m) : PreOK m := fun d n => PreIds.lt_range _ _ (h d) n

/-- The ids in range and sorted, at every device: what the values ask. -/
def PreIdsOK : Prop := ∀ c : Dev nD, Cert.Pre_ids_ok.fn (F := F) (m (c.tc.loc main_arg0)) (m (c.tc.loc main_arg1)) = fun _ => 1#1

/-- It gives the range of the ids. -/
theorem ok_of_pre (h : PreIdsOK m) : PreOK m := fun d n => PreIds.lt _ _ (h d) n

/-- And that they are sorted. -/
theorem sorted_of_pre (h : PreIdsOK m) (d : Dev nD) : Sorted (Jm m d) 100000 := by
  intro a b hab hb
  unfold Jm
  rw [dif_pos (by omega : a < 100000), dif_pos hb]
  exact PreIds.mono _ _ (h d) a b hab hb

end

/-- The kernel's result is the reference's, entry by entry. -/
theorem OUT_eq (m : (ℓ : Loc nD τ sig) → Buf (Elt Ideal) ℓ) (h : PreIdsOK m) (d : Dev nD) :
    OUT m d = RefMax.refV (m (d.tc.loc main_arg0)) (m (d.tc.loc main_arg1)) := by
  funext j
  refine eq_of_forall_ge_iff (α := EReal) fun z => ?_
  refine (OUT_le m d (sorted_of_pre m h d) j z).trans ((RefMax.ref_le _ _ j z).trans ?_).symm
  have hk : (j 1).val < 128 := (j 1).isLt
  constructor
  · intro hr n hn hq
    unfold Jm at hq
    rw [dif_pos hn] at hq
    unfold Dm
    rw [dif_pos ⟨hn, hk⟩]
    exact hr ⟨n, hn⟩ hq
  · intro hr n hq
    have := hr n.val n.isLt (by unfold Jm; rw [dif_pos n.isLt]; exact hq)
    unfold Dm at this
    rw [dif_pos ⟨n.isLt, hk⟩] at this
    exact this

end Cert.Proof.SegMax

end
-- ==== Proof.Frames.lean ====
/-
  The program as printed and its idealization are the same text, so the run proved of the one, for any float values, is the
  other's.
-/
module

public import proofs.«01_k».proof.Defs
public import proofs.«01_k».proof.Proof.Gen.Kernel
public import proofs.«01_k».proof.Proof.Gen.KernelIdeal

@[expose] public section

noncomputable section

namespace Cert.Proof.SegMax

open Idealize.ShloMosaic Idealize.ShloMosaic.TcCoe Idealize.SL.Sem

set_option maxHeartbeats 8000000 in
/-- The two programs' tile bodies are the same. -/
theorem body_eq : Cert.Kernel.cc0__phase1_body (F := Bits) = Cert.KernelIdeal.cc0__phase1_body (F := Bits) := rfl

/-- So are their kernels' bodies, on every processor. -/
theorem defs₀_eq : Cert.Kernel.defs₀ (F := Bits) = Cert.KernelIdeal.defs₀ (F := Bits) := by
  funext p l a
  match p, l, a with
  | .scVector c s, 0, a =>
    unfold Cert.Kernel.defs₀ Cert.KernelIdeal.defs₀
    dsimp only
    rw [body_eq]; rfl
  | .scVector c s, 1, a => rfl
  | .tc, 0, a => rfl
  | .tc, 1, (t, s) => rfl
  | .scScalar c, 0, a => rfl
  | .scScalar c, 1, a => rfl

/-- So are their definitions. -/
theorem defs_eq : Cert.Kernel.defs (F := Bits) = Cert.KernelIdeal.defs (F := Bits) := by
  unfold Cert.Kernel.defs Cert.KernelIdeal.defs
  rw [defs₀_eq]
  rfl

/-- And their threads. -/
theorem threads_eq : Cert.Kernel.threads (F := Bits) = Cert.KernelIdeal.threads (F := Bits) := rfl

end Cert.Proof.SegMax

end
-- ==== Proof.lean ====
/-
  The certificate's claims, from the kernel's run (`run_main`), the reference's (`RefMax.run`) and the equality of their
  results (`OUT_eq`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_ok
public import proofs.«01_k».proof.Proof.Gen.Pre_ids_in_range
public import proofs.«01_k».proof.Proof.Result
public import proofs.«01_k».proof.Proof.Frames
public import Idealize.ShloMosaic.Adequacy
public import Idealize.ShloMosaic.Init

@[expose] public section

noncomputable section

namespace Cert.Proof

open Idealize.ShloMosaic Idealize.ShloMosaic.TcCoe Idealize.SL.Sem

/-- The printed kernel's run: it is the idealized program's, over words. -/
theorem run_kernel (m : (ℓ : Loc Cert.KernelIdeal.nD Cert.KernelIdeal.τ Cert.KernelIdeal.sig) → Buf (Elt Bits) ℓ) (g : Dev Cert.KernelIdeal.nD → PrngReg)
    (h : SegMax.PreOK m) :
    θ_run (Cert.Kernel.defs (F := Bits)) (Cert.Kernel.threads (F := Bits)) ⟨m, fun _ => 0, g⟩ (SegMax.QC m) :=
  (congrArg (fun D => θ_run D (Cert.Kernel.threads (F := Bits)) ⟨m, fun _ => 0, g⟩ (SegMax.QC m)) SegMax.defs_eq).mpr
    (SegMax.run_main (F := Bits) m g h)

/-- The printed kernel's frame. -/
theorem frame_kernel : Cert.quiescent_Kernel := fun m g h =>
  (θ_run (Cert.Kernel.defs (F := Bits)) _ _).mono (fun _ e => ⟨fun c => ⟨(e.1 c).1, (e.1 c).2.1⟩, e.2⟩) (run_kernel m g (SegMax.ok_of_range m h))

/-- The idealized kernel's frame, from the ids' range. -/
theorem frame_of_ok (m : (ℓ : Loc Cert.KernelIdeal.nD Cert.KernelIdeal.τ Cert.KernelIdeal.sig) → Buf (Elt Ideal) ℓ) (g : Dev Cert.KernelIdeal.nD → PrngReg)
    (h : SegMax.PreOK m) :
    θ_run (Cert.KernelIdeal.defs (F := Ideal)) (Cert.KernelIdeal.threads (F := Ideal)) ⟨m, fun _ => 0, g⟩ (fun r => (∀ c : Dev Cert.KernelIdeal.nD,
      r.2.mem (c.tc.loc Cert.KernelIdeal.main_arg0) = m (c.tc.loc Cert.KernelIdeal.main_arg0)
      ∧ r.2.mem (c.tc.loc Cert.KernelIdeal.main_arg1) = m (c.tc.loc Cert.KernelIdeal.main_arg1)) ∧ r.2.sem = fun _ => 0) :=
  (θ_run (Cert.KernelIdeal.defs (F := Ideal)) _ _).mono (fun _ e => ⟨fun c => ⟨(e.1 c).1, (e.1 c).2.1⟩, e.2⟩) (SegMax.run_main (F := Ideal) m g h)

/-- The idealized kernel's frame, from either precondition. -/
theorem frame_ideal : Cert.quiescent_KernelIdeal := fun m g h => frame_of_ok m g (SegMax.ok_of_range m h)
theorem frame_ideal_ok : Cert.quiescent_KernelIdeal_pre_ids_ok := fun m g h => frame_of_ok m g (SegMax.ok_of_pre m h)

/-- The reference's frame. -/
theorem frame_reference : Cert.quiescent_ReferenceIdeal := fun m g _ =>
  (θ_run (Cert.ReferenceIdeal.defs (F := Ideal)) _ _).mono (fun _ e => ⟨fun c => (e.1 c).2, e.2⟩) (RefMax.run m g)

/-- The kernel and the reference end with equal results: the segment maxima. -/
theorem algebraic : Cert.algebraic_KernelIdeal_ReferenceIdeal_pre_ids_ok := by
  intro m g m' g' h hagree
  refine ⟨fun c => SegMax.OUT m c, ?_, ?_⟩
  · exact (θ_run (Cert.KernelIdeal.defs (F := Ideal)) _ _).mono (fun _ e c => ⟨(e.1 c).2.2, (e.1 c).1, (e.1 c).2.1⟩)
      (SegMax.run_main (F := Ideal) m g (SegMax.ok_of_pre m h))
  · refine (θ_run (Cert.ReferenceIdeal.defs (F := Ideal)) _ _).mono (fun _ e c => ⟨(e.1 c).1.trans ?_, (e.1 c).2⟩) (RefMax.run m' g')
    rw [(hagree c).1, (hagree c).2]
    exact (SegMax.OUT_eq m h c).symm

theorem claim : Cert.Claim := ⟨Cert.Kernel.Gen.facts, Cert.KernelIdeal.Gen.facts, Cert.ReferenceIdeal.Gen.facts, Cert.Pre_ids_in_range.Gen.facts, Cert.Pre_ids_ok.Gen.facts,
  frame_kernel, frame_ideal, frame_ideal_ok, frame_reference, fun m g _ => frame_reference m g trivial, trivial, algebraic⟩

end Cert.Proof

end
